-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_GdnQkv (m : (ℓ : Loc Cert.GdnQkv.nD Cert.GdnQkv.τ Cert.GdnQkv.sig) → Buf (Elt Bits) ℓ) : Prop :=
  True

def Pre_GdnQkvIdeal (m : (ℓ : Loc Cert.GdnQkvIdeal.nD Cert.GdnQkvIdeal.τ Cert.GdnQkvIdeal.sig) → Buf (Elt Ideal) ℓ) : Prop :=
  True

def Pre_GdnQkvRefIdeal (m : (ℓ : Loc Cert.GdnQkvRefIdeal.nD Cert.GdnQkvRefIdeal.τ Cert.GdnQkvRefIdeal.sig) → Buf (Elt Ideal) ℓ) : Prop :=
  True

def Pre_GdnZ (m : (ℓ : Loc Cert.GdnZ.nD Cert.GdnZ.τ Cert.GdnZ.sig) → Buf (Elt Bits) ℓ) : Prop :=
  True

def Pre_GdnZIdeal (m : (ℓ : Loc Cert.GdnZIdeal.nD Cert.GdnZIdeal.τ Cert.GdnZIdeal.sig) → Buf (Elt Ideal) ℓ) : Prop :=
  True

def Pre_GdnZRefIdeal (m : (ℓ : Loc Cert.GdnZRefIdeal.nD Cert.GdnZRefIdeal.τ Cert.GdnZRefIdeal.sig) → Buf (Elt Ideal) ℓ) : Prop :=
  True

def Pre_GdnGates (m : (ℓ : Loc Cert.GdnGates.nD Cert.GdnGates.τ Cert.GdnGates.sig) → Buf (Elt Bits) ℓ) : Prop :=
  True

def Pre_GdnGatesIdeal (m : (ℓ : Loc Cert.GdnGatesIdeal.nD Cert.GdnGatesIdeal.τ Cert.GdnGatesIdeal.sig) → Buf (Elt Ideal) ℓ) : Prop :=
  True

def Pre_GdnGatesRefIdeal (m : (ℓ : Loc Cert.GdnGatesRefIdeal.nD Cert.GdnGatesRefIdeal.τ Cert.GdnGatesRefIdeal.sig) → Buf (Elt Ideal) ℓ) : Prop :=
  True

def Pre_SsdZ (m : (ℓ : Loc Cert.SsdZ.nD Cert.SsdZ.τ Cert.SsdZ.sig) → Buf (Elt Bits) ℓ) : Prop :=
  True

def Pre_SsdZIdeal (m : (ℓ : Loc Cert.SsdZIdeal.nD Cert.SsdZIdeal.τ Cert.SsdZIdeal.sig) → Buf (Elt Ideal) ℓ) : Prop :=
  True

def Pre_SsdZRefIdeal (m : (ℓ : Loc Cert.SsdZRefIdeal.nD Cert.SsdZRefIdeal.τ Cert.SsdZRefIdeal.sig) → Buf (Elt Ideal) ℓ) : Prop :=
  True

def Pre_SsdXbc (m : (ℓ : Loc Cert.SsdXbc.nD Cert.SsdXbc.τ Cert.SsdXbc.sig) → Buf (Elt Bits) ℓ) : Prop :=
  True

def Pre_SsdXbcIdeal (m : (ℓ : Loc Cert.SsdXbcIdeal.nD Cert.SsdXbcIdeal.τ Cert.SsdXbcIdeal.sig) → Buf (Elt Ideal) ℓ) : Prop :=
  True

def Pre_SsdXbcRefIdeal (m : (ℓ : Loc Cert.SsdXbcRefIdeal.nD Cert.SsdXbcRefIdeal.τ Cert.SsdXbcRefIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtRefIdeal (m : (ℓ : Loc Cert.SsdDtRefIdeal.nD Cert.SsdDtRefIdeal.τ Cert.SsdDtRefIdeal.sig) → Buf (Elt Ideal) ℓ) : Prop :=
  True

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInRefIdeal (m : (ℓ : Loc Cert.HyenaInRefIdeal.nD Cert.HyenaInRefIdeal.τ Cert.HyenaInRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_SsdBack (m : (ℓ : Loc Cert.SsdBack.nD Cert.SsdBack.τ Cert.SsdBack.sig) → Buf (Elt Bits) ℓ) : Prop :=
  True

def Pre_SsdBackIdeal (m : (ℓ : Loc Cert.SsdBackIdeal.nD Cert.SsdBackIdeal.τ Cert.SsdBackIdeal.sig) → Buf (Elt Ideal) ℓ) : Prop :=
  True

def Pre_SsdBackIdeal_finite_gates [hPre_finite_gates : Cert.Pre_finite_gates.Facts] (m : (ℓ : Loc Cert.SsdBackIdeal.nD Cert.SsdBackIdeal.τ Cert.SsdBackIdeal.sig) → Buf (Elt Ideal) ℓ) : Prop :=
  ∀ c : Dev Cert.SsdBackIdeal.nD,
    (Cert.Pre_finite_gates.fn (F := Ideal) (m ((c.tc : Thread Cert.SsdBackIdeal.nD Cert.SsdBackIdeal.τ).loc Cert.SsdBackIdeal.main_arg0)) (m ((c.tc : Thread Cert.SsdBackIdeal.nD Cert.SsdBackIdeal.τ).loc Cert.SsdBackIdeal.main_arg1)) (m ((c.tc : Thread Cert.SsdBackIdeal.nD Cert.SsdBackIdeal.τ).loc Cert.SsdBackIdeal.main_arg2))) = (fun _ => 1#1)

def Pre_SsdBackRefIdeal (m : (ℓ : Loc Cert.SsdBackRefIdeal.nD Cert.SsdBackRefIdeal.τ Cert.SsdBackRefIdeal.sig) → Buf (Elt Ideal) ℓ) : Prop :=
  True

def Pre_SsdBackRefIdeal_finite_gates [hPre_finite_gates : Cert.Pre_finite_gates.Facts] (m : (ℓ : Loc Cert.SsdBackRefIdeal.nD Cert.SsdBackRefIdeal.τ Cert.SsdBackRefIdeal.sig) → Buf (Elt Ideal) ℓ) : Prop :=
  ∀ c : Dev Cert.SsdBackRefIdeal.nD,
    (Cert.Pre_finite_gates.fn (F := Ideal) (m ((c.tc : Thread Cert.SsdBackRefIdeal.nD Cert.SsdBackRefIdeal.τ).loc Cert.SsdBackRefIdeal.main_arg0)) (m ((c.tc : Thread Cert.SsdBackRefIdeal.nD Cert.SsdBackRefIdeal.τ).loc Cert.SsdBackRefIdeal.main_arg1)) (m ((c.tc : Thread Cert.SsdBackRefIdeal.nD Cert.SsdBackRefIdeal.τ).loc Cert.SsdBackRefIdeal.main_arg2))) = (fun _ => 1#1)

def Pre_GdnChunk (m : (ℓ : Loc Cert.GdnChunk.nD Cert.GdnChunk.τ Cert.GdnChunk.sig) → Buf (Elt Bits) ℓ) : Prop :=
  True

def Pre_GdnChunkIdeal (m : (ℓ : Loc Cert.GdnChunkIdeal.nD Cert.GdnChunkIdeal.τ Cert.GdnChunkIdeal.sig) → Buf (Elt Ideal) ℓ) : Prop :=
  True

def Pre_GdnChunkIdeal_finite_rows [hPre_finite_rows : Cert.Pre_finite_rows.Facts] (m : (ℓ : Loc Cert.GdnChunkIdeal.nD Cert.GdnChunkIdeal.τ Cert.GdnChunkIdeal.sig) → Buf (Elt Ideal) ℓ) : Prop :=
  ∀ c : Dev Cert.GdnChunkIdeal.nD,
    (Cert.Pre_finite_rows.fn (F := Ideal) (m ((c.tc : Thread Cert.GdnChunkIdeal.nD Cert.GdnChunkIdeal.τ).loc Cert.GdnChunkIdeal.main_arg0)) (m ((c.tc : Thread Cert.GdnChunkIdeal.nD Cert.GdnChunkIdeal.τ).loc Cert.GdnChunkIdeal.main_arg1)) (m ((c.tc : Thread Cert.GdnChunkIdeal.nD Cert.GdnChunkIdeal.τ).loc Cert.GdnChunkIdeal.main_arg2))) = (fun _ => 1#1)

def Pre_GdnChunkRefIdeal (m : (ℓ : Loc Cert.GdnChunkRefIdeal.nD Cert.GdnChunkRefIdeal.τ Cert.GdnChunkRefIdeal.sig) → Buf (Elt Ideal) ℓ) : Prop :=
  True

def Pre_GdnChunkRefIdeal_finite_rows [hPre_finite_rows : Cert.Pre_finite_rows.Facts] (m : (ℓ : Loc Cert.GdnChunkRefIdeal.nD Cert.GdnChunkRefIdeal.τ Cert.GdnChunkRefIdeal.sig) → Buf (Elt Ideal) ℓ) : Prop :=
  ∀ c : Dev Cert.GdnChunkRefIdeal.nD,
    (Cert.Pre_finite_rows.fn (F := Ideal) (m ((c.tc : Thread Cert.GdnChunkRefIdeal.nD Cert.GdnChunkRefIdeal.τ).loc Cert.GdnChunkRefIdeal.main_arg0)) (m ((c.tc : Thread Cert.GdnChunkRefIdeal.nD Cert.GdnChunkRefIdeal.τ).loc Cert.GdnChunkRefIdeal.main_arg1)) (m ((c.tc : Thread Cert.GdnChunkRefIdeal.nD Cert.GdnChunkRefIdeal.τ).loc Cert.GdnChunkRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GdnQkv [hGdnQkv : Cert.GdnQkv.Facts] : Prop :=
  ∀ (m : (ℓ : Loc Cert.GdnQkv.nD Cert.GdnQkv.τ Cert.GdnQkv.sig) → Buf (Elt Bits) ℓ) (g : Dev Cert.GdnQkv.nD → PrngReg), Pre_GdnQkv m →
    θ_run (Cert.GdnQkv.defs (F := Bits)) (onTc (τ := Cert.GdnQkv.τ) (Cert.GdnQkv.main (F := Bits))) ⟨m, fun _ => 0, g⟩ (fun r => (∀ c : Dev Cert.GdnQkv.nD,
      r.2.mem ((c.tc : Thread Cert.GdnQkv.nD Cert.GdnQkv.τ).loc Cert.GdnQkv.main_arg0) = m ((c.tc : Thread Cert.GdnQkv.nD Cert.GdnQkv.τ).loc Cert.GdnQkv.main_arg0)
      ∧ r.2.mem ((c.tc : Thread Cert.GdnQkv.nD Cert.GdnQkv.τ).loc Cert.GdnQkv.main_arg1) = m ((c.tc : Thread Cert.GdnQkv.nD Cert.GdnQkv.τ).loc Cert.GdnQkv.main_arg1))
      ∧ r.2.sem = fun _ => 0)

def quiescent_GdnQkvIdeal [hGdnQkvIdeal : Cert.GdnQkvIdeal.Facts] : Prop :=
  ∀ (m : (ℓ : Loc Cert.GdnQkvIdeal.nD Cert.GdnQkvIdeal.τ Cert.GdnQkvIdeal.sig) → Buf (Elt Ideal) ℓ) (g : Dev Cert.GdnQkvIdeal.nD → PrngReg), Pre_GdnQkvIdeal m →
    θ_run (Cert.GdnQkvIdeal.defs (F := Ideal)) (onTc (τ := Cert.GdnQkvIdeal.τ) (Cert.GdnQkvIdeal.main (F := Ideal))) ⟨m, fun _ => 0, g⟩ (fun r => (∀ c : Dev Cert.GdnQkvIdeal.nD,
      r.2.mem ((c.tc : Thread Cert.GdnQkvIdeal.nD Cert.GdnQkvIdeal.τ).loc Cert.GdnQkvIdeal.main_arg0) = m ((c.tc : Thread Cert.GdnQkvIdeal.nD Cert.GdnQkvIdeal.τ).loc Cert.GdnQkvIdeal.main_arg0)
      ∧ r.2.mem ((c.tc : Thread Cert.GdnQkvIdeal.nD Cert.GdnQkvIdeal.τ).loc Cert.GdnQkvIdeal.main_arg1) = m ((c.tc : Thread Cert.GdnQkvIdeal.nD Cert.GdnQkvIdeal.τ).loc Cert.GdnQkvIdeal.main_arg1))
      ∧ r.2.sem = fun _ => 0)

def quiescent_GdnQkvRefIdeal [hGdnQkvRefIdeal : Cert.GdnQkvRefIdeal.Facts] : Prop :=
  ∀ (m : (ℓ : Loc Cert.GdnQkvRefIdeal.nD Cert.GdnQkvRefIdeal.τ Cert.GdnQkvRefIdeal.sig) → Buf (Elt Ideal) ℓ) (g : Dev Cert.GdnQkvRefIdeal.nD → PrngReg), Pre_GdnQkvRefIdeal m →
    θ_run (Cert.GdnQkvRefIdeal.defs (F := Ideal)) (onTc (τ := Cert.GdnQkvRefIdeal.τ) (Cert.GdnQkvRefIdeal.main (F := Ideal))) ⟨m, fun _ => 0, g⟩ (fun r => (∀ c : Dev Cert.GdnQkvRefIdeal.nD,
      r.2.mem ((c.tc : Thread Cert.GdnQkvRefIdeal.nD Cert.GdnQkvRefIdeal.τ).loc Cert.GdnQkvRefIdeal.main_arg0) = m ((c.tc : Thread Cert.GdnQkvRefIdeal.nD Cert.GdnQkvRefIdeal.τ).loc Cert.GdnQkvRefIdeal.main_arg0)
      ∧ r.2.mem ((c.tc : Thread Cert.GdnQkvRefIdeal.nD Cert.GdnQkvRefIdeal.τ).loc Cert.GdnQkvRefIdeal.main_arg1) = m ((c.tc : Thread Cert.GdnQkvRefIdeal.nD Cert.GdnQkvRefIdeal.τ).loc Cert.GdnQkvRefIdeal.main_arg1))
      ∧ r.2.sem = fun _ => 0)

def quiescent_GdnZ [hGdnZ : Cert.GdnZ.Facts] : Prop :=
  ∀ (m : (ℓ : Loc Cert.GdnZ.nD Cert.GdnZ.τ Cert.GdnZ.sig) → Buf (Elt Bits) ℓ) (g : Dev Cert.GdnZ.nD → PrngReg), Pre_GdnZ m →
    θ_run (Cert.GdnZ.defs (F := Bits)) (onTc (τ := Cert.GdnZ.τ) (Cert.GdnZ.main (F := Bits))) ⟨m, fun _ => 0, g⟩ (fun r => (∀ c : Dev Cert.GdnZ.nD,
      r.2.mem ((c.tc : Thread Cert.GdnZ.nD Cert.GdnZ.τ).loc Cert.GdnZ.main_arg0) = m ((c.tc : Thread Cert.GdnZ.nD Cert.GdnZ.τ).loc Cert.GdnZ.main_arg0)
      ∧ r.2.mem ((c.tc : Thread Cert.GdnZ.nD Cert.GdnZ.τ).loc Cert.GdnZ.main_arg1) = m ((c.tc : Thread Cert.GdnZ.nD Cert.GdnZ.τ).loc Cert.GdnZ.main_arg1))
      ∧ r.2.sem = fun _ => 0)

def quiescent_GdnZIdeal [hGdnZIdeal : Cert.GdnZIdeal.Facts] : Prop :=
  ∀ (m : (ℓ : Loc Cert.GdnZIdeal.nD Cert.GdnZIdeal.τ Cert.GdnZIdeal.sig) → Buf (Elt Ideal) ℓ) (g : Dev Cert.GdnZIdeal.nD → PrngReg), Pre_GdnZIdeal m →
    θ_run (Cert.GdnZIdeal.defs (F := Ideal)) (onTc (τ := Cert.GdnZIdeal.τ) (Cert.GdnZIdeal.main (F := Ideal))) ⟨m, fun _ => 0, g⟩ (fun r => (∀ c : Dev Cert.GdnZIdeal.nD,
      r.2.mem ((c.tc : Thread Cert.GdnZIdeal.nD Cert.GdnZIdeal.τ).loc Cert.GdnZIdeal.main_arg0) = m ((c.tc : Thread Cert.GdnZIdeal.nD Cert.GdnZIdeal.τ).loc Cert.GdnZIdeal.main_arg0)
      ∧ r.2.mem ((c.tc : Thread Cert.GdnZIdeal.nD Cert.GdnZIdeal.τ).loc Cert.GdnZIdeal.main_arg1) = m ((c.tc : Thread Cert.GdnZIdeal.nD Cert.GdnZIdeal.τ).loc Cert.GdnZIdeal.main_arg1))
      ∧ r.2.sem = fun _ => 0)

def quiescent_GdnZRefIdeal [hGdnZRefIdeal : Cert.GdnZRefIdeal.Facts] : Prop :=
  ∀ (m : (ℓ : Loc Cert.GdnZRefIdeal.nD Cert.GdnZRefIdeal.τ Cert.GdnZRefIdeal.sig) → Buf (Elt Ideal) ℓ) (g : Dev Cert.GdnZRefIdeal.nD → PrngReg), Pre_GdnZRefIdeal m →
    θ_run (Cert.GdnZRefIdeal.defs (F := Ideal)) (onTc (τ := Cert.GdnZRefIdeal.τ) (Cert.GdnZRefIdeal.main (F := Ideal))) ⟨m, fun _ => 0, g⟩ (fun r => (∀ c : Dev Cert.GdnZRefIdeal.nD,
      r.2.mem ((c.tc : Thread Cert.GdnZRefIdeal.nD Cert.GdnZRefIdeal.τ).loc Cert.GdnZRefIdeal.main_arg0) = m ((c.tc : Thread Cert.GdnZRefIdeal.nD Cert.GdnZRefIdeal.τ).loc Cert.GdnZRefIdeal.main_arg0)
      ∧ r.2.mem ((c.tc : Thread Cert.GdnZRefIdeal.nD Cert.GdnZRefIdeal.τ).loc Cert.GdnZRefIdeal.main_arg1) = m ((c.tc : Thread Cert.GdnZRefIdeal.nD Cert.GdnZRefIdeal.τ).loc Cert.GdnZRefIdeal.main_arg1))
      ∧ r.2.sem = fun _ => 0)

def quiescent_GdnGates [hGdnGates : Cert.GdnGates.Facts] : Prop :=
  ∀ (m : (ℓ : Loc Cert.GdnGates.nD Cert.GdnGates.τ Cert.GdnGates.sig) → Buf (Elt Bits) ℓ) (g : Dev Cert.GdnGates.nD → PrngReg), Pre_GdnGates m →
    θ_run (Cert.GdnGates.defs (F := Bits)) (onTc (τ := Cert.GdnGates.τ) (Cert.GdnGates.main (F := Bits))) ⟨m, fun _ => 0, g⟩ (fun r => (∀ c : Dev Cert.GdnGates.nD,
      r.2.mem ((c.tc : Thread Cert.GdnGates.nD Cert.GdnGates.τ).loc Cert.GdnGates.main_arg0) = m ((c.tc : Thread Cert.GdnGates.nD Cert.GdnGates.τ).loc Cert.GdnGates.main_arg0)
      ∧ r.2.mem ((c.tc : Thread Cert.GdnGates.nD Cert.GdnGates.τ).loc Cert.GdnGates.main_arg1) = m ((c.tc : Thread Cert.GdnGates.nD Cert.GdnGates.τ).loc Cert.GdnGates.main_arg1))
      ∧ r.2.sem = fun _ => 0)

def quiescent_GdnGatesIdeal [hGdnGatesIdeal : Cert.GdnGatesIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg), Pre_GdnGatesIdeal m →
    θ_run (Cert.GdnGatesIdeal.defs (F := Ideal)) (onTc (τ := Cert.GdnGatesIdeal.τ) (Cert.GdnGatesIdeal.main (F := Ideal))) ⟨m, fun _ => 0, g⟩ (fun r => (∀ c : Dev Cert.GdnGatesIdeal.nD,
      r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
      ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1))
      ∧ r.2.sem = fun _ => 0)

def quiescent_GdnGatesRefIdeal [hGdnGatesRefIdeal : Cert.GdnGatesRefIdeal.Facts] : Prop :=
  ∀ (m : (ℓ : Loc Cert.GdnGatesRefIdeal.nD Cert.GdnGatesRefIdeal.τ Cert.GdnGatesRefIdeal.sig) → Buf (Elt Ideal) ℓ) (g : Dev Cert.GdnGatesRefIdeal.nD → PrngReg), Pre_GdnGatesRefIdeal m →
    θ_run (Cert.GdnGatesRefIdeal.defs (F := Ideal)) (onTc (τ := Cert.GdnGatesRefIdeal.τ) (Cert.GdnGatesRefIdeal.main (F := Ideal))) ⟨m, fun _ => 0, g⟩ (fun r => (∀ c : Dev Cert.GdnGatesRefIdeal.nD,
      r.2.mem ((c.tc : Thread Cert.GdnGatesRefIdeal.nD Cert.GdnGatesRefIdeal.τ).loc Cert.GdnGatesRefIdeal.main_arg0) = m ((c.tc : Thread Cert.GdnGatesRefIdeal.nD Cert.GdnGatesRefIdeal.τ).loc Cert.GdnGatesRefIdeal.main_arg0)
      ∧ r.2.mem ((c.tc : Thread Cert.GdnGatesRefIdeal.nD Cert.GdnGatesRefIdeal.τ).loc Cert.GdnGatesRefIdeal.main_arg1) = m ((c.tc : Thread Cert.GdnGatesRefIdeal.nD Cert.GdnGatesRefIdeal.τ).loc Cert.GdnGatesRefIdeal.main_arg1))
      ∧ r.2.sem = fun _ => 0)

def quiescent_SsdZ [hSsdZ : Cert.SsdZ.Facts] : Prop :=
  ∀ (m : (ℓ : Loc Cert.SsdZ.nD Cert.SsdZ.τ Cert.SsdZ.sig) → Buf (Elt Bits) ℓ) (g : Dev Cert.SsdZ.nD → PrngReg), Pre_SsdZ m →
    θ_run (Cert.SsdZ.defs (F := Bits)) (onTc (τ := Cert.SsdZ.τ) (Cert.SsdZ.main (F := Bits))) ⟨m, fun _ => 0, g⟩ (fun r => (∀ c : Dev Cert.SsdZ.nD,
      r.2.mem ((c.tc : Thread Cert.SsdZ.nD Cert.SsdZ.τ).loc Cert.SsdZ.main_arg0) = m ((c.tc : Thread Cert.SsdZ.nD Cert.SsdZ.τ).loc Cert.SsdZ.main_arg0)
      ∧ r.2.mem ((c.tc : Thread Cert.SsdZ.nD Cert.SsdZ.τ).loc Cert.SsdZ.main_arg1) = m ((c.tc : Thread Cert.SsdZ.nD Cert.SsdZ.τ).loc Cert.SsdZ.main_arg1))
      ∧ r.2.sem = fun _ => 0)

def quiescent_SsdZIdeal [hSsdZIdeal : Cert.SsdZIdeal.Facts] : Prop :=
  ∀ (m : (ℓ : Loc Cert.SsdZIdeal.nD Cert.SsdZIdeal.τ Cert.SsdZIdeal.sig) → Buf (Elt Ideal) ℓ) (g : Dev Cert.SsdZIdeal.nD → PrngReg), Pre_SsdZIdeal m →
    θ_run (Cert.SsdZIdeal.defs (F := Ideal)) (onTc (τ := Cert.SsdZIdeal.τ) (Cert.SsdZIdeal.main (F := Ideal))) ⟨m, fun _ => 0, g⟩ (fun r => (∀ c : Dev Cert.SsdZIdeal.nD,
      r.2.mem ((c.tc : Thread Cert.SsdZIdeal.nD Cert.SsdZIdeal.τ).loc Cert.SsdZIdeal.main_arg0) = m ((c.tc : Thread Cert.SsdZIdeal.nD Cert.SsdZIdeal.τ).loc Cert.SsdZIdeal.main_arg0)
      ∧ r.2.mem ((c.tc : Thread Cert.SsdZIdeal.nD Cert.SsdZIdeal.τ).loc Cert.SsdZIdeal.main_arg1) = m ((c.tc : Thread Cert.SsdZIdeal.nD Cert.SsdZIdeal.τ).loc Cert.SsdZIdeal.main_arg1))
      ∧ r.2.sem = fun _ => 0)

def quiescent_SsdZRefIdeal [hSsdZRefIdeal : Cert.SsdZRefIdeal.Facts] : Prop :=
  ∀ (m : (ℓ : Loc Cert.SsdZRefIdeal.nD Cert.SsdZRefIdeal.τ Cert.SsdZRefIdeal.sig) → Buf (Elt Ideal) ℓ) (g : Dev Cert.SsdZRefIdeal.nD → PrngReg), Pre_SsdZRefIdeal m →
    θ_run (Cert.SsdZRefIdeal.defs (F := Ideal)) (onTc (τ := Cert.SsdZRefIdeal.τ) (Cert.SsdZRefIdeal.main (F := Ideal))) ⟨m, fun _ => 0, g⟩ (fun r => (∀ c : Dev Cert.SsdZRefIdeal.nD,
      r.2.mem ((c.tc : Thread Cert.SsdZRefIdeal.nD Cert.SsdZRefIdeal.τ).loc Cert.SsdZRefIdeal.main_arg0) = m ((c.tc : Thread Cert.SsdZRefIdeal.nD Cert.SsdZRefIdeal.τ).loc Cert.SsdZRefIdeal.main_arg0)
      ∧ r.2.mem ((c.tc : Thread Cert.SsdZRefIdeal.nD Cert.SsdZRefIdeal.τ).loc Cert.SsdZRefIdeal.main_arg1) = m ((c.tc : Thread Cert.SsdZRefIdeal.nD Cert.SsdZRefIdeal.τ).loc Cert.SsdZRefIdeal.main_arg1))
      ∧ r.2.sem = fun _ => 0)

def quiescent_SsdXbc [hSsdXbc : Cert.SsdXbc.Facts] : Prop :=
  ∀ (m : (ℓ : Loc Cert.SsdXbc.nD Cert.SsdXbc.τ Cert.SsdXbc.sig) → Buf (Elt Bits) ℓ) (g : Dev Cert.SsdXbc.nD → PrngReg), Pre_SsdXbc m →
    θ_run (Cert.SsdXbc.defs (F := Bits)) (onTc (τ := Cert.SsdXbc.τ) (Cert.SsdXbc.main (F := Bits))) ⟨m, fun _ => 0, g⟩ (fun r => (∀ c : Dev Cert.SsdXbc.nD,
      r.2.mem ((c.tc : Thread Cert.SsdXbc.nD Cert.SsdXbc.τ).loc Cert.SsdXbc.main_arg0) = m ((c.tc : Thread Cert.SsdXbc.nD Cert.SsdXbc.τ).loc Cert.SsdXbc.main_arg0)
      ∧ r.2.mem ((c.tc : Thread Cert.SsdXbc.nD Cert.SsdXbc.τ).loc Cert.SsdXbc.main_arg1) = m ((c.tc : Thread Cert.SsdXbc.nD Cert.SsdXbc.τ).loc Cert.SsdXbc.main_arg1))
      ∧ r.2.sem = fun _ => 0)

def quiescent_SsdXbcIdeal [hSsdXbcIdeal : Cert.SsdXbcIdeal.Facts] : Prop :=
  ∀ (m : (ℓ : Loc Cert.SsdXbcIdeal.nD Cert.SsdXbcIdeal.τ Cert.SsdXbcIdeal.sig) → Buf (Elt Ideal) ℓ) (g : Dev Cert.SsdXbcIdeal.nD → PrngReg), Pre_SsdXbcIdeal m →
    θ_run (Cert.SsdXbcIdeal.defs (F := Ideal)) (onTc (τ := Cert.SsdXbcIdeal.τ) (Cert.SsdXbcIdeal.main (F := Ideal))) ⟨m, fun _ => 0, g⟩ (fun r => (∀ c : Dev Cert.SsdXbcIdeal.nD,
      r.2.mem ((c.tc : Thread Cert.SsdXbcIdeal.nD Cert.SsdXbcIdeal.τ).loc Cert.SsdXbcIdeal.main_arg0) = m ((c.tc : Thread Cert.SsdXbcIdeal.nD Cert.SsdXbcIdeal.τ).loc Cert.SsdXbcIdeal.main_arg0)
      ∧ r.2.mem ((c.tc : Thread Cert.SsdXbcIdeal.nD Cert.SsdXbcIdeal.τ).loc Cert.SsdXbcIdeal.main_arg1) = m ((c.tc : Thread Cert.SsdXbcIdeal.nD Cert.SsdXbcIdeal.τ).loc Cert.SsdXbcIdeal.main_arg1))
      ∧ r.2.sem = fun _ => 0)

def quiescent_SsdXbcRefIdeal [hSsdXbcRefIdeal : Cert.SsdXbcRefIdeal.Facts] : Prop :=
  ∀ (m : (ℓ : Loc Cert.SsdXbcRefIdeal.nD Cert.SsdXbcRefIdeal.τ Cert.SsdXbcRefIdeal.sig) → Buf (Elt Ideal) ℓ) (g : Dev Cert.SsdXbcRefIdeal.nD → PrngReg), Pre_SsdXbcRefIdeal m →
    θ_run (Cert.SsdXbcRefIdeal.defs (F := Ideal)) (onTc (τ := Cert.SsdXbcRefIdeal.τ) (Cert.SsdXbcRefIdeal.main (F := Ideal))) ⟨m, fun _ => 0, g⟩ (fun r => (∀ c : Dev Cert.SsdXbcRefIdeal.nD,
      r.2.mem ((c.tc : Thread Cert.SsdXbcRefIdeal.nD Cert.SsdXbcRefIdeal.τ).loc Cert.SsdXbcRefIdeal.main_arg0) = m ((c.tc : Thread Cert.SsdXbcRefIdeal.nD Cert.SsdXbcRefIdeal.τ).loc Cert.SsdXbcRefIdeal.main_arg0)
      ∧ r.2.mem ((c.tc : Thread Cert.SsdXbcRefIdeal.nD Cert.SsdXbcRefIdeal.τ).loc Cert.SsdXbcRefIdeal.main_arg1) = m ((c.tc : Thread Cert.SsdXbcRefIdeal.nD Cert.SsdXbcRefIdeal.τ).loc Cert.SsdXbcRefIdeal.main_arg1))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1))
      ∧ r.2.sem = fun _ => 0)

def quiescent_HyenaInRefIdeal [hHyenaInRefIdeal : Cert.HyenaInRefIdeal.Facts] : Prop :=
  ∀ (m : (ℓ : Loc Cert.HyenaInRefIdeal.nD Cert.HyenaInRefIdeal.τ Cert.HyenaInRefIdeal.sig) → Buf (Elt Ideal) ℓ) (g : Dev Cert.HyenaInRefIdeal.nD → PrngReg), Pre_HyenaInRefIdeal m →
    θ_run (Cert.HyenaInRefIdeal.defs (F := Ideal)) (onTc (τ := Cert.HyenaInRefIdeal.τ) (Cert.HyenaInRefIdeal.main (F := Ideal))) ⟨m, fun _ => 0, g⟩ (fun r => (∀ c : Dev Cert.HyenaInRefIdeal.nD,
      r.2.mem ((c.tc : Thread Cert.HyenaInRefIdeal.nD Cert.HyenaInRefIdeal.τ).loc Cert.HyenaInRefIdeal.main_arg0) = m ((c.tc : Thread Cert.HyenaInRefIdeal.nD Cert.HyenaInRefIdeal.τ).loc Cert.HyenaInRefIdeal.main_arg0)
      ∧ r.2.mem ((c.tc : Thread Cert.HyenaInRefIdeal.nD Cert.HyenaInRefIdeal.τ).loc Cert.HyenaInRefIdeal.main_arg1) = m ((c.tc : Thread Cert.HyenaInRefIdeal.nD Cert.HyenaInRefIdeal.τ).loc Cert.HyenaInRefIdeal.main_arg1))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3)
      ∧ r.2.mem ((c.tc : Thread Cert.GdnOutRefIdeal.nD Cert.GdnOutRefIdeal.τ).loc Cert.GdnOutRefIdeal.main_arg4) = m ((c.tc : Thread Cert.GdnOutRefIdeal.nD Cert.GdnOutRefIdeal.τ).loc Cert.GdnOutRefIdeal.main_arg4))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)
      ∧ r.2.mem ((c.tc : Thread Cert.SsdOutRefIdeal.nD Cert.SsdOutRefIdeal.τ).loc Cert.SsdOutRefIdeal.main_arg4) = m ((c.tc : Thread Cert.SsdOutRefIdeal.nD Cert.SsdOutRefIdeal.τ).loc Cert.SsdOutRefIdeal.main_arg4))
      ∧ r.2.sem = fun _ => 0)

def quiescent_SsdBack [hSsdBack : Cert.SsdBack.Facts] : Prop :=
  ∀ (m : (ℓ : Loc Cert.SsdBack.nD Cert.SsdBack.τ Cert.SsdBack.sig) → Buf (Elt Bits) ℓ) (g : Dev Cert.SsdBack.nD → PrngReg), Pre_SsdBack m →
    θ_run (Cert.SsdBack.defs (F := Bits)) (onTc (τ := Cert.SsdBack.τ) (Cert.SsdBack.main (F := Bits))) ⟨m, fun _ => 0, g⟩ (fun r => (∀ c : Dev Cert.SsdBack.nD,
      r.2.mem ((c.tc : Thread Cert.SsdBack.nD Cert.SsdBack.τ).loc Cert.SsdBack.main_arg0) = m ((c.tc : Thread Cert.SsdBack.nD Cert.SsdBack.τ).loc Cert.SsdBack.main_arg0)
      ∧ r.2.mem ((c.tc : Thread Cert.SsdBack.nD Cert.SsdBack.τ).loc Cert.SsdBack.main_arg1) = m ((c.tc : Thread Cert.SsdBack.nD Cert.SsdBack.τ).loc Cert.SsdBack.main_arg1)
      ∧ r.2.mem ((c.tc : Thread Cert.SsdBack.nD Cert.SsdBack.τ).loc Cert.SsdBack.main_arg2) = m ((c.tc : Thread Cert.SsdBack.nD Cert.SsdBack.τ).loc Cert.SsdBack.main_arg2))
      ∧ r.2.sem = fun _ => 0)

def quiescent_SsdBackIdeal [hSsdBackIdeal : Cert.SsdBackIdeal.Facts] : Prop :=
  ∀ (m : (ℓ : Loc Cert.SsdBackIdeal.nD Cert.SsdBackIdeal.τ Cert.SsdBackIdeal.sig) → Buf (Elt Ideal) ℓ) (g : Dev Cert.SsdBackIdeal.nD → PrngReg), Pre_SsdBackIdeal m →
    θ_run (Cert.SsdBackIdeal.defs (F := Ideal)) (onTc (τ := Cert.SsdBackIdeal.τ) (Cert.SsdBackIdeal.main (F := Ideal))) ⟨m, fun _ => 0, g⟩ (fun r => (∀ c : Dev Cert.SsdBackIdeal.nD,
      r.2.mem ((c.tc : Thread Cert.SsdBackIdeal.nD Cert.SsdBackIdeal.τ).loc Cert.SsdBackIdeal.main_arg0) = m ((c.tc : Thread Cert.SsdBackIdeal.nD Cert.SsdBackIdeal.τ).loc Cert.SsdBackIdeal.main_arg0)
      ∧ r.2.mem ((c.tc : Thread Cert.SsdBackIdeal.nD Cert.SsdBackIdeal.τ).loc Cert.SsdBackIdeal.main_arg1) = m ((c.tc : Thread Cert.SsdBackIdeal.nD Cert.SsdBackIdeal.τ).loc Cert.SsdBackIdeal.main_arg1)
      ∧ r.2.mem ((c.tc : Thread Cert.SsdBackIdeal.nD Cert.SsdBackIdeal.τ).loc Cert.SsdBackIdeal.main_arg2) = m ((c.tc : Thread Cert.SsdBackIdeal.nD Cert.SsdBackIdeal.τ).loc Cert.SsdBackIdeal.main_arg2))
      ∧ r.2.sem = fun _ => 0)

def quiescent_SsdBackIdeal_pre_finite_gates [hSsdBackIdeal : Cert.SsdBackIdeal.Facts] [hPre_finite_gates : Cert.Pre_finite_gates.Facts] : Prop :=
  ∀ (m : (ℓ : Loc Cert.SsdBackIdeal.nD Cert.SsdBackIdeal.τ Cert.SsdBackIdeal.sig) → Buf (Elt Ideal) ℓ) (g : Dev Cert.SsdBackIdeal.nD → PrngReg), Pre_SsdBackIdeal_finite_gates m →
    θ_run (Cert.SsdBackIdeal.defs (F := Ideal)) (onTc (τ := Cert.SsdBackIdeal.τ) (Cert.SsdBackIdeal.main (F := Ideal))) ⟨m, fun _ => 0, g⟩ (fun r => (∀ c : Dev Cert.SsdBackIdeal.nD,
      r.2.mem ((c.tc : Thread Cert.SsdBackIdeal.nD Cert.SsdBackIdeal.τ).loc Cert.SsdBackIdeal.main_arg0) = m ((c.tc : Thread Cert.SsdBackIdeal.nD Cert.SsdBackIdeal.τ).loc Cert.SsdBackIdeal.main_arg0)
      ∧ r.2.mem ((c.tc : Thread Cert.SsdBackIdeal.nD Cert.SsdBackIdeal.τ).loc Cert.SsdBackIdeal.main_arg1) = m ((c.tc : Thread Cert.SsdBackIdeal.nD Cert.SsdBackIdeal.τ).loc Cert.SsdBackIdeal.main_arg1)
      ∧ r.2.mem ((c.tc : Thread Cert.SsdBackIdeal.nD Cert.SsdBackIdeal.τ).loc Cert.SsdBackIdeal.main_arg2) = m ((c.tc : Thread Cert.SsdBackIdeal.nD Cert.SsdBackIdeal.τ).loc Cert.SsdBackIdeal.main_arg2))
      ∧ r.2.sem = fun _ => 0)

def quiescent_SsdBackRefIdeal [hSsdBackRefIdeal : Cert.SsdBackRefIdeal.Facts] : Prop :=
  ∀ (m : (ℓ : Loc Cert.SsdBackRefIdeal.nD Cert.SsdBackRefIdeal.τ Cert.SsdBackRefIdeal.sig) → Buf (Elt Ideal) ℓ) (g : Dev Cert.SsdBackRefIdeal.nD → PrngReg), Pre_SsdBackRefIdeal m →
    θ_run (Cert.SsdBackRefIdeal.defs (F := Ideal)) (onTc (τ := Cert.SsdBackRefIdeal.τ) (Cert.SsdBackRefIdeal.main (F := Ideal))) ⟨m, fun _ => 0, g⟩ (fun r => (∀ c : Dev Cert.SsdBackRefIdeal.nD,
      r.2.mem ((c.tc : Thread Cert.SsdBackRefIdeal.nD Cert.SsdBackRefIdeal.τ).loc Cert.SsdBackRefIdeal.main_arg0) = m ((c.tc : Thread Cert.SsdBackRefIdeal.nD Cert.SsdBackRefIdeal.τ).loc Cert.SsdBackRefIdeal.main_arg0)
      ∧ r.2.mem ((c.tc : Thread Cert.SsdBackRefIdeal.nD Cert.SsdBackRefIdeal.τ).loc Cert.SsdBackRefIdeal.main_arg1) = m ((c.tc : Thread Cert.SsdBackRefIdeal.nD Cert.SsdBackRefIdeal.τ).loc Cert.SsdBackRefIdeal.main_arg1)
      ∧ r.2.mem ((c.tc : Thread Cert.SsdBackRefIdeal.nD Cert.SsdBackRefIdeal.τ).loc Cert.SsdBackRefIdeal.main_arg2) = m ((c.tc : Thread Cert.SsdBackRefIdeal.nD Cert.SsdBackRefIdeal.τ).loc Cert.SsdBackRefIdeal.main_arg2))
      ∧ r.2.sem = fun _ => 0)

def quiescent_SsdBackRefIdeal_pre_finite_gates [hSsdBackRefIdeal : Cert.SsdBackRefIdeal.Facts] [hPre_finite_gates : Cert.Pre_finite_gates.Facts] : Prop :=
  ∀ (m : (ℓ : Loc Cert.SsdBackRefIdeal.nD Cert.SsdBackRefIdeal.τ Cert.SsdBackRefIdeal.sig) → Buf (Elt Ideal) ℓ) (g : Dev Cert.SsdBackRefIdeal.nD → PrngReg), Pre_SsdBackRefIdeal_finite_gates m →
    θ_run (Cert.SsdBackRefIdeal.defs (F := Ideal)) (onTc (τ := Cert.SsdBackRefIdeal.τ) (Cert.SsdBackRefIdeal.main (F := Ideal))) ⟨m, fun _ => 0, g⟩ (fun r => (∀ c : Dev Cert.SsdBackRefIdeal.nD,
      r.2.mem ((c.tc : Thread Cert.SsdBackRefIdeal.nD Cert.SsdBackRefIdeal.τ).loc Cert.SsdBackRefIdeal.main_arg0) = m ((c.tc : Thread Cert.SsdBackRefIdeal.nD Cert.SsdBackRefIdeal.τ).loc Cert.SsdBackRefIdeal.main_arg0)
      ∧ r.2.mem ((c.tc : Thread Cert.SsdBackRefIdeal.nD Cert.SsdBackRefIdeal.τ).loc Cert.SsdBackRefIdeal.main_arg1) = m ((c.tc : Thread Cert.SsdBackRefIdeal.nD Cert.SsdBackRefIdeal.τ).loc Cert.SsdBackRefIdeal.main_arg1)
      ∧ r.2.mem ((c.tc : Thread Cert.SsdBackRefIdeal.nD Cert.SsdBackRefIdeal.τ).loc Cert.SsdBackRefIdeal.main_arg2) = m ((c.tc : Thread Cert.SsdBackRefIdeal.nD Cert.SsdBackRefIdeal.τ).loc Cert.SsdBackRefIdeal.main_arg2))
      ∧ r.2.sem = fun _ => 0)

def quiescent_GdnChunk [hGdnChunk : Cert.GdnChunk.Facts] : Prop :=
  ∀ (m : (ℓ : Loc Cert.GdnChunk.nD Cert.GdnChunk.τ Cert.GdnChunk.sig) → Buf (Elt Bits) ℓ) (g : Dev Cert.GdnChunk.nD → PrngReg), Pre_GdnChunk m →
    θ_run (Cert.GdnChunk.defs (F := Bits)) (onTc (τ := Cert.GdnChunk.τ) (Cert.GdnChunk.main (F := Bits))) ⟨m, fun _ => 0, g⟩ (fun r => (∀ c : Dev Cert.GdnChunk.nD,
      r.2.mem ((c.tc : Thread Cert.GdnChunk.nD Cert.GdnChunk.τ).loc Cert.GdnChunk.main_arg0) = m ((c.tc : Thread Cert.GdnChunk.nD Cert.GdnChunk.τ).loc Cert.GdnChunk.main_arg0)
      ∧ r.2.mem ((c.tc : Thread Cert.GdnChunk.nD Cert.GdnChunk.τ).loc Cert.GdnChunk.main_arg1) = m ((c.tc : Thread Cert.GdnChunk.nD Cert.GdnChunk.τ).loc Cert.GdnChunk.main_arg1)
      ∧ r.2.mem ((c.tc : Thread Cert.GdnChunk.nD Cert.GdnChunk.τ).loc Cert.GdnChunk.main_arg2) = m ((c.tc : Thread Cert.GdnChunk.nD Cert.GdnChunk.τ).loc Cert.GdnChunk.main_arg2))
      ∧ r.2.sem = fun _ => 0)

def quiescent_GdnChunkIdeal [hGdnChunkIdeal : Cert.GdnChunkIdeal.Facts] : Prop :=
  ∀ (m : (ℓ : Loc Cert.GdnChunkIdeal.nD Cert.GdnChunkIdeal.τ Cert.GdnChunkIdeal.sig) → Buf (Elt Ideal) ℓ) (g : Dev Cert.GdnChunkIdeal.nD → PrngReg), Pre_GdnChunkIdeal m →
    θ_run (Cert.GdnChunkIdeal.defs (F := Ideal)) (onTc (τ := Cert.GdnChunkIdeal.τ) (Cert.GdnChunkIdeal.main (F := Ideal))) ⟨m, fun _ => 0, g⟩ (fun r => (∀ c : Dev Cert.GdnChunkIdeal.nD,
      r.2.mem ((c.tc : Thread Cert.GdnChunkIdeal.nD Cert.GdnChunkIdeal.τ).loc Cert.GdnChunkIdeal.main_arg0) = m ((c.tc : Thread Cert.GdnChunkIdeal.nD Cert.GdnChunkIdeal.τ).loc Cert.GdnChunkIdeal.main_arg0)
      ∧ r.2.mem ((c.tc : Thread Cert.GdnChunkIdeal.nD Cert.GdnChunkIdeal.τ).loc Cert.GdnChunkIdeal.main_arg1) = m ((c.tc : Thread Cert.GdnChunkIdeal.nD Cert.GdnChunkIdeal.τ).loc Cert.GdnChunkIdeal.main_arg1)
      ∧ r.2.mem ((c.tc : Thread Cert.GdnChunkIdeal.nD Cert.GdnChunkIdeal.τ).loc Cert.GdnChunkIdeal.main_arg2) = m ((c.tc : Thread Cert.GdnChunkIdeal.nD Cert.GdnChunkIdeal.τ).loc Cert.GdnChunkIdeal.main_arg2))
      ∧ r.2.sem = fun _ => 0)

def quiescent_GdnChunkIdeal_pre_finite_rows [hGdnChunkIdeal : Cert.GdnChunkIdeal.Facts] [hPre_finite_rows : Cert.Pre_finite_rows.Facts] : Prop :=
  ∀ (m : (ℓ : Loc Cert.GdnChunkIdeal.nD Cert.GdnChunkIdeal.τ Cert.GdnChunkIdeal.sig) → Buf (Elt Ideal) ℓ) (g : Dev Cert.GdnChunkIdeal.nD → PrngReg), Pre_GdnChunkIdeal_finite_rows m →
    θ_run (Cert.GdnChunkIdeal.defs (F := Ideal)) (onTc (τ := Cert.GdnChunkIdeal.τ) (Cert.GdnChunkIdeal.main (F := Ideal))) ⟨m, fun _ => 0, g⟩ (fun r => (∀ c : Dev Cert.GdnChunkIdeal.nD,
      r.2.mem ((c.tc : Thread Cert.GdnChunkIdeal.nD Cert.GdnChunkIdeal.τ).loc Cert.GdnChunkIdeal.main_arg0) = m ((c.tc : Thread Cert.GdnChunkIdeal.nD Cert.GdnChunkIdeal.τ).loc Cert.GdnChunkIdeal.main_arg0)
      ∧ r.2.mem ((c.tc : Thread Cert.GdnChunkIdeal.nD Cert.GdnChunkIdeal.τ).loc Cert.GdnChunkIdeal.main_arg1) = m ((c.tc : Thread Cert.GdnChunkIdeal.nD Cert.GdnChunkIdeal.τ).loc Cert.GdnChunkIdeal.main_arg1)
      ∧ r.2.mem ((c.tc : Thread Cert.GdnChunkIdeal.nD Cert.GdnChunkIdeal.τ).loc Cert.GdnChunkIdeal.main_arg2) = m ((c.tc : Thread Cert.GdnChunkIdeal.nD Cert.GdnChunkIdeal.τ).loc Cert.GdnChunkIdeal.main_arg2))
      ∧ r.2.sem = fun _ => 0)

def quiescent_GdnChunkRefIdeal [hGdnChunkRefIdeal : Cert.GdnChunkRefIdeal.Facts] : Prop :=
  ∀ (m : (ℓ : Loc Cert.GdnChunkRefIdeal.nD Cert.GdnChunkRefIdeal.τ Cert.GdnChunkRefIdeal.sig) → Buf (Elt Ideal) ℓ) (g : Dev Cert.GdnChunkRefIdeal.nD → PrngReg), Pre_GdnChunkRefIdeal m →
    θ_run (Cert.GdnChunkRefIdeal.defs (F := Ideal)) (onTc (τ := Cert.GdnChunkRefIdeal.τ) (Cert.GdnChunkRefIdeal.main (F := Ideal))) ⟨m, fun _ => 0, g⟩ (fun r => (∀ c : Dev Cert.GdnChunkRefIdeal.nD,
      r.2.mem ((c.tc : Thread Cert.GdnChunkRefIdeal.nD Cert.GdnChunkRefIdeal.τ).loc Cert.GdnChunkRefIdeal.main_arg0) = m ((c.tc : Thread Cert.GdnChunkRefIdeal.nD Cert.GdnChunkRefIdeal.τ).loc Cert.GdnChunkRefIdeal.main_arg0)
      ∧ r.2.mem ((c.tc : Thread Cert.GdnChunkRefIdeal.nD Cert.GdnChunkRefIdeal.τ).loc Cert.GdnChunkRefIdeal.main_arg1) = m ((c.tc : Thread Cert.GdnChunkRefIdeal.nD Cert.GdnChunkRefIdeal.τ).loc Cert.GdnChunkRefIdeal.main_arg1)
      ∧ r.2.mem ((c.tc : Thread Cert.GdnChunkRefIdeal.nD Cert.GdnChunkRefIdeal.τ).loc Cert.GdnChunkRefIdeal.main_arg2) = m ((c.tc : Thread Cert.GdnChunkRefIdeal.nD Cert.GdnChunkRefIdeal.τ).loc Cert.GdnChunkRefIdeal.main_arg2))
      ∧ r.2.sem = fun _ => 0)

def quiescent_GdnChunkRefIdeal_pre_finite_rows [hGdnChunkRefIdeal : Cert.GdnChunkRefIdeal.Facts] [hPre_finite_rows : Cert.Pre_finite_rows.Facts] : Prop :=
  ∀ (m : (ℓ : Loc Cert.GdnChunkRefIdeal.nD Cert.GdnChunkRefIdeal.τ Cert.GdnChunkRefIdeal.sig) → Buf (Elt Ideal) ℓ) (g : Dev Cert.GdnChunkRefIdeal.nD → PrngReg), Pre_GdnChunkRefIdeal_finite_rows m →
    θ_run (Cert.GdnChunkRefIdeal.defs (F := Ideal)) (onTc (τ := Cert.GdnChunkRefIdeal.τ) (Cert.GdnChunkRefIdeal.main (F := Ideal))) ⟨m, fun _ => 0, g⟩ (fun r => (∀ c : Dev Cert.GdnChunkRefIdeal.nD,
      r.2.mem ((c.tc : Thread Cert.GdnChunkRefIdeal.nD Cert.GdnChunkRefIdeal.τ).loc Cert.GdnChunkRefIdeal.main_arg0) = m ((c.tc : Thread Cert.GdnChunkRefIdeal.nD Cert.GdnChunkRefIdeal.τ).loc Cert.GdnChunkRefIdeal.main_arg0)
      ∧ r.2.mem ((c.tc : Thread Cert.GdnChunkRefIdeal.nD Cert.GdnChunkRefIdeal.τ).loc Cert.GdnChunkRefIdeal.main_arg1) = m ((c.tc : Thread Cert.GdnChunkRefIdeal.nD Cert.GdnChunkRefIdeal.τ).loc Cert.GdnChunkRefIdeal.main_arg1)
      ∧ r.2.mem ((c.tc : Thread Cert.GdnChunkRefIdeal.nD Cert.GdnChunkRefIdeal.τ).loc Cert.GdnChunkRefIdeal.main_arg2) = m ((c.tc : Thread Cert.GdnChunkRefIdeal.nD Cert.GdnChunkRefIdeal.τ).loc Cert.GdnChunkRefIdeal.main_arg2))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GdnQkv_GdnQkvIdeal : Prop :=
  True

def algebraic_GdnQkvIdeal_GdnQkvRefIdeal [hGdnQkvIdeal : Cert.GdnQkvIdeal.Facts] [hGdnQkvRefIdeal : Cert.GdnQkvRefIdeal.Facts] : Prop :=
  ∀ (m : (ℓ : Loc Cert.GdnQkvIdeal.nD Cert.GdnQkvIdeal.τ Cert.GdnQkvIdeal.sig) → Buf (Elt Ideal) ℓ) (g : Dev Cert.GdnQkvIdeal.nD → PrngReg)
    (m' : (ℓ : Loc Cert.GdnQkvRefIdeal.nD Cert.GdnQkvRefIdeal.τ Cert.GdnQkvRefIdeal.sig) → Buf (Elt Ideal) ℓ) (g' : Dev Cert.GdnQkvRefIdeal.nD → PrngReg), Pre_GdnQkvIdeal m →
    (∀ c : Dev Cert.GdnQkvIdeal.nD,
      m' ((c.tc : Thread Cert.GdnQkvRefIdeal.nD Cert.GdnQkvRefIdeal.τ).loc Cert.GdnQkvRefIdeal.main_arg0) = m ((c.tc : Thread Cert.GdnQkvIdeal.nD Cert.GdnQkvIdeal.τ).loc Cert.GdnQkvIdeal.main_arg0)
      ∧ m' ((c.tc : Thread Cert.GdnQkvRefIdeal.nD Cert.GdnQkvRefIdeal.τ).loc Cert.GdnQkvRefIdeal.main_arg1) = m ((c.tc : Thread Cert.GdnQkvIdeal.nD Cert.GdnQkvIdeal.τ).loc Cert.GdnQkvIdeal.main_arg1)) →
    ∃ (v0 : (c : Dev Cert.GdnQkvIdeal.nD) → Buf (Elt Ideal) ((c.tc : Thread Cert.GdnQkvIdeal.nD Cert.GdnQkvIdeal.τ).loc Cert.GdnQkvIdeal.main_v1)),
      θ_run (Cert.GdnQkvIdeal.defs (F := Ideal)) (onTc (τ := Cert.GdnQkvIdeal.τ) (Cert.GdnQkvIdeal.main (F := Ideal))) ⟨m, fun _ => 0, g⟩ (fun r => ∀ c : Dev Cert.GdnQkvIdeal.nD,
          r.2.mem ((c.tc : Thread Cert.GdnQkvIdeal.nD Cert.GdnQkvIdeal.τ).loc Cert.GdnQkvIdeal.main_v1) = v0 c
          ∧ r.2.mem ((c.tc : Thread Cert.GdnQkvIdeal.nD Cert.GdnQkvIdeal.τ).loc Cert.GdnQkvIdeal.main_arg0) = m ((c.tc : Thread Cert.GdnQkvIdeal.nD Cert.GdnQkvIdeal.τ).loc Cert.GdnQkvIdeal.main_arg0)
          ∧ r.2.mem ((c.tc : Thread Cert.GdnQkvIdeal.nD Cert.GdnQkvIdeal.τ).loc Cert.GdnQkvIdeal.main_arg1) = m ((c.tc : Thread Cert.GdnQkvIdeal.nD Cert.GdnQkvIdeal.τ).loc Cert.GdnQkvIdeal.main_arg1))
      ∧ θ_run (Cert.GdnQkvRefIdeal.defs (F := Ideal)) (onTc (τ := Cert.GdnQkvRefIdeal.τ) (Cert.GdnQkvRefIdeal.main (F := Ideal))) ⟨m', fun _ => 0, g'⟩ (fun r => ∀ c : Dev Cert.GdnQkvRefIdeal.nD,
          r.2.mem ((c.tc : Thread Cert.GdnQkvRefIdeal.nD Cert.GdnQkvRefIdeal.τ).loc Cert.GdnQkvRefIdeal.main_v3) = v0 c
          ∧ r.2.mem ((c.tc : Thread Cert.GdnQkvRefIdeal.nD Cert.GdnQkvRefIdeal.τ).loc Cert.GdnQkvRefIdeal.main_arg0) = m' ((c.tc : Thread Cert.GdnQkvRefIdeal.nD Cert.GdnQkvRefIdeal.τ).loc Cert.GdnQkvRefIdeal.main_arg0)
          ∧ r.2.mem ((c.tc : Thread Cert.GdnQkvRefIdeal.nD Cert.GdnQkvRefIdeal.τ).loc Cert.GdnQkvRefIdeal.main_arg1) = m' ((c.tc : Thread Cert.GdnQkvRefIdeal.nD Cert.GdnQkvRefIdeal.τ).loc Cert.GdnQkvRefIdeal.main_arg1))

def preserves_GdnZ_GdnZIdeal : Prop :=
  True

def algebraic_GdnZIdeal_GdnZRefIdeal [hGdnZIdeal : Cert.GdnZIdeal.Facts] [hGdnZRefIdeal : Cert.GdnZRefIdeal.Facts] : Prop :=
  ∀ (m : (ℓ : Loc Cert.GdnZIdeal.nD Cert.GdnZIdeal.τ Cert.GdnZIdeal.sig) → Buf (Elt Ideal) ℓ) (g : Dev Cert.GdnZIdeal.nD → PrngReg)
    (m' : (ℓ : Loc Cert.GdnZRefIdeal.nD Cert.GdnZRefIdeal.τ Cert.GdnZRefIdeal.sig) → Buf (Elt Ideal) ℓ) (g' : Dev Cert.GdnZRefIdeal.nD → PrngReg), Pre_GdnZIdeal m →
    (∀ c : Dev Cert.GdnZIdeal.nD,
      m' ((c.tc : Thread Cert.GdnZRefIdeal.nD Cert.GdnZRefIdeal.τ).loc Cert.GdnZRefIdeal.main_arg0) = m ((c.tc : Thread Cert.GdnZIdeal.nD Cert.GdnZIdeal.τ).loc Cert.GdnZIdeal.main_arg0)
      ∧ m' ((c.tc : Thread Cert.GdnZRefIdeal.nD Cert.GdnZRefIdeal.τ).loc Cert.GdnZRefIdeal.main_arg1) = m ((c.tc : Thread Cert.GdnZIdeal.nD Cert.GdnZIdeal.τ).loc Cert.GdnZIdeal.main_arg1)) →
    ∃ (v0 : (c : Dev Cert.GdnZIdeal.nD) → Buf (Elt Ideal) ((c.tc : Thread Cert.GdnZIdeal.nD Cert.GdnZIdeal.τ).loc Cert.GdnZIdeal.main_v1)),
      θ_run (Cert.GdnZIdeal.defs (F := Ideal)) (onTc (τ := Cert.GdnZIdeal.τ) (Cert.GdnZIdeal.main (F := Ideal))) ⟨m, fun _ => 0, g⟩ (fun r => ∀ c : Dev Cert.GdnZIdeal.nD,
          r.2.mem ((c.tc : Thread Cert.GdnZIdeal.nD Cert.GdnZIdeal.τ).loc Cert.GdnZIdeal.main_v1) = v0 c
          ∧ r.2.mem ((c.tc : Thread Cert.GdnZIdeal.nD Cert.GdnZIdeal.τ).loc Cert.GdnZIdeal.main_arg0) = m ((c.tc : Thread Cert.GdnZIdeal.nD Cert.GdnZIdeal.τ).loc Cert.GdnZIdeal.main_arg0)
          ∧ r.2.mem ((c.tc : Thread Cert.GdnZIdeal.nD Cert.GdnZIdeal.τ).loc Cert.GdnZIdeal.main_arg1) = m ((c.tc : Thread Cert.GdnZIdeal.nD Cert.GdnZIdeal.τ).loc Cert.GdnZIdeal.main_arg1))
      ∧ θ_run (Cert.GdnZRefIdeal.defs (F := Ideal)) (onTc (τ := Cert.GdnZRefIdeal.τ) (Cert.GdnZRefIdeal.main (F := Ideal))) ⟨m', fun _ => 0, g'⟩ (fun r => ∀ c : Dev Cert.GdnZRefIdeal.nD,
          r.2.mem ((c.tc : Thread Cert.GdnZRefIdeal.nD Cert.GdnZRefIdeal.τ).loc Cert.GdnZRefIdeal.main_v3) = v0 c
          ∧ r.2.mem ((c.tc : Thread Cert.GdnZRefIdeal.nD Cert.GdnZRefIdeal.τ).loc Cert.GdnZRefIdeal.main_arg0) = m' ((c.tc : Thread Cert.GdnZRefIdeal.nD Cert.GdnZRefIdeal.τ).loc Cert.GdnZRefIdeal.main_arg0)
          ∧ r.2.mem ((c.tc : Thread Cert.GdnZRefIdeal.nD Cert.GdnZRefIdeal.τ).loc Cert.GdnZRefIdeal.main_arg1) = m' ((c.tc : Thread Cert.GdnZRefIdeal.nD Cert.GdnZRefIdeal.τ).loc Cert.GdnZRefIdeal.main_arg1))

def preserves_GdnGates_GdnGatesIdeal : Prop :=
  True

def algebraic_GdnGatesIdeal_GdnGatesRefIdeal [hGdnGatesIdeal : Cert.GdnGatesIdeal.Facts] [hGdnGatesRefIdeal : Cert.GdnGatesRefIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg)
    (m' : (ℓ : Loc Cert.GdnGatesRefIdeal.nD Cert.GdnGatesRefIdeal.τ Cert.GdnGatesRefIdeal.sig) → Buf (Elt Ideal) ℓ) (g' : Dev Cert.GdnGatesRefIdeal.nD → PrngReg), Pre_GdnGatesIdeal m →
    (∀ c : Dev Cert.GdnGatesIdeal.nD,
      m' ((c.tc : Thread Cert.GdnGatesRefIdeal.nD Cert.GdnGatesRefIdeal.τ).loc Cert.GdnGatesRefIdeal.main_arg0) = m ((c.tc : Thread Cert.GdnGatesIdeal.nD Cert.GdnGatesIdeal.τ).loc Cert.GdnGatesIdeal.main_arg0)
      ∧ m' ((c.tc : Thread Cert.GdnGatesRefIdeal.nD Cert.GdnGatesRefIdeal.τ).loc Cert.GdnGatesRefIdeal.main_arg1) = m ((c.tc : Thread Cert.GdnGatesIdeal.nD Cert.GdnGatesIdeal.τ).loc Cert.GdnGatesIdeal.main_arg1)) →
    ∃ (v0 : (c : Dev Cert.GdnGatesIdeal.nD) → Buf (Elt Ideal) ((c.tc : Thread Cert.GdnGatesIdeal.nD Cert.GdnGatesIdeal.τ).loc Cert.GdnGatesIdeal.main_v1)),
      θ_run (Cert.GdnGatesIdeal.defs (F := Ideal)) (onTc (τ := Cert.GdnGatesIdeal.τ) (Cert.GdnGatesIdeal.main (F := Ideal))) ⟨m, fun _ => 0, g⟩ (fun r => ∀ c : Dev Cert.GdnGatesIdeal.nD,
          r.2.mem ((c.tc : Thread Cert.GdnGatesIdeal.nD Cert.GdnGatesIdeal.τ).loc Cert.GdnGatesIdeal.main_v1) = v0 c
          ∧ r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
          ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1))
      ∧ θ_run (Cert.GdnGatesRefIdeal.defs (F := Ideal)) (onTc (τ := Cert.GdnGatesRefIdeal.τ) (Cert.GdnGatesRefIdeal.main (F := Ideal))) ⟨m', fun _ => 0, g'⟩ (fun r => ∀ c : Dev Cert.GdnGatesRefIdeal.nD,
          r.2.mem ((c.tc : Thread Cert.GdnGatesRefIdeal.nD Cert.GdnGatesRefIdeal.τ).loc Cert.GdnGatesRefIdeal.main_v3) = v0 c
          ∧ r.2.mem ((c.tc : Thread Cert.GdnGatesRefIdeal.nD Cert.GdnGatesRefIdeal.τ).loc Cert.GdnGatesRefIdeal.main_arg0) = m' ((c.tc : Thread Cert.GdnGatesRefIdeal.nD Cert.GdnGatesRefIdeal.τ).loc Cert.GdnGatesRefIdeal.main_arg0)
          ∧ r.2.mem ((c.tc : Thread Cert.GdnGatesRefIdeal.nD Cert.GdnGatesRefIdeal.τ).loc Cert.GdnGatesRefIdeal.main_arg1) = m' ((c.tc : Thread Cert.GdnGatesRefIdeal.nD Cert.GdnGatesRefIdeal.τ).loc Cert.GdnGatesRefIdeal.main_arg1))

def preserves_SsdZ_SsdZIdeal : Prop :=
  True

def algebraic_SsdZIdeal_SsdZRefIdeal [hSsdZIdeal : Cert.SsdZIdeal.Facts] [hSsdZRefIdeal : Cert.SsdZRefIdeal.Facts] : Prop :=
  ∀ (m : (ℓ : Loc Cert.SsdZIdeal.nD Cert.SsdZIdeal.τ Cert.SsdZIdeal.sig) → Buf (Elt Ideal) ℓ) (g : Dev Cert.SsdZIdeal.nD → PrngReg)
    (m' : (ℓ : Loc Cert.SsdZRefIdeal.nD Cert.SsdZRefIdeal.τ Cert.SsdZRefIdeal.sig) → Buf (Elt Ideal) ℓ) (g' : Dev Cert.SsdZRefIdeal.nD → PrngReg), Pre_SsdZIdeal m →
    (∀ c : Dev Cert.SsdZIdeal.nD,
      m' ((c.tc : Thread Cert.SsdZRefIdeal.nD Cert.SsdZRefIdeal.τ).loc Cert.SsdZRefIdeal.main_arg0) = m ((c.tc : Thread Cert.SsdZIdeal.nD Cert.SsdZIdeal.τ).loc Cert.SsdZIdeal.main_arg0)
      ∧ m' ((c.tc : Thread Cert.SsdZRefIdeal.nD Cert.SsdZRefIdeal.τ).loc Cert.SsdZRefIdeal.main_arg1) = m ((c.tc : Thread Cert.SsdZIdeal.nD Cert.SsdZIdeal.τ).loc Cert.SsdZIdeal.main_arg1)) →
    ∃ (v0 : (c : Dev Cert.SsdZIdeal.nD) → Buf (Elt Ideal) ((c.tc : Thread Cert.SsdZIdeal.nD Cert.SsdZIdeal.τ).loc Cert.SsdZIdeal.main_v1)),
      θ_run (Cert.SsdZIdeal.defs (F := Ideal)) (onTc (τ := Cert.SsdZIdeal.τ) (Cert.SsdZIdeal.main (F := Ideal))) ⟨m, fun _ => 0, g⟩ (fun r => ∀ c : Dev Cert.SsdZIdeal.nD,
          r.2.mem ((c.tc : Thread Cert.SsdZIdeal.nD Cert.SsdZIdeal.τ).loc Cert.SsdZIdeal.main_v1) = v0 c
          ∧ r.2.mem ((c.tc : Thread Cert.SsdZIdeal.nD Cert.SsdZIdeal.τ).loc Cert.SsdZIdeal.main_arg0) = m ((c.tc : Thread Cert.SsdZIdeal.nD Cert.SsdZIdeal.τ).loc Cert.SsdZIdeal.main_arg0)
          ∧ r.2.mem ((c.tc : Thread Cert.SsdZIdeal.nD Cert.SsdZIdeal.τ).loc Cert.SsdZIdeal.main_arg1) = m ((c.tc : Thread Cert.SsdZIdeal.nD Cert.SsdZIdeal.τ).loc Cert.SsdZIdeal.main_arg1))
      ∧ θ_run (Cert.SsdZRefIdeal.defs (F := Ideal)) (onTc (τ := Cert.SsdZRefIdeal.τ) (Cert.SsdZRefIdeal.main (F := Ideal))) ⟨m', fun _ => 0, g'⟩ (fun r => ∀ c : Dev Cert.SsdZRefIdeal.nD,
          r.2.mem ((c.tc : Thread Cert.SsdZRefIdeal.nD Cert.SsdZRefIdeal.τ).loc Cert.SsdZRefIdeal.main_v2) = v0 c
          ∧ r.2.mem ((c.tc : Thread Cert.SsdZRefIdeal.nD Cert.SsdZRefIdeal.τ).loc Cert.SsdZRefIdeal.main_arg0) = m' ((c.tc : Thread Cert.SsdZRefIdeal.nD Cert.SsdZRefIdeal.τ).loc Cert.SsdZRefIdeal.main_arg0)
          ∧ r.2.mem ((c.tc : Thread Cert.SsdZRefIdeal.nD Cert.SsdZRefIdeal.τ).loc Cert.SsdZRefIdeal.main_arg1) = m' ((c.tc : Thread Cert.SsdZRefIdeal.nD Cert.SsdZRefIdeal.τ).loc Cert.SsdZRefIdeal.main_arg1))

def preserves_SsdXbc_SsdXbcIdeal : Prop :=
  True

def algebraic_SsdXbcIdeal_SsdXbcRefIdeal [hSsdXbcIdeal : Cert.SsdXbcIdeal.Facts] [hSsdXbcRefIdeal : Cert.SsdXbcRefIdeal.Facts] : Prop :=
  ∀ (m : (ℓ : Loc Cert.SsdXbcIdeal.nD Cert.SsdXbcIdeal.τ Cert.SsdXbcIdeal.sig) → Buf (Elt Ideal) ℓ) (g : Dev Cert.SsdXbcIdeal.nD → PrngReg)
    (m' : (ℓ : Loc Cert.SsdXbcRefIdeal.nD Cert.SsdXbcRefIdeal.τ Cert.SsdXbcRefIdeal.sig) → Buf (Elt Ideal) ℓ) (g' : Dev Cert.SsdXbcRefIdeal.nD → PrngReg), Pre_SsdXbcIdeal m →
    (∀ c : Dev Cert.SsdXbcIdeal.nD,
      m' ((c.tc : Thread Cert.SsdXbcRefIdeal.nD Cert.SsdXbcRefIdeal.τ).loc Cert.SsdXbcRefIdeal.main_arg0) = m ((c.tc : Thread Cert.SsdXbcIdeal.nD Cert.SsdXbcIdeal.τ).loc Cert.SsdXbcIdeal.main_arg0)
      ∧ m' ((c.tc : Thread Cert.SsdXbcRefIdeal.nD Cert.SsdXbcRefIdeal.τ).loc Cert.SsdXbcRefIdeal.main_arg1) = m ((c.tc : Thread Cert.SsdXbcIdeal.nD Cert.SsdXbcIdeal.τ).loc Cert.SsdXbcIdeal.main_arg1)) →
    ∃ (v0 : (c : Dev Cert.SsdXbcIdeal.nD) → Buf (Elt Ideal) ((c.tc : Thread Cert.SsdXbcIdeal.nD Cert.SsdXbcIdeal.τ).loc Cert.SsdXbcIdeal.main_v1)),
      θ_run (Cert.SsdXbcIdeal.defs (F := Ideal)) (onTc (τ := Cert.SsdXbcIdeal.τ) (Cert.SsdXbcIdeal.main (F := Ideal))) ⟨m, fun _ => 0, g⟩ (fun r => ∀ c : Dev Cert.SsdXbcIdeal.nD,
          r.2.mem ((c.tc : Thread Cert.SsdXbcIdeal.nD Cert.SsdXbcIdeal.τ).loc Cert.SsdXbcIdeal.main_v1) = v0 c
          ∧ r.2.mem ((c.tc : Thread Cert.SsdXbcIdeal.nD Cert.SsdXbcIdeal.τ).loc Cert.SsdXbcIdeal.main_arg0) = m ((c.tc : Thread Cert.SsdXbcIdeal.nD Cert.SsdXbcIdeal.τ).loc Cert.SsdXbcIdeal.main_arg0)
          ∧ r.2.mem ((c.tc : Thread Cert.SsdXbcIdeal.nD Cert.SsdXbcIdeal.τ).loc Cert.SsdXbcIdeal.main_arg1) = m ((c.tc : Thread Cert.SsdXbcIdeal.nD Cert.SsdXbcIdeal.τ).loc Cert.SsdXbcIdeal.main_arg1))
      ∧ θ_run (Cert.SsdXbcRefIdeal.defs (F := Ideal)) (onTc (τ := Cert.SsdXbcRefIdeal.τ) (Cert.SsdXbcRefIdeal.main (F := Ideal))) ⟨m', fun _ => 0, g'⟩ (fun r => ∀ c : Dev Cert.SsdXbcRefIdeal.nD,
          r.2.mem ((c.tc : Thread Cert.SsdXbcRefIdeal.nD Cert.SsdXbcRefIdeal.τ).loc Cert.SsdXbcRefIdeal.main_v2) = v0 c
          ∧ r.2.mem ((c.tc : Thread Cert.SsdXbcRefIdeal.nD Cert.SsdXbcRefIdeal.τ).loc Cert.SsdXbcRefIdeal.main_arg0) = m' ((c.tc : Thread Cert.SsdXbcRefIdeal.nD Cert.SsdXbcRefIdeal.τ).loc Cert.SsdXbcRefIdeal.main_arg0)
          ∧ r.2.mem ((c.tc : Thread Cert.SsdXbcRefIdeal.nD Cert.SsdXbcRefIdeal.τ).loc Cert.SsdXbcRefIdeal.main_arg1) = m' ((c.tc : Thread Cert.SsdXbcRefIdeal.nD Cert.SsdXbcRefIdeal.τ).loc Cert.SsdXbcRefIdeal.main_arg1))

def preserves_SsdDt_SsdDtIdeal : Prop :=
  True

def algebraic_SsdDtIdeal_SsdDtRefIdeal [hSsdDtIdeal : Cert.SsdDtIdeal.Facts] [hSsdDtRefIdeal : Cert.SsdDtRefIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)) →
    ∃ (v0 : (c : Dev Cert.SsdDtIdeal.nD) → Buf (Elt Ideal) ((c.tc : Thread Cert.SsdDtIdeal.nD Cert.SsdDtIdeal.τ).loc Cert.SsdDtIdeal.main_v1)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v1) = v0 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v2) = v0 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1))

def preserves_HyenaIn_HyenaInIdeal : Prop :=
  True

def algebraic_HyenaInIdeal_HyenaInRefIdeal [hHyenaInIdeal : Cert.HyenaInIdeal.Facts] [hHyenaInRefIdeal : Cert.HyenaInRefIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInRefIdeal.nD Cert.HyenaInRefIdeal.τ Cert.HyenaInRefIdeal.sig) → Buf (Elt Ideal) ℓ) (g' : Dev Cert.HyenaInRefIdeal.nD → PrngReg), Pre_HyenaInIdeal m →
    (∀ c : Dev Cert.HyenaInIdeal.nD,
      m' ((c.tc : Thread Cert.HyenaInRefIdeal.nD Cert.HyenaInRefIdeal.τ).loc Cert.HyenaInRefIdeal.main_arg0) = m ((c.tc : Thread Cert.HyenaInIdeal.nD Cert.HyenaInIdeal.τ).loc Cert.HyenaInIdeal.main_arg0)
      ∧ m' ((c.tc : Thread Cert.HyenaInRefIdeal.nD Cert.HyenaInRefIdeal.τ).loc Cert.HyenaInRefIdeal.main_arg1) = m ((c.tc : Thread Cert.HyenaInIdeal.nD Cert.HyenaInIdeal.τ).loc Cert.HyenaInIdeal.main_arg1)) →
    ∃ (v0 : (c : Dev Cert.HyenaInIdeal.nD) → Buf (Elt Ideal) ((c.tc : Thread Cert.HyenaInIdeal.nD Cert.HyenaInIdeal.τ).loc Cert.HyenaInIdeal.main_v1)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v1) = v0 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1))
      ∧ θ_run (Cert.HyenaInRefIdeal.defs (F := Ideal)) (onTc (τ := Cert.HyenaInRefIdeal.τ) (Cert.HyenaInRefIdeal.main (F := Ideal))) ⟨m', fun _ => 0, g'⟩ (fun r => ∀ c : Dev Cert.HyenaInRefIdeal.nD,
          r.2.mem ((c.tc : Thread Cert.HyenaInRefIdeal.nD Cert.HyenaInRefIdeal.τ).loc Cert.HyenaInRefIdeal.main_v1) = v0 c
          ∧ r.2.mem ((c.tc : Thread Cert.HyenaInRefIdeal.nD Cert.HyenaInRefIdeal.τ).loc Cert.HyenaInRefIdeal.main_arg0) = m' ((c.tc : Thread Cert.HyenaInRefIdeal.nD Cert.HyenaInRefIdeal.τ).loc Cert.HyenaInRefIdeal.main_arg0)
          ∧ r.2.mem ((c.tc : Thread Cert.HyenaInRefIdeal.nD Cert.HyenaInRefIdeal.τ).loc Cert.HyenaInRefIdeal.main_arg1) = m' ((c.tc : Thread Cert.HyenaInRefIdeal.nD Cert.HyenaInRefIdeal.τ).loc Cert.HyenaInRefIdeal.main_arg1))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)
      ∧ m' ((c.tc : Thread Cert.GdnOutRefIdeal.nD Cert.GdnOutRefIdeal.τ).loc Cert.GdnOutRefIdeal.main_arg4) = m ((c.tc : Thread Cert.GdnOutIdeal.nD Cert.GdnOutIdeal.τ).loc Cert.GdnOutIdeal.main_arg4)) →
    ∃ (v0 : (c : Dev Cert.GdnOutIdeal.nD) → Buf (Elt Ideal) ((c.tc : Thread Cert.GdnOutIdeal.nD Cert.GdnOutIdeal.τ).loc Cert.GdnOutIdeal.main_v2_0)) (v1 : (c : Dev Cert.GdnOutIdeal.nD) → Buf (Elt Ideal) ((c.tc : Thread Cert.GdnOutIdeal.nD Cert.GdnOutIdeal.τ).loc Cert.GdnOutIdeal.main_v2_1)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v2_0) = v0 c
          ∧ r.2.mem ((c.tc : Thread Cert.GdnOutIdeal.nD Cert.GdnOutIdeal.τ).loc Cert.GdnOutIdeal.main_v2_1) = v1 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v30) = v0 c
          ∧ r.2.mem ((c.tc : Thread Cert.GdnOutRefIdeal.nD Cert.GdnOutRefIdeal.τ).loc Cert.GdnOutRefIdeal.main_v31) = v1 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3)
          ∧ r.2.mem ((c.tc : Thread Cert.GdnOutRefIdeal.nD Cert.GdnOutRefIdeal.τ).loc Cert.GdnOutRefIdeal.main_arg4) = m' ((c.tc : Thread Cert.GdnOutRefIdeal.nD Cert.GdnOutRefIdeal.τ).loc Cert.GdnOutRefIdeal.main_arg4))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)
      ∧ m' ((c.tc : Thread Cert.SsdOutRefIdeal.nD Cert.SsdOutRefIdeal.τ).loc Cert.SsdOutRefIdeal.main_arg4) = m ((c.tc : Thread Cert.SsdOutIdeal.nD Cert.SsdOutIdeal.τ).loc Cert.SsdOutIdeal.main_arg4)) →
    ∃ (v0 : (c : Dev Cert.SsdOutIdeal.nD) → Buf (Elt Ideal) ((c.tc : Thread Cert.SsdOutIdeal.nD Cert.SsdOutIdeal.τ).loc Cert.SsdOutIdeal.main_v2_0)) (v1 : (c : Dev Cert.SsdOutIdeal.nD) → Buf (Elt Ideal) ((c.tc : Thread Cert.SsdOutIdeal.nD Cert.SsdOutIdeal.τ).loc Cert.SsdOutIdeal.main_v2_1)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v2_0) = v0 c
          ∧ r.2.mem ((c.tc : Thread Cert.SsdOutIdeal.nD Cert.SsdOutIdeal.τ).loc Cert.SsdOutIdeal.main_v2_1) = v1 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v29) = v0 c
          ∧ r.2.mem ((c.tc : Thread Cert.SsdOutRefIdeal.nD Cert.SsdOutRefIdeal.τ).loc Cert.SsdOutRefIdeal.main_v30) = v1 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3)
          ∧ r.2.mem ((c.tc : Thread Cert.SsdOutRefIdeal.nD Cert.SsdOutRefIdeal.τ).loc Cert.SsdOutRefIdeal.main_arg4) = m' ((c.tc : Thread Cert.SsdOutRefIdeal.nD Cert.SsdOutRefIdeal.τ).loc Cert.SsdOutRefIdeal.main_arg4))

def preserves_SsdBack_SsdBackIdeal : Prop :=
  True

def algebraic_SsdBackIdeal_SsdBackRefIdeal_pre_finite_gates [hSsdBackIdeal : Cert.SsdBackIdeal.Facts] [hSsdBackRefIdeal : Cert.SsdBackRefIdeal.Facts] [hPre_finite_gates : Cert.Pre_finite_gates.Facts] : Prop :=
  ∀ (m : (ℓ : Loc Cert.SsdBackIdeal.nD Cert.SsdBackIdeal.τ Cert.SsdBackIdeal.sig) → Buf (Elt Ideal) ℓ) (g : Dev Cert.SsdBackIdeal.nD → PrngReg)
    (m' : (ℓ : Loc Cert.SsdBackRefIdeal.nD Cert.SsdBackRefIdeal.τ Cert.SsdBackRefIdeal.sig) → Buf (Elt Ideal) ℓ) (g' : Dev Cert.SsdBackRefIdeal.nD → PrngReg), Pre_SsdBackIdeal_finite_gates m →
    (∀ c : Dev Cert.SsdBackIdeal.nD,
      m' ((c.tc : Thread Cert.SsdBackRefIdeal.nD Cert.SsdBackRefIdeal.τ).loc Cert.SsdBackRefIdeal.main_arg0) = m ((c.tc : Thread Cert.SsdBackIdeal.nD Cert.SsdBackIdeal.τ).loc Cert.SsdBackIdeal.main_arg0)
      ∧ m' ((c.tc : Thread Cert.SsdBackRefIdeal.nD Cert.SsdBackRefIdeal.τ).loc Cert.SsdBackRefIdeal.main_arg1) = m ((c.tc : Thread Cert.SsdBackIdeal.nD Cert.SsdBackIdeal.τ).loc Cert.SsdBackIdeal.main_arg1)
      ∧ m' ((c.tc : Thread Cert.SsdBackRefIdeal.nD Cert.SsdBackRefIdeal.τ).loc Cert.SsdBackRefIdeal.main_arg2) = m ((c.tc : Thread Cert.SsdBackIdeal.nD Cert.SsdBackIdeal.τ).loc Cert.SsdBackIdeal.main_arg2)) →
    ∃ (v0 : (c : Dev Cert.SsdBackIdeal.nD) → Buf (Elt Ideal) ((c.tc : Thread Cert.SsdBackIdeal.nD Cert.SsdBackIdeal.τ).loc Cert.SsdBackIdeal.main_v6)),
      θ_run (Cert.SsdBackIdeal.defs (F := Ideal)) (onTc (τ := Cert.SsdBackIdeal.τ) (Cert.SsdBackIdeal.main (F := Ideal))) ⟨m, fun _ => 0, g⟩ (fun r => ∀ c : Dev Cert.SsdBackIdeal.nD,
          r.2.mem ((c.tc : Thread Cert.SsdBackIdeal.nD Cert.SsdBackIdeal.τ).loc Cert.SsdBackIdeal.main_v6) = v0 c
          ∧ r.2.mem ((c.tc : Thread Cert.SsdBackIdeal.nD Cert.SsdBackIdeal.τ).loc Cert.SsdBackIdeal.main_arg0) = m ((c.tc : Thread Cert.SsdBackIdeal.nD Cert.SsdBackIdeal.τ).loc Cert.SsdBackIdeal.main_arg0)
          ∧ r.2.mem ((c.tc : Thread Cert.SsdBackIdeal.nD Cert.SsdBackIdeal.τ).loc Cert.SsdBackIdeal.main_arg1) = m ((c.tc : Thread Cert.SsdBackIdeal.nD Cert.SsdBackIdeal.τ).loc Cert.SsdBackIdeal.main_arg1)
          ∧ r.2.mem ((c.tc : Thread Cert.SsdBackIdeal.nD Cert.SsdBackIdeal.τ).loc Cert.SsdBackIdeal.main_arg2) = m ((c.tc : Thread Cert.SsdBackIdeal.nD Cert.SsdBackIdeal.τ).loc Cert.SsdBackIdeal.main_arg2))
      ∧ θ_run (Cert.SsdBackRefIdeal.defs (F := Ideal)) (onTc (τ := Cert.SsdBackRefIdeal.τ) (Cert.SsdBackRefIdeal.main (F := Ideal))) ⟨m', fun _ => 0, g'⟩ (fun r => ∀ c : Dev Cert.SsdBackRefIdeal.nD,
          r.2.mem ((c.tc : Thread Cert.SsdBackRefIdeal.nD Cert.SsdBackRefIdeal.τ).loc Cert.SsdBackRefIdeal.main_v55) = v0 c
          ∧ r.2.mem ((c.tc : Thread Cert.SsdBackRefIdeal.nD Cert.SsdBackRefIdeal.τ).loc Cert.SsdBackRefIdeal.main_arg0) = m' ((c.tc : Thread Cert.SsdBackRefIdeal.nD Cert.SsdBackRefIdeal.τ).loc Cert.SsdBackRefIdeal.main_arg0)
          ∧ r.2.mem ((c.tc : Thread Cert.SsdBackRefIdeal.nD Cert.SsdBackRefIdeal.τ).loc Cert.SsdBackRefIdeal.main_arg1) = m' ((c.tc : Thread Cert.SsdBackRefIdeal.nD Cert.SsdBackRefIdeal.τ).loc Cert.SsdBackRefIdeal.main_arg1)
          ∧ r.2.mem ((c.tc : Thread Cert.SsdBackRefIdeal.nD Cert.SsdBackRefIdeal.τ).loc Cert.SsdBackRefIdeal.main_arg2) = m' ((c.tc : Thread Cert.SsdBackRefIdeal.nD Cert.SsdBackRefIdeal.τ).loc Cert.SsdBackRefIdeal.main_arg2))

def preserves_GdnChunk_GdnChunkIdeal : Prop :=
  True

def algebraic_GdnChunkIdeal_GdnChunkRefIdeal_pre_finite_rows [hGdnChunkIdeal : Cert.GdnChunkIdeal.Facts] [hGdnChunkRefIdeal : Cert.GdnChunkRefIdeal.Facts] [hPre_finite_rows : Cert.Pre_finite_rows.Facts] : Prop :=
  ∀ (m : (ℓ : Loc Cert.GdnChunkIdeal.nD Cert.GdnChunkIdeal.τ Cert.GdnChunkIdeal.sig) → Buf (Elt Ideal) ℓ) (g : Dev Cert.GdnChunkIdeal.nD → PrngReg)
    (m' : (ℓ : Loc Cert.GdnChunkRefIdeal.nD Cert.GdnChunkRefIdeal.τ Cert.GdnChunkRefIdeal.sig) → Buf (Elt Ideal) ℓ) (g' : Dev Cert.GdnChunkRefIdeal.nD → PrngReg), Pre_GdnChunkIdeal_finite_rows m →
    (∀ c : Dev Cert.GdnChunkIdeal.nD,
      m' ((c.tc : Thread Cert.GdnChunkRefIdeal.nD Cert.GdnChunkRefIdeal.τ).loc Cert.GdnChunkRefIdeal.main_arg0) = m ((c.tc : Thread Cert.GdnChunkIdeal.nD Cert.GdnChunkIdeal.τ).loc Cert.GdnChunkIdeal.main_arg0)
      ∧ m' ((c.tc : Thread Cert.GdnChunkRefIdeal.nD Cert.GdnChunkRefIdeal.τ).loc Cert.GdnChunkRefIdeal.main_arg1) = m ((c.tc : Thread Cert.GdnChunkIdeal.nD Cert.GdnChunkIdeal.τ).loc Cert.GdnChunkIdeal.main_arg1)
      ∧ m' ((c.tc : Thread Cert.GdnChunkRefIdeal.nD Cert.GdnChunkRefIdeal.τ).loc Cert.GdnChunkRefIdeal.main_arg2) = m ((c.tc : Thread Cert.GdnChunkIdeal.nD Cert.GdnChunkIdeal.τ).loc Cert.GdnChunkIdeal.main_arg2)) →
    ∃ (v0 : (c : Dev Cert.GdnChunkIdeal.nD) → Buf (Elt Ideal) ((c.tc : Thread Cert.GdnChunkIdeal.nD Cert.GdnChunkIdeal.τ).loc Cert.GdnChunkIdeal.main_v6)),
      θ_run (Cert.GdnChunkIdeal.defs (F := Ideal)) (onTc (τ := Cert.GdnChunkIdeal.τ) (Cert.GdnChunkIdeal.main (F := Ideal))) ⟨m, fun _ => 0, g⟩ (fun r => ∀ c : Dev Cert.GdnChunkIdeal.nD,
          r.2.mem ((c.tc : Thread Cert.GdnChunkIdeal.nD Cert.GdnChunkIdeal.τ).loc Cert.GdnChunkIdeal.main_v6) = v0 c
          ∧ r.2.mem ((c.tc : Thread Cert.GdnChunkIdeal.nD Cert.GdnChunkIdeal.τ).loc Cert.GdnChunkIdeal.main_arg0) = m ((c.tc : Thread Cert.GdnChunkIdeal.nD Cert.GdnChunkIdeal.τ).loc Cert.GdnChunkIdeal.main_arg0)
          ∧ r.2.mem ((c.tc : Thread Cert.GdnChunkIdeal.nD Cert.GdnChunkIdeal.τ).loc Cert.GdnChunkIdeal.main_arg1) = m ((c.tc : Thread Cert.GdnChunkIdeal.nD Cert.GdnChunkIdeal.τ).loc Cert.GdnChunkIdeal.main_arg1)
          ∧ r.2.mem ((c.tc : Thread Cert.GdnChunkIdeal.nD Cert.GdnChunkIdeal.τ).loc Cert.GdnChunkIdeal.main_arg2) = m ((c.tc : Thread Cert.GdnChunkIdeal.nD Cert.GdnChunkIdeal.τ).loc Cert.GdnChunkIdeal.main_arg2))
      ∧ θ_run (Cert.GdnChunkRefIdeal.defs (F := Ideal)) (onTc (τ := Cert.GdnChunkRefIdeal.τ) (Cert.GdnChunkRefIdeal.main (F := Ideal))) ⟨m', fun _ => 0, g'⟩ (fun r => ∀ c : Dev Cert.GdnChunkRefIdeal.nD,
          r.2.mem ((c.tc : Thread Cert.GdnChunkRefIdeal.nD Cert.GdnChunkRefIdeal.τ).loc Cert.GdnChunkRefIdeal.main_v23) = v0 c
          ∧ r.2.mem ((c.tc : Thread Cert.GdnChunkRefIdeal.nD Cert.GdnChunkRefIdeal.τ).loc Cert.GdnChunkRefIdeal.main_arg0) = m' ((c.tc : Thread Cert.GdnChunkRefIdeal.nD Cert.GdnChunkRefIdeal.τ).loc Cert.GdnChunkRefIdeal.main_arg0)
          ∧ r.2.mem ((c.tc : Thread Cert.GdnChunkRefIdeal.nD Cert.GdnChunkRefIdeal.τ).loc Cert.GdnChunkRefIdeal.main_arg1) = m' ((c.tc : Thread Cert.GdnChunkRefIdeal.nD Cert.GdnChunkRefIdeal.τ).loc Cert.GdnChunkRefIdeal.main_arg1)
          ∧ r.2.mem ((c.tc : Thread Cert.GdnChunkRefIdeal.nD Cert.GdnChunkRefIdeal.τ).loc Cert.GdnChunkRefIdeal.main_arg2) = m' ((c.tc : Thread Cert.GdnChunkRefIdeal.nD Cert.GdnChunkRefIdeal.τ).loc Cert.GdnChunkRefIdeal.main_arg2))

def Claim : Prop :=
  ∃ (hKernel : Cert.Kernel.Facts) (hKernelIdeal : Cert.KernelIdeal.Facts) (hReferenceIdeal : Cert.ReferenceIdeal.Facts) (hGdnQkv : Cert.GdnQkv.Facts) (hGdnQkvIdeal : Cert.GdnQkvIdeal.Facts) (hGdnQkvRefIdeal : Cert.GdnQkvRefIdeal.Facts) (hGdnZ : Cert.GdnZ.Facts) (hGdnZIdeal : Cert.GdnZIdeal.Facts) (hGdnZRefIdeal : Cert.GdnZRefIdeal.Facts) (hGdnGates : Cert.GdnGates.Facts) (hGdnGatesIdeal : Cert.GdnGatesIdeal.Facts) (hGdnGatesRefIdeal : Cert.GdnGatesRefIdeal.Facts) (hSsdZ : Cert.SsdZ.Facts) (hSsdZIdeal : Cert.SsdZIdeal.Facts) (hSsdZRefIdeal : Cert.SsdZRefIdeal.Facts) (hSsdXbc : Cert.SsdXbc.Facts) (hSsdXbcIdeal : Cert.SsdXbcIdeal.Facts) (hSsdXbcRefIdeal : Cert.SsdXbcRefIdeal.Facts) (hSsdDt : Cert.SsdDt.Facts) (hSsdDtIdeal : Cert.SsdDtIdeal.Facts) (hSsdDtRefIdeal : Cert.SsdDtRefIdeal.Facts) (hHyenaIn : Cert.HyenaIn.Facts) (hHyenaInIdeal : Cert.HyenaInIdeal.Facts) (hHyenaInRefIdeal : Cert.HyenaInRefIdeal.Facts) (hGdnOut : Cert.GdnOut.Facts) (hGdnOutIdeal : Cert.GdnOutIdeal.Facts) (hGdnOutRefIdeal : Cert.GdnOutRefIdeal.Facts) (hSsdOut : Cert.SsdOut.Facts) (hSsdOutIdeal : Cert.SsdOutIdeal.Facts) (hSsdOutRefIdeal : Cert.SsdOutRefIdeal.Facts) (hSsdBack : Cert.SsdBack.Facts) (hSsdBackIdeal : Cert.SsdBackIdeal.Facts) (hSsdBackRefIdeal : Cert.SsdBackRefIdeal.Facts) (hGdnChunk : Cert.GdnChunk.Facts) (hGdnChunkIdeal : Cert.GdnChunkIdeal.Facts) (hGdnChunkRefIdeal : Cert.GdnChunkRefIdeal.Facts) (hPre_finite_gates : Cert.Pre_finite_gates.Facts) (hPre_finite_rows : Cert.Pre_finite_rows.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_GdnQkv (hGdnQkv := hGdnQkv)
    ∧ quiescent_GdnQkvIdeal (hGdnQkvIdeal := hGdnQkvIdeal)
    ∧ quiescent_GdnQkvRefIdeal (hGdnQkvRefIdeal := hGdnQkvRefIdeal)
    ∧ quiescent_GdnZ (hGdnZ := hGdnZ)
    ∧ quiescent_GdnZIdeal (hGdnZIdeal := hGdnZIdeal)
    ∧ quiescent_GdnZRefIdeal (hGdnZRefIdeal := hGdnZRefIdeal)
    ∧ quiescent_GdnGates (hGdnGates := hGdnGates)
    ∧ quiescent_GdnGatesIdeal (hGdnGatesIdeal := hGdnGatesIdeal)
    ∧ quiescent_GdnGatesRefIdeal (hGdnGatesRefIdeal := hGdnGatesRefIdeal)
    ∧ quiescent_SsdZ (hSsdZ := hSsdZ)
    ∧ quiescent_SsdZIdeal (hSsdZIdeal := hSsdZIdeal)
    ∧ quiescent_SsdZRefIdeal (hSsdZRefIdeal := hSsdZRefIdeal)
    ∧ quiescent_SsdXbc (hSsdXbc := hSsdXbc)
    ∧ quiescent_SsdXbcIdeal (hSsdXbcIdeal := hSsdXbcIdeal)
    ∧ quiescent_SsdXbcRefIdeal (hSsdXbcRefIdeal := hSsdXbcRefIdeal)
    ∧ quiescent_SsdDt (hSsdDt := hSsdDt)
    ∧ quiescent_SsdDtIdeal (hSsdDtIdeal := hSsdDtIdeal)
    ∧ quiescent_SsdDtRefIdeal (hSsdDtRefIdeal := hSsdDtRefIdeal)
    ∧ quiescent_HyenaIn (hHyenaIn := hHyenaIn)
    ∧ quiescent_HyenaInIdeal (hHyenaInIdeal := hHyenaInIdeal)
    ∧ quiescent_HyenaInRefIdeal (hHyenaInRefIdeal := hHyenaInRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_SsdBack (hSsdBack := hSsdBack)
    ∧ quiescent_SsdBackIdeal (hSsdBackIdeal := hSsdBackIdeal)
    ∧ quiescent_SsdBackIdeal_pre_finite_gates (hSsdBackIdeal := hSsdBackIdeal) (hPre_finite_gates := hPre_finite_gates)
    ∧ quiescent_SsdBackRefIdeal (hSsdBackRefIdeal := hSsdBackRefIdeal)
    ∧ quiescent_SsdBackRefIdeal_pre_finite_gates (hSsdBackRefIdeal := hSsdBackRefIdeal) (hPre_finite_gates := hPre_finite_gates)
    ∧ quiescent_GdnChunk (hGdnChunk := hGdnChunk)
    ∧ quiescent_GdnChunkIdeal (hGdnChunkIdeal := hGdnChunkIdeal)
    ∧ quiescent_GdnChunkIdeal_pre_finite_rows (hGdnChunkIdeal := hGdnChunkIdeal) (hPre_finite_rows := hPre_finite_rows)
    ∧ quiescent_GdnChunkRefIdeal (hGdnChunkRefIdeal := hGdnChunkRefIdeal)
    ∧ quiescent_GdnChunkRefIdeal_pre_finite_rows (hGdnChunkRefIdeal := hGdnChunkRefIdeal) (hPre_finite_rows := hPre_finite_rows)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_GdnQkv_GdnQkvIdeal
    ∧ algebraic_GdnQkvIdeal_GdnQkvRefIdeal (hGdnQkvIdeal := hGdnQkvIdeal) (hGdnQkvRefIdeal := hGdnQkvRefIdeal)
    ∧ preserves_GdnZ_GdnZIdeal
    ∧ algebraic_GdnZIdeal_GdnZRefIdeal (hGdnZIdeal := hGdnZIdeal) (hGdnZRefIdeal := hGdnZRefIdeal)
    ∧ preserves_GdnGates_GdnGatesIdeal
    ∧ algebraic_GdnGatesIdeal_GdnGatesRefIdeal (hGdnGatesIdeal := hGdnGatesIdeal) (hGdnGatesRefIdeal := hGdnGatesRefIdeal)
    ∧ preserves_SsdZ_SsdZIdeal
    ∧ algebraic_SsdZIdeal_SsdZRefIdeal (hSsdZIdeal := hSsdZIdeal) (hSsdZRefIdeal := hSsdZRefIdeal)
    ∧ preserves_SsdXbc_SsdXbcIdeal
    ∧ algebraic_SsdXbcIdeal_SsdXbcRefIdeal (hSsdXbcIdeal := hSsdXbcIdeal) (hSsdXbcRefIdeal := hSsdXbcRefIdeal)
    ∧ preserves_SsdDt_SsdDtIdeal
    ∧ algebraic_SsdDtIdeal_SsdDtRefIdeal (hSsdDtIdeal := hSsdDtIdeal) (hSsdDtRefIdeal := hSsdDtRefIdeal)
    ∧ preserves_HyenaIn_HyenaInIdeal
    ∧ algebraic_HyenaInIdeal_HyenaInRefIdeal (hHyenaInIdeal := hHyenaInIdeal) (hHyenaInRefIdeal := hHyenaInRefIdeal)
    ∧ preserves_GdnOut_GdnOutIdeal
    ∧ algebraic_GdnOutIdeal_GdnOutRefIdeal (hGdnOutIdeal := hGdnOutIdeal) (hGdnOutRefIdeal := hGdnOutRefIdeal)
    ∧ preserves_SsdOut_SsdOutIdeal
    ∧ algebraic_SsdOutIdeal_SsdOutRefIdeal (hSsdOutIdeal := hSsdOutIdeal) (hSsdOutRefIdeal := hSsdOutRefIdeal)
    ∧ preserves_SsdBack_SsdBackIdeal
    ∧ algebraic_SsdBackIdeal_SsdBackRefIdeal_pre_finite_gates (hSsdBackIdeal := hSsdBackIdeal) (hSsdBackRefIdeal := hSsdBackRefIdeal) (hPre_finite_gates := hPre_finite_gates)
    ∧ preserves_GdnChunk_GdnChunkIdeal
    ∧ algebraic_GdnChunkIdeal_GdnChunkRefIdeal_pre_finite_rows (hGdnChunkIdeal := hGdnChunkIdeal) (hGdnChunkRefIdeal := hGdnChunkRefIdeal) (hPre_finite_rows := hPre_finite_rows)
-- ==== Pre_finite_gates.lean ====
abbrev S8448x6144 : Shape := ⟨2, ![8448, 6144]⟩
abbrev S8448x128 : Shape := ⟨2, ![8448, 128]⟩
abbrev S_ : Shape := ⟨0, ![]⟩

class Facts : Prop where
  bcast_S_S8448x128 : S_.BroadcastsInDim S8448x128 (![] : Fin 0 → Fin S8448x128.rank)
  reducesTo_S8448x128_S_d0_1 : S8448x128.ReducesTo [0, 1] S_
  h_S_ : 0 < S_.numel

variable [Facts]

def fn {F : FTy → Type} [FloatOps F] (main_arg0 : FVec F S8448x6144 .f32) (main_arg1 : FVec F S8448x128 .f32) (main_arg2 : FVec F S8448x128 .f32) : IVec S_ 1 :=
  let main_v0 : FVec F S8448x128 .f32 := Host.absf main_arg1
  let main_cst : FVec F S_ .f32 := constant S_ .f32 0x7F800000#32
  let main_v1 : FVec F S8448x128 .f32 := broadcastInDim S8448x128 ![] bcast_S_S8448x128 main_cst
  let main_v2 : IVec S8448x128 1 := cmpf .olt main_v0 main_v1
  let main_c : IVec S_ 1 := constantI S_ 1 1#1
  let main_v3 : IVec S_ 1 := (fun x v => Host.reduce IntOp.andi x v reducesTo_S8448x128_S_d0_1 h_S_) main_v2 main_c
  let main_v4 : FVec F S8448x128 .f32 := Host.absf main_arg2
  let main_cst_0 : FVec F S_ .f32 := constant S_ .f32 0x7F800000#32
  let main_v5 : FVec F S8448x128 .f32 := broadcastInDim S8448x128 ![] bcast_S_S8448x128 main_cst_0
  let main_v6 : IVec S8448x128 1 := cmpf .olt main_v4 main_v5
  let main_c_1 : IVec S_ 1 := constantI S_ 1 1#1
  let main_v7 : IVec S_ 1 := (fun x v => Host.reduce IntOp.andi x v reducesTo_S8448x128_S_d0_1 h_S_) main_v6 main_c_1
  let main_v8 : IVec S_ 1 := andi main_v3 main_v7
  main_v8
-- ==== Pre_finite_rows.lean ====
abbrev S8448x4096 : Shape := ⟨2, ![8448, 4096]⟩
abbrev S8448x128 : Shape := ⟨2, ![8448, 128]⟩
abbrev S_ : Shape := ⟨0, ![]⟩

class Facts : Prop where
  bcast_S_S8448x4096 : S_.BroadcastsInDim S8448x4096 (![] : Fin 0 → Fin S8448x4096.rank)
  reducesTo_S8448x4096_S_d0_1 : S8448x4096.ReducesTo [0, 1] S_
  h_S_ : 0 < S_.numel
  bcast_S_S8448x128 : S_.BroadcastsInDim S8448x128 (![] : Fin 0 → Fin S8448x128.rank)
  reducesTo_S8448x128_S_d0_1 : S8448x128.ReducesTo [0, 1] S_

variable [Facts]

def fn {F : FTy → Type} [FloatOps F] (main_arg0 : FVec F S8448x4096 .f32) (main_arg1 : FVec F S8448x4096 .f32) (main_arg2 : FVec F S8448x128 .f32) : IVec S_ 1 :=
  let main_v0 : FVec F S8448x4096 .f32 := Host.absf main_arg0
  let main_cst : FVec F S_ .f32 := constant S_ .f32 0x7F800000#32
  let main_v1 : FVec F S8448x4096 .f32 := broadcastInDim S8448x4096 ![] bcast_S_S8448x4096 main_cst
  let main_v2 : IVec S8448x4096 1 := cmpf .olt main_v0 main_v1
  let main_c : IVec S_ 1 := constantI S_ 1 1#1
  let main_v3 : IVec S_ 1 := (fun x v => Host.reduce IntOp.andi x v reducesTo_S8448x4096_S_d0_1 h_S_) main_v2 main_c
  let main_v4 : FVec F S8448x4096 .f32 := Host.absf main_arg1
  let main_cst_0 : FVec F S_ .f32 := constant S_ .f32 0x7F800000#32
  let main_v5 : FVec F S8448x4096 .f32 := broadcastInDim S8448x4096 ![] bcast_S_S8448x4096 main_cst_0
  let main_v6 : IVec S8448x4096 1 := cmpf .olt main_v4 main_v5
  let main_c_1 : IVec S_ 1 := constantI S_ 1 1#1
  let main_v7 : IVec S_ 1 := (fun x v => Host.reduce IntOp.andi x v reducesTo_S8448x4096_S_d0_1 h_S_) main_v6 main_c_1
  let main_v8 : FVec F S8448x128 .f32 := Host.absf main_arg2
  let main_cst_2 : FVec F S_ .f32 := constant S_ .f32 0x7F800000#32
  let main_v9 : FVec F S8448x128 .f32 := broadcastInDim S8448x128 ![] bcast_S_S8448x128 main_cst_2
  let main_v10 : IVec S8448x128 1 := cmpf .olt main_v8 main_v9
  let main_c_3 : IVec S_ 1 := constantI S_ 1 1#1
  let main_v11 : IVec S_ 1 := (fun x v => Host.reduce IntOp.andi x v reducesTo_S8448x128_S_d0_1 h_S_) main_v10 main_c_3
  let main_v12 : IVec S_ 1 := andi main_v7 main_v11
  let main_v13 : IVec S_ 1 := andi main_v3 main_v12
  main_v13
-- ==== Kernel.lean ====
abbrev S8448x6144 : Shape := ⟨2, ![8448, 6144]⟩
abbrev S8448x128 : Shape := ⟨2, ![8448, 128]⟩
abbrev S8448x2x8x8 : Shape := ⟨4, ![8448, 2, 8, 8]⟩
abbrev S2x8x8448x8 : Shape := ⟨4, ![2, 8, 8448, 8]⟩
abbrev S2x8x8448x16 : Shape := ⟨4, ![2, 8, 8448, 16]⟩
abbrev S2x8x8x8448 : Shape := ⟨4, ![2, 8, 8, 8448]⟩
abbrev S8448x4096 : Shape := ⟨2, ![8448, 4096]⟩
abbrev S256x512 : Shape := ⟨2, ![256, 512]⟩
abbrev S256x128 : Shape := ⟨2, ![256, 128]⟩
abbrev S1x1x256x16 : Shape := ⟨4, ![1, 1, 256, 16]⟩
abbrev S1x1x8x256 : Shape := ⟨4, ![1, 1, 8, 256]⟩
abbrev S128x512 : Shape := ⟨2, ![128, 512]⟩
abbrev S128x128 : Shape := ⟨2, ![128, 128]⟩
abbrev S1x1x128x8 : Shape := ⟨4, ![1, 1, 128, 8]⟩
abbrev S128x8 : Shape := ⟨2, ![128, 8]⟩
abbrev S1x1x8x128 : Shape := ⟨4, ![1, 1, 8, 128]⟩
abbrev S8x128 : Shape := ⟨2, ![8, 128]⟩
abbrev S1x8 : Shape := ⟨2, ![1, 8]⟩
abbrev S8x512 : Shape := ⟨2, ![8, 512]⟩
abbrev S128x1 : Shape := ⟨2, ![128, 1]⟩
abbrev S1x128 : Shape := ⟨2, ![1, 128]⟩
abbrev S128x64 : Shape := ⟨2, ![128, 64]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S8448x6144, .f32⟩
  | .hbm, ⟨1, _⟩ => ⟨S8448x128, .f32⟩
  | .hbm, ⟨2, _⟩ => ⟨S8448x128, .f32⟩
  | .hbm, ⟨3, _⟩ => ⟨S8448x2x8x8, .f32⟩
  | .hbm, ⟨4, _⟩ => ⟨S2x8x8448x8, .f32⟩
  | .hbm, ⟨5, _⟩ => ⟨S8448x2x8x8, .f32⟩
  | .hbm, ⟨6, _⟩ => ⟨S2x8x8448x8, .f32⟩
  | .hbm, ⟨7, _⟩ => ⟨S2x8x8448x16, .f32⟩
  | .hbm, ⟨8, _⟩ => ⟨S2x8x8x8448, .f32⟩
  | .hbm, ⟨9, _⟩ => ⟨S8448x4096, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x1x256x16, .f32⟩
  | .local _ .vmem, ⟨7, _⟩ => ⟨S1x1x256x16, .f32⟩
  | .local _ .vmem, ⟨8, _⟩ => ⟨S1x1x8x256, .f32⟩
  | .local _ .vmem, ⟨9, _⟩ => ⟨S1x1x8x256, .f32⟩
  | .local _ .vmem, ⟨10, _⟩ => ⟨S256x512, .f32⟩
  | .local _ .vmem, ⟨11, _⟩ => ⟨S256x512, .f32⟩
  | .local _ .vmem, ⟨12, _⟩ => ⟨S128x512, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8448x6144 : Shape := ⟨2, ![8448, 6144]⟩
abbrev S8448x128 : Shape := ⟨2, ![8448, 128]⟩
abbrev S8448x4096 : Shape := ⟨2, ![8448, 4096]⟩
abbrev S66x128x8x8x64 : Shape := ⟨5, ![66, 128, 8, 8, 64]⟩
abbrev S8448x1024 : Shape := ⟨2, ![8448, 1024]⟩
abbrev S66x128x8x128 : Shape := ⟨4, ![66, 128, 8, 128]⟩
abbrev S8448x64 : Shape := ⟨2, ![8448, 64]⟩
abbrev S66x128x8x8 : Shape := ⟨4, ![66, 128, 8, 8]⟩
abbrev S66x128x8x8x1 : Shape := ⟨5, ![66, 128, 8, 8, 1]⟩
abbrev S66x8x8x128 : Shape := ⟨4, ![66, 8, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S66x8x8x128x1 : Shape := ⟨5, ![66, 8, 8, 128, 1]⟩
abbrev S66x8x8x1x128 : Shape := ⟨5, ![66, 8, 8, 1, 128]⟩
abbrev S66x8x8x128x128 : Shape := ⟨5, ![66, 8, 8, 128, 128]⟩
abbrev S_ : Shape := ⟨0, ![]⟩
abbrev S66x8x128x128 : Shape := ⟨4, ![66, 8, 128, 128]⟩
abbrev S66x8x1x128x128 : Shape := ⟨5, ![66, 8, 1, 128, 128]⟩
abbrev S66x8x8x64x128 : Shape := ⟨5, ![66, 8, 8, 64, 128]⟩
abbrev S66x8x8x1 : Shape := ⟨4, ![66, 8, 8, 1]⟩
abbrev S66x8x8 : Shape := ⟨3, ![66, 8, 8]⟩
abbrev S8x8x64x128 : Shape := ⟨4, ![8, 8, 64, 128]⟩
abbrev S1x8x8x64x128 : Shape := ⟨5, ![1, 8, 8, 64, 128]⟩
abbrev S1x8x8 : Shape := ⟨3, ![1, 8, 8]⟩
abbrev S8x8 : Shape := ⟨2, ![8, 8]⟩
abbrev S1x128x8x128 : Shape := ⟨4, ![1, 128, 8, 128]⟩
abbrev S128x8x128 : Shape := ⟨3, ![128, 8, 128]⟩
abbrev S1x128x8x8 : Shape := ⟨4, ![1, 128, 8, 8]⟩
abbrev S128x8x8 : Shape := ⟨3, ![128, 8, 8]⟩
abbrev S1x128x8x8x64 : Shape := ⟨5, ![1, 128, 8, 8, 64]⟩
abbrev S128x8x8x64 : Shape := ⟨4, ![128, 8, 8, 64]⟩
abbrev S128x8x8x1 : Shape := ⟨4, ![128, 8, 8, 1]⟩
abbrev S8x8x1x1 : Shape := ⟨4, ![8, 8, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S8448x6144, .f32⟩
  | .hbm, ⟨1, _⟩ => ⟨S8448x128, .f32⟩
  | .hbm, ⟨2, _⟩ => ⟨S8448x128, .f32⟩
  | .hbm, ⟨3, _⟩ => ⟨S8448x4096, .f32⟩
  | .hbm, ⟨4, _⟩ => ⟨S66x128x8x8x64, .f32⟩
  | .hbm, ⟨5, _⟩ => ⟨S8448x1024, .f32⟩
  | .hbm, ⟨6, _⟩ => ⟨S66x128x8x128, .f32⟩
  | .hbm, ⟨7, _⟩ => ⟨S8448x1024, .f32⟩
  | .hbm, ⟨8, _⟩ => ⟨S66x128x8x128, .f32⟩
  | .hbm, ⟨9, _⟩ => ⟨S8448x64, .f32⟩
  | .hbm, ⟨10, _⟩ => ⟨S66x128x8x8, .f32⟩
  | .hbm, ⟨11, _⟩ => ⟨S66x128x8x8x1, .f32⟩
  | .hbm, ⟨12, _⟩ => ⟨S66x128x8x8x64, .f32⟩
  | .hbm, ⟨13, _⟩ => ⟨S66x128x8x8x64, .f32⟩
  | .hbm, ⟨14, _⟩ => ⟨S8448x64, .f32⟩
  | .hbm, ⟨15, _⟩ => ⟨S66x128x8x8, .f32⟩
  | .hbm, ⟨16, _⟩ => ⟨S66x8x8x128, .f32⟩
  | .hbm, ⟨17, _⟩ => ⟨S128, .i32⟩
  | .hbm, ⟨18, _⟩ => ⟨S128x1, .i32⟩
  | .hbm, ⟨19, _⟩ => ⟨S1x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S66x8x8x128x1, .f32⟩
  | .hbm, ⟨24, _⟩ => ⟨S66x8x8x1x128, .f32⟩
  | .hbm, ⟨25, _⟩ => ⟨S66x8x8x128x128, .f32⟩
  | .hbm, ⟨26, _⟩ => ⟨S66x8x8x128x128, .f32⟩
  | .hbm, ⟨27, _⟩ => ⟨S66x8x8x128x128, .f32⟩
  | .hbm, ⟨28, _⟩ => ⟨S_, .f32⟩
  | .hbm, ⟨29, _⟩ => ⟨S_, .f32⟩
  | .hbm, ⟨30, _⟩ => ⟨S66x8x8x128x128, .i1⟩
  | .hbm, ⟨31, _⟩ => ⟨S66x8x8x128x128, .f32⟩
  | .hbm, ⟨32, _⟩ => ⟨S66x8x8x128x128, .f32⟩
  | .hbm, ⟨33, _⟩ => ⟨S66x8x8x128x128, .f32⟩
  | .hbm, ⟨34, _⟩ => ⟨S_, .f32⟩
  | .hbm, ⟨35, _⟩ => ⟨S_, .f32⟩
  | .hbm, ⟨36, _⟩ => ⟨S66x8x8x128x128, .i1⟩
  | .hbm, ⟨37, _⟩ => ⟨S66x8x8x128x128, .f32⟩
  | .hbm, ⟨38, _⟩ => ⟨S66x8x8x128x128, .f32⟩
  | .hbm, ⟨39, _⟩ => ⟨S66x8x128x128, .f32⟩
  | .hbm, ⟨40, _⟩ => ⟨S66x8x1x128x128, .f32⟩
  | .hbm, ⟨41, _⟩ => ⟨S66x8x8x128x128, .f32⟩
  | .hbm, ⟨42, _⟩ => ⟨S66x8x8x128x128, .f32⟩
  | .hbm, ⟨43, _⟩ => ⟨S66x8x8x64x128, .f32⟩
  | .hbm, ⟨44, _⟩ => ⟨S66x128x8x8x64, .f32⟩
  | .hbm, ⟨45, _⟩ => ⟨S66x8x8x1, .f32⟩
  | .hbm, ⟨46, _⟩ => ⟨S66x8x8x128, .f32⟩
  | .hbm, ⟨47, _⟩ => ⟨S66x8x8x128, .f32⟩
  | .hbm, ⟨48, _⟩ => ⟨S66x8x8x128, .f32⟩
  | .hbm, ⟨49, _⟩ => ⟨S66x128x8x8, .f32⟩
  | .hbm, ⟨50, _⟩ => ⟨S66x128x8x8x1, .f32⟩
  | .hbm, ⟨51, _⟩ => ⟨S66x128x8x8x64, .f32⟩
  | .hbm, ⟨52, _⟩ => ⟨S66x128x8x8x64, .f32⟩
  | .hbm, ⟨53, _⟩ => ⟨S66x8x8x64x128, .f32⟩
  | .hbm, ⟨54, _⟩ => ⟨S66x8x8x1, .f32⟩
  | .hbm, ⟨55, _⟩ => ⟨S66x8x8, .f32⟩
  | .hbm, ⟨56, _⟩ => ⟨S66x8x8, .f32⟩
  | .hbm, ⟨57, _⟩ => ⟨S66x8x8x128, .f32⟩
  | .hbm, ⟨58, _⟩ => ⟨S66x128x8x8, .f32⟩
  | .hbm, ⟨59, _⟩ => ⟨S_, .f32⟩
  | .hbm, ⟨60, _⟩ => ⟨S8x8x64x128, .f32⟩
  | .hbm, ⟨61, _⟩ => ⟨S_, .f32⟩
  | .hbm, ⟨62, _⟩ => ⟨S66x128x8x8x64, .f32⟩
  | .hbm, ⟨63, _⟩ => ⟨S_, .i32⟩
  | .hbm, ⟨64, _⟩ => ⟨S66x8x8x64x128, .f32⟩
  | .hbm, ⟨65, _⟩ => ⟨S66x8x8, .f32⟩
  | .hbm, ⟨66, _⟩ => ⟨S66x128x8x128, .f32⟩
  | .hbm, ⟨67, _⟩ => ⟨S66x128x8x8, .f32⟩
  | .hbm, ⟨68, _⟩ => ⟨S66x128x8x8x64, .f32⟩
  | .hbm, ⟨69, _⟩ => ⟨S_, .i32⟩
  | .hbm, ⟨70, _⟩ => ⟨S8x8x64x128, .f32⟩
  | .hbm, ⟨71, _⟩ => ⟨S66x128x8x8x64, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x8x8x64x128, .f32⟩
  | .hbm, ⟨79, _⟩ => ⟨S8x8x64x128, .f32⟩
  | .hbm, ⟨80, _⟩ => ⟨S_, .i32⟩
  | .hbm, ⟨81, _⟩ => ⟨S_, .i32⟩
  | .hbm, ⟨82, _⟩ => ⟨S1x8x8, .f32⟩
  | .hbm, ⟨83, _⟩ => ⟨S8x8, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S1x128x8x128, .f32⟩
  | .hbm, ⟨88, _⟩ => ⟨S128x8x128, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S1x128x8x8, .f32⟩
  | .hbm, ⟨93, _⟩ => ⟨S128x8x8, .f32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S1x128x8x8x64, .f32⟩
  | .hbm, ⟨99, _⟩ => ⟨S128x8x8x64, .f32⟩
  | .hbm, ⟨100, _⟩ => ⟨S8x8x64x128, .f32⟩
  | .hbm, ⟨101, _⟩ => ⟨S128x8x8x64, .f32⟩
  | .hbm, ⟨102, _⟩ => ⟨S128x8x8x1, .f32⟩
  | .hbm, ⟨103, _⟩ => ⟨S128x8x8x64, .f32⟩
  | .hbm, ⟨104, _⟩ => ⟨S128x8x8x64, .f32⟩
  | .hbm, ⟨105, _⟩ => ⟨S8x8x1x1, .f32⟩
  | .hbm, ⟨106, _⟩ => ⟨S8x8x64x128, .f32⟩
  | .hbm, ⟨107, _⟩ => ⟨S8x8x64x128, .f32⟩
  | .hbm, ⟨108, _⟩ => ⟨S8x8x64x128, .f32⟩
  | .hbm, ⟨109, _⟩ => ⟨S128x8x8x64, .f32⟩
  | .hbm, ⟨110, _⟩ => ⟨S1x128x8x8x64, .f32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S66x128x8x8x64, .f32⟩
  | .hbm, ⟨116, _⟩ => ⟨S_, .i32⟩
  | .hbm, ⟨117, _⟩ => ⟨S_, .i32⟩
  | .hbm, ⟨118, _⟩ => ⟨S8448x4096, .f32⟩
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_1 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_c : Ref sig .tc := ⟨.hbm, 63, rfl⟩
abbrev main_v50_0 : Ref sig .tc := ⟨.hbm, 64, rfl⟩
abbrev main_v50_1 : Ref sig .tc := ⟨.hbm, 65, rfl⟩
abbrev main_v50_2 : Ref sig .tc := ⟨.hbm, 66, rfl⟩
abbrev main_v50_3 : Ref sig .tc := ⟨.hbm, 67, rfl⟩
abbrev main_v50_4 : Ref sig .tc := ⟨.hbm, 68, rfl⟩
abbrev main_v50_5 : Ref sig .tc := ⟨.hbm, 69, rfl⟩
abbrev main_v50_6 : Ref sig .tc := ⟨.hbm, 70, rfl⟩
abbrev main_v50_7 : Ref sig .tc := ⟨.hbm, 71, rfl⟩
abbrev main_while0c_c_10 : Ref sig .tc := ⟨.hbm, 72, rfl⟩
abbrev main_while0c_v52 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v52 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_v0 : Ref sig .tc := ⟨.hbm, 82, rfl⟩
abbrev main_while0b_v53 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_v0 : Ref sig .tc := ⟨.hbm, 87, rfl⟩
abbrev main_while0b_v54 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_v0 : Ref sig .tc := ⟨.hbm, 92, rfl⟩
abbrev main_while0b_v55 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_call6_c_2 : Ref sig .tc := ⟨.hbm, 97, rfl⟩
abbrev main_while0b_call6_v0 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_v59 : Ref sig .tc := ⟨.hbm, 102, rfl⟩
abbrev main_while0b_v60 : Ref sig .tc := ⟨.hbm, 103, rfl⟩
abbrev main_while0b_v61 : Ref sig .tc := ⟨.hbm, 104, rfl⟩
abbrev main_while0b_v62 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_v66 : Ref sig .tc := ⟨.hbm, 109, rfl⟩
abbrev main_while0b_call7_v0 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_c_2 : Ref sig .tc := ⟨.hbm, 114, rfl⟩
abbrev main_while0b_v67 : Ref sig .tc := ⟨.hbm, 115, rfl⟩
abbrev main_while0b_c_10 : Ref sig .tc := ⟨.hbm, 116, rfl⟩
abbrev main_while0b_v68 : Ref sig .tc := ⟨.hbm, 117, rfl⟩
abbrev main_v51 : Ref sig .tc := ⟨.hbm, 118, rfl⟩

abbrev nD : Nat := 1
abbrev τ : Topo := Topo.v7x

variable {F : FTy → Type} [FloatOps F]

abbrev main_while0_count : Scf.Loop 32 := ⟨0#32, 66#32, 1#32⟩
-- ==== GdnQkv.lean ====
abbrev S8448x2048 : Shape := ⟨2, ![8448, 2048]⟩
abbrev S2x2048x12416 : Shape := ⟨3, ![2, 2048, 12416]⟩
abbrev S8448x8192 : Shape := ⟨2, ![8448, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2x2048x12416, .f32⟩
  | .hbm, ⟨2, _⟩ => ⟨S8448x2048, .bf16⟩
  | .hbm, ⟨3, _⟩ => ⟨S8448x8192, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnQkvRefIdeal.lean ====
abbrev S8448x2048 : Shape := ⟨2, ![8448, 2048]⟩
abbrev S2x2048x12416 : Shape := ⟨3, ![2, 2048, 12416]⟩
abbrev S1x2048x12416 : Shape := ⟨3, ![1, 2048, 12416]⟩
abbrev S2048x12416 : Shape := ⟨2, ![2048, 12416]⟩
abbrev S8448x12416 : Shape := ⟨2, ![8448, 12416]⟩
abbrev S8448x8192 : Shape := ⟨2, ![8448, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x12416, .f32⟩
  | .hbm, ⟨2, _⟩ => ⟨S1x2048x12416, .f32⟩
  | .hbm, ⟨3, _⟩ => ⟨S2048x12416, .f32⟩
  | .hbm, ⟨4, _⟩ => ⟨S8448x12416, .f32⟩
  | .hbm, ⟨5, _⟩ => ⟨S8448x8192, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GdnZ.lean ====
abbrev S8448x2048 : Shape := ⟨2, ![8448, 2048]⟩
abbrev S2x2048x12416 : Shape := ⟨3, ![2, 2048, 12416]⟩
abbrev S8448x4096 : Shape := ⟨2, ![8448, 4096]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2x2048x12416, .f32⟩
  | .hbm, ⟨2, _⟩ => ⟨S8448x2048, .bf16⟩
  | .hbm, ⟨3, _⟩ => ⟨S8448x4096, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnZRefIdeal.lean ====
abbrev S8448x2048 : Shape := ⟨2, ![8448, 2048]⟩
abbrev S2x2048x12416 : Shape := ⟨3, ![2, 2048, 12416]⟩
abbrev S1x2048x12416 : Shape := ⟨3, ![1, 2048, 12416]⟩
abbrev S2048x12416 : Shape := ⟨2, ![2048, 12416]⟩
abbrev S8448x12416 : Shape := ⟨2, ![8448, 12416]⟩
abbrev S8448x4096 : Shape := ⟨2, ![8448, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x12416, .f32⟩
  | .hbm, ⟨2, _⟩ => ⟨S1x2048x12416, .f32⟩
  | .hbm, ⟨3, _⟩ => ⟨S2048x12416, .f32⟩
  | .hbm, ⟨4, _⟩ => ⟨S8448x12416, .f32⟩
  | .hbm, ⟨5, _⟩ => ⟨S8448x4096, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GdnGates.lean ====
abbrev S8448x2048 : Shape := ⟨2, ![8448, 2048]⟩
abbrev S2x2048x12416 : Shape := ⟨3, ![2, 2048, 12416]⟩
abbrev S8448x128 : Shape := ⟨2, ![8448, 128]⟩
abbrev S1408x2048 : Shape := ⟨2, ![1408, 2048]⟩
abbrev S1x2048x128 : Shape := ⟨3, ![1, 2048, 128]⟩
abbrev S1408x128 : Shape := ⟨2, ![1408, 128]⟩
abbrev S2048x128 : Shape := ⟨2, ![2048, 128]⟩

abbrev nBuf : Space → Nat
  | .hbm => 4
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2x2048x12416, .f32⟩
  | .hbm, ⟨2, _⟩ => ⟨S8448x2048, .bf16⟩
  | .hbm, ⟨3, _⟩ => ⟨S8448x128, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x128, .f32⟩
  | .local _ .vmem, ⟨3, _⟩ => ⟨S1408x128, .f32⟩
  | .local _ .vmem, ⟨4, _⟩ => ⟨S1408x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnGatesRefIdeal.lean ====
abbrev S8448x2048 : Shape := ⟨2, ![8448, 2048]⟩
abbrev S2x2048x12416 : Shape := ⟨3, ![2, 2048, 12416]⟩
abbrev S1x2048x12416 : Shape := ⟨3, ![1, 2048, 12416]⟩
abbrev S2048x12416 : Shape := ⟨2, ![2048, 12416]⟩
abbrev S8448x12416 : Shape := ⟨2, ![8448, 12416]⟩
abbrev S8448x128 : Shape := ⟨2, ![8448, 128]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048x12416, .f32⟩
  | .hbm, ⟨2, _⟩ => ⟨S1x2048x12416, .f32⟩
  | .hbm, ⟨3, _⟩ => ⟨S2048x12416, .f32⟩
  | .hbm, ⟨4, _⟩ => ⟨S8448x12416, .f32⟩
  | .hbm, ⟨5, _⟩ => ⟨S8448x128, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsdZ.lean ====
abbrev S8448x2048 : Shape := ⟨2, ![8448, 2048]⟩
abbrev S1x2048x10368 : Shape := ⟨3, ![1, 2048, 10368]⟩
abbrev S8448x4096 : Shape := ⟨2, ![8448, 4096]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S1x2048x10368, .f32⟩
  | .hbm, ⟨2, _⟩ => ⟨S8448x2048, .bf16⟩
  | .hbm, ⟨3, _⟩ => ⟨S8448x4096, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdZRefIdeal.lean ====
abbrev S8448x2048 : Shape := ⟨2, ![8448, 2048]⟩
abbrev S1x2048x10368 : Shape := ⟨3, ![1, 2048, 10368]⟩
abbrev S2048x10368 : Shape := ⟨2, ![2048, 10368]⟩
abbrev S8448x10368 : Shape := ⟨2, ![8448, 10368]⟩
abbrev S8448x4096 : Shape := ⟨2, ![8448, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x10368, .f32⟩
  | .hbm, ⟨2, _⟩ => ⟨S2048x10368, .f32⟩
  | .hbm, ⟨3, _⟩ => ⟨S8448x10368, .f32⟩
  | .hbm, ⟨4, _⟩ => ⟨S8448x4096, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdXbc.lean ====
abbrev S8448x2048 : Shape := ⟨2, ![8448, 2048]⟩
abbrev S1x2048x10368 : Shape := ⟨3, ![1, 2048, 10368]⟩
abbrev S8448x6144 : Shape := ⟨2, ![8448, 6144]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S1x2048x10368, .f32⟩
  | .hbm, ⟨2, _⟩ => ⟨S8448x2048, .bf16⟩
  | .hbm, ⟨3, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdXbcRefIdeal.lean ====
abbrev S8448x2048 : Shape := ⟨2, ![8448, 2048]⟩
abbrev S1x2048x10368 : Shape := ⟨3, ![1, 2048, 10368]⟩
abbrev S2048x10368 : Shape := ⟨2, ![2048, 10368]⟩
abbrev S8448x10368 : Shape := ⟨2, ![8448, 10368]⟩
abbrev S8448x6144 : Shape := ⟨2, ![8448, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x10368, .f32⟩
  | .hbm, ⟨2, _⟩ => ⟨S2048x10368, .f32⟩
  | .hbm, ⟨3, _⟩ => ⟨S8448x10368, .f32⟩
  | .hbm, ⟨4, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdDt.lean ====
abbrev S8448x2048 : Shape := ⟨2, ![8448, 2048]⟩
abbrev S1x2048x10368 : Shape := ⟨3, ![1, 2048, 10368]⟩
abbrev S8448x128 : Shape := ⟨2, ![8448, 128]⟩
abbrev S1408x2048 : Shape := ⟨2, ![1408, 2048]⟩
abbrev S1x2048x128 : Shape := ⟨3, ![1, 2048, 128]⟩
abbrev S1408x128 : Shape := ⟨2, ![1408, 128]⟩
abbrev S2048x128 : Shape := ⟨2, ![2048, 128]⟩

abbrev nBuf : Space → Nat
  | .hbm => 4
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S1x2048x10368, .f32⟩
  | .hbm, ⟨2, _⟩ => ⟨S8448x2048, .bf16⟩
  | .hbm, ⟨3, _⟩ => ⟨S8448x128, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x128, .f32⟩
  | .local _ .vmem, ⟨3, _⟩ => ⟨S1408x128, .f32⟩
  | .local _ .vmem, ⟨4, _⟩ => ⟨S1408x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdDtRefIdeal.lean ====
abbrev S8448x2048 : Shape := ⟨2, ![8448, 2048]⟩
abbrev S1x2048x10368 : Shape := ⟨3, ![1, 2048, 10368]⟩
abbrev S2048x10368 : Shape := ⟨2, ![2048, 10368]⟩
abbrev S8448x10368 : Shape := ⟨2, ![8448, 10368]⟩
abbrev S8448x128 : Shape := ⟨2, ![8448, 128]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x10368, .f32⟩
  | .hbm, ⟨2, _⟩ => ⟨S2048x10368, .f32⟩
  | .hbm, ⟨3, _⟩ => ⟨S8448x10368, .f32⟩
  | .hbm, ⟨4, _⟩ => ⟨S8448x128, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HyenaIn.lean ====
abbrev S8448x2048 : Shape := ⟨2, ![8448, 2048]⟩
abbrev S1x2048x6144 : Shape := ⟨3, ![1, 2048, 6144]⟩
abbrev S8448x6144 : Shape := ⟨2, ![8448, 6144]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S1x2048x6144, .f32⟩
  | .hbm, ⟨2, _⟩ => ⟨S8448x2048, .bf16⟩
  | .hbm, ⟨3, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1408x1024, .f32⟩
  | .local _ .vmem, ⟨5, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HyenaInRefIdeal.lean ====
abbrev S8448x2048 : Shape := ⟨2, ![8448, 2048]⟩
abbrev S1x2048x6144 : Shape := ⟨3, ![1, 2048, 6144]⟩
abbrev S2048x6144 : Shape := ⟨2, ![2048, 6144]⟩
abbrev S8448x6144 : Shape := ⟨2, ![8448, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x6144, .f32⟩
  | .hbm, ⟨2, _⟩ => ⟨S2048x6144, .f32⟩
  | .hbm, ⟨3, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnOut.lean ====
abbrev S8448x4096 : Shape := ⟨2, ![8448, 4096]⟩
abbrev S2x4096x2048 : Shape := ⟨3, ![2, 4096, 2048]⟩
abbrev S8448x2048 : Shape := ⟨2, ![8448, 2048]⟩
abbrev S2048 : Shape := ⟨1, ![2048]⟩
abbrev S1x2048 : Shape := ⟨2, ![1, 2048]⟩
abbrev S8448x16x128 : Shape := ⟨3, ![8448, 16, 128]⟩
abbrev S704x512 : Shape := ⟨2, ![704, 512]⟩
abbrev S1x512x2048 : Shape := ⟨3, ![1, 512, 2048]⟩
abbrev S704x2048 : Shape := ⟨2, ![704, 2048]⟩
abbrev S704x16x128 : Shape := ⟨3, ![704, 16, 128]⟩
abbrev S512x2048 : Shape := ⟨2, ![512, 2048]⟩
abbrev S704 : Shape := ⟨1, ![704]⟩
abbrev S704x1 : Shape := ⟨2, ![704, 1]⟩
abbrev S704x128 : Shape := ⟨2, ![704, 128]⟩
abbrev S704x1x128 : Shape := ⟨3, ![704, 1, 128]⟩

abbrev nBuf : Space → Nat
  | .hbm => 9
  | .vmem => 13
  | .smem => 0
  | _ => 0

abbrev bufTy : (tb : Table) → Fin (tcTables nBuf tb) → BufTy
  | .hbm, ⟨0, _⟩ => ⟨S8448x4096, .bf16⟩
  | .hbm, ⟨1, _⟩ => ⟨S2x4096x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8448x2048, .f32⟩
  | .hbm, ⟨8, _⟩ => ⟨S8448x16x128, .f32⟩
  | .local _ .vmem, ⟨0, _⟩ => ⟨S704x512, .bf16⟩
  | .local _ .vmem, ⟨1, _⟩ => ⟨S704x512, .bf16⟩
  | .local _ .vmem, ⟨2, _⟩ => ⟨S1x512x2048, .f32⟩
  | .local _ .vmem, ⟨3, _⟩ => ⟨S1x512x2048, .f32⟩
  | .local _ .vmem, ⟨4, _⟩ => ⟨S704x2048, .f32⟩
  | .local _ .vmem, ⟨5, _⟩ => ⟨S704x2048, .f32⟩
  | .local _ .vmem, ⟨6, _⟩ => ⟨S1x2048, .f32⟩
  | .local _ .vmem, ⟨7, _⟩ => ⟨S1x2048, .f32⟩
  | .local _ .vmem, ⟨8, _⟩ => ⟨S704x2048, .f32⟩
  | .local _ .vmem, ⟨9, _⟩ => ⟨S704x2048, .f32⟩
  | .local _ .vmem, ⟨10, _⟩ => ⟨S704x16x128, .f32⟩
  | .local _ .vmem, ⟨11, _⟩ => ⟨S704x16x128, .f32⟩
  | .local _ .vmem, ⟨12, _⟩ => ⟨S704x2048, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S704x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GdnOutIdeal.lean ====
abbrev S2x4096x2048 : Shape := ⟨3, ![2, 4096, 2048]⟩
  | .hbm, ⟨1, _⟩ => ⟨S2x4096x2048, .f32⟩
-- ==== GdnOutRefIdeal.lean ====
abbrev S8448x4096 : Shape := ⟨2, ![8448, 4096]⟩
abbrev S2x4096x2048 : Shape := ⟨3, ![2, 4096, 2048]⟩
abbrev S8448x2048 : Shape := ⟨2, ![8448, 2048]⟩
abbrev S2048 : Shape := ⟨1, ![2048]⟩
abbrev S_ : Shape := ⟨0, ![]⟩
abbrev S1x4096x2048 : Shape := ⟨3, ![1, 4096, 2048]⟩
abbrev S4096x2048 : Shape := ⟨2, ![4096, 2048]⟩
abbrev S8448 : Shape := ⟨1, ![8448]⟩
abbrev S8448x1 : Shape := ⟨2, ![8448, 1]⟩
abbrev S1x2048 : Shape := ⟨2, ![1, 2048]⟩
abbrev S8448x16x128 : Shape := ⟨3, ![8448, 16, 128]⟩

abbrev nBuf : Space → Nat
  | .hbm => 43
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x4096, .f32⟩
  | .hbm, ⟨9, _⟩ => ⟨S1x4096x2048, .f32⟩
  | .hbm, ⟨10, _⟩ => ⟨S4096x2048, .f32⟩
  | .hbm, ⟨11, _⟩ => ⟨S8448x2048, .f32⟩
  | .hbm, ⟨12, _⟩ => ⟨S8448x2048, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x2048, .f32⟩
  | .hbm, ⟨20, _⟩ => ⟨S8448x2048, .f32⟩
  | .hbm, ⟨21, _⟩ => ⟨S8448x2048, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x2048, .f32⟩
  | .hbm, ⟨29, _⟩ => ⟨S8448x2048, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x1, .f32⟩
  | .hbm, ⟨34, _⟩ => ⟨S8448x2048, .f32⟩
  | .hbm, ⟨35, _⟩ => ⟨S8448x2048, .f32⟩
  | .hbm, ⟨36, _⟩ => ⟨S1x2048, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S8448x16x128, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== SsdOut.lean ====
abbrev S8448x4096 : Shape := ⟨2, ![8448, 4096]⟩
abbrev S1x4096x2048 : Shape := ⟨3, ![1, 4096, 2048]⟩
abbrev S8448x2048 : Shape := ⟨2, ![8448, 2048]⟩
abbrev S2048 : Shape := ⟨1, ![2048]⟩
abbrev S1x2048 : Shape := ⟨2, ![1, 2048]⟩
abbrev S8448x16x128 : Shape := ⟨3, ![8448, 16, 128]⟩
abbrev S704x512 : Shape := ⟨2, ![704, 512]⟩
abbrev S1x512x2048 : Shape := ⟨3, ![1, 512, 2048]⟩
abbrev S704x2048 : Shape := ⟨2, ![704, 2048]⟩
abbrev S704x16x128 : Shape := ⟨3, ![704, 16, 128]⟩
abbrev S512x2048 : Shape := ⟨2, ![512, 2048]⟩
abbrev S704 : Shape := ⟨1, ![704]⟩
abbrev S704x1 : Shape := ⟨2, ![704, 1]⟩
abbrev S704x128 : Shape := ⟨2, ![704, 128]⟩
abbrev S704x1x128 : Shape := ⟨3, ![704, 1, 128]⟩

abbrev nBuf : Space → Nat
  | .hbm => 9
  | .vmem => 13
  | .smem => 0
  | _ => 0

abbrev bufTy : (tb : Table) → Fin (tcTables nBuf tb) → BufTy
  | .hbm, ⟨0, _⟩ => ⟨S8448x4096, .bf16⟩
  | .hbm, ⟨1, _⟩ => ⟨S1x4096x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8448x2048, .f32⟩
  | .hbm, ⟨8, _⟩ => ⟨S8448x16x128, .f32⟩
  | .local _ .vmem, ⟨0, _⟩ => ⟨S704x512, .bf16⟩
  | .local _ .vmem, ⟨1, _⟩ => ⟨S704x512, .bf16⟩
  | .local _ .vmem, ⟨2, _⟩ => ⟨S1x512x2048, .f32⟩
  | .local _ .vmem, ⟨3, _⟩ => ⟨S1x512x2048, .f32⟩
  | .local _ .vmem, ⟨4, _⟩ => ⟨S704x2048, .f32⟩
  | .local _ .vmem, ⟨5, _⟩ => ⟨S704x2048, .f32⟩
  | .local _ .vmem, ⟨6, _⟩ => ⟨S1x2048, .f32⟩
  | .local _ .vmem, ⟨7, _⟩ => ⟨S1x2048, .f32⟩
  | .local _ .vmem, ⟨8, _⟩ => ⟨S704x2048, .f32⟩
  | .local _ .vmem, ⟨9, _⟩ => ⟨S704x2048, .f32⟩
  | .local _ .vmem, ⟨10, _⟩ => ⟨S704x16x128, .f32⟩
  | .local _ .vmem, ⟨11, _⟩ => ⟨S704x16x128, .f32⟩
  | .local _ .vmem, ⟨12, _⟩ => ⟨S704x2048, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S704x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SsdOutRefIdeal.lean ====
abbrev S8448x4096 : Shape := ⟨2, ![8448, 4096]⟩
abbrev S1x4096x2048 : Shape := ⟨3, ![1, 4096, 2048]⟩
abbrev S8448x2048 : Shape := ⟨2, ![8448, 2048]⟩
abbrev S2048 : Shape := ⟨1, ![2048]⟩
abbrev S_ : Shape := ⟨0, ![]⟩
abbrev S4096x2048 : Shape := ⟨2, ![4096, 2048]⟩
abbrev S8448 : Shape := ⟨1, ![8448]⟩
abbrev S8448x1 : Shape := ⟨2, ![8448, 1]⟩
abbrev S1x2048 : Shape := ⟨2, ![1, 2048]⟩
abbrev S8448x16x128 : Shape := ⟨3, ![8448, 16, 128]⟩

abbrev nBuf : Space → Nat
  | .hbm => 42
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1x4096x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x4096, .f32⟩
  | .hbm, ⟨9, _⟩ => ⟨S4096x2048, .f32⟩
  | .hbm, ⟨10, _⟩ => ⟨S8448x2048, .f32⟩
  | .hbm, ⟨11, _⟩ => ⟨S8448x2048, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S8448x2048, .f32⟩
  | .hbm, ⟨21, _⟩ => ⟨S_, .f32⟩
  | .hbm, ⟨22, _⟩ => ⟨S8448, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x2048, .f32⟩
  | .hbm, ⟨28, _⟩ => ⟨S8448x2048, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x1, .f32⟩
  | .hbm, ⟨33, _⟩ => ⟨S8448x2048, .f32⟩
  | .hbm, ⟨34, _⟩ => ⟨S8448x2048, .f32⟩
  | .hbm, ⟨35, _⟩ => ⟨S1x2048, .f32⟩
  | .hbm, ⟨36, _⟩ => ⟨S8448x2048, .f32⟩
  | .hbm, ⟨37, _⟩ => ⟨S8448x2048, .f32⟩
  | .hbm, ⟨38, _⟩ => ⟨S1x2048, .f32⟩
  | .hbm, ⟨39, _⟩ => ⟨S8448x2048, .f32⟩
  | .hbm, ⟨40, _⟩ => ⟨S8448x2048, .f32⟩
  | .hbm, ⟨41, _⟩ => ⟨S8448x16x128, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== SsdBack.lean ====
abbrev S8448x6144 : Shape := ⟨2, ![8448, 6144]⟩
abbrev S8448x128 : Shape := ⟨2, ![8448, 128]⟩
abbrev S8448x2x8x8 : Shape := ⟨4, ![8448, 2, 8, 8]⟩
abbrev S2x8x8448x8 : Shape := ⟨4, ![2, 8, 8448, 8]⟩
abbrev S2x8x8448x16 : Shape := ⟨4, ![2, 8, 8448, 16]⟩
abbrev S2x8x8x8448 : Shape := ⟨4, ![2, 8, 8, 8448]⟩
abbrev S8448x4096 : Shape := ⟨2, ![8448, 4096]⟩
abbrev S256x512 : Shape := ⟨2, ![256, 512]⟩
abbrev S256x128 : Shape := ⟨2, ![256, 128]⟩
abbrev S1x1x256x16 : Shape := ⟨4, ![1, 1, 256, 16]⟩
abbrev S1x1x8x256 : Shape := ⟨4, ![1, 1, 8, 256]⟩
abbrev S128x512 : Shape := ⟨2, ![128, 512]⟩
abbrev S128x128 : Shape := ⟨2, ![128, 128]⟩
abbrev S1x1x128x8 : Shape := ⟨4, ![1, 1, 128, 8]⟩
abbrev S128x8 : Shape := ⟨2, ![128, 8]⟩
abbrev S1x1x8x128 : Shape := ⟨4, ![1, 1, 8, 128]⟩
abbrev S8x128 : Shape := ⟨2, ![8, 128]⟩
abbrev S1x8 : Shape := ⟨2, ![1, 8]⟩
abbrev S8x512 : Shape := ⟨2, ![8, 512]⟩
abbrev S128x1 : Shape := ⟨2, ![128, 1]⟩
abbrev S1x128 : Shape := ⟨2, ![1, 128]⟩
abbrev S128x64 : Shape := ⟨2, ![128, 64]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S8448x6144, .f32⟩
  | .hbm, ⟨1, _⟩ => ⟨S8448x128, .f32⟩
  | .hbm, ⟨2, _⟩ => ⟨S8448x128, .f32⟩
  | .hbm, ⟨3, _⟩ => ⟨S8448x2x8x8, .f32⟩
  | .hbm, ⟨4, _⟩ => ⟨S2x8x8448x8, .f32⟩
  | .hbm, ⟨5, _⟩ => ⟨S8448x2x8x8, .f32⟩
  | .hbm, ⟨6, _⟩ => ⟨S2x8x8448x8, .f32⟩
  | .hbm, ⟨7, _⟩ => ⟨S2x8x8448x16, .f32⟩
  | .hbm, ⟨8, _⟩ => ⟨S2x8x8x8448, .f32⟩
  | .hbm, ⟨9, _⟩ => ⟨S8448x4096, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x1x256x16, .f32⟩
  | .local _ .vmem, ⟨7, _⟩ => ⟨S1x1x256x16, .f32⟩
  | .local _ .vmem, ⟨8, _⟩ => ⟨S1x1x8x256, .f32⟩
  | .local _ .vmem, ⟨9, _⟩ => ⟨S1x1x8x256, .f32⟩
  | .local _ .vmem, ⟨10, _⟩ => ⟨S256x512, .f32⟩
  | .local _ .vmem, ⟨11, _⟩ => ⟨S256x512, .f32⟩
  | .local _ .vmem, ⟨12, _⟩ => ⟨S128x512, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c32_i32_0 : BitVec 32 := 32#32
  let v1 : BitVec 32 := Scalar.addi c32_i32_0 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c40_i32 : BitVec 32 := 40#32
  let v1 : BitVec 32 := Scalar.addi c40_i32 arg0
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![c1_i32.toNat, arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![c1_i32.toNat, arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdBackRefIdeal.lean ====
abbrev S8448x6144 : Shape := ⟨2, ![8448, 6144]⟩
abbrev S8448x128 : Shape := ⟨2, ![8448, 128]⟩
abbrev S8448x4096 : Shape := ⟨2, ![8448, 4096]⟩
abbrev S66x128x8x8x64 : Shape := ⟨5, ![66, 128, 8, 8, 64]⟩
abbrev S8448x1024 : Shape := ⟨2, ![8448, 1024]⟩
abbrev S66x128x8x128 : Shape := ⟨4, ![66, 128, 8, 128]⟩
abbrev S8448x64 : Shape := ⟨2, ![8448, 64]⟩
abbrev S66x128x8x8 : Shape := ⟨4, ![66, 128, 8, 8]⟩
abbrev S66x128x8x8x1 : Shape := ⟨5, ![66, 128, 8, 8, 1]⟩
abbrev S66x8x8x128 : Shape := ⟨4, ![66, 8, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S66x8x8x128x1 : Shape := ⟨5, ![66, 8, 8, 128, 1]⟩
abbrev S66x8x8x1x128 : Shape := ⟨5, ![66, 8, 8, 1, 128]⟩
abbrev S66x8x8x128x128 : Shape := ⟨5, ![66, 8, 8, 128, 128]⟩
abbrev S_ : Shape := ⟨0, ![]⟩
abbrev S66x8x128x128 : Shape := ⟨4, ![66, 8, 128, 128]⟩
abbrev S66x8x1x128x128 : Shape := ⟨5, ![66, 8, 1, 128, 128]⟩
abbrev S66x8x8x64x128 : Shape := ⟨5, ![66, 8, 8, 64, 128]⟩
abbrev S66x8x8x1 : Shape := ⟨4, ![66, 8, 8, 1]⟩
abbrev S66x8x8 : Shape := ⟨3, ![66, 8, 8]⟩
abbrev S8x8x64x128 : Shape := ⟨4, ![8, 8, 64, 128]⟩
abbrev S1x8x8x64x128 : Shape := ⟨5, ![1, 8, 8, 64, 128]⟩
abbrev S1x8x8 : Shape := ⟨3, ![1, 8, 8]⟩
abbrev S8x8 : Shape := ⟨2, ![8, 8]⟩
abbrev S1x128x8x128 : Shape := ⟨4, ![1, 128, 8, 128]⟩
abbrev S128x8x128 : Shape := ⟨3, ![128, 8, 128]⟩
abbrev S1x128x8x8 : Shape := ⟨4, ![1, 128, 8, 8]⟩
abbrev S128x8x8 : Shape := ⟨3, ![128, 8, 8]⟩
abbrev S1x128x8x8x64 : Shape := ⟨5, ![1, 128, 8, 8, 64]⟩
abbrev S128x8x8x64 : Shape := ⟨4, ![128, 8, 8, 64]⟩
abbrev S128x8x8x1 : Shape := ⟨4, ![128, 8, 8, 1]⟩
abbrev S8x8x1x1 : Shape := ⟨4, ![8, 8, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S8448x6144, .f32⟩
  | .hbm, ⟨1, _⟩ => ⟨S8448x128, .f32⟩
  | .hbm, ⟨2, _⟩ => ⟨S8448x128, .f32⟩
  | .hbm, ⟨3, _⟩ => ⟨S8448x6144, .f32⟩
  | .hbm, ⟨4, _⟩ => ⟨S8448x128, .f32⟩
  | .hbm, ⟨5, _⟩ => ⟨S8448x128, .f32⟩
  | .hbm, ⟨6, _⟩ => ⟨S8448x4096, .f32⟩
  | .hbm, ⟨7, _⟩ => ⟨S66x128x8x8x64, .f32⟩
  | .hbm, ⟨8, _⟩ => ⟨S8448x1024, .f32⟩
  | .hbm, ⟨9, _⟩ => ⟨S66x128x8x128, .f32⟩
  | .hbm, ⟨10, _⟩ => ⟨S8448x1024, .f32⟩
  | .hbm, ⟨11, _⟩ => ⟨S66x128x8x128, .f32⟩
  | .hbm, ⟨12, _⟩ => ⟨S8448x64, .f32⟩
  | .hbm, ⟨13, _⟩ => ⟨S66x128x8x8, .f32⟩
  | .hbm, ⟨14, _⟩ => ⟨S66x128x8x8x1, .f32⟩
  | .hbm, ⟨15, _⟩ => ⟨S66x128x8x8x64, .f32⟩
  | .hbm, ⟨16, _⟩ => ⟨S66x128x8x8x64, .f32⟩
  | .hbm, ⟨17, _⟩ => ⟨S8448x64, .f32⟩
  | .hbm, ⟨18, _⟩ => ⟨S66x128x8x8, .f32⟩
  | .hbm, ⟨19, _⟩ => ⟨S66x8x8x128, .f32⟩
  | .hbm, ⟨20, _⟩ => ⟨S128, .i32⟩
  | .hbm, ⟨21, _⟩ => ⟨S128x1, .i32⟩
  | .hbm, ⟨22, _⟩ => ⟨S1x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S66x8x8x128x1, .f32⟩
  | .hbm, ⟨27, _⟩ => ⟨S66x8x8x1x128, .f32⟩
  | .hbm, ⟨28, _⟩ => ⟨S66x8x8x128x128, .f32⟩
  | .hbm, ⟨29, _⟩ => ⟨S66x8x8x128x128, .f32⟩
  | .hbm, ⟨30, _⟩ => ⟨S66x8x8x128x128, .f32⟩
  | .hbm, ⟨31, _⟩ => ⟨S_, .f32⟩
  | .hbm, ⟨32, _⟩ => ⟨S_, .f32⟩
  | .hbm, ⟨33, _⟩ => ⟨S66x8x8x128x128, .i1⟩
  | .hbm, ⟨34, _⟩ => ⟨S66x8x8x128x128, .f32⟩
  | .hbm, ⟨35, _⟩ => ⟨S66x8x8x128x128, .f32⟩
  | .hbm, ⟨36, _⟩ => ⟨S66x8x8x128x128, .f32⟩
  | .hbm, ⟨37, _⟩ => ⟨S_, .f32⟩
  | .hbm, ⟨38, _⟩ => ⟨S_, .f32⟩
  | .hbm, ⟨39, _⟩ => ⟨S66x8x8x128x128, .i1⟩
  | .hbm, ⟨40, _⟩ => ⟨S66x8x8x128x128, .f32⟩
  | .hbm, ⟨41, _⟩ => ⟨S66x8x8x128x128, .f32⟩
  | .hbm, ⟨42, _⟩ => ⟨S66x8x128x128, .f32⟩
  | .hbm, ⟨43, _⟩ => ⟨S66x8x1x128x128, .f32⟩
  | .hbm, ⟨44, _⟩ => ⟨S66x8x8x128x128, .f32⟩
  | .hbm, ⟨45, _⟩ => ⟨S66x8x8x128x128, .f32⟩
  | .hbm, ⟨46, _⟩ => ⟨S66x8x8x64x128, .f32⟩
  | .hbm, ⟨47, _⟩ => ⟨S66x128x8x8x64, .f32⟩
  | .hbm, ⟨48, _⟩ => ⟨S66x8x8x1, .f32⟩
  | .hbm, ⟨49, _⟩ => ⟨S66x8x8x128, .f32⟩
  | .hbm, ⟨50, _⟩ => ⟨S66x8x8x128, .f32⟩
  | .hbm, ⟨51, _⟩ => ⟨S66x8x8x128, .f32⟩
  | .hbm, ⟨52, _⟩ => ⟨S66x128x8x8, .f32⟩
  | .hbm, ⟨53, _⟩ => ⟨S66x128x8x8x1, .f32⟩
  | .hbm, ⟨54, _⟩ => ⟨S66x128x8x8x64, .f32⟩
  | .hbm, ⟨55, _⟩ => ⟨S66x128x8x8x64, .f32⟩
  | .hbm, ⟨56, _⟩ => ⟨S66x8x8x64x128, .f32⟩
  | .hbm, ⟨57, _⟩ => ⟨S66x8x8x1, .f32⟩
  | .hbm, ⟨58, _⟩ => ⟨S66x8x8, .f32⟩
  | .hbm, ⟨59, _⟩ => ⟨S66x8x8, .f32⟩
  | .hbm, ⟨60, _⟩ => ⟨S66x8x8x128, .f32⟩
  | .hbm, ⟨61, _⟩ => ⟨S66x128x8x8, .f32⟩
  | .hbm, ⟨62, _⟩ => ⟨S_, .f32⟩
  | .hbm, ⟨63, _⟩ => ⟨S8x8x64x128, .f32⟩
  | .hbm, ⟨64, _⟩ => ⟨S_, .f32⟩
  | .hbm, ⟨65, _⟩ => ⟨S66x128x8x8x64, .f32⟩
  | .hbm, ⟨66, _⟩ => ⟨S_, .i32⟩
  | .hbm, ⟨67, _⟩ => ⟨S66x8x8x64x128, .f32⟩
  | .hbm, ⟨68, _⟩ => ⟨S66x8x8, .f32⟩
  | .hbm, ⟨69, _⟩ => ⟨S66x128x8x128, .f32⟩
  | .hbm, ⟨70, _⟩ => ⟨S66x128x8x8, .f32⟩
  | .hbm, ⟨71, _⟩ => ⟨S66x128x8x8x64, .f32⟩
  | .hbm, ⟨72, _⟩ => ⟨S_, .i32⟩
  | .hbm, ⟨73, _⟩ => ⟨S8x8x64x128, .f32⟩
  | .hbm, ⟨74, _⟩ => ⟨S66x128x8x8x64, .f32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x8x8x64x128, .f32⟩
  | .hbm, ⟨82, _⟩ => ⟨S8x8x64x128, .f32⟩
  | .hbm, ⟨83, _⟩ => ⟨S_, .i32⟩
  | .hbm, ⟨84, _⟩ => ⟨S_, .i32⟩
  | .hbm, ⟨85, _⟩ => ⟨S1x8x8, .f32⟩
  | .hbm, ⟨86, _⟩ => ⟨S8x8, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x128x8x128, .f32⟩
  | .hbm, ⟨91, _⟩ => ⟨S128x8x128, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S1x128x8x8, .f32⟩
  | .hbm, ⟨96, _⟩ => ⟨S128x8x8, .f32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S1x128x8x8x64, .f32⟩
  | .hbm, ⟨102, _⟩ => ⟨S128x8x8x64, .f32⟩
  | .hbm, ⟨103, _⟩ => ⟨S8x8x64x128, .f32⟩
  | .hbm, ⟨104, _⟩ => ⟨S128x8x8x64, .f32⟩
  | .hbm, ⟨105, _⟩ => ⟨S128x8x8x1, .f32⟩
  | .hbm, ⟨106, _⟩ => ⟨S128x8x8x64, .f32⟩
  | .hbm, ⟨107, _⟩ => ⟨S128x8x8x64, .f32⟩
  | .hbm, ⟨108, _⟩ => ⟨S8x8x1x1, .f32⟩
  | .hbm, ⟨109, _⟩ => ⟨S8x8x64x128, .f32⟩
  | .hbm, ⟨110, _⟩ => ⟨S8x8x64x128, .f32⟩
  | .hbm, ⟨111, _⟩ => ⟨S8x8x64x128, .f32⟩
  | .hbm, ⟨112, _⟩ => ⟨S128x8x8x64, .f32⟩
  | .hbm, ⟨113, _⟩ => ⟨S1x128x8x8x64, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S66x128x8x8x64, .f32⟩
  | .hbm, ⟨119, _⟩ => ⟨S_, .i32⟩
  | .hbm, ⟨120, _⟩ => ⟨S_, .i32⟩
  | .hbm, ⟨121, _⟩ => ⟨S8448x4096, .f32⟩
  | .hbm, ⟨122, _⟩ => ⟨S8448x4096, .f32⟩
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_c : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev main_v53_3 : Ref sig .tc := ⟨.hbm, 70, rfl⟩
abbrev main_v53_4 : Ref sig .tc := ⟨.hbm, 71, rfl⟩
abbrev main_v53_5 : Ref sig .tc := ⟨.hbm, 72, rfl⟩
abbrev main_v53_6 : Ref sig .tc := ⟨.hbm, 73, rfl⟩
abbrev main_v53_7 : Ref sig .tc := ⟨.hbm, 74, rfl⟩
abbrev main_while0c_c_10 : Ref sig .tc := ⟨.hbm, 75, rfl⟩
abbrev main_while0c_v56 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v56 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_v0 : Ref sig .tc := ⟨.hbm, 85, rfl⟩
abbrev main_while0b_v57 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_v0 : Ref sig .tc := ⟨.hbm, 90, rfl⟩
abbrev main_while0b_v58 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_v0 : Ref sig .tc := ⟨.hbm, 95, rfl⟩
abbrev main_while0b_v59 : Ref sig .tc := ⟨.hbm, 96, rfl⟩
abbrev main_while0b_call6_c : Ref sig .tc := ⟨.hbm, 97, rfl⟩
abbrev main_while0b_call6_c_0 : Ref sig .tc := ⟨.hbm, 98, rfl⟩
abbrev main_while0b_call6_c_1 : Ref sig .tc := ⟨.hbm, 99, rfl⟩
abbrev main_while0b_call6_c_2 : Ref sig .tc := ⟨.hbm, 100, rfl⟩
abbrev main_while0b_call6_v0 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_call7_v0 : Ref sig .tc := ⟨.hbm, 113, rfl⟩
abbrev main_while0b_call7_c : Ref sig .tc := ⟨.hbm, 114, rfl⟩
abbrev main_while0b_call7_c_0 : Ref sig .tc := ⟨.hbm, 115, rfl⟩
abbrev main_while0b_call7_c_1 : Ref sig .tc := ⟨.hbm, 116, rfl⟩
abbrev main_while0b_call7_c_2 : Ref sig .tc := ⟨.hbm, 117, rfl⟩
abbrev main_while0b_v71 : Ref sig .tc := ⟨.hbm, 118, rfl⟩
abbrev main_while0b_c_10 : Ref sig .tc := ⟨.hbm, 119, rfl⟩
abbrev main_while0b_v72 : Ref sig .tc := ⟨.hbm, 120, rfl⟩
abbrev main_v54 : Ref sig .tc := ⟨.hbm, 121, rfl⟩
abbrev main_v55 : Ref sig .tc := ⟨.hbm, 122, rfl⟩

abbrev nD : Nat := 1
abbrev τ : Topo := Topo.v7x

variable {F : FTy → Type} [FloatOps F]

abbrev main_while0_count : Scf.Loop 32 := ⟨0#32, 66#32, 1#32⟩
-- ==== GdnChunk.lean ====
abbrev S8448x4096 : Shape := ⟨2, ![8448, 4096]⟩
abbrev S8448x128 : Shape := ⟨2, ![8448, 128]⟩
abbrev S8448x2x2x16x2 : Shape := ⟨5, ![8448, 2, 2, 16, 2]⟩
abbrev S2x16x8448x2x2 : Shape := ⟨5, ![2, 16, 8448, 2, 2]⟩
abbrev S2x16x8448x4 : Shape := ⟨4, ![2, 16, 8448, 4]⟩
abbrev S8448x2x1x16x2 : Shape := ⟨5, ![8448, 2, 1, 16, 2]⟩
abbrev S8448x2x16x2 : Shape := ⟨4, ![8448, 2, 16, 2]⟩
abbrev S2x16x2x8448 : Shape := ⟨4, ![2, 16, 2, 8448]⟩
abbrev S256x256 : Shape := ⟨2, ![256, 256]⟩
abbrev S256x512 : Shape := ⟨2, ![256, 512]⟩
abbrev S1x2x256x4 : Shape := ⟨4, ![1, 2, 256, 4]⟩
abbrev S1x2x2x256 : Shape := ⟨4, ![1, 2, 2, 256]⟩
abbrev S4x128x128 : Shape := ⟨3, ![4, 128, 128]⟩
abbrev S16x192x128 : Shape := ⟨3, ![16, 192, 128]⟩
abbrev S64x64 : Shape := ⟨2, ![64, 64]⟩
abbrev S64x128 : Shape := ⟨2, ![64, 128]⟩
abbrev S1x1x64x1 : Shape := ⟨4, ![1, 1, 64, 1]⟩
abbrev S64x1 : Shape := ⟨2, ![64, 1]⟩
abbrev S1x1x1x64 : Shape := ⟨4, ![1, 1, 1, 64]⟩
abbrev S1x64 : Shape := ⟨2, ![1, 64]⟩
abbrev S1x1 : Shape := ⟨2, ![1, 1]⟩
abbrev S192x128 : Shape := ⟨2, ![192, 128]⟩
abbrev S192x64 : Shape := ⟨2, ![192, 64]⟩
abbrev S64x256 : Shape := ⟨2, ![64, 256]⟩
abbrev S128x256 : Shape := ⟨2, ![128, 256]⟩
abbrev S1x64x128 : Shape := ⟨3, ![1, 64, 128]⟩
abbrev S128x128 : Shape := ⟨2, ![128, 128]⟩
abbrev S1x128x128 : Shape := ⟨3, ![1, 128, 128]⟩
abbrev S1x192x128 : Shape := ⟨3, ![1, 192, 128]⟩

abbrev nBuf : Space → Nat
  | .hbm => 10
  | .vmem => 15
  | .smem => 0
  | _ => 0

abbrev bufTy : (tb : Table) → Fin (tcTables nBuf tb) → BufTy
  | .hbm, ⟨0, _⟩ => ⟨S8448x4096, .f32⟩
  | .hbm, ⟨1, _⟩ => ⟨S8448x4096, .f32⟩
  | .hbm, ⟨2, _⟩ => ⟨S8448x128, .f32⟩
  | .hbm, ⟨3, _⟩ => ⟨S8448x2x2x16x2, .f32⟩
  | .hbm, ⟨4, _⟩ => ⟨S2x16x8448x2x2, .f32⟩
  | .hbm, ⟨5, _⟩ => ⟨S2x16x8448x4, .f32⟩
  | .hbm, ⟨6, _⟩ => ⟨S8448x2x1x16x2, .f32⟩
  | .hbm, ⟨7, _⟩ => ⟨S8448x2x16x2, .f32⟩
  | .hbm, ⟨8, _⟩ => ⟨S2x16x2x8448, .f32⟩
  | .hbm, ⟨9, _⟩ => ⟨S8448x4096, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S1x2x256x4, .f32⟩
  | .local _ .vmem, ⟨7, _⟩ => ⟨S1x2x256x4, .f32⟩
  | .local _ .vmem, ⟨8, _⟩ => ⟨S1x2x2x256, .f32⟩
  | .local _ .vmem, ⟨9, _⟩ => ⟨S1x2x2x256, .f32⟩
  | .local _ .vmem, ⟨10, _⟩ => ⟨S256x512, .f32⟩
  | .local _ .vmem, ⟨11, _⟩ => ⟨S256x512, .f32⟩
  | .local _ .vmem, ⟨12, _⟩ => ⟨S4x128x128, .f32⟩
  | .local _ .vmem, ⟨13, _⟩ => ⟨S16x192x128, .bf16⟩
  | .local _ .vmem, ⟨14, _⟩ => ⟨S16x192x128, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GdnChunkRefIdeal.lean ====
abbrev S8448x4096 : Shape := ⟨2, ![8448, 4096]⟩
abbrev S8448x128 : Shape := ⟨2, ![8448, 128]⟩
abbrev S8448x2048 : Shape := ⟨2, ![8448, 2048]⟩
abbrev S8448x16x128 : Shape := ⟨3, ![8448, 16, 128]⟩
abbrev S8448x16x2x128 : Shape := ⟨4, ![8448, 16, 2, 128]⟩
abbrev S8448x32x128 : Shape := ⟨3, ![8448, 32, 128]⟩
abbrev S_ : Shape := ⟨0, ![]⟩
abbrev S8448x32 : Shape := ⟨2, ![8448, 32]⟩
abbrev S132x64x32 : Shape := ⟨3, ![132, 64, 32]⟩
abbrev S132x1x32 : Shape := ⟨3, ![132, 1, 32]⟩
abbrev S132x63x32 : Shape := ⟨3, ![132, 63, 32]⟩
abbrev S32x128x128 : Shape := ⟨3, ![32, 128, 128]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S32x1x1 : Shape := ⟨3, ![32, 1, 1]⟩
abbrev S32x1 : Shape := ⟨2, ![32, 1]⟩
abbrev S32x128x1 : Shape := ⟨3, ![32, 128, 1]⟩
abbrev S32x1x128 : Shape := ⟨3, ![32, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x4096, .f32⟩
  | .hbm, ⟨2, _⟩ => ⟨S8448x128, .f32⟩
  | .hbm, ⟨3, _⟩ => ⟨S8448x2048, .f32⟩
  | .hbm, ⟨4, _⟩ => ⟨S8448x16x128, .f32⟩
  | .hbm, ⟨5, _⟩ => ⟨S8448x16x2x128, .f32⟩
  | .hbm, ⟨6, _⟩ => ⟨S8448x32x128, .f32⟩
  | .hbm, ⟨7, _⟩ => ⟨S_, .f32⟩
  | .hbm, ⟨8, _⟩ => ⟨S8448x32x128, .f32⟩
  | .hbm, ⟨9, _⟩ => ⟨S8448x32x128, .f32⟩
  | .hbm, ⟨10, _⟩ => ⟨S8448x2048, .f32⟩
  | .hbm, ⟨11, _⟩ => ⟨S8448x16x128, .f32⟩
  | .hbm, ⟨12, _⟩ => ⟨S8448x16x2x128, .f32⟩
  | .hbm, ⟨13, _⟩ => ⟨S8448x32x128, .f32⟩
  | .hbm, ⟨14, _⟩ => ⟨S8448x32x128, .f32⟩
  | .hbm, ⟨15, _⟩ => ⟨S8448x32, .f32⟩
  | .hbm, ⟨16, _⟩ => ⟨S132x64x32, .f32⟩
  | .hbm, ⟨17, _⟩ => ⟨S_, .f32⟩
  | .hbm, ⟨18, _⟩ => ⟨S132x1x32, .f32⟩
  | .hbm, ⟨19, _⟩ => ⟨S132x63x32, .f32⟩
  | .hbm, ⟨20, _⟩ => ⟨S132x64x32, .f32⟩
  | .hbm, ⟨21, _⟩ => ⟨S132x64x32, .f32⟩
  | .hbm, ⟨22, _⟩ => ⟨S132x64x32, .f32⟩
  | .hbm, ⟨23, _⟩ => ⟨S8448x32, .f32⟩
  | .hbm, ⟨24, _⟩ => ⟨S8448x32, .f32⟩
  | .hbm, ⟨25, _⟩ => ⟨S_, .f32⟩
  | .hbm, ⟨26, _⟩ => ⟨S32x128x128, .f32⟩
  | .hbm, ⟨27, _⟩ => ⟨S_, .f32⟩
  | .hbm, ⟨28, _⟩ => ⟨S8448x32x128, .f32⟩
  | .hbm, ⟨29, _⟩ => ⟨S_, .i32⟩
  | .hbm, ⟨30, _⟩ => ⟨S8448x32x128, .f32⟩
  | .hbm, ⟨31, _⟩ => ⟨S8448x32x128, .f32⟩
  | .hbm, ⟨32, _⟩ => ⟨S8448x32x128, .f32⟩
  | .hbm, ⟨33, _⟩ => ⟨S8448x32, .f32⟩
  | .hbm, ⟨34, _⟩ => ⟨S8448x32, .f32⟩
  | .hbm, ⟨35, _⟩ => ⟨S_, .i32⟩
  | .hbm, ⟨36, _⟩ => ⟨S32x128x128, .f32⟩
  | .hbm, ⟨37, _⟩ => ⟨S8448x32x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S1x32x128, .f32⟩
  | .hbm, ⟨43, _⟩ => ⟨S32x128, .f32⟩
  | .hbm, ⟨44, _⟩ => ⟨S_, .i32⟩
  | .hbm, ⟨45, _⟩ => ⟨S_, .i32⟩
  | .hbm, ⟨46, _⟩ => ⟨S1x32x128, .f32⟩
  | .hbm, ⟨47, _⟩ => ⟨S32x128, .f32⟩
  | .hbm, ⟨48, _⟩ => ⟨S_, .i32⟩
  | .hbm, ⟨49, _⟩ => ⟨S_, .i32⟩
  | .hbm, ⟨50, _⟩ => ⟨S1x32x128, .f32⟩
  | .hbm, ⟨51, _⟩ => ⟨S32x128, .f32⟩
  | .hbm, ⟨52, _⟩ => ⟨S_, .i32⟩
  | .hbm, ⟨53, _⟩ => ⟨S1x32, .f32⟩
  | .hbm, ⟨54, _⟩ => ⟨S32, .f32⟩
  | .hbm, ⟨55, _⟩ => ⟨S_, .i32⟩
  | .hbm, ⟨56, _⟩ => ⟨S1x32, .f32⟩
  | .hbm, ⟨57, _⟩ => ⟨S32, .f32⟩
  | .hbm, ⟨58, _⟩ => ⟨S32x1x1, .f32⟩
  | .hbm, ⟨59, _⟩ => ⟨S32x128x128, .f32⟩
  | .hbm, ⟨60, _⟩ => ⟨S32x128x128, .f32⟩
  | .hbm, ⟨61, _⟩ => ⟨S32x128, .f32⟩
  | .hbm, ⟨62, _⟩ => ⟨S32x128, .f32⟩
  | .hbm, ⟨63, _⟩ => ⟨S32x1, .f32⟩
  | .hbm, ⟨64, _⟩ => ⟨S32x128, .f32⟩
  | .hbm, ⟨65, _⟩ => ⟨S32x128, .f32⟩
  | .hbm, ⟨66, _⟩ => ⟨S32x128x1, .f32⟩
  | .hbm, ⟨67, _⟩ => ⟨S32x1x128, .f32⟩
  | .hbm, ⟨68, _⟩ => ⟨S32x128x128, .f32⟩
  | .hbm, ⟨69, _⟩ => ⟨S32x128x128, .f32⟩
  | .hbm, ⟨70, _⟩ => ⟨S32x128x128, .f32⟩
  | .hbm, ⟨71, _⟩ => ⟨S32x128x128, .f32⟩
  | .hbm, ⟨72, _⟩ => ⟨S32x128, .f32⟩
  | .hbm, ⟨73, _⟩ => ⟨S1x32x128, .f32⟩
  | .hbm, ⟨74, _⟩ => ⟨S_, .i32⟩
  | .hbm, ⟨75, _⟩ => ⟨S_, .i32⟩
  | .hbm, ⟨76, _⟩ => ⟨S8448x32x128, .f32⟩
  | .hbm, ⟨77, _⟩ => ⟨S_, .i32⟩
  | .hbm, ⟨78, _⟩ => ⟨S_, .i32⟩
  | .hbm, ⟨79, _⟩ => ⟨S8448x4096, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_c : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev main_v22_6 : Ref sig .tc := ⟨.hbm, 36, rfl⟩
abbrev main_v22_7 : Ref sig .tc := ⟨.hbm, 37, rfl⟩
abbrev main_while0c_c_10 : Ref sig .tc := ⟨.hbm, 38, rfl⟩
abbrev main_while0c_v24 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v24 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v25 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_v0 : Ref sig .tc := ⟨.hbm, 50, rfl⟩
abbrev main_while0b_v26 : Ref sig .tc := ⟨.hbm, 51, rfl⟩
abbrev main_while0b_call3_c : Ref sig .tc := ⟨.hbm, 52, rfl⟩
abbrev main_while0b_call3_v0 : Ref sig .tc := ⟨.hbm, 53, rfl⟩
abbrev main_while0b_v27 : Ref sig .tc := ⟨.hbm, 54, rfl⟩
abbrev main_while0b_call4_c : Ref sig .tc := ⟨.hbm, 55, rfl⟩
abbrev main_while0b_call4_v0 : Ref sig .tc := ⟨.hbm, 56, rfl⟩
abbrev main_while0b_v28 : Ref sig .tc := ⟨.hbm, 57, rfl⟩
abbrev main_while0b_v29 : Ref sig .tc := ⟨.hbm, 58, rfl⟩
abbrev main_while0b_v30 : Ref sig .tc := ⟨.hbm, 59, rfl⟩
abbrev main_while0b_v31 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_call5_v0 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_v44 : Ref sig .tc := ⟨.hbm, 76, rfl⟩
abbrev main_while0b_c_10 : Ref sig .tc := ⟨.hbm, 77, rfl⟩
abbrev main_while0b_v45 : Ref sig .tc := ⟨.hbm, 78, rfl⟩
abbrev main_v23 : Ref sig .tc := ⟨.hbm, 79, rfl⟩

abbrev nD : Nat := 1
abbrev τ : Topo := Topo.v7x

variable {F : FTy → Type} [FloatOps F]

abbrev main_while0_count : Scf.Loop 32 := ⟨0#32, 8448#32, 1#32⟩
-- ==== Proof.RefRun.lean ====
/- The reference's run as one recursion: the chunk loop's carried values after any number of trips are `step` iterated
   from the values the reference computes before its loop, and the result is read from the last of them. -/
module

public import proofs.«01_k».proof.Proof.Gen.ReferenceIdeal.Run
public import proofs.«01_k».proof.Proof.Gen.ReferenceIdeal.Step

@[expose] public section

set_option maxRecDepth 16384

noncomputable section

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V : Valuation τ sig (Elt F)) (s : State F) (j : ℕ)

/-- The loop's buffers hold the state `s`, and its counter the number `j`. -/
structure At : Prop where
  carry : V (Proc.devRef .tc main_v50_6) = s.main_v50_6
  ys : V (Proc.devRef .tc main_v50_7) = s.main_v50_7
  states : V (Proc.devRef .tc main_v50_0) = s.main_v50_0
  decay : V (Proc.devRef .tc main_v50_1) = s.main_v50_1
  query : V (Proc.devRef .tc main_v50_2) = s.main_v50_2
  decayIn : V (Proc.devRef .tc main_v50_3) = s.main_v50_3
  diag : V (Proc.devRef .tc main_v50_4) = s.main_v50_4
  count : V (Proc.devRef .tc main_v50_5) = constantI S_ 32 (BitVec.ofNat 32 j)

variable {V s j}

/-- One trip's new carry is the step's. -/
theorem carry_step (h : At V s j) : step_main_v50_6 V = (step j s).main_v50_6 := by
  unfold step_main_v50_6 Cert.ReferenceIdeal.Step.step
  simp only [h.carry, h.states, h.decay, h.count]
  rfl

/-- One trip's new outputs are the step's. -/
theorem ys_step (h : At V s j) : step_main_v50_7 V = (step j s).main_v50_7 := by
  unfold step_main_v50_7 Cert.ReferenceIdeal.Step.step
  simp only [h.carry, h.ys, h.query, h.decayIn, h.diag, h.count]
  rfl

/-- One trip adds one to the counter. -/
theorem count_step (h : At V s j) : step_main_v50_5 V = constantI S_ 32 (BitVec.ofNat 32 (j + 1)) := by
  unfold step_main_v50_5
  rw [h.count]
  funext i
  show BitVec.ofNat 32 j + 1#32 = BitVec.ofNat 32 (j + 1)
  simp only [BitVec.ofNat_add]

/-- A trip takes buffers that hold a state to buffers that hold its step. -/
theorem at_step (h : At V s j) : At (STEP V) (step j s) (j + 1) where
  carry := (STEP_main_v50_6 V).trans (carry_step h)
  ys := (STEP_main_v50_7 V).trans (ys_step h)
  count := (STEP_main_v50_5 V).trans (count_step h)
  states := (STEP_main_v50_0 V).trans h.states
  decay := (STEP_main_v50_1 V).trans h.decay
  query := (STEP_main_v50_2 V).trans h.query
  decayIn := (STEP_main_v50_3 V).trans h.decayIn
  diag := (STEP_main_v50_4 V).trans h.diag

/-- The result as a reading of the state. -/
theorem out_at (h : At V s j) : out_main_v51 V = Cert.ReferenceIdeal.Step.R_main_v51 s := by
  unfold out_main_v51 Cert.ReferenceIdeal.Step.R_main_v51
  rw [h.ys]
  rfl

/-- The states of the loop: before trip `n` the loop holds `states X D A n`. -/
def states (X : FVec F S8448x6144 .f32) (D : FVec F S8448x128 .f32) (A : FVec F S8448x128 .f32) : ℕ → State F
  | 0 => init X D A
  | n + 1 => step n (states X D A n)

variable (m : (ℓ : Loc nD τ sig) → Buf (Elt F) ℓ) (c : Dev nD)

/-- The states of the loop, over the memory the run starts from. -/
abbrev statesOf (n : ℕ) : State F :=
  states (m ((c.tc : Thread nD τ).loc main_arg0)) (m ((c.tc : Thread nD τ).loc main_arg1)) (m ((c.tc : Thread nD τ).loc main_arg2)) n

set_option maxRecDepth 65536 in
set_option maxHeartbeats 1000000 in
/-- The operations before the loop leave the first state. -/
theorem at_entry : At (entryContents preI m c) (statesOf m c 0) 0 := by
  constructor <;> (simp only [entryContents, afterL_cons, afterL_nil]; after_reads_simp) <;> rfl

/-- Before trip `n` the loop holds state number `n`. -/
theorem at_iter : ∀ n, At (STEP^[n] (entryContents preI m c)) (statesOf m c n) n
  | 0 => at_entry m c
  | n + 1 => by
    rw [Function.iterate_succ_apply']
    exact at_step (at_iter n)

/-- The reference ends, with its result read from state number 66 and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v51) = Cert.ReferenceIdeal.Step.R_main_v51 (statesOf m c 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (out_at (at_iter m c 66)), (h c).2.1, (h c).2.2.1, (h c).2.2.2⟩) (Value.run m ρ)

end Cert.ReferenceIdeal.Iter

end
-- ==== Proof.HeadMask.lean ====
/- The kernel's two masks: which of its 512 lanes belong to which of a group's eight heads, and which rows of a chunk come
   no later than which. -/
module

public import proofs.«01_k».proof.Proof.Gen.KernelIdeal.Skeleton
public import Idealize.ShloMosaic.Lib.Pointwise

@[expose] public section

set_option maxRecDepth 16384

noncomputable section

namespace Cert.KernelIdeal.Payload

open Idealize.ShloMosaic Idealize.ShloMosaic.TcCoe Idealize.SL.Sem Cert.KernelIdeal Cert.KernelIdeal.Gen

/-- Which lanes belong to which head: head `k` has the lanes `64 k` to `64 k + 63`. -/
theorem headMask (k : Fin 8) (q : Fin 512) :
    k0_pay58 (ix2 k q) = if q.val / 64 = k.val then 1#1 else 0#1 := by
  revert k q
  decide +kernel

/-- The mask of the rows that come no later: row `s` reaches row `l` when `s ≤ l`. -/
theorem earlier_apply (l s : Fin 128) : k0_pay3 (ix2 l s) = if s ≤ l then 1#1 else 0#1 := by
  revert l s
  decide +kernel

end Cert.KernelIdeal.Payload

end
-- ==== Proof.Column.lean ====
/- One column of one chunk of the state-space scan, over the extended reals: what the chunk adds to the output, and the
   state it hands on. A column is one position `p` of one head; `x` is the head's input at the column, `b` and `c` the
   group's input and output projections, `dt` the head's step sizes, `a` its decays summed from the chunk's first row. -/
module

public import Idealize.ShloMosaic.Lib.Pointwise

@[expose] public section

noncomputable section

namespace Cert.Column

open Idealize.ShloMosaic

/-- The decay from row `s` to row `l` of the chunk: nothing reaches a row from a later one. -/
def gate (a a' : Fin 128 → EReal) (l s : Fin 128) : EReal :=
  if s ≤ l then Ideal.exp (a l - a' s) else 0

/-- What the chunk's own rows give row `l`. -/
def ownPart (x dt a a' : Fin 128 → EReal) (b c : Fin 128 → Fin 128 → EReal) (l : Fin 128) : EReal :=
  ∑ s, (∑ n, c l n * b s n) * gate a a' l s * (x s * dt s)

/-- What the state `S` the chunk enters with gives row `l`. -/
def carried (a : Fin 128 → EReal) (c : Fin 128 → Fin 128 → EReal) (S : Fin 128 → EReal) (l : Fin 128) : EReal :=
  (∑ n, c l n * S n) * Ideal.exp (a l)

/-- The state the chunk leaves. -/
def next (x dt a : Fin 128 → EReal) (b : Fin 128 → Fin 128 → EReal) (S : Fin 128 → EReal) (n : Fin 128) : EReal :=
  S n * Ideal.exp (a 127) + ∑ s, b s n * (x s * dt s * Ideal.exp (a 127 - a s))

/-- A value that is a real number. -/
def Fin' (v : EReal) : Prop := ∃ r : ℝ, v = r

theorem fin_exp {v : EReal} (h : Fin' v) : Fin' (Ideal.exp v) := by
  obtain ⟨r, rfl⟩ := h
  exact ⟨Real.exp r, rfl⟩

theorem fin_sub {v w : EReal} (h : Fin' v) (g : Fin' w) : Fin' (v - w) := by
  obtain ⟨r, rfl⟩ := h
  obtain ⟨q, rfl⟩ := g
  exact ⟨r - q, (EReal.coe_sub r q).symm⟩

/-- A real number less itself is nothing. -/
theorem sub_self_of_fin {v : EReal} (h : Fin' v) : v - v = 0 := by
  obtain ⟨r, rfl⟩ := h
  rw [← EReal.coe_sub, sub_self, EReal.coe_zero]

end Cert.Column

end
-- ==== Proof.Payload.lean ====
/- What the kernel computes at one grid point, named by what it is: the spread of a column per head over the head's 64
   lanes, the chunk's own products, the state. Each of the kernel's stored values is one of these, for either of the
   point's two chunks and any head. -/
module

public import proofs.«01_k».proof.Proof.HeadMask
public import proofs.«01_k».proof.Proof.Column

@[expose] public section

set_option maxRecDepth 16384

noncomputable section

namespace Cert.KernelIdeal.Payload

open Idealize.ShloMosaic Idealize.ShloMosaic.TcCoe Idealize.SL.Sem Cert.KernelIdeal Cert.KernelIdeal.Gen Cert.Column

/-- The 0/1 matrix of which lanes belong to which head. -/
def headMat : FVec Ideal S8x512 .bf16 :=
  truncf .bf16 (select k0_pay58 (broadcast S8x512 (Scalar.ofBits (F := Ideal) .f32 0x3F800000#32))
    (broadcast S8x512 (Scalar.ofBits (F := Ideal) .f32 0x00000000#32))) bitsLt_bf16_f32

/-- A column per head spread over the lanes, in three parts that add up to it. -/
def spread (v : FVec Ideal S128x8 .f32) : FVec Ideal S128x512 .f32 :=
  let h : FVec Ideal S128x8 .bf16 := truncf .bf16 v bitsLt_bf16_f32
  let r1 : FVec Ideal S128x8 .f32 := subf v (extf .f32 h bitsLt_bf16_f32)
  let h1 : FVec Ideal S128x8 .bf16 := truncf .bf16 r1 bitsLt_bf16_f32
  let r2 : FVec Ideal S128x8 .f32 := subf r1 (extf .f32 h1 bitsLt_bf16_f32)
  let h2 : FVec Ideal S128x8 .bf16 := truncf .bf16 r2 bitsLt_bf16_f32
  let z : FVec Ideal S128x512 .f32 := constant S128x512 .f32 0x00000000#32
  addf (addf (matmul dot_S128x8_S8x512_S128x512_1_0_0_1_n_n none h headMat z)
    (matmul dot_S128x8_S8x512_S128x512_1_0_0_1_n_n none h1 headMat z))
    (matmul dot_S128x8_S8x512_S128x512_1_0_0_1_n_n none h2 headMat z)

/-- The same for one row. -/
def spreadRow (v : FVec Ideal S1x8 .f32) : FVec Ideal S1x512 .f32 :=
  let h : FVec Ideal S1x8 .bf16 := truncf .bf16 v bitsLt_bf16_f32
  let r1 : FVec Ideal S1x8 .f32 := subf v (extf .f32 h bitsLt_bf16_f32)
  let h1 : FVec Ideal S1x8 .bf16 := truncf .bf16 r1 bitsLt_bf16_f32
  let r2 : FVec Ideal S1x8 .f32 := subf r1 (extf .f32 h1 bitsLt_bf16_f32)
  let h2 : FVec Ideal S1x8 .bf16 := truncf .bf16 r2 bitsLt_bf16_f32
  let z : FVec Ideal S1x512 .f32 := constant S1x512 .f32 0x00000000#32
  addf (addf (matmul dot_S1x8_S8x512_S1x512_1_0_0_1_n_n none h headMat z)
    (matmul dot_S1x8_S8x512_S1x512_1_0_0_1_n_n none h1 headMat z))
    (matmul dot_S1x8_S8x512_S1x512_1_0_0_1_n_n none h2 headMat z)

/-- The head of a lane. -/
def head (q : Fin 512) : Fin 8 := ⟨q.val / 64, by omega⟩

/-- A sum of a column against the head mask keeps the lane's head alone. -/
theorem sum_mask (f : Fin 8 → EReal) (q : Fin 512) :
    (∑ k : Fin 8, f k * (if q.val / 64 = k.val then 1 else 0)) = f (head q) := by
  rw [Finset.sum_eq_single (head q)]
  · rw [if_pos (show q.val / 64 = (head q).val from rfl), mul_one]
  · intro k _ hk
    rw [if_neg (fun h => hk (Fin.ext h.symm)), mul_zero]
  · intro h
    exact absurd (Finset.mem_univ _) h

/-- The matrix has a one where the lane belongs to the head. -/
theorem headMat_apply (k : Fin 8) (q : Fin 512) :
    headMat (ix2 k q) = if q.val / 64 = k.val then 1 else 0 := by
  pointwise [headMat, headMask]
  split <;> rfl

/-- The three parts of a real number, each against the mask, add up to the number at the lane's head. -/
theorem sum_parts (f : Fin 8 → EReal) (q : Fin 512) (h : Fin' (f (head q))) :
    (((∑ x, f x * if q.val / 64 = x.val then 1 else 0) + ∑ x, (f x - f x) * if q.val / 64 = x.val then 1 else 0) +
      ∑ x, (f x - f x - (f x - f x)) * if q.val / 64 = x.val then 1 else 0) = f (head q) := by
  rw [sum_mask f q, sum_mask (fun x => f x - f x) q, sum_mask (fun x => f x - f x - (f x - f x)) q]
  simp only [sub_self_of_fin h, sub_zero, add_zero]

/-- The spread column at a lane is the column at the lane's head. -/
theorem spread_apply (v : FVec Ideal S128x8 .f32) (l : Fin 128) (q : Fin 512) (h : Fin' (v (ix2 l (head q)))) :
    spread v (ix2 l q) = v (ix2 l (head q)) := by
  pointwise [spread, headMat_apply]
  exact sum_parts (fun x => v (ix2 l x)) q h

/-- The spread row at a lane is the row at the lane's head. -/
theorem spreadRow_apply (v : FVec Ideal S1x8 .f32) (q : Fin 512) (h : Fin' (v (ix2 0 (head q)))) :
    spreadRow v (ix2 0 q) = v (ix2 0 (head q)) := by
  pointwise [spreadRow, headMat_apply]
  exact sum_parts (fun x => v (ix2 0 x)) q h

/-- The products of the output projections with the input projections, row by row. -/
def cbVec (b c : FVec Ideal S128x128 .f32) : FVec Ideal S128x128 .f32 :=
  matmul dot_S128x128_S128x128_S128x128_1_1_0_0_n_n none c b (constant S128x128 .f32 0x00000000#32)

/-- The inputs, each lane scaled by its head's step size. -/
def xdtVec (x : FVec Ideal S128x512 .f32) (dt : FVec Ideal S128x8 .f32) : FVec Ideal S128x512 .f32 :=
  mulf x (spread dt)

/-- One head's decays between the rows, nothing from a later row: the head's decays down the rows, and along them. -/
def gateVec (a : FVec Ideal S128x8 .f32) (a' : FVec Ideal S8x128 .f32) (r : ℕ) (h1 : S128x8.Slices ![0, r] S128x1)
    (h2 : S8x128.Slices ![r, 0] S1x128) : FVec Ideal S128x128 .f32 :=
  let z : FVec Ideal S128x128 .f32 := broadcast S128x128 (Scalar.ofBits (F := Ideal) .f32 0x00000000#32)
  select k0_pay3
    (exp (select k0_pay3
      (subf (broadcastTo S128x128 (extractStridedSlice S128x1 ![0, r] a h1) broadcasts_S128x1_S128x128)
        (broadcastTo S128x128 (extractStridedSlice S1x128 ![r, 0] a' h2) broadcasts_S1x128_S128x128)) z)) z

/-- One head's lanes of the chunk's own part of the output. -/
def innerVec (b c : FVec Ideal S128x128 .f32) (x : FVec Ideal S128x512 .f32) (dt a : FVec Ideal S128x8 .f32)
    (a' : FVec Ideal S8x128 .f32) (r o : ℕ) (h1 : S128x8.Slices ![0, r] S128x1) (h2 : S8x128.Slices ![r, 0] S1x128)
    (h3 : S128x512.Slices ![0, o] S128x64) : FVec Ideal S128x64 .f32 :=
  matmul dot_S128x128_S128x64_S128x64_1_0_0_1_n_n none (mulf (cbVec b c) (gateVec a a' r h1 h2))
    (extractStridedSlice S128x64 ![0, o] (xdtVec x dt) h3) (constant S128x64 .f32 0x00000000#32)

/-- The last row of the decays. -/
def lastRow (a : FVec Ideal S128x8 .f32) : FVec Ideal S1x8 .f32 :=
  extractStridedSlice S1x8 ![127, 0] a slices_S128x8_o127_0_S1x8

/-- What the chunk adds to the state. -/
def gainVec (b : FVec Ideal S128x128 .f32) (x : FVec Ideal S128x512 .f32) (dt a : FVec Ideal S128x8 .f32) :
    FVec Ideal S128x512 .f32 :=
  matmul dot_S128x128_S128x512_S128x512_0_0_1_1_n_n none b
    (mulf (xdtVec x dt) (spread (exp (subf (broadcastTo S128x8 (lastRow a) broadcasts_S1x8_S128x8) a))))
    (constant S128x512 .f32 0x00000000#32)

/-- The state the chunk leaves. -/
def nextVec (b : FVec Ideal S128x128 .f32) (x : FVec Ideal S128x512 .f32) (dt a : FVec Ideal S128x8 .f32)
    (S : FVec Ideal S128x512 .f32) : FVec Ideal S128x512 .f32 :=
  addf (mulf S (broadcastTo S128x512 (spreadRow (exp (lastRow a))) broadcasts_S1x512_S128x512)) (gainVec b x dt a)

/-- What the state `S` the chunk enters with gives its output. -/
def outerVec (c : FVec Ideal S128x128 .f32) (a : FVec Ideal S128x8 .f32) (S : FVec Ideal S128x512 .f32) :
    FVec Ideal S128x512 .f32 :=
  mulf (matmul dot_S128x128_S128x512_S128x512_1_0_0_1_n_n none c S (constant S128x512 .f32 0x00000000#32))
    (spread (exp a))

theorem gateVec_apply (a : FVec Ideal S128x8 .f32) (a' : FVec Ideal S8x128 .f32) (r : Fin 8)
    (h1 : S128x8.Slices ![0, r.val] S128x1) (h2 : S8x128.Slices ![r.val, 0] S1x128) (l s : Fin 128) :
    gateVec a a' r.val h1 h2 (ix2 l s) = gate (fun l => a (ix2 l r)) (fun s => a' (ix2 r s)) l s := by
  pointwise [gateVec, earlier_apply, gate]
  by_cases h : s ≤ l
  · simp only [if_pos h]
    rfl
  · simp only [if_neg h]
    rfl

theorem innerVec_apply (b c : FVec Ideal S128x128 .f32) (x : FVec Ideal S128x512 .f32) (dt a : FVec Ideal S128x8 .f32)
    (a' : FVec Ideal S8x128 .f32) (r : Fin 8) (o : ℕ) (ho : o = 64 * r.val) (h1 : S128x8.Slices ![0, r.val] S128x1) (h2 : S8x128.Slices ![r.val, 0] S1x128)
    (h3 : S128x512.Slices ![0, o] S128x64) (l : Fin 128) (p : Fin 64) (q : Fin 512) (hq : q.val = o + p.val)
    (hdt : ∀ s, Fin' (dt (ix2 s r))) :
    innerVec b c x dt a a' r.val o h1 h2 h3 (ix2 l p) =
      ownPart (fun s => x (ix2 s q)) (fun s => dt (ix2 s r)) (fun l => a (ix2 l r)) (fun s => a' (ix2 r s))
        (fun s n => b (ix2 s n)) (fun l n => c (ix2 l n)) l := by
  pointwise [innerVec, cbVec, xdtVec, ownPart, gateVec_apply]
  have hq' : (⟨o + p.val, by omega⟩ : Fin 512) = q := Fin.ext hq.symm
  have hr : head q = r := Fin.ext (by show q.val / 64 = r.val; omega)
  subst hr
  refine Finset.sum_congr rfl fun s _ => ?_
  rw [hq', spread_apply dt s q (hdt s)]

theorem nextVec_apply (b : FVec Ideal S128x128 .f32) (x : FVec Ideal S128x512 .f32) (dt a : FVec Ideal S128x8 .f32)
    (S : FVec Ideal S128x512 .f32) (n : Fin 128) (q : Fin 512) (hdt : ∀ s, Fin' (dt (ix2 s (head q))))
    (ha : ∀ s, Fin' (a (ix2 s (head q)))) :
    nextVec b x dt a S (ix2 n q) =
      next (fun s => x (ix2 s q)) (fun s => dt (ix2 s (head q))) (fun s => a (ix2 s (head q)))
        (fun s n => b (ix2 s n)) (fun n => S (ix2 n q)) n := by
  pointwise [nextVec, gainVec, xdtVec, next]
  have hlast : ∀ k : Fin 8, lastRow a (ix2 0 k) = a (ix2 127 k) := fun k => by pointwise [lastRow]
  have h0 : spreadRow (exp (lastRow a)) (ix2 0 q) = Ideal.exp (a (ix2 127 (head q))) := by
    have e : exp (lastRow a) (ix2 0 (head q)) = Ideal.exp (a (ix2 127 (head q))) := by
      pointwise [hlast]
    rw [spreadRow_apply _ _ (e ▸ fin_exp (ha 127)), e]
  have h1 : ∀ s, spread (exp (subf (broadcastTo S128x8 (lastRow a) broadcasts_S1x8_S128x8) a)) (ix2 s q)
      = Ideal.exp (a (ix2 127 (head q)) - a (ix2 s (head q))) := fun s => by
    have e : exp (subf (broadcastTo S128x8 (lastRow a) broadcasts_S1x8_S128x8) a) (ix2 s (head q))
        = Ideal.exp (a (ix2 127 (head q)) - a (ix2 s (head q))) := by
      pointwise [hlast]
    rw [spread_apply _ _ _ (e ▸ fin_exp (fin_sub (ha 127) (ha s))), e]
  rw [h0]
  refine congrArg₂ (· + ·) rfl (Finset.sum_congr rfl fun s _ => ?_)
  rw [h1, spread_apply dt s q (hdt s)]

theorem outerVec_apply (c : FVec Ideal S128x128 .f32) (a : FVec Ideal S128x8 .f32)
    (S : FVec Ideal S128x512 .f32) (l : Fin 128) (q : Fin 512) (ha : ∀ s, Fin' (a (ix2 s (head q)))) :
    outerVec c a S (ix2 l q) =
      carried (fun s => a (ix2 s (head q))) (fun l n => c (ix2 l n)) (fun n => S (ix2 n q)) l := by
  pointwise [outerVec, carried]
  have e : exp a (ix2 l (head q)) = Ideal.exp (a (ix2 l (head q))) := by pointwise
  rw [spread_apply _ _ _ (e ▸ fin_exp (ha l)), e]

end Cert.KernelIdeal.Payload

end
-- ==== Proof.Tile.lean ====
/- What the kernel leaves after one grid point, over the extended reals: the point's two chunks, eight heads, 512 lanes. -/
module

public import proofs.«01_k».proof.Proof.Payload
public import proofs.«01_k».proof.Proof.Gen.KernelIdeal.Value
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.KernelIdeal.Tile

open Idealize.ShloMosaic Idealize.ShloMosaic.TcCoe Idealize.ShloMosaic.Tactic Idealize.SL.Sem
open Cert.KernelIdeal Cert.KernelIdeal.Gen Cert.KernelIdeal.Payload Cert.Column

/-- The blocks a point reads: inputs, input projections, output projections, step sizes with decays beside them, decays
    along the rows. -/
structure Blocks where
  x : Vec Ideal S256x512 .f32
  b : Vec Ideal S256x128 .f32
  c : Vec Ideal S256x128 .f32
  da : Vec Ideal S1x1x256x16 .f32
  ar : Vec Ideal S1x1x8x256 .f32

/-- Row `s` of chunk `j` among the block's. -/
def row (j : Fin 2) (s : Fin 128) : Fin 256 := ⟨128 * j.val + s.val, by omega⟩

variable (B : Blocks) (j : Fin 2) (q : Fin 512) (r : Fin 8)

def xs (s : Fin 128) : EReal := B.x (ix2 (row j s) q)
def bs (s n : Fin 128) : EReal := B.b (ix2 (row j s) n)
def cs (l n : Fin 128) : EReal := B.c (ix2 (row j l) n)
def dts (s : Fin 128) : EReal := B.da (ix4 0 0 (row j s) ⟨r.val, by omega⟩)
def acs (s : Fin 128) : EReal := B.da (ix4 0 0 (row j s) ⟨8 + r.val, by omega⟩)
def ars (s : Fin 128) : EReal := B.ar (ix4 0 0 r (row j s))

/-- What a chunk's own rows give its row `l` at a lane. -/
def own (l : Fin 128) : EReal :=
  ownPart (xs B j q) (dts B j (head q)) (acs B j (head q)) (ars B j (head q)) (bs B j) (cs B j) l

/-- The state a chunk leaves at a lane. -/
def after (S : Fin 128 → EReal) (n : Fin 128) : EReal :=
  next (xs B j q) (dts B j (head q)) (acs B j (head q)) (bs B j) S n

/-- What the state a chunk enters with gives its row `l` at a lane. -/
def thru (S : Fin 128 → EReal) (l : Fin 128) : EReal :=
  carried (acs B j (head q)) (cs B j) S l

/-- Every step size and decay of the point is a real number. -/
def AllFin : Prop := ∀ i, Fin' (B.da i)

/-! ## A chunk's vectors, as the kernel loads them -/

theorem inbRows (w : ℕ) (a : Fin 2) : (![128 * j.val, 0] : Fin 2 → ℕ) a + (![128, w] : Fin 2 → ℕ) a ≤ (![256, w] : Fin 2 → ℕ) a := by
  fin_cases a <;> simp <;> omega

theorem inbDa (o : ℕ) (ho : o ≤ 8) (a : Fin 4) :
    (![0, 0, 128 * j.val, o] : Fin 4 → ℕ) a + (![1, 1, 128, 8] : Fin 4 → ℕ) a ≤ (![1, 1, 256, 16] : Fin 4 → ℕ) a := by
  fin_cases a <;> simp <;> omega

theorem inbAr (a : Fin 4) :
    (![0, 0, 0, 128 * j.val] : Fin 4 → ℕ) a + (![1, 1, 8, 128] : Fin 4 → ℕ) a ≤ (![1, 1, 8, 256] : Fin 4 → ℕ) a := by
  fin_cases a <;> simp <;> omega

theorem inbTile (a : Fin 2) :
    (![128 * j.val, 64 * r.val] : Fin 2 → ℕ) a + (![128, 64] : Fin 2 → ℕ) a ≤ (![256, 512] : Fin 2 → ℕ) a := by
  fin_cases a <;> simp <;> omega

def xV : FVec Ideal S128x512 .f32 := View.ld B.x (Rect.unit ![128 * j.val, 0] ![128, 512] (inbRows j 512))
def bV : FVec Ideal S128x128 .f32 := View.ld B.b (Rect.unit ![128 * j.val, 0] ![128, 128] (inbRows j 128))
def cV : FVec Ideal S128x128 .f32 := View.ld B.c (Rect.unit ![128 * j.val, 0] ![128, 128] (inbRows j 128))
def dtL : Vec Ideal S1x1x128x8 .f32 := View.ld B.da (Rect.unit ![0, 0, 128 * j.val, 0] ![1, 1, 128, 8] (inbDa j 0 (by omega)))
def aL : Vec Ideal S1x1x128x8 .f32 := View.ld B.da (Rect.unit ![0, 0, 128 * j.val, 8] ![1, 1, 128, 8] (inbDa j 8 (by omega)))
def arL : Vec Ideal S1x1x8x128 .f32 := View.ld B.ar (Rect.unit ![0, 0, 0, 128 * j.val] ![1, 1, 8, 128] (inbAr j))
def dtV : FVec Ideal S128x8 .f32 := shapeCast S128x8 (dtL B j) shapeCasts_S1x1x128x8_S128x8
def aV : FVec Ideal S128x8 .f32 := shapeCast S128x8 (aL B j) shapeCasts_S1x1x128x8_S128x8
def arV : FVec Ideal S8x128 .f32 := shapeCast S8x128 (arL B j) shapeCasts_S1x1x8x128_S8x128

theorem xV_apply (s : Fin 128) (q : Fin 512) : xV B j (ix2 s q) = xs B j q s :=
  View.ld_unit_apply_of B.x _ _ _ _ _ (fun a => by fin_cases a <;> simp [row])

theorem bV_apply (s n : Fin 128) : bV B j (ix2 s n) = bs B j s n :=
  View.ld_unit_apply_of B.b _ _ _ _ _ (fun a => by fin_cases a <;> simp [row])

theorem cV_apply (s n : Fin 128) : cV B j (ix2 s n) = cs B j s n :=
  View.ld_unit_apply_of B.c _ _ _ _ _ (fun a => by fin_cases a <;> simp [row])

theorem dtL_apply (s : Fin 128) (r : Fin 8) : dtL B j (ix4 0 0 s r) = dts B j r s :=
  View.ld_unit_apply_of B.da _ _ _ _ _ (fun a => by fin_cases a <;> simp [row])

theorem aL_apply (s : Fin 128) (r : Fin 8) : aL B j (ix4 0 0 s r) = acs B j r s :=
  View.ld_unit_apply_of B.da _ _ _ _ _ (fun a => by fin_cases a <;> simp [row])

theorem arL_apply (s : Fin 128) (r : Fin 8) : arL B j (ix4 0 0 r s) = ars B j r s :=
  View.ld_unit_apply_of B.ar _ _ _ _ _ (fun a => by fin_cases a <;> simp [row])

theorem dtV_apply (s : Fin 128) (r : Fin 8) : dtV B j (ix2 s r) = dts B j r s := by
  pointwise [dtV, dtL_apply]

theorem aV_apply (s : Fin 128) (r : Fin 8) : aV B j (ix2 s r) = acs B j r s := by
  pointwise [aV, aL_apply]

theorem arV_apply (s : Fin 128) (r : Fin 8) : arV B j (ix2 r s) = ars B j r s := by
  pointwise [arV, arL_apply]

theorem slicesCol : S128x8.Slices ![0, r.val] S128x1 := ⟨rfl, fun a => by fin_cases a <;> simp <;> omega⟩
theorem slicesRow : S8x128.Slices ![r.val, 0] S1x128 := ⟨rfl, fun a => by fin_cases a <;> simp <;> omega⟩
theorem slicesLanes : S128x512.Slices ![0, 64 * r.val] S128x64 := ⟨rfl, fun a => by fin_cases a <;> simp <;> omega⟩

/-! ## A chunk's values -/

/-- One head's lanes of a chunk's rows, as a box of the block. -/
def tile : Rect S256x512 := Rect.unit ![128 * j.val, 64 * r.val] ![128, 64] (inbTile j r)

theorem tile_emb (l : Fin 128) (p : Fin 64) :
    (tile j r).emb (ix2 l p) = ix2 (row j l) ⟨64 * r.val + p.val, by omega⟩ :=
  funext fun a => Fin.ext (by
    refine (Rect.idx_unit_val _ _ _ _ a).trans ?_
    fin_cases a <;> simp [row])

/-- One head's lanes of a chunk's own part, as the kernel stores it. -/
def piece (jr : Fin 2 × Fin 8) : View.Piece (Elt Ideal) S256x512 .f32 :=
  ⟨tile jr.1 jr.2,
    innerVec (bV B jr.1) (cV B jr.1) (xV B jr.1) (dtV B jr.1) (aV B jr.1) (arV B jr.1) jr.2.val (64 * jr.2.val)
      (slicesCol jr.2) (slicesRow jr.2) (slicesLanes jr.2)⟩

/-- The sixteen, in the order the kernel stores them, the last first. -/
def pieces : List (View.Piece (Elt Ideal) S256x512 .f32) :=
  [(1, 7), (1, 6), (1, 5), (1, 4), (1, 3), (1, 2), (1, 1), (1, 0),
    (0, 7), (0, 6), (0, 5), (0, 4), (0, 3), (0, 2), (0, 1), (0, 0)].map (piece B)

/-- The own part over the whole block. -/
def ownAt (y : S256x512.Idx) : EReal :=
  own B ⟨(y 0).val / 128, by have := (y 0).isLt; change (y 0).val < 256 at this; omega⟩ (y 1)
    ⟨(y 0).val % 128, Nat.mod_lt _ (by omega)⟩

theorem ownAt_row (l : Fin 128) : ownAt B (ix2 (row j l) q) = own B j q l := by
  have h1 : (128 * j.val + l.val) / 128 = j.val := by omega
  have h2 : (128 * j.val + l.val) % 128 = l.val := by omega
  simp only [ownAt, row, ix2_0, ix2_1, h1, h2]

theorem piece_apply (h : AllFin B) (jr : Fin 2 × Fin 8) (y : S128x64.Idx) :
    (piece B jr).2 y = ownAt B ((piece B jr).1.emb y) := by
  obtain ⟨j, r⟩ := jr
  obtain ⟨l, p, rfl⟩ : ∃ l p, y = ix2 l p := ⟨y 0, y 1, eq_ix2 y⟩
  have hq : 64 * r.val + p.val < 512 := by omega
  have hr : head ⟨64 * r.val + p.val, hq⟩ = r := Fin.ext (by show (64 * r.val + p.val) / 64 = r.val; omega)
  show _ = ownAt B ((tile j r).emb (ix2 l p))
  rw [tile_emb, ownAt_row]
  refine (innerVec_apply (bV B j) (cV B j) (xV B j) (dtV B j) (aV B j) (arV B j) r (64 * r.val) rfl _ _ _ l p
    ⟨64 * r.val + p.val, hq⟩ rfl (fun s => (dtV_apply B j s r).symm ▸ h _)).trans ?_
  simp only [own, hr, xV_apply, bV_apply, cV_apply, dtV_apply, aV_apply, arV_apply]

/-- The sixteen pieces leave the own part. -/
theorem canon_pieces (h : AllFin B) (y : S256x512.Idx) : View.canon (pieces B) y = ownAt B y := by
  refine View.canon_apply_of_pieces (ownAt B) (pieces B) (fun p hp x => ?_) y ?_
  · obtain ⟨jr, _, rfl⟩ := List.mem_map.mp hp
    exact piece_apply B h jr x
  · exact View.cover_of_tiledBy (pieces B) ![128, 64] (by sl_kernel_rfl) y

/-- The state after the point's first chunk, and after both. -/
def state1 (S : FVec Ideal S128x512 .f32) : FVec Ideal S128x512 .f32 := nextVec (bV B 0) (xV B 0) (dtV B 0) (aV B 0) S
def state2 (S : FVec Ideal S128x512 .f32) : FVec Ideal S128x512 .f32 := nextVec (bV B 1) (xV B 1) (dtV B 1) (aV B 1) (state1 B S)

theorem next_apply (h : AllFin B) (S : FVec Ideal S128x512 .f32) (n : Fin 128) (q : Fin 512) :
    nextVec (bV B j) (xV B j) (dtV B j) (aV B j) S (ix2 n q) = after B j q (fun n => S (ix2 n q)) n := by
  rw [nextVec_apply _ _ _ _ _ _ _ (fun s => (dtV_apply B j s _).symm ▸ h _) (fun s => (aV_apply B j s _).symm ▸ h _)]
  simp only [after, xV_apply, bV_apply, dtV_apply, aV_apply]

theorem thru_apply (h : AllFin B) (S : FVec Ideal S128x512 .f32) (l : Fin 128) (q : Fin 512) :
    outerVec (cV B j) (aV B j) S (ix2 l q) = thru B j q (fun n => S (ix2 n q)) l := by
  rw [outerVec_apply _ _ _ _ _ (fun s => (aV_apply B j s _).symm ▸ h _)]
  simp only [thru, cV_apply, aV_apply]

/-- The state a chunk of the point enters with, when the point enters with `S`. -/
def entry (S : Fin 128 → EReal) : Fin 128 → EReal := if j = 0 then S else after B 0 q S

/-- The rows of a chunk as a box of the block. -/
def rows : Rect S256x512 := Rect.unit ![128 * j.val, 0] ![128, 512] (inbRows j 512)

theorem rows_emb (l : Fin 128) (q : Fin 512) : (rows j).emb (ix2 l q) = ix2 (row j l) q :=
  funext fun a => Fin.ext (by
    refine (Rect.idx_unit_val _ _ _ _ a).trans ?_
    fin_cases a <;> simp [row])

theorem row_not_mem {i j : Fin 2} (hij : i ≠ j) (l : Fin 128) (q : Fin 512) : ix2 (row j l) q ∉ (rows i).set := by
  rw [rows, Rect.mem_set_unit]
  intro h
  have h0 := h 0
  simp [row] at h0
  apply hij
  apply Fin.ext
  omega

/-- A piece whose payload is what was there plus something leaves that at its rows, -/
theorem canon_over {σ : RefSig} (L : List (View.Piece (Elt Ideal) S256x512 .f32)) (v : View σ .tc .vmem S256x512 .f32)
    (w u : FVec Ideal S128x512 .f32) (hw : w = addf (v.readCov (Val := Elt Ideal) L (rows j).toLoadRect) u)
    (l : Fin 128) (q : Fin 512) :
    View.canon (Val := Elt Ideal) (e := .f32) (⟨rows j, w⟩ :: L) (ix2 (row j l) q)
      = View.canon L (ix2 (row j l) q) + u (ix2 l q) := by
  subst hw
  rw [View.readCov_eq_canon']
  have e := View.canon_cons_emb (Val := Elt Ideal) (e := .f32) (rows j)
    (addf (fun y => View.canon L ((rows j).toLoadRect.idx y)) u) L (ix2 l q)
  rw [rows_emb] at e
  refine e.trans ?_
  show View.canon L ((rows j).emb (ix2 l q)) + u (ix2 l q) = _
  rw [rows_emb]

/-- and what was there elsewhere. -/
theorem canon_off {i j : Fin 2} (hij : i ≠ j) (L : List (View.Piece (Elt Ideal) S256x512 .f32))
    (w : FVec Ideal S128x512 .f32) (l : Fin 128) (q : Fin 512) :
    View.canon (Val := Elt Ideal) (e := .f32) (⟨rows i, w⟩ :: L) (ix2 (row j l) q) = View.canon L (ix2 (row j l) q) :=
  View.canon_cons_of_not_mem (Val := Elt Ideal) (e := .f32) ⟨rows i, w⟩ L (row_not_mem hij l q)

/-- What the block holds after the two chunks' stores over the sixteen pieces. -/
theorem canon_rows (h : AllFin B) (L : List (View.Piece (Elt Ideal) S256x512 .f32)) (hL : ∀ y, View.canon L y = ownAt B y)
    (v : View sig .tc .vmem S256x512 .f32) (S w0 w1 : FVec Ideal S128x512 .f32)
    (h0 : w0 = addf (v.readCov (Val := Elt Ideal) L (rows 0).toLoadRect) (outerVec (cV B 0) (aV B 0) S))
    (h1 : w1 = addf (v.readCov (Val := Elt Ideal) (⟨rows 0, w0⟩ :: L) (rows 1).toLoadRect)
      (outerVec (cV B 1) (aV B 1) (state1 B S))) (l : Fin 128) (q : Fin 512) :
    View.canon (Val := Elt Ideal) (e := .f32) (⟨rows 1, w1⟩ :: ⟨rows 0, w0⟩ :: L) (ix2 (row j l) q)
      = own B j q l + thru B j q (entry B j q (fun n => S (ix2 n q))) l := by
  have hj : j = 0 ∨ j = 1 := by omega
  obtain rfl | rfl := hj
  · rw [canon_off (i := 1) (by decide), canon_over 0 L v w0 _ h0, hL, ownAt_row, thru_apply B 0 h]
    rfl
  · rw [canon_over 1 _ v w1 _ h1, canon_off (i := 0) (by decide), hL, ownAt_row, thru_apply B 1 h]
    have e1 : (fun n => state1 B S (ix2 n q)) = entry B 1 q (fun n => S (ix2 n q)) := funext fun n => next_apply B 0 h S n q
    rw [e1]

end Cert.KernelIdeal.Tile

end
-- ==== Proof.Block.lean ====
/- The generated outputs of one grid point are the tile's: what the point leaves in its output block, and in the state it
   hands on, whichever of the kernel's two cases it runs. -/
module

public import proofs.«01_k».proof.Proof.Tile

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen Cert.KernelIdeal.Payload Cert.KernelIdeal.Tile Cert.Column

variable (c : Dev nD) (i : grid0.Coords) (arg2 : Memref sig .tc .vmem S256x512 .f32) (harg2 : arg2.IsWhole)
  (arg3 : Memref sig .tc .vmem S256x128 .f32) (harg3 : arg3.IsWhole) (arg4 : Memref sig .tc .vmem S256x128 .f32)
  (harg4 : arg4.IsWhole) (arg5 : Memref sig .tc .vmem S1x1x256x16 .f32) (harg5 : arg5.IsWhole)
  (arg6 : Memref sig .tc .vmem S1x1x8x256 .f32) (harg6 : arg6.IsWhole) (arg7 : Memref sig .tc .vmem S256x512 .f32)
  (harg7 : arg7.IsWhole) (arg8 : Memref sig .tc .vmem S128x512 .f32) (harg8 : arg8.IsWhole)
  (B : Blocks) (S : Vec Ideal S128x512 .f32) (j : Fin 2) (l : Fin 128) (q : Fin 512)

/-- The kernel's zeroed state. -/
theorem zero_apply (n : Fin 128) : (k0_pay2 : FVec Ideal S128x512 .f32) (ix2 n q) = 0 := by
  pointwise [k0_pay2]

/-- Casts to the shape a value has. -/
theorem cast_first (v : Vec Ideal S128x512 .f32) : k0_pay63 v = v := shapeCast_self v _
theorem cast_second (v : Vec Ideal S128x512 .f32) : k0_pay74 v = v := shapeCast_self v _
theorem cast_state (v : FVec Ideal S128x512 .f32) : k0_pay1 v = v := shapeCast_self v _

theorem zeroOff : (![0, 0] : Fin 2 → ℕ) = fun _ => 0 := by
  funext a
  fin_cases a <;> rfl

set_option maxHeartbeats 1000000 in
/-- A later point's output block. -/
theorem later_out (hc0 : ¬cond0_0 i) (h : AllFin B) :
    out0_B_5 c i arg2 harg2 arg3 harg3 arg4 harg4 arg5 harg5 arg6 harg6 arg7 harg7 arg8 harg8 hc0 B.x B.b B.c B.da B.ar S
        (ix2 (row j l) q)
      = own B j q l + thru B j q (entry B j q (fun n => S (ix2 n q))) l := by
  unfold out0_B_5
  rw [View.read_writes_eq_canon _ _ _ (cover0_B_5 c i arg2 harg2 arg3 harg3 arg4 harg4 arg5 harg5 arg6 harg6 arg7 harg7 arg8
    harg8 hc0 B.x B.b B.c B.da B.ar S)]
  unfold kernelRun0_B
  dsimp only
  sl_unfold_words
  simp only [View.readAt_eq_ld, harg2.read_unread, harg3.read_unread, harg4.read_unread, harg5.read_unread,
    harg6.read_unread, harg7.read_unread, harg8.read_unread, View.ld_unit_zero (S := S128x512) zeroOff, cast_first, cast_second]
  exact canon_rows B j h (pieces B) (canon_pieces B h) arg7.view S _ _ rfl rfl l q

set_option maxHeartbeats 1000000 in
/-- A first point's output block. -/
theorem first_out (hc0 : cond0_0 i) (h : AllFin B) :
    out0_A_5 c i arg2 harg2 arg3 harg3 arg4 harg4 arg5 harg5 arg6 harg6 arg7 harg7 arg8 harg8 hc0 B.x B.b B.c B.da B.ar
        (ix2 (row j l) q)
      = own B j q l + thru B j q (entry B j q (fun _ => 0)) l := by
  unfold out0_A_5
  rw [View.read_writes_eq_canon _ _ _ (cover0_A_5 c i arg2 harg2 arg3 harg3 arg4 harg4 arg5 harg5 arg6 harg6 arg7 harg7 arg8
    harg8 hc0 B.x B.b B.c B.da B.ar)]
  unfold kernelRun0_A
  dsimp only
  sl_unfold_words
  simp only [View.readAt_eq_ld, harg2.read_unread, harg3.read_unread, harg4.read_unread, harg5.read_unread,
    harg6.read_unread, harg7.read_unread, harg8.read_unread, View.readCov_unit_zero (S := S128x512) _ zeroOff, cast_first, cast_second]
  refine (canon_rows B j h (pieces B) (canon_pieces B h) arg7.view k0_pay2 _ _ rfl rfl l q).trans ?_
  simp only [zero_apply]

/-- A later point's state. -/
theorem later_state (hc0 : ¬cond0_0 i) :
    sout0_B_0 c i arg2 harg2 arg3 harg3 arg4 harg4 arg5 harg5 arg6 harg6 arg7 harg7 arg8 harg8 hc0 B.x B.b B.c B.da B.ar S
      = state2 B S := by
  unfold sout0_B_0
  rw [View.read_writes_eq_canon _ _ _ (scover0_B_0 c i arg2 harg2 arg3 harg3 arg4 harg4 arg5 harg5 arg6 harg6 arg7 harg7 arg8
    harg8 hc0 B.x B.b B.c B.da B.ar S)]
  unfold kernelRun0_B
  dsimp only
  sl_unfold_words
  simp only [View.readAt_eq_ld, harg2.read_unread, harg3.read_unread, harg4.read_unread, harg5.read_unread,
    harg6.read_unread, harg7.read_unread, harg8.read_unread, View.ld_unit_zero (S := S128x512) zeroOff]
  rw [View.canon_cons_unit_zero zeroOff]
  exact cast_state _
/-- A first point's state. -/
theorem first_state (hc0 : cond0_0 i) :
    sout0_A_0 c i arg2 harg2 arg3 harg3 arg4 harg4 arg5 harg5 arg6 harg6 arg7 harg7 arg8 harg8 hc0 B.x B.b B.c B.da B.ar
      = state2 B k0_pay2 := by
  unfold sout0_A_0
  rw [View.read_writes_eq_canon _ _ _ (scover0_A_0 c i arg2 harg2 arg3 harg3 arg4 harg4 arg5 harg5 arg6 harg6 arg7 harg7 arg8
    harg8 hc0 B.x B.b B.c B.da B.ar)]
  unfold kernelRun0_A
  dsimp only
  sl_unfold_words
  simp only [View.readAt_eq_ld, harg2.read_unread, harg3.read_unread, harg4.read_unread, harg5.read_unread,
    harg6.read_unread, harg7.read_unread, harg8.read_unread, View.readCov_unit_zero (S := S128x512) _ zeroOff]
  rw [View.canon_cons_unit_zero zeroOff]
  exact cast_state _

end Cert.KernelIdeal.Block

end
-- ==== Proof.Entry.lean ====
/- The blocks the kernel reads at a point, as entries of its three arguments. Point `t` is block `t % 33` of 256 rows of
   group `t / 33`. -/
module

public import proofs.«01_k».proof.Proof.Tile
public import Idealize.ShloMosaic.Lib.Pipeline.ValueKit
public import Idealize.ShloMosaic.Lib.Claim

@[expose] public section

set_option maxRecDepth 16384

noncomputable section

namespace Cert.KernelIdeal.Entry

open Idealize.ShloMosaic Idealize.ShloMosaic.TcCoe Idealize.ShloMosaic.Tactic Idealize.SL.Sem
open Cert.KernelIdeal Cert.KernelIdeal.Gen Cert.KernelIdeal.Tile Cert.Column

variable (m : (ℓ : Loc nD τ sig) → Buf (Elt Ideal) ℓ) (c : Dev nD) (t : Fin cfg0.N)

/-- Which block of its array each window reads at a point. -/
theorem idx : ∀ t : Fin cfg0.N,
    win0_0.index t = ![t.val % 33, t.val / 33] ∧ win0_1.index t = ![t.val % 33, 32 + t.val / 33]
      ∧ win0_2.index t = ![t.val % 33, 40 + t.val / 33] ∧ win0_3.index t = ![0, t.val / 33, t.val % 33, 0]
      ∧ win0_4.index t = ![0, t.val / 33, 0, t.val % 33] :=
  (by decide +kernel : ∀ t : Fin grid0.N, _)

theorem lt_points : t.val < 264 := lt_of_lt_of_eq t.isLt N_0

/-- The three arguments. -/
def X : FVec Ideal S8448x6144 .f32 := m ((c : Thread nD τ).loc main_arg0)
def D : FVec Ideal S8448x128 .f32 := m ((c : Thread nD τ).loc main_arg1)
def A : FVec Ideal S8448x128 .f32 := m ((c : Thread nD τ).loc main_arg2)

/-- Row `s` of the point's block among all rows. -/
def rowAt (s : Fin 256) : Fin 8448 := ⟨256 * (t.val % 33) + s.val, by omega⟩

/-- The point's blocks. -/
def blocks : Blocks where
  x := iblk m c 0 t
  b := iblk m c 1 t
  c := iblk m c 2 t
  da := iblk m c 3 t
  ar := iblk m c 4 t

theorem x_apply (s : Fin 256) (q : Fin 512) :
    (blocks m c t).x (ix2 s q) = X m c (ix2 (rowAt t s) ⟨512 * (t.val / 33) + q.val, by have := lt_points t; omega⟩) := by
  show iblk m c 0 t (ix2 s q) = m ((c : Thread nD τ).loc main_arg0) _
  unfold rowAt
  blk_ext [iblk, V, idx t]

theorem b_apply (s : Fin 256) (n : Fin 128) :
    (blocks m c t).b (ix2 s n)
      = X m c (ix2 (rowAt t s) ⟨4096 + (128 * (t.val / 33) + n.val), by have := lt_points t; omega⟩) := by
  show iblk m c 1 t (ix2 s n) = m ((c : Thread nD τ).loc main_arg0) _
  unfold rowAt
  blk_ext [iblk, V, idx t]

theorem c_apply (s : Fin 256) (n : Fin 128) :
    (blocks m c t).c (ix2 s n)
      = X m c (ix2 (rowAt t s) ⟨5120 + (128 * (t.val / 33) + n.val), by have := lt_points t; omega⟩) := by
  show iblk m c 2 t (ix2 s n) = m ((c : Thread nD τ).loc main_arg0) _
  unfold rowAt
  blk_ext [iblk, V, idx t]

/-- The host's step sizes and decays side by side, and the decays along the rows. -/
theorem V4 : V m c main_v4 = concatenate S2x8x8448x16 3
    [⟨S2x8x8448x8, transpose S2x8x8448x8 [1, 2, 0, 3] (shapeCast S8448x2x8x8 (D m c) shapeCasts_S8448x128_S8448x2x8x8)
        transposes_S8448x2x8x8_S2x8x8448x8_1_2_0_3⟩,
      ⟨S2x8x8448x8, transpose S2x8x8448x8 [1, 2, 0, 3] (shapeCast S8448x2x8x8 (A m c) shapeCasts_S8448x128_S8448x2x8x8)
        transposes_S8448x2x8x8_S2x8x8448x8_1_2_0_3⟩] concatenates_S2x8x8448x8_S2x8x8448x8_S2x8x8448x16_d3 := by
  entry_read
  rfl

theorem V5 : V m c main_v5 = transpose S2x8x8x8448 [0, 1, 3, 2]
    (transpose S2x8x8448x8 [1, 2, 0, 3] (shapeCast S8448x2x8x8 (A m c) shapeCasts_S8448x128_S8448x2x8x8)
        transposes_S8448x2x8x8_S2x8x8448x8_1_2_0_3) transposes_S2x8x8448x8_S2x8x8x8448_0_1_3_2 := by
  entry_read
  rfl

theorem da_read (s : Fin 256) (k : Fin 16) :
    (blocks m c t).da (ix4 0 0 s k)
      = (V m c main_v4 : FVec Ideal S2x8x8448x16 .f32) (ix4 0 ⟨t.val / 33, by have := lt_points t; omega⟩ (rowAt t s) k) := by
  show iblk m c 3 t (ix4 0 0 s k) = _
  unfold rowAt
  blk_ext [iblk, idx t]

theorem ar_read (r : Fin 8) (s : Fin 256) :
    (blocks m c t).ar (ix4 0 0 r s)
      = (V m c main_v5 : FVec Ideal S2x8x8x8448 .f32) (ix4 0 ⟨t.val / 33, by have := lt_points t; omega⟩ r (rowAt t s)) := by
  show iblk m c 4 t (ix4 0 0 r s) = _
  unfold rowAt
  blk_ext [iblk, idx t]

/-- Head `r` of the point's group among all heads. -/
def headAt (r : Fin 8) : Fin 128 := ⟨t.val / 33 * 8 + r.val, by have := lt_points t; omega⟩

theorem dt_apply (s : Fin 256) (r : Fin 8) :
    (blocks m c t).da (ix4 0 0 s ⟨r.val, by omega⟩) = D m c (ix2 (rowAt t s) (headAt t r)) := by
  rw [da_read, V4]
  pointwise
  rfl

theorem a_apply (s : Fin 256) (r : Fin 8) :
    (blocks m c t).da (ix4 0 0 s ⟨8 + r.val, by omega⟩) = A m c (ix2 (rowAt t s) (headAt t r)) := by
  rw [da_read, V4]
  pointwise
  rfl

theorem ar_apply (s : Fin 256) (r : Fin 8) :
    (blocks m c t).ar (ix4 0 0 r s) = A m c (ix2 (rowAt t s) (headAt t r)) := by
  rw [ar_read, V5]
  pointwise
  rfl

/-- The point's step sizes and decays are real numbers where the arguments' are. -/
theorem allFin (hD : ∀ i, Fin' (D m c i)) (hA : ∀ i, Fin' (A m c i)) : AllFin (blocks m c t) := by
  intro i
  obtain ⟨a, b, s, k, rfl⟩ : ∃ a b s k, i = ix4 a b s k := ⟨i 0, i 1, i 2, i 3, eq_ix4 i⟩
  obtain rfl : a = 0 := Subsingleton.elim _ _
  obtain rfl : b = 0 := Subsingleton.elim _ _
  by_cases hk : k.val < 8
  · exact (dt_apply m c t s ⟨k.val, hk⟩).symm ▸ hD _
  · have e : k = ⟨8 + (⟨k.val - 8, by omega⟩ : Fin 8).val, by show 8 + (k.val - 8) < 16; omega⟩ :=
      Fin.ext (by show k.val = 8 + (k.val - 8); omega)
    rw [e]
    exact (a_apply m c t s ⟨k.val - 8, by omega⟩).symm ▸ hA _

end Cert.KernelIdeal.Entry

end
-- ==== Proof.Layer.lean ====
/- The state-space scan as one function of its arguments, over the extended reals: chunks of 128 rows, one after the other;
   8 groups of 8 heads of 64 positions, so a group has 512 lanes. -/
module

public import proofs.«01_k».proof.Proof.Column

@[expose] public section

noncomputable section

namespace Cert.Layer

open Idealize.ShloMosaic Cert.Column

variable (X : (⟨2, ![8448, 6144]⟩ : Shape).Idx → EReal) (D A : (⟨2, ![8448, 128]⟩ : Shape).Idx → EReal)
  (g : Fin 8) (r : Fin 8) (q : Fin 512) (k : ℕ)

/-- Row `s` of chunk `k`. -/
def rowOf (s : Fin 128) : Fin 8448 := ⟨(128 * k + s.val) % 8448, Nat.mod_lt _ (by omega)⟩

/-- Head `r` of group `g`. -/
def headOf : Fin 128 := ⟨g.val * 8 + r.val, by omega⟩

/-- The head of a lane. -/
def laneHead : Fin 8 := ⟨q.val / 64, by omega⟩

/-- The chunk's inputs at a lane, its group's input and output projections, its head's step sizes and decays. -/
def colX (s : Fin 128) : EReal := X (ix2 (rowOf k s) ⟨512 * g.val + q.val, by omega⟩)
def colB (s n : Fin 128) : EReal := X (ix2 (rowOf k s) ⟨4096 + (128 * g.val + n.val), by omega⟩)
def colC (l n : Fin 128) : EReal := X (ix2 (rowOf k l) ⟨5120 + (128 * g.val + n.val), by omega⟩)
def colD (s : Fin 128) : EReal := D (ix2 (rowOf k s) (headOf g r))

/-- The state a lane enters chunk `k` with. -/
def state : ℕ → Fin 128 → EReal
  | 0 => fun _ => 0
  | k + 1 => next (colX X g q k) (colD D g (laneHead q) k) (colD A g (laneHead q) k) (colB X g k) (state k)

/-- The result at a lane, row `l` of chunk `k`. -/
def value (l : Fin 128) : EReal :=
  ownPart (colX X g q k) (colD D g (laneHead q) k) (colD A g (laneHead q) k) (colD A g (laneHead q) k) (colB X g k) (colC X g k) l
    + carried (colD A g (laneHead q) k) (colC X g k) (state X D A g q k) l

end Cert.Layer

end
-- ==== Proof.KernelValue.lean ====
/- What the kernel leaves in its result: the scan's value at every row and lane. -/
module

public import proofs.«01_k».proof.Proof.Block
public import proofs.«01_k».proof.Proof.Entry
public import proofs.«01_k».proof.Proof.Layer

@[expose] public section

set_option maxRecDepth 16384

noncomputable section

namespace Cert.KernelIdeal.Whole

open Idealize.ShloMosaic Idealize.ShloMosaic.TcCoe Idealize.SL.Sem
open Cert.KernelIdeal Cert.KernelIdeal.Gen Cert.KernelIdeal.Tile Cert.KernelIdeal.Entry Cert.KernelIdeal.Block Cert.Column Cert.Layer

variable (m : (ℓ : Loc nD τ sig) → Buf (Elt Ideal) ℓ) (c : Dev nD)

/-- The group of a point. -/
def group (t : Fin cfg0.N) : Fin 8 := ⟨t.val / 33, by have := lt_points t; omega⟩

theorem rowAt_eq (t : Fin cfg0.N) (j : Fin 2) (s : Fin 128) :
    rowAt t (row j s) = rowOf (2 * (t.val % 33) + j.val) s :=
  Fin.ext (by
    show 256 * (t.val % 33) + (128 * j.val + s.val) = (128 * (2 * (t.val % 33) + j.val) + s.val) % 8448
    omega)

section Reads

variable (t : Fin cfg0.N) (j : Fin 2) (q : Fin 512) (r : Fin 8)

theorem xs_eq : xs (blocks m c t) j q = colX (X m c) (group t) q (2 * (t.val % 33) + j.val) :=
  funext fun s => (x_apply m c t _ q).trans (by rw [rowAt_eq]; rfl)

theorem bs_eq : bs (blocks m c t) j = colB (X m c) (group t) (2 * (t.val % 33) + j.val) :=
  funext fun s => funext fun n => (b_apply m c t _ n).trans (by rw [rowAt_eq]; rfl)

theorem cs_eq : cs (blocks m c t) j = colC (X m c) (group t) (2 * (t.val % 33) + j.val) :=
  funext fun s => funext fun n => (c_apply m c t _ n).trans (by rw [rowAt_eq]; rfl)

theorem dts_eq : dts (blocks m c t) j r = colD (D m c) (group t) r (2 * (t.val % 33) + j.val) :=
  funext fun s => (dt_apply m c t _ r).trans (by rw [rowAt_eq]; rfl)

theorem acs_eq : acs (blocks m c t) j r = colD (A m c) (group t) r (2 * (t.val % 33) + j.val) :=
  funext fun s => (a_apply m c t _ r).trans (by rw [rowAt_eq]; rfl)

theorem ars_eq : ars (blocks m c t) j r = colD (A m c) (group t) r (2 * (t.val % 33) + j.val) :=
  funext fun s => (ar_apply m c t _ r).trans (by rw [rowAt_eq]; rfl)

/-- A chunk's step of the point is the scan's step. -/
theorem after_eq (S : Fin 128 → EReal) (hS : S = state (X m c) (D m c) (A m c) (group t) q (2 * (t.val % 33) + j.val)) :
    after (blocks m c t) j q S = state (X m c) (D m c) (A m c) (group t) q (2 * (t.val % 33) + j.val + 1) := by
  funext n
  rw [after, xs_eq, bs_eq, dts_eq, acs_eq, hS]
  rfl

/-- The two chunks' entries are the scan's states, if the point's is. -/
theorem entry_eq (S : Fin 128 → EReal) (hS : S = state (X m c) (D m c) (A m c) (group t) q (2 * (t.val % 33))) :
    entry (blocks m c t) j q S = state (X m c) (D m c) (A m c) (group t) q (2 * (t.val % 33) + j.val) := by
  have hj : j = 0 ∨ j = 1 := by omega
  obtain rfl | rfl := hj
  · exact hS
  · exact after_eq m c t 0 q S hS

/-- and the point's own and carried parts the scan's value. -/
theorem value_eq (S : Fin 128 → EReal) (hS : S = state (X m c) (D m c) (A m c) (group t) q (2 * (t.val % 33))) (l : Fin 128) :
    own (blocks m c t) j q l + thru (blocks m c t) j q (entry (blocks m c t) j q S) l
      = value (X m c) (D m c) (A m c) (group t) q (2 * (t.val % 33) + j.val) l := by
  rw [entry_eq m c t j q S hS, own, thru, xs_eq, bs_eq, cs_eq, dts_eq, acs_eq, ars_eq]
  rfl

/-- The state the point leaves. -/
theorem state2_eq (h : AllFin (blocks m c t)) (S : FVec Ideal S128x512 .f32)
    (hS : (fun n => S (ix2 n q)) = state (X m c) (D m c) (A m c) (group t) q (2 * (t.val % 33))) :
    (fun n => state2 (blocks m c t) S (ix2 n q))
      = state (X m c) (D m c) (A m c) (group t) q (2 * (t.val % 33) + 2) := by
  have e1 : (fun n => state1 (blocks m c t) S (ix2 n q)) = _ :=
    (funext fun n => next_apply (blocks m c t) 0 h S n q).trans (after_eq m c t 0 q _ hS)
  exact (funext fun n => next_apply (blocks m c t) 1 h (state1 (blocks m c t) S) n q).trans (after_eq m c t 1 q _ e1)

end Reads

/-- What a group's first point leaves, -/
theorem outs_first (t : Fin cfg0.N) (h0 : t.val % 33 = 0) (h : AllFin (blocks m c t)) :
    (∀ j l q, (outsAt0 m c t.val t.isLt).1 (ix2 (row j l) q)
        = own (blocks m c t) j q l + thru (blocks m c t) j q (entry (blocks m c t) j q (fun _ => 0)) l)
      ∧ (outsAt0 m c t.val t.isLt).2 = state2 (blocks m c t) k0_pay2 := by
  rw [outsAt0_A m c t h0]
  have e := fun j l q => first_out c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t) j l q ((hcond0_0 t).mpr h0) h
  have e' := first_state c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t) ((hcond0_0 t).mpr h0)
  unfold blocks at e e' ⊢
  dsimp only at e e' ⊢
  exact ⟨e, e'⟩

/-- and a later one. -/
theorem outs_later (t : Fin cfg0.N) (h0 : ¬t.val % 33 = 0) (h : AllFin (blocks m c t)) (S : FVec Ideal S128x512 .f32)
    (hS : S = (outsAt0 m c (t.val - 1) (Nat.lt_of_le_of_lt (Nat.sub_le _ _) t.isLt)).2) :
    (∀ j l q, (outsAt0 m c t.val t.isLt).1 (ix2 (row j l) q)
        = own (blocks m c t) j q l + thru (blocks m c t) j q (entry (blocks m c t) j q (fun n => S (ix2 n q))) l)
      ∧ (outsAt0 m c t.val t.isLt).2 = state2 (blocks m c t) S := by
  subst hS
  rw [outsAt0_B m c t h0]
  have e := fun j l q => later_out c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t)
    (outsAt0 m c (t.val - 1) (Nat.lt_of_le_of_lt (Nat.sub_le _ _) t.isLt)).2 j l q (fun h => h0 ((hcond0_0 t).mp h)) h
  have e' := later_state c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t)
    (outsAt0 m c (t.val - 1) (Nat.lt_of_le_of_lt (Nat.sub_le _ _) t.isLt)).2 (fun h => h0 ((hcond0_0 t).mp h))
  unfold blocks at e e' ⊢
  dsimp only at e e' ⊢
  exact ⟨e, e'⟩

/-- Off a group's first block the point before leaves the state the point enters with. -/
theorem before (q : Fin 512) (t : Fin cfg0.N) (h0 : ¬t.val % 33 = 0)
    (h : (fun k => (outsAt0 m c (t.val - 1) (by omega)).2 (ix2 k q))
      = state (X m c) (D m c) (A m c) (group ⟨t.val - 1, by omega⟩) q (2 * ((t.val - 1) % 33) + 2)) :
    (fun k => (outsAt0 m c (t.val - 1) (Nat.lt_of_le_of_lt (Nat.sub_le _ _) t.isLt)).2 (ix2 k q))
      = state (X m c) (D m c) (A m c) (group t) q (2 * (t.val % 33)) := by
  have hg : group ⟨t.val - 1, by omega⟩ = group t := Fin.ext (by show (t.val - 1) / 33 = t.val / 33; omega)
  have hk : 2 * ((t.val - 1) % 33) + 2 = 2 * (t.val % 33) := by omega
  rw [hg, hk] at h
  exact h

variable (hD : ∀ i, Fin' (D m c i)) (hA : ∀ i, Fin' (A m c i))
include hD hA

/-- After every point the scratch holds the scan's state. -/
theorem scratch (q : Fin 512) : ∀ (n : ℕ) (t : Fin cfg0.N), t.val = n →
    (fun k => (outsAt0 m c t.val t.isLt).2 (ix2 k q))
      = state (X m c) (D m c) (A m c) (group t) q (2 * (t.val % 33) + 2) := by
  intro n
  induction n with
  | zero =>
    intro t ht
    have h0 : t.val % 33 = 0 := by omega
    rw [(outs_first m c t h0 (allFin m c t hD hA)).2]
    exact state2_eq m c t q (allFin m c t hD hA) _ (by rw [h0]; exact funext fun n => zero_apply q n)
  | succ n ih =>
    intro t ht
    by_cases h0 : t.val % 33 = 0
    · rw [(outs_first m c t h0 (allFin m c t hD hA)).2]
      exact state2_eq m c t q (allFin m c t hD hA) _ (by rw [h0]; exact funext fun n => zero_apply q n)
    · rw [(outs_later m c t h0 (allFin m c t hD hA) _ rfl).2]
      exact state2_eq m c t q (allFin m c t hD hA) _ (before m c q t h0 (ih ⟨t.val - 1, by omega⟩ (by show t.val - 1 = n; omega)))

/-- After every point the output block holds the scan's value. -/
theorem block (t : Fin cfg0.N) (j : Fin 2) (l : Fin 128) (q : Fin 512) :
    (outsAt0 m c t.val t.isLt).1 (ix2 (row j l) q)
      = value (X m c) (D m c) (A m c) (group t) q (2 * (t.val % 33) + j.val) l := by
  by_cases h0 : t.val % 33 = 0
  · rw [(outs_first m c t h0 (allFin m c t hD hA)).1]
    exact value_eq m c t j q _ (by rw [h0]; rfl) l
  · rw [(outs_later m c t h0 (allFin m c t hD hA) _ rfl).1]
    exact value_eq m c t j q _ (before m c q t h0 (scratch m c hD hA q (t.val - 1) ⟨t.val - 1, by omega⟩ rfl)) l

/-- The kernel's result at every row and lane. -/
theorem result (k : Fin 66) (l : Fin 128) (g : Fin 8) (q : Fin 512) :
    Value.G5 m c (ix2 ⟨128 * k.val + l.val, by omega⟩ ⟨512 * g.val + q.val, by omega⟩)
      = value (X m c) (D m c) (A m c) g q k.val l := by
  have hN : cfg0.N = 264 := N_0
  have hp : Value.pt5Of (ix2 ⟨128 * k.val + l.val, by omega⟩ ⟨512 * g.val + q.val, by omega⟩) = 33 * g.val + k.val / 2 := by
    show 1 * ((128 * k.val + l.val) / 256 - 0) + 33 * ((512 * g.val + q.val) / 512 - 0) = _
    omega
  have ht : 33 * g.val + k.val / 2 < cfg0.N := by omega
  have hl : Value.loc5Of (ix2 ⟨128 * k.val + l.val, by omega⟩ ⟨512 * g.val + q.val, by omega⟩)
      = ix2 (row ⟨k.val % 2, by omega⟩ l) q := by
    have h1 : (128 * k.val + l.val) % 256 = 128 * (k.val % 2) + l.val := by omega
    have h2 : (512 * g.val + q.val) % 512 = q.val := by omega
    funext a
    fin_cases a
    · exact Fin.ext h1
    · exact Fin.ext h2
  have hg : group ⟨33 * g.val + k.val / 2, ht⟩ = g := Fin.ext (by show (33 * g.val + k.val / 2) / 33 = g.val; omega)
  have hk : 2 * ((33 * g.val + k.val / 2) % 33) + k.val % 2 = k.val := by omega
  have e := block m c hD hA ⟨33 * g.val + k.val / 2, ht⟩ ⟨k.val % 2, by omega⟩ l q
  rw [hg] at e
  simp only [hk] at e
  unfold Value.G5
  rw [dif_pos (by rw [hp]; exact ht), hl]
  simp only [hp]
  rw [← Value.outsAt0_sweep m c _ ht]
  exact e

end Cert.KernelIdeal.Whole

end
-- ==== Proof.RefParts.lean ====
/- What the reference computes before its loop, read at an index: its arguments by chunk, group and head, each chunk's own
   share of the result, the state each chunk leaves, the decays. -/
module

public import proofs.«01_k».proof.Proof.Gen.ReferenceIdeal.Step
public import proofs.«01_k».proof.Proof.Layer

@[expose] public section

set_option maxRecDepth 16384

noncomputable section

namespace Cert.ReferenceIdeal.Parts

open Idealize.ShloMosaic Idealize.ShloMosaic.TcCoe Idealize.ShloMosaic.StableHlo
open Cert.ReferenceIdeal Cert.ReferenceIdeal.Gen Cert.ReferenceIdeal.Step Cert.Column Cert.Layer

variable (X : FVec Ideal S8448x6144 .f32) (D A : FVec Ideal S8448x128 .f32)
  (k : Fin 66) (l s : Fin 128) (g r : Fin 8) (p : Fin 64) (n : Fin 128)

/-- The lane of position `p` of head `r` of a group. -/
def lane (r : Fin 8) (p : Fin 64) : Fin 512 := ⟨64 * r.val + p.val, by omega⟩

theorem laneHead_lane : laneHead (lane r p) = r := Fin.ext (show (64 * r.val + p.val) / 64 = r.val by omega)

theorem rowOf_eq : rowOf k.val s = ⟨k.val * 128 + s.val, by omega⟩ :=
  Fin.ext (show (128 * k.val + s.val) % 8448 = k.val * 128 + s.val by omega)

/-- The inputs, by chunk, row, group, head and position. -/
theorem x_apply : A_main_v1 (F := Ideal) X D A (ix5 k s g r p) = colX X g (lane r p) k.val s := by
  unfold colX
  rw [rowOf_eq]
  pointwise [A_main_v1, A_main_v0]
  exact congrArg X (congrArg (ix2 _) (Fin.ext (show g.val * 512 + r.val * 64 + p.val = 512 * g.val + (64 * r.val + p.val) by omega)))

theorem b_apply : A_main_v3 (F := Ideal) X D A (ix4 k s g n) = colB X g k.val s n := by
  unfold colB
  rw [rowOf_eq]
  pointwise [A_main_v3, A_main_v2]
  exact congrArg X (congrArg (ix2 _) (Fin.ext (show 4096 + (g.val * 128 + n.val) = 4096 + (128 * g.val + n.val) by omega)))

theorem c_apply : A_main_v5 (F := Ideal) X D A (ix4 k l g n) = colC X g k.val l n := by
  unfold colC
  rw [rowOf_eq]
  pointwise [A_main_v5, A_main_v4]
  exact congrArg X (congrArg (ix2 _) (Fin.ext (show 5120 + (g.val * 128 + n.val) = 5120 + (128 * g.val + n.val) by omega)))

theorem dt_apply : A_main_v7 (F := Ideal) X D A (ix4 k s g r) = colD D g r k.val s := by
  unfold colD headOf
  rw [rowOf_eq]
  pointwise [A_main_v7, A_main_v6]

theorem a_apply : A_main_v12 (F := Ideal) X D A (ix4 k s g r) = colD A g r k.val s := by
  unfold colD headOf
  rw [rowOf_eq]
  pointwise [A_main_v12, A_main_v11]

theorem query_chunk : K_main_v19 (F := Ideal) (ix2 l s) = if s ≤ l then 1#1 else 0#1 := by
  revert l s
  decide +kernel

theorem xdt_apply : A_main_v10 (F := Ideal) X D A (ix5 k s g r p) = colX X g (lane r p) k.val s * colD D g r k.val s := by
  rw [← x_apply X D A, ← dt_apply X D A]
  pointwise [A_main_v10, A_main_v9, A_main_v8]

theorem gate_apply : A_main_v27 (F := Ideal) X D A (ix5 k g r l s) = gate (colD A g r k.val) (colD A g r k.val) l s := by
  unfold gate
  rw [← a_apply X D A, ← a_apply X D A]
  have e := query_chunk l s
  pointwise [A_main_v27, A_main_v26, A_main_v25, A_main_v24, A_main_v23, A_main_v22, A_main_v21, A_main_v20, A_main_v13, K_main_call0_v1,
    K_main_call1_v1, K_main_call1_v2, K_main_call1_v0, K_main_cst_0]
  rw [e]
  by_cases h : s ≤ l
  · rw [if_pos h, if_pos h]
    rfl
  · rw [if_neg h, if_neg h]
    show (constant S_ FTy.f32 0#32 : FVec Ideal S_ .f32) ix0 = 0
    exact Ideal.ofBits_zero .f32

theorem diag_apply : A_main_v33 (F := Ideal) X D A (ix5 k l g r p) = ownPart (colX X g (lane r p) k.val) (colD D g r k.val) (colD A g r k.val) (colD A g r k.val)
    (colB X g k.val) (colC X g k.val) l := by
  unfold ownPart
  simp only [← xdt_apply X D A, ← gate_apply X D A, ← b_apply X D A, ← c_apply X D A]
  pointwise [A_main_v33, A_main_v32, A_main_v31, A_main_v30, A_main_v29, A_main_v28]
  exact Finset.sum_congr rfl fun s _ => mul_comm _ _

theorem states_apply : A_main_v42 (F := Ideal) X D A (ix5 k g r p n) = ∑ s, colB X g k.val s n *
    (colX X g (lane r p) k.val s * colD D g r k.val s * Ideal.exp (colD A g r k.val 127 - colD A g r k.val s)) := by
  simp only [← xdt_apply X D A, ← b_apply X D A, ← a_apply X D A]
  pointwise [A_main_v42, A_main_v41, A_main_v40, A_main_v39, A_main_v38, A_main_v37, A_main_v36, A_main_v35, A_main_v34, A_main_v13]
  exact Finset.sum_congr rfl fun s _ => mul_comm _ _

theorem decay_apply : A_main_v45 (F := Ideal) X D A (ix3 k g r) = Ideal.exp (colD A g r k.val 127) := by
  rw [← a_apply X D A]
  pointwise [A_main_v45, A_main_v44, A_main_v43, A_main_v13]

theorem decayIn_apply : A_main_v47 (F := Ideal) X D A (ix4 k l g r) = Ideal.exp (colD A g r k.val l) := by
  rw [← a_apply X D A]
  pointwise [A_main_v47, A_main_v46, A_main_v13]

end Cert.ReferenceIdeal.Parts

end
-- ==== Proof.RefValue.lean ====
/- The reference's loop, chunk by chunk: the state it carries is the scan's, the rows it has written are the scan's values,
   and so is its result. -/
module

public import proofs.«01_k».proof.Proof.RefRun
public import proofs.«01_k».proof.Proof.RefParts

@[expose] public section

set_option maxRecDepth 16384

noncomputable section

namespace Cert.ReferenceIdeal.Whole

open Idealize.ShloMosaic Idealize.ShloMosaic.TcCoe Idealize.ShloMosaic.StableHlo
open Cert.ReferenceIdeal Cert.ReferenceIdeal.Gen Cert.ReferenceIdeal.Step Cert.Column Cert.Layer Cert.ReferenceIdeal.Parts
open Cert.ReferenceIdeal.Iter (states)

variable (X : FVec Ideal S8448x6144 .f32) (D A : FVec Ideal S8448x128 .f32)

/-- What no trip changes is what the reference computed before the loop. -/
theorem kept (n : ℕ) : (states X D A n).main_v50_0 = A_main_v42 X D A ∧ (states X D A n).main_v50_1 = A_main_v45 X D A
    ∧ (states X D A n).main_v50_2 = A_main_v5 X D A ∧ (states X D A n).main_v50_3 = A_main_v47 X D A
    ∧ (states X D A n).main_v50_4 = A_main_v33 X D A := by
  induction n with
  | zero => exact ⟨rfl, rfl, rfl, rfl, rfl⟩
  | succ n ih => exact ih

/-- A chunk's number read as a start is that number. -/
theorem toInt_num (j : ℕ) (h : j < 66) : (BitVec.ofNat 32 j).toInt = (j : ℤ) := by
  have e : (BitVec.ofNat 32 j).toNat = j := by
    rw [BitVec.toNat_ofNat]
    exact Nat.mod_eq_of_lt (by omega)
  rw [BitVec.toInt_eq_toNat_of_lt (by omega), e]

/-- A slice out of an array, at an index: the array at the slice's start plus the index. -/
theorem slice_at {α : Type} {s t : Shape} (x : s.Idx → α) (start : Fin s.rank → Int) (h : s.Slices (fun _ => 0) t) (i : t.Idx) (i' : s.Idx)
    (k : Fin s.rank → ℕ) (hs : ∀ a, start a = k a) (hk : ∀ a, k a + t.size (a.cast h.1.symm) ≤ s.size a)
    (hi : ∀ a, (i' a).val = k a + (i (a.cast h.1.symm)).val) : Host.dynamicSlice t x start h i = x i' := by
  rw [Host.dynamicSlice_apply]
  refine congrArg x ((Shape.Idx.norm_def _).trans (funext fun a => Fin.ext ?_))
  exact (congrArg (· + _) (Host.clampedStart_of_le h.1 start a (k a) (hs a) (hk a))).trans (hi a).symm

section
variable (s : State Ideal) (j : ℕ) (h : j < 66) (l : Fin 128) (g r : Fin 8) (p : Fin 64) (n : Fin 128)
include h

theorem states_slice : b4 j s (ix5 0 g r p n) = s.main_v50_0 (ix5 ⟨j, h⟩ g r p n) := by
  unfold b4 b0 b1 b2 b3
  refine slice_at _ _ _ _ _ ![j, 0, 0, 0, 0] ?_ ?_ ?_ <;> intro a <;> fin_cases a
  all_goals first
    | exact toInt_num j h | rfl | exact Nat.succ_le_of_lt h | exact Nat.le_refl _ | exact (Nat.zero_add _).symm

theorem decay_slice : b8 j s (ix3 0 g r) = s.main_v50_1 (ix3 ⟨j, h⟩ g r) := by
  unfold b8 b6 b7
  refine slice_at _ _ _ _ _ ![j, 0, 0] ?_ ?_ ?_ <;> intro a <;> fin_cases a
  all_goals first
    | exact toInt_num j h | rfl | exact Nat.succ_le_of_lt h | exact Nat.le_refl _ | exact (Nat.zero_add _).symm

theorem query_slice : b13 j s (ix4 0 l g n) = s.main_v50_2 (ix4 ⟨j, h⟩ l g n) := by
  unfold b13 b10 b11 b12
  refine slice_at _ _ _ _ _ ![j, 0, 0, 0] ?_ ?_ ?_ <;> intro a <;> fin_cases a
  all_goals first
    | exact toInt_num j h | rfl | exact Nat.succ_le_of_lt h | exact Nat.le_refl _ | exact (Nat.zero_add _).symm

theorem decayIn_slice : b18 j s (ix4 0 l g r) = s.main_v50_3 (ix4 ⟨j, h⟩ l g r) := by
  unfold b18 b15 b16 b17
  refine slice_at _ _ _ _ _ ![j, 0, 0, 0] ?_ ?_ ?_ <;> intro a <;> fin_cases a
  all_goals first
    | exact toInt_num j h | rfl | exact Nat.succ_le_of_lt h | exact Nat.le_refl _ | exact (Nat.zero_add _).symm

theorem diag_slice : b24 j s (ix5 0 l g r p) = s.main_v50_4 (ix5 ⟨j, h⟩ l g r p) := by
  unfold b24 b20 b21 b22 b23
  refine slice_at _ _ _ _ _ ![j, 0, 0, 0, 0] ?_ ?_ ?_ <;> intro a <;> fin_cases a
  all_goals first
    | exact toInt_num j h | rfl | exact Nat.succ_le_of_lt h | exact Nat.le_refl _ | exact (Nat.zero_add _).symm

/-- The state a trip hands on. -/
theorem carry_step : b34 j s (ix4 g r p n) =
    s.main_v50_6 (ix4 g r p n) * s.main_v50_1 (ix3 ⟨j, h⟩ g r) + s.main_v50_0 (ix5 ⟨j, h⟩ g r p n) := by
  rw [← states_slice s j h, ← decay_slice s j h]
  pointwise [b34, b33, b32, b31, b9, b5]

/-- The rows a trip writes. -/
theorem out_step : b35 j s (ix4 l g r p) = s.main_v50_4 (ix5 ⟨j, h⟩ l g r p) +
    (∑ n, s.main_v50_6 (ix4 g r p n) * s.main_v50_2 (ix4 ⟨j, h⟩ l g n)) * s.main_v50_3 (ix4 ⟨j, h⟩ l g r) := by
  simp only [← diag_slice s j h, ← query_slice s j h, ← decayIn_slice s j h]
  pointwise [b35, b25, b30, b29, b28, b27, b26, b19, b14]

/-- The clamped starts of the write are the chunk's number and zeros. -/
theorem write_start (hf) (a : Fin 5) : Host.clampedStart S66x128x8x8x64 S1x128x8x8x64 hf
    (fun k => (((![(constantI S_ 32 (BitVec.ofNat 32 j) : (⟨S_, .i32⟩ : BufTy).Contents (Elt Ideal)), (b37 j s), (b38 j s), (b39 j s), (b40 j s)]
      : Fin 5 → (⟨S_, .i32⟩ : BufTy).Contents (Elt Ideal))) k (Shape.Idx.first h_S_)).toInt) a = (![j, 0, 0, 0, 0] : Fin 5 → ℕ) a := by
  refine Host.clampedStart_of_le hf _ a _ ?_ ?_ <;> fin_cases a
  all_goals first
    | exact toInt_num j h | rfl | exact Nat.succ_le_of_lt h | exact Nat.le_refl _ | exact (Nat.zero_add _).symm

/-- A trip writes its own chunk and leaves the others. -/
theorem ys_step (k : Fin 66) : b41 j s (ix5 k l g r p) = if k.val = j then b35 j s (ix4 l g r p) else s.main_v50_7 (ix5 k l g r p) := by
  have e0 := fun hf => write_start s j h hf 0
  have e1 := fun hf => write_start s j h hf 1
  have e2 := fun hf => write_start s j h hf 2
  have e3 := fun hf => write_start s j h hf 3
  have e4 := fun hf => write_start s j h hf 4
  unfold b41
  pointwise [b36]
  simp only [e0, e1, e2, e3, e4]
  by_cases e : k.val = j
  · have e' : (![j, 0, 0, 0, 0] : Fin 5 → ℕ) 0 ≤ k.val ∧ k.val < (![j, 0, 0, 0, 0] : Fin 5 → ℕ) 0 + 1 := ⟨e.ge, by show k.val < j + 1; omega⟩
    rw [if_pos e, dif_pos ⟨e', Nat.zero_le _, Nat.zero_le _, Nat.zero_le _, Nat.zero_le _⟩]
    rfl
  · rw [if_neg e, dif_neg]
    rintro ⟨⟨h1, h2⟩, -⟩
    have h1' : j ≤ k.val := h1
    have h2' : k.val < j + 1 := h2
    omega
end

/-- Before trip `n` the loop carries the state of chunk `n`. -/
theorem carry_eq (g r : Fin 8) (p : Fin 64) : ∀ (n : ℕ) (_ : n ≤ 66) (q : Fin 128),
    (states X D A n).main_v50_6 (ix4 g r p q) = state X D A g (lane r p) n q
  | 0, _, q => by
    show (K_main_v48 (F := Ideal)) (ix4 g r p q) = 0
    pointwise [K_main_v48, K_main_cst_1]
  | n + 1, h, q => by
    show b34 n (states X D A n) (ix4 g r p q) = _
    obtain ⟨k0, k1, -, -, -⟩ := kept X D A n
    have hn : n < 66 := by omega
    rw [carry_step _ n hn, k0, k1, carry_eq g r p n (by omega) q, states_apply, decay_apply]
    show _ = next (colX X g (lane r p) n) (colD D g (laneHead (lane r p)) n) (colD A g (laneHead (lane r p)) n) (colB X g n)
      (state X D A g (lane r p) n) q
    unfold next
    rw [laneHead_lane]

/-- Before trip `n` the rows of the chunks before `n` are written, with the scan's values. -/
theorem ys_eq (g r : Fin 8) (p : Fin 64) (k : Fin 66) (l : Fin 128) : ∀ (n : ℕ) (_ : n ≤ 66) (_ : k.val < n),
    (states X D A n).main_v50_7 (ix5 k l g r p) = value X D A g (lane r p) k.val l
  | 0, _, h => absurd h (by omega)
  | n + 1, h, hk => by
    show b41 n (states X D A n) (ix5 k l g r p) = _
    have hn : n < 66 := by omega
    rw [ys_step _ n hn]
    by_cases e : k.val = n
    · subst e
      obtain ⟨-, -, k2, k3, k4⟩ := kept X D A k.val
      rw [if_pos rfl, out_step _ k.val hn, k2, k3, k4, diag_apply, decayIn_apply]
      unfold value carried
      rw [laneHead_lane]
      refine congrArg (_ + ·) (congrArg (· * _) (Finset.sum_congr rfl fun q _ => ?_))
      rw [carry_eq X D A g r p k.val (by omega) q, c_apply, mul_comm]
    · rw [if_neg e]
      exact ys_eq g r p k l n (by omega) (by omega)

/-- The reference's result, at row `l` of chunk `k` and position `p` of head `r` of group `g`. -/
theorem result (g r : Fin 8) (p : Fin 64) (k : Fin 66) (l : Fin 128) :
    R_main_v51 (states X D A 66) (ix2 ⟨128 * k.val + l.val, by omega⟩ ⟨512 * g.val + (lane r p).val, by unfold lane; omega⟩)
      = value X D A g (lane r p) k.val l := by
  rw [← ys_eq X D A g r p k l 66 (le_refl _) k.isLt]
  unfold R_main_v51
  generalize (states X D A 66).main_v50_7 = y
  pointwise
  refine congrArg₂ (fun a b => y (ix5 k l g a b)) (Fin.ext ?_) (Fin.ext ?_)
  · show (512 * g.val + (64 * r.val + p.val)) / 64 % 8 = r.val
    omega
  · show (512 * g.val + (64 * r.val + p.val)) % 64 = p.val
    omega

end Cert.ReferenceIdeal.Whole

end
-- ==== Proof.Finite.lean ====
/- The precondition read: where it holds, every step size and every summed decay is a real number. -/
module

public import proofs.«01_k».proof.Pre_finite_gates
public import proofs.«01_k».proof.Proof.Gen.Pre_finite_gates
public import proofs.«01_k».proof.Proof.Column
public import Idealize.ShloMosaic.Lib.Pointwise
public import Idealize.ShloMosaic.Lib.ReduceAll

@[expose] public section

noncomputable section

namespace Cert.Finite

open Idealize.ShloMosaic Cert.Pre_finite_gates Cert.Column

theorem fin_of_abs_lt {v : EReal} (h : max v (-v) < ⊤) : Fin' v := by
  induction v with
  | bot => simp at h
  | top => simp at h
  | coe r => exact ⟨r, rfl⟩

variable (X : FVec Ideal S8448x6144 .f32) (D A : FVec Ideal S8448x128 .f32)

/-- Where every comparison of an array's magnitudes with infinity says "less", the array is finite. -/
theorem fin_of_all (v : FVec Ideal S8448x128 .f32)
    (h : Host.reduce IntOp.andi
      (cmpf .olt (Host.absf v) (broadcastInDim S8448x128 ![] Facts.bcast_S_S8448x128 (constant S_ .f32 0x7F800000#32)))
      (constantI S_ 1 1#1) Facts.reducesTo_S8448x128_S_d0_1 Facts.h_S_ ix0 = 1#1)
    (i : S8448x128.Idx) : Fin' (v i) := by
  have e := Host.reduce_andi_all _ _ _ _ _ h i
  apply fin_of_abs_lt
  pointwise at e
  have top : Ideal.ofBits .f32 0x7F800000#32 = ⊤ := by simp [Ideal.ofBits, Ideal.ieee]
  rw [top] at e
  by_contra g
  rw [decide_eq_false (show ¬ FloatOps.absf (F := Ideal) (φ := .f32) (v i) < ⊤ from g)] at e
  exact absurd e (by decide)

/-- The precondition gives finite step sizes and finite decays. -/
theorem finite (h : fn (F := Ideal) X D A ix0 = 1#1) : (∀ i, Fin' (D i)) ∧ ∀ i, Fin' (A i) := by
  dsimp only [fn] at h
  have h' := IntOp.andi_eq_one.1 h
  exact ⟨fin_of_all D h'.1, fin_of_all A h'.2⟩

end Cert.Finite

end
-- ==== Proof.Equal.lean ====
/- The kernel's scan and the reference's are one array, where the gates are finite. -/
module

public import proofs.«01_k».proof.Proof.KernelValue
public import proofs.«01_k».proof.Proof.RefValue
public import proofs.«01_k».proof.Proof.Finite

@[expose] public section

noncomputable section

namespace Cert.Equal

open Idealize.ShloMosaic Idealize.ShloMosaic.TcCoe Idealize.SL.Sem Cert.KernelIdeal
open Cert.KernelIdeal.Entry (X D A)
open Cert.Column Cert.ReferenceIdeal.Parts

variable (m : (ℓ : Loc nD τ sig) → Buf (Elt Ideal) ℓ) (c : Dev nD)

/-- The result read from the reference's last state is the array the kernel leaves. -/
theorem arrays (hD : ∀ i, Fin' (D m c i)) (hA : ∀ i, Fin' (A m c i)) (i : S8448x4096.Idx) :
    Cert.ReferenceIdeal.Step.R_main_v51 (Cert.ReferenceIdeal.Iter.states (X m c) (D m c) (A m c) 66) i = Value.G5 m c i := by
  have h0 : (i 0).val < 8448 := (i 0).isLt
  have h1 : (i 1).val < 4096 := (i 1).isLt
  let k : Fin 66 := ⟨(i 0).val / 128, by omega⟩
  let l : Fin 128 := ⟨(i 0).val % 128, by omega⟩
  let g : Fin 8 := ⟨(i 1).val / 512, by omega⟩
  let r : Fin 8 := ⟨(i 1).val % 512 / 64, by omega⟩
  let p : Fin 64 := ⟨(i 1).val % 64, by omega⟩
  have e : i = ix2 ⟨128 * k.val + l.val, by omega⟩ ⟨512 * g.val + (lane r p).val, by omega⟩ := by
    funext a
    fin_cases a
    · exact Fin.ext (show (i 0).val = 128 * ((i 0).val / 128) + (i 0).val % 128 by omega)
    · exact Fin.ext (show (i 1).val = 512 * ((i 1).val / 512) + (64 * ((i 1).val % 512 / 64) + (i 1).val % 64) by omega)
  rw [e]
  exact (Cert.ReferenceIdeal.Whole.result (X m c) (D m c) (A m c) g r p k l).trans
    (Cert.KernelIdeal.Whole.result m c hD hA k l g (lane r p)).symm

end Cert.Equal

end
-- ==== Proof.Back.Payload.lean ====
/- What the backward kernel computes at one grid point. A row takes from those that come no earlier, and a chunk's decays are
   summed from its last row, so each of its values is the forward one of the chunk's rows read from the last to the first. -/
module

public import proofs.«01_k».proof.Proof.Gen.SsdBackIdeal.Skeleton
public import proofs.«01_k».proof.Proof.Payload

@[expose] public section

set_option maxRecDepth 16384

noncomputable section

namespace Cert.SsdBackIdeal.Payload

open Idealize.ShloMosaic Idealize.ShloMosaic.TcCoe Idealize.SL.Sem Cert.SsdBackIdeal Cert.SsdBackIdeal.Gen Cert.Column
open Cert.KernelIdeal.Payload (spread spreadRow spread_apply spreadRow_apply cbVec xdtVec head)

/-- The mask of the rows that come no earlier: row `s` reaches row `l` when `l ≤ s`. -/
theorem later_apply (l s : Fin 128) : k0_pay3 (ix2 l s) = if l ≤ s then 1#1 else 0#1 := by
  revert l s
  decide +kernel

/-- One head's decays between the rows, nothing from an earlier row. -/
def gateVec (a : FVec Ideal S128x8 .f32) (a' : FVec Ideal S8x128 .f32) (r : ℕ) (h1 : S128x8.Slices ![0, r] S128x1)
    (h2 : S8x128.Slices ![r, 0] S1x128) : FVec Ideal S128x128 .f32 :=
  let z : FVec Ideal S128x128 .f32 := broadcast S128x128 (Scalar.ofBits (F := Ideal) .f32 0x00000000#32)
  select k0_pay3
    (exp (select k0_pay3
      (subf (broadcastTo S128x128 (extractStridedSlice S128x1 ![0, r] a h1) broadcasts_S128x1_S128x128)
        (broadcastTo S128x128 (extractStridedSlice S1x128 ![r, 0] a' h2) broadcasts_S1x128_S128x128)) z)) z

/-- One head's lanes of the chunk's own part of the output. -/
def innerVec (b c : FVec Ideal S128x128 .f32) (x : FVec Ideal S128x512 .f32) (dt a : FVec Ideal S128x8 .f32)
    (a' : FVec Ideal S8x128 .f32) (r o : ℕ) (h1 : S128x8.Slices ![0, r] S128x1) (h2 : S8x128.Slices ![r, 0] S1x128)
    (h3 : S128x512.Slices ![0, o] S128x64) : FVec Ideal S128x64 .f32 :=
  matmul dot_S128x128_S128x64_S128x64_1_0_0_1_n_n none (mulf (cbVec b c) (gateVec a a' r h1 h2))
    (extractStridedSlice S128x64 ![0, o] (xdtVec x dt) h3) (constant S128x64 .f32 0x00000000#32)

/-- The first row of the decays, which is the sum of all. -/
def firstRow (a : FVec Ideal S128x8 .f32) : FVec Ideal S1x8 .f32 :=
  extractStridedSlice S1x8 ![0, 0] a slices_S128x8_o0_0_S1x8

/-- What the chunk adds to the state. -/
def gainVec (b : FVec Ideal S128x128 .f32) (x : FVec Ideal S128x512 .f32) (dt a : FVec Ideal S128x8 .f32) :
    FVec Ideal S128x512 .f32 :=
  matmul dot_S128x128_S128x512_S128x512_0_0_1_1_n_n none b
    (mulf (xdtVec x dt) (spread (exp (subf (broadcastTo S128x8 (firstRow a) broadcasts_S1x8_S128x8) a))))
    (constant S128x512 .f32 0x00000000#32)

/-- The state the chunk leaves. -/
def nextVec (b : FVec Ideal S128x128 .f32) (x : FVec Ideal S128x512 .f32) (dt a : FVec Ideal S128x8 .f32)
    (S : FVec Ideal S128x512 .f32) : FVec Ideal S128x512 .f32 :=
  addf (mulf S (broadcastTo S128x512 (spreadRow (exp (firstRow a))) broadcasts_S1x512_S128x512)) (gainVec b x dt a)

/-- A sum over a chunk's rows, taken from the last to the first. -/
theorem sum_rev (f : Fin 128 → EReal) : ∑ s, f s = ∑ s : Fin 128, f s.rev := (Equiv.sum_comp Fin.revPerm f).symm

theorem gateVec_apply (a : FVec Ideal S128x8 .f32) (a' : FVec Ideal S8x128 .f32) (r : Fin 8)
    (h1 : S128x8.Slices ![0, r.val] S128x1) (h2 : S8x128.Slices ![r.val, 0] S1x128) (l s : Fin 128) :
    gateVec a a' r.val h1 h2 (ix2 l s) = gate (fun l => a (ix2 l.rev r)) (fun s => a' (ix2 r s.rev)) l.rev s.rev := by
  unfold gate
  simp only [Fin.rev_rev, Fin.rev_le_rev]
  pointwise [gateVec, later_apply]
  by_cases h : l ≤ s
  · simp only [if_pos h]
    rfl
  · simp only [if_neg h]
    rfl

theorem innerVec_apply (b c : FVec Ideal S128x128 .f32) (x : FVec Ideal S128x512 .f32) (dt a : FVec Ideal S128x8 .f32)
    (a' : FVec Ideal S8x128 .f32) (r : Fin 8) (o : ℕ) (ho : o = 64 * r.val) (h1 : S128x8.Slices ![0, r.val] S128x1) (h2 : S8x128.Slices ![r.val, 0] S1x128)
    (h3 : S128x512.Slices ![0, o] S128x64) (l : Fin 128) (p : Fin 64) (q : Fin 512) (hq : q.val = o + p.val)
    (hdt : ∀ s, Fin' (dt (ix2 s r))) :
    innerVec b c x dt a a' r.val o h1 h2 h3 (ix2 l p) =
      ownPart (fun s => x (ix2 s.rev q)) (fun s => dt (ix2 s.rev r)) (fun l => a (ix2 l.rev r)) (fun s => a' (ix2 r s.rev))
        (fun s n => b (ix2 s.rev n)) (fun l n => c (ix2 l.rev n)) l.rev := by
  unfold ownPart
  rw [sum_rev]
  simp only [Fin.rev_rev]
  pointwise [innerVec, cbVec, xdtVec, gateVec_apply]
  have hq' : (⟨o + p.val, by omega⟩ : Fin 512) = q := Fin.ext hq.symm
  have hr : head q = r := Fin.ext (by show q.val / 64 = r.val; omega)
  subst hr
  refine Finset.sum_congr rfl fun s _ => ?_
  rw [hq', spread_apply dt s q (hdt s)]

theorem nextVec_apply (b : FVec Ideal S128x128 .f32) (x : FVec Ideal S128x512 .f32) (dt a : FVec Ideal S128x8 .f32)
    (S : FVec Ideal S128x512 .f32) (n : Fin 128) (q : Fin 512) (hdt : ∀ s, Fin' (dt (ix2 s (head q))))
    (ha : ∀ s, Fin' (a (ix2 s (head q)))) :
    nextVec b x dt a S (ix2 n q) =
      next (fun s => x (ix2 s.rev q)) (fun s => dt (ix2 s.rev (head q))) (fun s => a (ix2 s.rev (head q)))
        (fun s n => b (ix2 s.rev n)) (fun n => S (ix2 n q)) n := by
  have hfirst : ∀ k : Fin 8, firstRow a (ix2 0 k) = a (ix2 0 k) := fun k => by pointwise [firstRow]
  have h0 : spreadRow (exp (firstRow a)) (ix2 0 q) = Ideal.exp (a (ix2 0 (head q))) := by
    have e : exp (firstRow a) (ix2 0 (head q)) = Ideal.exp (a (ix2 0 (head q))) := by
      pointwise [hfirst]
    rw [spreadRow_apply _ _ (e ▸ fin_exp (ha 0)), e]
  have h1 : ∀ s, spread (exp (subf (broadcastTo S128x8 (firstRow a) broadcasts_S1x8_S128x8) a)) (ix2 s q)
      = Ideal.exp (a (ix2 0 (head q)) - a (ix2 s (head q))) := fun s => by
    have e : exp (subf (broadcastTo S128x8 (firstRow a) broadcasts_S1x8_S128x8) a) (ix2 s (head q))
        = Ideal.exp (a (ix2 0 (head q)) - a (ix2 s (head q))) := by
      pointwise [hfirst]
    rw [spread_apply _ _ _ (e ▸ fin_exp (fin_sub (ha 0) (ha s))), e]
  have hl : (127 : Fin 128).rev = 0 := rfl
  unfold next
  rw [sum_rev]
  simp only [Fin.rev_rev, hl]
  pointwise [nextVec, gainVec, xdtVec]
  rw [h0]
  refine congrArg₂ (· + ·) rfl (Finset.sum_congr rfl fun s _ => ?_)
  rw [h1, spread_apply dt s q (hdt s)]

end Cert.SsdBackIdeal.Payload

end
-- ==== Proof.Back.Tile.lean ====
/- What the backward kernel leaves after one grid point, over the extended reals: the block's second chunk, then its first,
   each chunk's rows from the last to the first. -/
module

public import proofs.«01_k».proof.Proof.Back.Payload
public import proofs.«01_k».proof.Proof.Tile
public import proofs.«01_k».proof.Proof.Gen.SsdBackIdeal.Value

@[expose] public section

set_option maxRecDepth 16384

noncomputable section

namespace Cert.SsdBackIdeal.Tile

open Idealize.ShloMosaic Idealize.ShloMosaic.TcCoe Idealize.ShloMosaic.Tactic Idealize.SL.Sem
open Cert.SsdBackIdeal Cert.SsdBackIdeal.Gen Cert.SsdBackIdeal.Payload Cert.Column
open Cert.KernelIdeal.Payload (head outerVec outerVec_apply)
open Cert.KernelIdeal.Tile (Blocks AllFin row xV bV cV dtV aV arV xV_apply bV_apply cV_apply dtV_apply aV_apply arV_apply
  slicesCol slicesRow slicesLanes tile tile_emb rows canon_over canon_off)

variable (B : Blocks) (j : Fin 2) (q : Fin 512) (r : Fin 8)

/-- A chunk's entries in the order the scan takes them. -/
def xs (s : Fin 128) : EReal := B.x (ix2 (row j s.rev) q)
def bs (s n : Fin 128) : EReal := B.b (ix2 (row j s.rev) n)
def cs (l n : Fin 128) : EReal := B.c (ix2 (row j l.rev) n)
def dts (s : Fin 128) : EReal := B.da (ix4 0 0 (row j s.rev) ⟨r.val, by omega⟩)
def acs (s : Fin 128) : EReal := B.da (ix4 0 0 (row j s.rev) ⟨8 + r.val, by omega⟩)
def ars (s : Fin 128) : EReal := B.ar (ix4 0 0 r (row j s.rev))

/-- What a chunk's own rows give its row `l`, in that order, at a lane. -/
def own (l : Fin 128) : EReal :=
  ownPart (xs B j q) (dts B j (head q)) (acs B j (head q)) (ars B j (head q)) (bs B j) (cs B j) l

/-- The state a chunk leaves at a lane. -/
def after (S : Fin 128 → EReal) (n : Fin 128) : EReal :=
  next (xs B j q) (dts B j (head q)) (acs B j (head q)) (bs B j) S n

/-- What the state a chunk enters with gives its row `l` at a lane. -/
def thru (S : Fin 128 → EReal) (l : Fin 128) : EReal :=
  carried (acs B j (head q)) (cs B j) S l

/-- The state a chunk of the point enters with, when the point enters with `S`. -/
def entry (S : Fin 128 → EReal) : Fin 128 → EReal := if j = 1 then S else after B 1 q S

/-- One head's lanes of a chunk's own part, as the kernel stores it. -/
def piece (jr : Fin 2 × Fin 8) : View.Piece (Elt Ideal) S256x512 .f32 :=
  ⟨tile jr.1 jr.2,
    innerVec (bV B jr.1) (cV B jr.1) (xV B jr.1) (dtV B jr.1) (aV B jr.1) (arV B jr.1) jr.2.val (64 * jr.2.val)
      (slicesCol jr.2) (slicesRow jr.2) (slicesLanes jr.2)⟩

/-- The sixteen, in the order the kernel stores them, the last first. -/
def pieces : List (View.Piece (Elt Ideal) S256x512 .f32) :=
  [(1, 7), (1, 6), (1, 5), (1, 4), (1, 3), (1, 2), (1, 1), (1, 0),
    (0, 7), (0, 6), (0, 5), (0, 4), (0, 3), (0, 2), (0, 1), (0, 0)].map (piece B)

/-- The own part over the whole block. -/
def ownAt (y : S256x512.Idx) : EReal :=
  own B ⟨(y 0).val / 128, by have := (y 0).isLt; change (y 0).val < 256 at this; omega⟩ (y 1)
    (Fin.rev ⟨(y 0).val % 128, Nat.mod_lt _ (by omega)⟩)

theorem ownAt_row (l : Fin 128) : ownAt B (ix2 (row j l) q) = own B j q l.rev := by
  have h1 : (128 * j.val + l.val) / 128 = j.val := by omega
  have h2 : (128 * j.val + l.val) % 128 = l.val := by omega
  simp only [ownAt, row, ix2_0, ix2_1, h1, h2]

theorem piece_apply (h : AllFin B) (jr : Fin 2 × Fin 8) (y : S128x64.Idx) :
    (piece B jr).2 y = ownAt B ((piece B jr).1.emb y) := by
  obtain ⟨j, r⟩ := jr
  obtain ⟨l, p, rfl⟩ : ∃ l p, y = ix2 l p := ⟨y 0, y 1, eq_ix2 y⟩
  have hq : 64 * r.val + p.val < 512 := by omega
  have hr : head ⟨64 * r.val + p.val, hq⟩ = r := Fin.ext (by show (64 * r.val + p.val) / 64 = r.val; omega)
  show _ = ownAt B ((tile j r).emb (ix2 l p))
  rw [tile_emb, ownAt_row]
  refine (innerVec_apply (bV B j) (cV B j) (xV B j) (dtV B j) (aV B j) (arV B j) r (64 * r.val) rfl _ _ _ l p
    ⟨64 * r.val + p.val, hq⟩ rfl (fun s => (dtV_apply B j s r).symm ▸ h _)).trans ?_
  simp only [own, hr, xV_apply, bV_apply, cV_apply, dtV_apply, aV_apply, arV_apply]
  rfl

/-- The sixteen pieces leave the own part. -/
theorem canon_pieces (h : AllFin B) (y : S256x512.Idx) : View.canon (pieces B) y = ownAt B y := by
  refine View.canon_apply_of_pieces (ownAt B) (pieces B) (fun p hp x => ?_) y ?_
  · obtain ⟨jr, _, rfl⟩ := List.mem_map.mp hp
    exact piece_apply B h jr x
  · exact View.cover_of_tiledBy (pieces B) ![128, 64] (by sl_kernel_rfl) y

/-- The state after the point's second chunk, and after both. -/
def state1 (S : FVec Ideal S128x512 .f32) : FVec Ideal S128x512 .f32 := nextVec (bV B 1) (xV B 1) (dtV B 1) (aV B 1) S
def state2 (S : FVec Ideal S128x512 .f32) : FVec Ideal S128x512 .f32 := nextVec (bV B 0) (xV B 0) (dtV B 0) (aV B 0) (state1 B S)

theorem next_apply (h : AllFin B) (S : FVec Ideal S128x512 .f32) (n : Fin 128) (q : Fin 512) :
    nextVec (bV B j) (xV B j) (dtV B j) (aV B j) S (ix2 n q) = after B j q (fun n => S (ix2 n q)) n := by
  rw [nextVec_apply _ _ _ _ _ _ _ (fun s => (dtV_apply B j s _).symm ▸ h _) (fun s => (aV_apply B j s _).symm ▸ h _)]
  simp only [xV_apply, bV_apply, dtV_apply, aV_apply]
  rfl

theorem thru_apply (h : AllFin B) (S : FVec Ideal S128x512 .f32) (l : Fin 128) (q : Fin 512) :
    outerVec (cV B j) (aV B j) S (ix2 l q) = thru B j q (fun n => S (ix2 n q)) l.rev := by
  rw [outerVec_apply _ _ _ _ _ (fun s => (aV_apply B j s _).symm ▸ h _)]
  unfold thru carried cs acs
  simp only [cV_apply, aV_apply, Fin.rev_rev]
  rfl

/-- What the block holds after the two chunks' stores over the sixteen pieces. -/
theorem canon_rows (h : AllFin B) (L : List (View.Piece (Elt Ideal) S256x512 .f32)) (hL : ∀ y, View.canon L y = ownAt B y)
    (v : View sig .tc .vmem S256x512 .f32) (S w0 w1 : FVec Ideal S128x512 .f32)
    (h1 : w1 = addf (v.readCov (Val := Elt Ideal) L (rows 1).toLoadRect) (outerVec (cV B 1) (aV B 1) S))
    (h0 : w0 = addf (v.readCov (Val := Elt Ideal) (⟨rows 1, w1⟩ :: L) (rows 0).toLoadRect)
      (outerVec (cV B 0) (aV B 0) (state1 B S))) (l : Fin 128) (q : Fin 512) :
    View.canon (Val := Elt Ideal) (e := .f32) (⟨rows 0, w0⟩ :: ⟨rows 1, w1⟩ :: L) (ix2 (row j l) q)
      = own B j q l.rev + thru B j q (entry B j q (fun n => S (ix2 n q))) l.rev := by
  have hj : j = 1 ∨ j = 0 := by omega
  obtain rfl | rfl := hj
  · rw [canon_off (i := 0) (by decide), canon_over 1 L v w1 _ h1, hL, ownAt_row, thru_apply B 1 h]
    rfl
  · rw [canon_over 0 _ v w0 _ h0, canon_off (i := 1) (by decide), hL, ownAt_row, thru_apply B 0 h]
    have e1 : (fun n => state1 B S (ix2 n q)) = entry B 0 q (fun n => S (ix2 n q)) := funext fun n => next_apply B 1 h S n q
    rw [e1]

end Cert.SsdBackIdeal.Tile

end
-- ==== Proof.Back.Block.lean ====
/- The generated outputs of one grid point of the backward kernel are its tile's, in both of its cases. -/
module

public import proofs.«01_k».proof.Proof.Back.Tile

@[expose] public section

set_option maxRecDepth 16384

noncomputable section

namespace Cert.SsdBackIdeal.Block

open Idealize.ShloMosaic Idealize.ShloMosaic.TcCoe Idealize.ShloMosaic.Tactic Idealize.SL.Sem
open Cert.SsdBackIdeal Cert.SsdBackIdeal.Gen Cert.SsdBackIdeal.Payload Cert.SsdBackIdeal.Tile Cert.Column
open Cert.KernelIdeal.Tile (Blocks AllFin row)

variable (c : Dev nD) (i : grid0.Coords) (arg2 : Memref sig .tc .vmem S256x512 .f32) (harg2 : arg2.IsWhole)
  (arg3 : Memref sig .tc .vmem S256x128 .f32) (harg3 : arg3.IsWhole) (arg4 : Memref sig .tc .vmem S256x128 .f32)
  (harg4 : arg4.IsWhole) (arg5 : Memref sig .tc .vmem S1x1x256x16 .f32) (harg5 : arg5.IsWhole)
  (arg6 : Memref sig .tc .vmem S1x1x8x256 .f32) (harg6 : arg6.IsWhole) (arg7 : Memref sig .tc .vmem S256x512 .f32)
  (harg7 : arg7.IsWhole) (arg8 : Memref sig .tc .vmem S128x512 .f32) (harg8 : arg8.IsWhole)
  (B : Blocks) (S : Vec Ideal S128x512 .f32) (j : Fin 2) (l : Fin 128) (q : Fin 512)

/-- The kernel's zeroed state. -/
theorem zero_apply (n : Fin 128) : (k0_pay2 : FVec Ideal S128x512 .f32) (ix2 n q) = 0 := by
  pointwise [k0_pay2]

/-- Casts to the shape a value has. -/
theorem cast_first (v : Vec Ideal S128x512 .f32) : k0_pay63 v = v := shapeCast_self v _
theorem cast_second (v : Vec Ideal S128x512 .f32) : k0_pay74 v = v := shapeCast_self v _
theorem cast_state (v : FVec Ideal S128x512 .f32) : k0_pay1 v = v := shapeCast_self v _

theorem zeroOff : (![0, 0] : Fin 2 → ℕ) = fun _ => 0 := by
  funext a
  fin_cases a <;> rfl

set_option maxHeartbeats 1000000 in
/-- A later point's output block. -/
theorem later_out (hc0 : ¬cond0_0 i) (h : AllFin B) :
    out0_B_5 c i arg2 harg2 arg3 harg3 arg4 harg4 arg5 harg5 arg6 harg6 arg7 harg7 arg8 harg8 hc0 B.x B.b B.c B.da B.ar S
        (ix2 (row j l) q)
      = own B j q l.rev + thru B j q (entry B j q (fun n => S (ix2 n q))) l.rev := by
  unfold out0_B_5
  rw [View.read_writes_eq_canon _ _ _ (cover0_B_5 c i arg2 harg2 arg3 harg3 arg4 harg4 arg5 harg5 arg6 harg6 arg7 harg7 arg8
    harg8 hc0 B.x B.b B.c B.da B.ar S)]
  unfold kernelRun0_B
  dsimp only
  sl_unfold_words
  simp only [View.readAt_eq_ld, harg2.read_unread, harg3.read_unread, harg4.read_unread, harg5.read_unread,
    harg6.read_unread, harg7.read_unread, harg8.read_unread, View.ld_unit_zero (S := S128x512) zeroOff, cast_first, cast_second]
  exact canon_rows B j h (pieces B) (canon_pieces B h) arg7.view S _ _ rfl rfl l q

set_option maxHeartbeats 1000000 in
/-- A first point's output block. -/
theorem first_out (hc0 : cond0_0 i) (h : AllFin B) :
    out0_A_5 c i arg2 harg2 arg3 harg3 arg4 harg4 arg5 harg5 arg6 harg6 arg7 harg7 arg8 harg8 hc0 B.x B.b B.c B.da B.ar
        (ix2 (row j l) q)
      = own B j q l.rev + thru B j q (entry B j q (fun _ => 0)) l.rev := by
  unfold out0_A_5
  rw [View.read_writes_eq_canon _ _ _ (cover0_A_5 c i arg2 harg2 arg3 harg3 arg4 harg4 arg5 harg5 arg6 harg6 arg7 harg7 arg8
    harg8 hc0 B.x B.b B.c B.da B.ar)]
  unfold kernelRun0_A
  dsimp only
  sl_unfold_words
  simp only [View.readAt_eq_ld, harg2.read_unread, harg3.read_unread, harg4.read_unread, harg5.read_unread,
    harg6.read_unread, harg7.read_unread, harg8.read_unread, View.readCov_unit_zero (S := S128x512) _ zeroOff, cast_first, cast_second]
  refine (canon_rows B j h (pieces B) (canon_pieces B h) arg7.view k0_pay2 _ _ rfl rfl l q).trans ?_
  simp only [zero_apply]

/-- A later point's state. -/
theorem later_state (hc0 : ¬cond0_0 i) :
    sout0_B_0 c i arg2 harg2 arg3 harg3 arg4 harg4 arg5 harg5 arg6 harg6 arg7 harg7 arg8 harg8 hc0 B.x B.b B.c B.da B.ar S
      = state2 B S := by
  unfold sout0_B_0
  rw [View.read_writes_eq_canon _ _ _ (scover0_B_0 c i arg2 harg2 arg3 harg3 arg4 harg4 arg5 harg5 arg6 harg6 arg7 harg7 arg8
    harg8 hc0 B.x B.b B.c B.da B.ar S)]
  unfold kernelRun0_B
  dsimp only
  sl_unfold_words
  simp only [View.readAt_eq_ld, harg2.read_unread, harg3.read_unread, harg4.read_unread, harg5.read_unread,
    harg6.read_unread, harg7.read_unread, harg8.read_unread, View.ld_unit_zero (S := S128x512) zeroOff]
  rw [View.canon_cons_unit_zero zeroOff]
  exact cast_state _
/-- A first point's state. -/
theorem first_state (hc0 : cond0_0 i) :
    sout0_A_0 c i arg2 harg2 arg3 harg3 arg4 harg4 arg5 harg5 arg6 harg6 arg7 harg7 arg8 harg8 hc0 B.x B.b B.c B.da B.ar
      = state2 B k0_pay2 := by
  unfold sout0_A_0
  rw [View.read_writes_eq_canon _ _ _ (scover0_A_0 c i arg2 harg2 arg3 harg3 arg4 harg4 arg5 harg5 arg6 harg6 arg7 harg7 arg8
    harg8 hc0 B.x B.b B.c B.da B.ar)]
  unfold kernelRun0_A
  dsimp only
  sl_unfold_words
  simp only [View.readAt_eq_ld, harg2.read_unread, harg3.read_unread, harg4.read_unread, harg5.read_unread,
    harg6.read_unread, harg7.read_unread, harg8.read_unread, View.readCov_unit_zero (S := S128x512) _ zeroOff]
  rw [View.canon_cons_unit_zero zeroOff]
  exact cast_state _

end Cert.SsdBackIdeal.Block

end
-- ==== Proof.Back.Entry.lean ====
/- The blocks the backward kernel reads at a point, as entries of its three arguments. Point `t` is block `32 - t % 33` of
   256 rows of group `t / 33`. -/
module

public import proofs.«01_k».proof.Proof.Back.Tile
public import Idealize.ShloMosaic.Lib.Pipeline.ValueKit
public import Idealize.ShloMosaic.Lib.Claim

@[expose] public section

set_option maxRecDepth 16384

noncomputable section

namespace Cert.SsdBackIdeal.Entry

open Idealize.ShloMosaic Idealize.ShloMosaic.TcCoe Idealize.ShloMosaic.Tactic Idealize.SL.Sem
open Cert.SsdBackIdeal Cert.SsdBackIdeal.Gen Cert.SsdBackIdeal.Tile Cert.Column
open Cert.KernelIdeal.Tile (Blocks AllFin)

variable (m : (ℓ : Loc nD τ sig) → Buf (Elt Ideal) ℓ) (c : Dev nD) (t : Fin cfg0.N)

/-- Which block of its array each window reads at a point. -/
theorem idx : ∀ t : Fin cfg0.N,
    win0_0.index t = ![32 - t.val % 33, t.val / 33] ∧ win0_1.index t = ![32 - t.val % 33, 32 + t.val / 33]
      ∧ win0_2.index t = ![32 - t.val % 33, 40 + t.val / 33] ∧ win0_3.index t = ![1, t.val / 33, 32 - t.val % 33, 0]
      ∧ win0_4.index t = ![1, t.val / 33, 0, 32 - t.val % 33] :=
  (by decide +kernel : ∀ t : Fin grid0.N, _)

theorem lt_points : t.val < 264 := lt_of_lt_of_eq t.isLt N_0

/-- The three arguments. -/
def X : FVec Ideal S8448x6144 .f32 := m ((c : Thread nD τ).loc main_arg0)
def D : FVec Ideal S8448x128 .f32 := m ((c : Thread nD τ).loc main_arg1)
def A : FVec Ideal S8448x128 .f32 := m ((c : Thread nD τ).loc main_arg2)

/-- Row `s` of the point's block among all rows. -/
def rowAt (s : Fin 256) : Fin 8448 := ⟨256 * (32 - t.val % 33) + s.val, by omega⟩

/-- The point's blocks. -/
def blocks : Blocks where
  x := iblk m c 0 t
  b := iblk m c 1 t
  c := iblk m c 2 t
  da := iblk m c 3 t
  ar := iblk m c 4 t

theorem x_apply (s : Fin 256) (q : Fin 512) :
    (blocks m c t).x (ix2 s q) = X m c (ix2 (rowAt t s) ⟨512 * (t.val / 33) + q.val, by have := lt_points t; omega⟩) := by
  show iblk m c 0 t (ix2 s q) = m ((c : Thread nD τ).loc main_arg0) _
  unfold rowAt
  blk_ext [iblk, V, idx t]

theorem b_apply (s : Fin 256) (n : Fin 128) :
    (blocks m c t).b (ix2 s n)
      = X m c (ix2 (rowAt t s) ⟨4096 + (128 * (t.val / 33) + n.val), by have := lt_points t; omega⟩) := by
  show iblk m c 1 t (ix2 s n) = m ((c : Thread nD τ).loc main_arg0) _
  unfold rowAt
  blk_ext [iblk, V, idx t]

theorem c_apply (s : Fin 256) (n : Fin 128) :
    (blocks m c t).c (ix2 s n)
      = X m c (ix2 (rowAt t s) ⟨5120 + (128 * (t.val / 33) + n.val), by have := lt_points t; omega⟩) := by
  show iblk m c 2 t (ix2 s n) = m ((c : Thread nD τ).loc main_arg0) _
  unfold rowAt
  blk_ext [iblk, V, idx t]

/-- The host's step sizes and decays side by side, and the decays along the rows. -/
theorem V4 : V m c main_v4 = concatenate S2x8x8448x16 3
    [⟨S2x8x8448x8, transpose S2x8x8448x8 [1, 2, 0, 3] (shapeCast S8448x2x8x8 (D m c) shapeCasts_S8448x128_S8448x2x8x8)
        transposes_S8448x2x8x8_S2x8x8448x8_1_2_0_3⟩,
      ⟨S2x8x8448x8, transpose S2x8x8448x8 [1, 2, 0, 3] (shapeCast S8448x2x8x8 (A m c) shapeCasts_S8448x128_S8448x2x8x8)
        transposes_S8448x2x8x8_S2x8x8448x8_1_2_0_3⟩] concatenates_S2x8x8448x8_S2x8x8448x8_S2x8x8448x16_d3 := by
  entry_read
  rfl

theorem V5 : V m c main_v5 = transpose S2x8x8x8448 [0, 1, 3, 2]
    (transpose S2x8x8448x8 [1, 2, 0, 3] (shapeCast S8448x2x8x8 (A m c) shapeCasts_S8448x128_S8448x2x8x8)
        transposes_S8448x2x8x8_S2x8x8448x8_1_2_0_3) transposes_S2x8x8448x8_S2x8x8x8448_0_1_3_2 := by
  entry_read
  rfl

theorem da_read (s : Fin 256) (k : Fin 16) :
    (blocks m c t).da (ix4 0 0 s k)
      = (V m c main_v4 : FVec Ideal S2x8x8448x16 .f32) (ix4 1 ⟨t.val / 33, by have := lt_points t; omega⟩ (rowAt t s) k) := by
  show iblk m c 3 t (ix4 0 0 s k) = _
  unfold rowAt
  blk_ext [iblk, idx t]

theorem ar_read (r : Fin 8) (s : Fin 256) :
    (blocks m c t).ar (ix4 0 0 r s)
      = (V m c main_v5 : FVec Ideal S2x8x8x8448 .f32) (ix4 1 ⟨t.val / 33, by have := lt_points t; omega⟩ r (rowAt t s)) := by
  show iblk m c 4 t (ix4 0 0 r s) = _
  unfold rowAt
  blk_ext [iblk, idx t]

/-- Head `r` of the point's group among all heads of the direction. -/
def headAt (r : Fin 8) : Fin 128 := ⟨64 + t.val / 33 * 8 + r.val, by have := lt_points t; omega⟩

theorem dt_apply (s : Fin 256) (r : Fin 8) :
    (blocks m c t).da (ix4 0 0 s ⟨r.val, by omega⟩) = D m c (ix2 (rowAt t s) (headAt t r)) := by
  rw [da_read, V4]
  pointwise
  rfl

theorem a_apply (s : Fin 256) (r : Fin 8) :
    (blocks m c t).da (ix4 0 0 s ⟨8 + r.val, by omega⟩) = A m c (ix2 (rowAt t s) (headAt t r)) := by
  rw [da_read, V4]
  pointwise
  rfl

theorem ar_apply (s : Fin 256) (r : Fin 8) :
    (blocks m c t).ar (ix4 0 0 r s) = A m c (ix2 (rowAt t s) (headAt t r)) := by
  rw [ar_read, V5]
  pointwise
  rfl

/-- The point's step sizes and decays are real numbers where the arguments' are. -/
theorem allFin (hD : ∀ i, Fin' (D m c i)) (hA : ∀ i, Fin' (A m c i)) : AllFin (blocks m c t) := by
  intro i
  obtain ⟨a, b, s, k, rfl⟩ : ∃ a b s k, i = ix4 a b s k := ⟨i 0, i 1, i 2, i 3, eq_ix4 i⟩
  obtain rfl : a = 0 := Subsingleton.elim _ _
  obtain rfl : b = 0 := Subsingleton.elim _ _
  by_cases hk : k.val < 8
  · exact (dt_apply m c t s ⟨k.val, hk⟩).symm ▸ hD _
  · have e : k = ⟨8 + (⟨k.val - 8, by omega⟩ : Fin 8).val, by show 8 + (k.val - 8) < 16; omega⟩ :=
      Fin.ext (by show k.val = 8 + (k.val - 8); omega)
    rw [e]
    exact (a_apply m c t s ⟨k.val - 8, by omega⟩).symm ▸ hA _

end Cert.SsdBackIdeal.Entry

end
-- ==== Proof.Back.Flip.lean ====
/- The scan's arguments for the backward direction: the rows from the last to the first, and the heads' second half. -/
module

public import proofs.«01_k».proof.Proof.Layer

@[expose] public section

noncomputable section

namespace Cert.Flip

open Idealize.ShloMosaic

/-- The activations' rows from the last to the first. -/
def flipX (X : (⟨2, ![8448, 6144]⟩ : Shape).Idx → EReal) : (⟨2, ![8448, 6144]⟩ : Shape).Idx → EReal :=
  fun i => X (ix2 (Fin.rev (i 0)) (i 1))

/-- The gates' rows from the last to the first, the second half of the heads before the first. -/
def flipD (D : (⟨2, ![8448, 128]⟩ : Shape).Idx → EReal) : (⟨2, ![8448, 128]⟩ : Shape).Idx → EReal :=
  fun i => D (ix2 (Fin.rev (i 0)) ⟨((i 1).val + 64) % 128, Nat.mod_lt _ (by omega)⟩)

end Cert.Flip

end
-- ==== Proof.Back.Result.lean ====
/- What the backward kernel leaves in its result: the value of the flipped arguments' scan at every row and lane. -/
module

public import proofs.«01_k».proof.Proof.Back.Block
public import proofs.«01_k».proof.Proof.Back.Entry
public import proofs.«01_k».proof.Proof.Back.Flip

@[expose] public section

set_option maxRecDepth 16384

noncomputable section

namespace Cert.SsdBackIdeal.Whole

open Idealize.ShloMosaic Idealize.ShloMosaic.TcCoe Idealize.SL.Sem
open Cert.SsdBackIdeal Cert.SsdBackIdeal.Gen Cert.SsdBackIdeal.Tile Cert.SsdBackIdeal.Entry Cert.SsdBackIdeal.Block Cert.Column Cert.Layer Cert.Flip
open Cert.KernelIdeal.Tile (AllFin row)

variable (m : (ℓ : Loc nD τ sig) → Buf (Elt Ideal) ℓ) (c : Dev nD)

/-- The flipped arguments. -/
abbrev X' : FVec Ideal S8448x6144 .f32 := flipX (X m c)
abbrev D' : FVec Ideal S8448x128 .f32 := flipD (D m c)
abbrev A' : FVec Ideal S8448x128 .f32 := flipD (A m c)

/-- The group of a point. -/
def group (t : Fin cfg0.N) : Fin 8 := ⟨t.val / 33, by have := lt_points t; omega⟩

theorem rowAt_eq (t : Fin cfg0.N) (j : Fin 2) (s : Fin 128) :
    rowAt t (row j s.rev) = (rowOf (2 * (t.val % 33) + (1 - j.val)) s).rev :=
  Fin.ext (by
    show 256 * (32 - t.val % 33) + (128 * j.val + (128 - (s.val + 1)))
      = 8448 - ((128 * (2 * (t.val % 33) + (1 - j.val)) + s.val) % 8448 + 1)
    omega)

theorem headAt_eq (t : Fin cfg0.N) (r : Fin 8) :
    headAt t r = ⟨((headOf (group t) r).val + 64) % 128, Nat.mod_lt _ (by omega)⟩ :=
  Fin.ext (by
    have := lt_points t
    show 64 + t.val / 33 * 8 + r.val = (t.val / 33 * 8 + r.val + 64) % 128
    omega)

section Reads

variable (t : Fin cfg0.N) (j : Fin 2) (q : Fin 512) (r : Fin 8)

theorem xs_eq : xs (blocks m c t) j q = colX (X' m c) (group t) q (2 * (t.val % 33) + (1 - j.val)) :=
  funext fun s => (x_apply m c t _ q).trans (by rw [rowAt_eq]; rfl)

theorem bs_eq : bs (blocks m c t) j = colB (X' m c) (group t) (2 * (t.val % 33) + (1 - j.val)) :=
  funext fun s => funext fun n => (b_apply m c t _ n).trans (by rw [rowAt_eq]; rfl)

theorem cs_eq : cs (blocks m c t) j = colC (X' m c) (group t) (2 * (t.val % 33) + (1 - j.val)) :=
  funext fun s => funext fun n => (c_apply m c t _ n).trans (by rw [rowAt_eq]; rfl)

theorem dts_eq : dts (blocks m c t) j r = colD (D' m c) (group t) r (2 * (t.val % 33) + (1 - j.val)) :=
  funext fun s => (dt_apply m c t _ r).trans (by rw [rowAt_eq, headAt_eq]; rfl)

theorem acs_eq : acs (blocks m c t) j r = colD (A' m c) (group t) r (2 * (t.val % 33) + (1 - j.val)) :=
  funext fun s => (a_apply m c t _ r).trans (by rw [rowAt_eq, headAt_eq]; rfl)

theorem ars_eq : ars (blocks m c t) j r = colD (A' m c) (group t) r (2 * (t.val % 33) + (1 - j.val)) :=
  funext fun s => (ar_apply m c t _ r).trans (by rw [rowAt_eq, headAt_eq]; rfl)

/-- A chunk's step of the point is the scan's step. -/
theorem after_eq (S : Fin 128 → EReal) (hS : S = state (X' m c) (D' m c) (A' m c) (group t) q (2 * (t.val % 33) + (1 - j.val))) :
    after (blocks m c t) j q S = state (X' m c) (D' m c) (A' m c) (group t) q (2 * (t.val % 33) + (1 - j.val) + 1) := by
  funext n
  rw [after, xs_eq, bs_eq, dts_eq, acs_eq, hS]
  rfl

/-- The two chunks' entries are the scan's states, if the point's is. -/
theorem entry_eq (S : Fin 128 → EReal) (hS : S = state (X' m c) (D' m c) (A' m c) (group t) q (2 * (t.val % 33))) :
    entry (blocks m c t) j q S = state (X' m c) (D' m c) (A' m c) (group t) q (2 * (t.val % 33) + (1 - j.val)) := by
  have hj : j = 1 ∨ j = 0 := by omega
  obtain rfl | rfl := hj
  · exact hS
  · exact after_eq m c t 1 q S hS

/-- and the point's own and carried parts the scan's value. -/
theorem value_eq (S : Fin 128 → EReal) (hS : S = state (X' m c) (D' m c) (A' m c) (group t) q (2 * (t.val % 33))) (l : Fin 128) :
    own (blocks m c t) j q l + thru (blocks m c t) j q (entry (blocks m c t) j q S) l
      = value (X' m c) (D' m c) (A' m c) (group t) q (2 * (t.val % 33) + (1 - j.val)) l := by
  rw [entry_eq m c t j q S hS, own, thru, xs_eq, bs_eq, cs_eq, dts_eq, acs_eq, ars_eq]
  rfl

/-- The state the point leaves. -/
theorem state2_eq (h : AllFin (blocks m c t)) (S : FVec Ideal S128x512 .f32)
    (hS : (fun n => S (ix2 n q)) = state (X' m c) (D' m c) (A' m c) (group t) q (2 * (t.val % 33))) :
    (fun n => state2 (blocks m c t) S (ix2 n q))
      = state (X' m c) (D' m c) (A' m c) (group t) q (2 * (t.val % 33) + 2) := by
  have e1 : (fun n => state1 (blocks m c t) S (ix2 n q)) = _ :=
    (funext fun n => next_apply (blocks m c t) 1 h S n q).trans (after_eq m c t 1 q _ hS)
  exact (funext fun n => next_apply (blocks m c t) 0 h (state1 (blocks m c t) S) n q).trans (after_eq m c t 0 q _ e1)

end Reads

/-- What a group's first point leaves, -/
theorem outs_first (t : Fin cfg0.N) (h0 : t.val % 33 = 0) (h : AllFin (blocks m c t)) :
    (∀ j l q, (outsAt0 m c t.val t.isLt).1 (ix2 (row j l) q)
        = own (blocks m c t) j q l.rev + thru (blocks m c t) j q (entry (blocks m c t) j q (fun _ => 0)) l.rev)
      ∧ (outsAt0 m c t.val t.isLt).2 = state2 (blocks m c t) k0_pay2 := by
  rw [outsAt0_A m c t h0]
  have e := fun j l q => first_out c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t) j l q ((hcond0_0 t).mpr h0) h
  have e' := first_state c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t) ((hcond0_0 t).mpr h0)
  unfold blocks at e e' ⊢
  dsimp only at e e' ⊢
  exact ⟨e, e'⟩

/-- and a later one. -/
theorem outs_later (t : Fin cfg0.N) (h0 : ¬t.val % 33 = 0) (h : AllFin (blocks m c t)) (S : FVec Ideal S128x512 .f32)
    (hS : S = (outsAt0 m c (t.val - 1) (Nat.lt_of_le_of_lt (Nat.sub_le _ _) t.isLt)).2) :
    (∀ j l q, (outsAt0 m c t.val t.isLt).1 (ix2 (row j l) q)
        = own (blocks m c t) j q l.rev + thru (blocks m c t) j q (entry (blocks m c t) j q (fun n => S (ix2 n q))) l.rev)
      ∧ (outsAt0 m c t.val t.isLt).2 = state2 (blocks m c t) S := by
  subst hS
  rw [outsAt0_B m c t h0]
  have e := fun j l q => later_out c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t)
    (outsAt0 m c (t.val - 1) (Nat.lt_of_le_of_lt (Nat.sub_le _ _) t.isLt)).2 j l q (fun h => h0 ((hcond0_0 t).mp h)) h
  have e' := later_state c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) (blocks m c t)
    (outsAt0 m c (t.val - 1) (Nat.lt_of_le_of_lt (Nat.sub_le _ _) t.isLt)).2 (fun h => h0 ((hcond0_0 t).mp h))
  unfold blocks at e e' ⊢
  dsimp only at e e' ⊢
  exact ⟨e, e'⟩

/-- Off a group's first block the point before leaves the state the point enters with. -/
theorem before (q : Fin 512) (t : Fin cfg0.N) (h0 : ¬t.val % 33 = 0)
    (h : (fun k => (outsAt0 m c (t.val - 1) (by omega)).2 (ix2 k q))
      = state (X' m c) (D' m c) (A' m c) (group ⟨t.val - 1, by omega⟩) q (2 * ((t.val - 1) % 33) + 2)) :
    (fun k => (outsAt0 m c (t.val - 1) (Nat.lt_of_le_of_lt (Nat.sub_le _ _) t.isLt)).2 (ix2 k q))
      = state (X' m c) (D' m c) (A' m c) (group t) q (2 * (t.val % 33)) := by
  have hg : group ⟨t.val - 1, by omega⟩ = group t := Fin.ext (by show (t.val - 1) / 33 = t.val / 33; omega)
  have hk : 2 * ((t.val - 1) % 33) + 2 = 2 * (t.val % 33) := by omega
  rw [hg, hk] at h
  exact h

variable (hD : ∀ i, Fin' (D m c i)) (hA : ∀ i, Fin' (A m c i))
include hD hA

/-- After every point the scratch holds the scan's state. -/
theorem scratch (q : Fin 512) : ∀ (n : ℕ) (t : Fin cfg0.N), t.val = n →
    (fun k => (outsAt0 m c t.val t.isLt).2 (ix2 k q))
      = state (X' m c) (D' m c) (A' m c) (group t) q (2 * (t.val % 33) + 2) := by
  intro n
  induction n with
  | zero =>
    intro t ht
    have h0 : t.val % 33 = 0 := by omega
    rw [(outs_first m c t h0 (allFin m c t hD hA)).2]
    exact state2_eq m c t q (allFin m c t hD hA) _ (by rw [h0]; exact funext fun n => zero_apply q n)
  | succ n ih =>
    intro t ht
    by_cases h0 : t.val % 33 = 0
    · rw [(outs_first m c t h0 (allFin m c t hD hA)).2]
      exact state2_eq m c t q (allFin m c t hD hA) _ (by rw [h0]; exact funext fun n => zero_apply q n)
    · rw [(outs_later m c t h0 (allFin m c t hD hA) _ rfl).2]
      exact state2_eq m c t q (allFin m c t hD hA) _ (before m c q t h0 (ih ⟨t.val - 1, by omega⟩ (by show t.val - 1 = n; omega)))

/-- After every point the output block holds the scan's value. -/
theorem block (t : Fin cfg0.N) (j : Fin 2) (l : Fin 128) (q : Fin 512) :
    (outsAt0 m c t.val t.isLt).1 (ix2 (row j l) q)
      = value (X' m c) (D' m c) (A' m c) (group t) q (2 * (t.val % 33) + (1 - j.val)) l.rev := by
  by_cases h0 : t.val % 33 = 0
  · rw [(outs_first m c t h0 (allFin m c t hD hA)).1]
    exact value_eq m c t j q _ (by rw [h0]; rfl) l.rev
  · rw [(outs_later m c t h0 (allFin m c t hD hA) _ rfl).1]
    exact value_eq m c t j q _ (before m c q t h0 (scratch m c hD hA q (t.val - 1) ⟨t.val - 1, by omega⟩ rfl)) l.rev

/-- The array the kernel leaves: row `i` is row `8447 - i` of the scan of the flipped arguments. -/
def G : Buf (Elt Ideal) ((c : Thread nD τ).loc main_v6) := fun i =>
  value (X' m c) (D' m c) (A' m c) ⟨(i 1).val / 512, by have : (i 1).val < 4096 := (i 1).isLt; omega⟩
    ⟨(i 1).val % 512, Nat.mod_lt _ (by omega)⟩ ((8447 - (i 0).val) / 128) ⟨(8447 - (i 0).val) % 128, Nat.mod_lt _ (by omega)⟩

omit hD hA in
/-- Where the output window's block is, at a point. -/
theorem idx_out : ∀ t : Fin cfg0.N, win0_5.index t = ![32 - t.val % 33, t.val / 33] :=
  (by decide +kernel : ∀ t : Fin grid0.N, _)

omit hD hA in
/-- The array at a point's block, row `l` of chunk `j`. -/
theorem G_block (t : Fin cfg0.N) (j : Fin 2) (l : Fin 128) (q : Fin 512) (i : S8448x4096.Idx)
    (h0 : (i 0).val = (32 - t.val % 33) * 256 + (128 * j.val + l.val)) (h1 : (i 1).val = t.val / 33 * 512 + q.val) :
    G m c i = value (X' m c) (D' m c) (A' m c) (group t) q (2 * (t.val % 33) + (1 - j.val)) l.rev := by
  have hN := lt_points t
  have eg : (⟨(i 1).val / 512, by have : (i 1).val < 4096 := (i 1).isLt; omega⟩ : Fin 8) = group t :=
    Fin.ext (by show (i 1).val / 512 = t.val / 33; omega)
  have eq : (⟨(i 1).val % 512, Nat.mod_lt _ (by omega)⟩ : Fin 512) = q := Fin.ext (by show (i 1).val % 512 = q.val; omega)
  have ek : (8447 - (i 0).val) / 128 = 2 * (t.val % 33) + (1 - j.val) := by omega
  have el : (⟨(8447 - (i 0).val) % 128, Nat.mod_lt _ (by omega)⟩ : Fin 128) = l.rev :=
    Fin.ext (by show (8447 - (i 0).val) % 128 = 128 - (l.val + 1); omega)
  unfold G
  rw [eg, eq, ek, el]

/-- What a point writes back is its block of that array. -/
theorem flushed (t : Fin cfg0.N) : (dats m 0 c).flushed 5 t = ((cfg0.win 5).blk t).view.read (Elt Ideal) (G m c) := by
  rw [Value.flushed5]
  funext y
  have hy0 : (y 0).val < 256 := (y 0).isLt
  have hy1 : (y 1).val < 512 := (y 1).isLt
  let j : Fin 2 := ⟨(y 0).val / 128, by omega⟩
  let l : Fin 128 := ⟨(y 0).val % 128, by omega⟩
  let q : Fin 512 := ⟨(y 1).val, hy1⟩
  have e : (cfg0.win 5).xinj (grid0.coords t) y = ix2 (row j l) q := by
    funext a
    fin_cases a
    · exact Fin.ext (show (y 0).val = 128 * ((y 0).val / 128) + (y 0).val % 128 by omega)
    · rfl
  have hb0 : (((cfg0.win 5).blk t).view.emb y 0).val = win0_5.index t (0 : Fin 2) * 256 + 1 * (y 0).val := rfl
  have hb1 : (((cfg0.win 5).blk t).view.emb y 1).val = win0_5.index t (1 : Fin 2) * 512 + 1 * (y 1).val := rfl
  rw [idx_out t] at hb0 hb1
  show (outsAt0 m c t.val t.isLt).1 ((cfg0.win 5).xinj (grid0.coords t) y) = G m c (((cfg0.win 5).blk t).view.emb y)
  rw [e, block m c hD hA t j l q]
  refine (G_block m c t j l q _ (hb0.trans ?_) (hb1.trans ?_)).symm
  · show (32 - t.val % 33) * 256 + 1 * (y 0).val = (32 - t.val % 33) * 256 + (128 * ((y 0).val / 128) + (y 0).val % 128)
    omega
  · show t.val / 33 * 512 + 1 * (y 1).val = t.val / 33 * 512 + (y 1).val
    omega

omit hD hA in
/-- Every point writes its block back, -/
theorem flushes : ∀ t : Fin cfg0.N, (cfg0.win 5).flush t = true :=
  (by decide +kernel : ∀ t : Fin grid0.N, _)

omit hD hA in
/-- and every index is in some point's block. -/
theorem covered (i : S8448x4096.Idx) : ∃ t : Fin cfg0.N, (cfg0.win 5).flush t = true ∧ i ∈ ((cfg0.win 5).blk t).view.set := by
  have h0 : (i 0).val < 8448 := (i 0).isLt
  have h1 : (i 1).val < 4096 := (i 1).isLt
  have hN : cfg0.N = 264 := N_0
  let t : Fin cfg0.N := ⟨33 * ((i 1).val / 512) + (32 - (i 0).val / 256), by omega⟩
  refine ⟨t, flushes t, ?_⟩
  show i ∈ ((View.whole main_v6).slice (win0_5.rect t)).set
  rw [View.set_slice_whole, Rect.mem_set_unit]
  have q0 : win0_5.index t (0 : Fin 2) = 32 - (33 * ((i 1).val / 512) + (32 - (i 0).val / 256)) % 33 := congrFun (idx_out t) 0
  have q1 : win0_5.index t (1 : Fin 2) = (33 * ((i 1).val / 512) + (32 - (i 0).val / 256)) / 33 := congrFun (idx_out t) 1
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 512 ≤ (i 1).val ∧ (i 1).val < win0_5.index t (1 : Fin 2) * 512 + 512; omega

/-- The kernel's result array is that one. -/
theorem final : (dats m 0 c).arrAt 5 cfg0.N = G m c :=
  (dats m 0 c).arrAt_eq_of_cover 5 _ (fun t _ => flushed m c hD hA t) covered

end Cert.SsdBackIdeal.Whole

end
-- ==== Proof.Back.RefRun.lean ====
/- The backward reference's run as one recursion: the carried values after any number of trips are `step` iterated
   from the values the reference computes before its loop, and the result is read from the last of them. -/
module

public import proofs.«01_k».proof.Proof.Gen.SsdBackRefIdeal.Run
public import proofs.«01_k».proof.Proof.Gen.SsdBackRefIdeal.Step

@[expose] public section

set_option maxRecDepth 16384

noncomputable section

namespace Cert.SsdBackRefIdeal.Iter

open Idealize.ShloMosaic Idealize.ShloMosaic.TcCoe Idealize.SL.Sem Idealize.ShloMosaic.StableHlo
open Cert.SsdBackRefIdeal Cert.SsdBackRefIdeal.Gen Cert.SsdBackRefIdeal.Value
open Cert.SsdBackRefIdeal.Step (State step init)

variable {F : FTy → Type} [FloatOps F]

variable (V : Valuation τ sig (Elt F)) (s : State F) (j : ℕ)

/-- The loop's buffers hold the state `s`, and its counter the number `j`. -/
structure At : Prop where
  carry : V (Proc.devRef .tc main_v53_6) = s.main_v53_6
  ys : V (Proc.devRef .tc main_v53_7) = s.main_v53_7
  states : V (Proc.devRef .tc main_v53_0) = s.main_v53_0
  decay : V (Proc.devRef .tc main_v53_1) = s.main_v53_1
  query : V (Proc.devRef .tc main_v53_2) = s.main_v53_2
  decayIn : V (Proc.devRef .tc main_v53_3) = s.main_v53_3
  diag : V (Proc.devRef .tc main_v53_4) = s.main_v53_4
  count : V (Proc.devRef .tc main_v53_5) = constantI S_ 32 (BitVec.ofNat 32 j)

variable {V s j}

/-- One trip's new carry is the step's. -/
theorem carry_step (h : At V s j) : step_main_v53_6 V = (step j s).main_v53_6 := by
  unfold step_main_v53_6 Cert.SsdBackRefIdeal.Step.step
  simp only [h.carry, h.states, h.decay, h.count]
  rfl

/-- One trip's new outputs are the step's. -/
theorem ys_step (h : At V s j) : step_main_v53_7 V = (step j s).main_v53_7 := by
  unfold step_main_v53_7 Cert.SsdBackRefIdeal.Step.step
  simp only [h.carry, h.ys, h.query, h.decayIn, h.diag, h.count]
  rfl

/-- One trip adds one to the counter. -/
theorem count_step (h : At V s j) : step_main_v53_5 V = constantI S_ 32 (BitVec.ofNat 32 (j + 1)) := by
  unfold step_main_v53_5
  rw [h.count]
  funext i
  show BitVec.ofNat 32 j + 1#32 = BitVec.ofNat 32 (j + 1)
  simp only [BitVec.ofNat_add]

/-- A trip takes buffers that hold a state to buffers that hold its step. -/
theorem at_step (h : At V s j) : At (STEP V) (step j s) (j + 1) where
  carry := (STEP_main_v53_6 V).trans (carry_step h)
  ys := (STEP_main_v53_7 V).trans (ys_step h)
  count := (STEP_main_v53_5 V).trans (count_step h)
  states := (STEP_main_v53_0 V).trans h.states
  decay := (STEP_main_v53_1 V).trans h.decay
  query := (STEP_main_v53_2 V).trans h.query
  decayIn := (STEP_main_v53_3 V).trans h.decayIn
  diag := (STEP_main_v53_4 V).trans h.diag

/-- The result as a reading of the state. -/
theorem out_at (h : At V s j) : out_main_v55 V = Cert.SsdBackRefIdeal.Step.R_main_v55 s := by
  unfold out_main_v55 Cert.SsdBackRefIdeal.Step.R_main_v55
  rw [h.ys]
  rfl

/-- The states of the loop: before trip `n` the loop holds `states X D A n`. -/
def states (X : FVec F S8448x6144 .f32) (D : FVec F S8448x128 .f32) (A : FVec F S8448x128 .f32) : ℕ → State F
  | 0 => init X D A
  | n + 1 => step n (states X D A n)

variable (m : (ℓ : Loc nD τ sig) → Buf (Elt F) ℓ) (c : Dev nD)

/-- The states of the loop, over the memory the run starts from. -/
abbrev statesOf (n : ℕ) : State F :=
  states (m ((c.tc : Thread nD τ).loc main_arg0)) (m ((c.tc : Thread nD τ).loc main_arg1)) (m ((c.tc : Thread nD τ).loc main_arg2)) n

set_option maxRecDepth 65536 in
set_option maxHeartbeats 1000000 in
/-- The operations before the loop leave the first state. -/
theorem at_entry : At (entryContents preI m c) (statesOf m c 0) 0 := by
  constructor <;> (simp only [entryContents, afterL_cons, afterL_nil]; after_reads_simp) <;> rfl

/-- Before trip `n` the loop holds state number `n`. -/
theorem at_iter : ∀ n, At (STEP^[n] (entryContents preI m c)) (statesOf m c n) n
  | 0 => at_entry m c
  | n + 1 => by
    rw [Function.iterate_succ_apply']
    exact at_step (at_iter n)

/-- The reference ends, with its result read from state number 66 and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v55) = Cert.SsdBackRefIdeal.Step.R_main_v55 (statesOf m c 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (out_at (at_iter m c 66)), (h c).2.1, (h c).2.2.1, (h c).2.2.2⟩) (Value.run m ρ)

end Cert.SsdBackRefIdeal.Iter

end
-- ==== Proof.Back.RefValue.lean ====
/- The backward reference is the forward one of the flipped arguments, flipped again: what it computes before its loop, each
   trip of the loop, and so its result. -/
module

public import proofs.«01_k».proof.Proof.Back.RefRun
public import proofs.«01_k».proof.Proof.Back.Flip
public import proofs.«01_k».proof.Proof.RefValue

@[expose] public section

set_option maxRecDepth 16384

noncomputable section

namespace Cert.SsdBackRefIdeal.Whole

open Idealize.ShloMosaic Idealize.ShloMosaic.TcCoe Idealize.ShloMosaic.StableHlo
open Cert.SsdBackRefIdeal Cert.SsdBackRefIdeal.Gen Cert.SsdBackRefIdeal.Step Cert.Layer Cert.Flip
open Cert.SsdBackRefIdeal.Iter (states)
open Cert.ReferenceIdeal.Parts (lane)

variable (X : FVec Ideal S8448x6144 .f32) (D A : FVec Ideal S8448x128 .f32)

theorem flip_x : A_main_v0 (F := Ideal) X D A = flipX X := by
  funext i
  obtain ⟨s, n, rfl⟩ : ∃ s n, i = ix2 s n := ⟨i 0, i 1, eq_ix2 i⟩
  pointwise [A_main_v0, flipX]
  exact congrArg X (congrArg (ix2 · n) (Fin.ext (show _ = 8448 - (s.val + 1) by simp)))

/-- The direction's step sizes are the flipped argument's first half. -/
theorem half (V W : FVec Ideal S8448x128 .f32) (s : Fin 8448) (h : Fin 64)
    (e : ∀ (s : Fin 8448) (h : Fin 128), V (ix2 s h) = W (ix2 s.rev h)) :
    V (ix2 s ⟨64 + h.val, by omega⟩) = flipD W (ix2 s ⟨h.val, by omega⟩) := by
  rw [e]
  unfold flipD
  exact congrArg W (congrArg (ix2 s.rev) (Fin.ext (show 64 + h.val = (h.val + 64) % 128 by omega)))

theorem flip_dt (s : Fin 8448) (h : Fin 128) : A_main_v1 (F := Ideal) X D A (ix2 s h) = D (ix2 s.rev h) := by
  pointwise [A_main_v1]
  exact congrArg D (congrArg (ix2 · h) (Fin.ext (show _ = 8448 - (s.val + 1) by simp)))

theorem flip_a (s : Fin 8448) (h : Fin 128) : A_main_v2 (F := Ideal) X D A (ix2 s h) = A (ix2 s.rev h) := by
  pointwise [A_main_v2]
  exact congrArg A (congrArg (ix2 · h) (Fin.ext (show _ = 8448 - (s.val + 1) by simp)))

theorem half_dt : A_main_v9 (F := Ideal) X D A = Cert.ReferenceIdeal.Step.A_main_v6 (F := Ideal) (flipX X) (flipD D) (flipD A) := by
  funext i
  obtain ⟨s, h, rfl⟩ : ∃ s h, i = ix2 s h := ⟨i 0, i 1, eq_ix2 i⟩
  pointwise [A_main_v9, Cert.ReferenceIdeal.Step.A_main_v6]
  exact half _ D s h (flip_dt X D A)

theorem half_a : A_main_v14 (F := Ideal) X D A = Cert.ReferenceIdeal.Step.A_main_v11 (F := Ideal) (flipX X) (flipD D) (flipD A) := by
  funext i
  obtain ⟨s, h, rfl⟩ : ∃ s h, i = ix2 s h := ⟨i 0, i 1, eq_ix2 i⟩
  pointwise [A_main_v14, Cert.ReferenceIdeal.Step.A_main_v11]
  exact half _ A s h (flip_a X D A)

theorem b_eq : A_main_v6 (F := Ideal) X D A = Cert.ReferenceIdeal.Step.A_main_v3 (F := Ideal) (flipX X) (flipD D) (flipD A) := by
  unfold A_main_v6 A_main_v5
  rw [flip_x]
  rfl

theorem c_eq : A_main_v8 (F := Ideal) X D A = Cert.ReferenceIdeal.Step.A_main_v5 (F := Ideal) (flipX X) (flipD D) (flipD A) := by
  unfold A_main_v8 A_main_v7
  rw [flip_x]
  rfl

theorem xdt_eq : A_main_v13 (F := Ideal) X D A = Cert.ReferenceIdeal.Step.A_main_v10 (F := Ideal) (flipX X) (flipD D) (flipD A) := by
  unfold A_main_v13 A_main_v12 A_main_v11 A_main_v10 A_main_v4 A_main_v3
  rw [flip_x, half_dt]
  rfl

theorem a_eq : A_main_v16 (F := Ideal) X D A = Cert.ReferenceIdeal.Step.A_main_v13 (F := Ideal) (flipX X) (flipD D) (flipD A) := by
  unfold A_main_v16 A_main_v15
  rw [half_a]
  rfl

theorem diag_eq : A_main_v36 (F := Ideal) X D A = Cert.ReferenceIdeal.Step.A_main_v33 (F := Ideal) (flipX X) (flipD D) (flipD A) := by
  unfold A_main_v36 A_main_v35 A_main_v34 A_main_v33 A_main_v32 A_main_v31 A_main_v30 A_main_v29 A_main_v28 A_main_v27
    A_main_v26 A_main_v25 A_main_v24 A_main_v23
  rw [xdt_eq, b_eq, c_eq, a_eq]
  rfl

theorem states_eq : A_main_v45 (F := Ideal) X D A = Cert.ReferenceIdeal.Step.A_main_v42 (F := Ideal) (flipX X) (flipD D) (flipD A) := by
  unfold A_main_v45 A_main_v44 A_main_v43 A_main_v42 A_main_v41 A_main_v40 A_main_v39 A_main_v38 A_main_v37
  rw [xdt_eq, b_eq, a_eq]
  rfl

theorem decay_eq : A_main_v48 (F := Ideal) X D A = Cert.ReferenceIdeal.Step.A_main_v45 (F := Ideal) (flipX X) (flipD D) (flipD A) := by
  unfold A_main_v48 A_main_v47 A_main_v46
  rw [a_eq]
  rfl

theorem decayIn_eq : A_main_v50 (F := Ideal) X D A = Cert.ReferenceIdeal.Step.A_main_v47 (F := Ideal) (flipX X) (flipD D) (flipD A) := by
  unfold A_main_v50 A_main_v49
  rw [a_eq]
  rfl

/-- A state of the forward loop as one of this. -/
def conv (s : Cert.ReferenceIdeal.Step.State Ideal) : State Ideal :=
  ⟨s.main_v50_6, s.main_v50_7, s.main_v50_0, s.main_v50_1, s.main_v50_2, s.main_v50_3, s.main_v50_4⟩

section
variable (n : ℕ) (s : Cert.ReferenceIdeal.Step.State Ideal)

theorem b5_conv : b5 n (conv s) = Cert.ReferenceIdeal.Step.b5 n s := rfl
theorem b9_conv : b9 n (conv s) = Cert.ReferenceIdeal.Step.b9 n s := rfl
theorem b14_conv : b14 n (conv s) = Cert.ReferenceIdeal.Step.b14 n s := rfl
theorem b19_conv : b19 n (conv s) = Cert.ReferenceIdeal.Step.b19 n s := rfl
theorem b25_conv : b25 n (conv s) = Cert.ReferenceIdeal.Step.b25 n s := rfl

theorem carry_conv : b34 n (conv s) = Cert.ReferenceIdeal.Step.b34 n s := by
  unfold b34 b33 b32 b31
  rw [b5_conv, b9_conv]
  rfl

theorem out_conv : b35 n (conv s) = Cert.ReferenceIdeal.Step.b35 n s := by
  unfold b35 b30 b29 b28 b27 b26
  rw [b14_conv, b19_conv, b25_conv]
  rfl

theorem ys_conv : b41 n (conv s) = Cert.ReferenceIdeal.Step.b41 n s := by
  unfold b41 b36
  rw [out_conv]
  rfl

/-- A trip is the forward loop's. -/
theorem step_conv : step n (conv s) = conv (Cert.ReferenceIdeal.Step.step n s) := by
  unfold step
  rw [carry_conv, ys_conv]
  rfl

end

/-- Before every trip the loop holds the forward loop's state. -/
theorem states_conv : ∀ n, states X D A n = conv (Cert.ReferenceIdeal.Iter.states (F := Ideal) (flipX X) (flipD D) (flipD A) n)
  | 0 => by
    show init X D A = conv (Cert.ReferenceIdeal.Step.init (F := Ideal) (flipX X) (flipD D) (flipD A))
    unfold init
    rw [states_eq, decay_eq, c_eq, decayIn_eq, diag_eq]
    rfl
  | n + 1 => by
    show step n (states X D A n) = _
    rw [states_conv n, step_conv]
    rfl

/-- The result is the forward loop's, its rows from the last to the first. -/
theorem result (s : Fin 8448) (q : Fin 4096) :
    R_main_v55 (states X D A 66) (ix2 s q)
      = Cert.ReferenceIdeal.Step.R_main_v51 (Cert.ReferenceIdeal.Iter.states (F := Ideal) (flipX X) (flipD D) (flipD A) 66) (ix2 s.rev q) := by
  have e : R_main_v55 (states X D A 66)
      = Host.reverse [0] (Cert.ReferenceIdeal.Step.R_main_v51 (Cert.ReferenceIdeal.Iter.states (F := Ideal) (flipX X) (flipD D) (flipD A) 66)) := by
    rw [states_conv]
    rfl
  rw [e]
  generalize Cert.ReferenceIdeal.Step.R_main_v51 (Cert.ReferenceIdeal.Iter.states (F := Ideal) (flipX X) (flipD D) (flipD A) 66) = y
  pointwise
  exact congrArg y (congrArg (ix2 · q) (Fin.ext (show _ = 8448 - (s.val + 1) by simp)))

end Cert.SsdBackRefIdeal.Whole

end
-- ==== Proof.Back.Equal.lean ====
/- The backward kernel's scan and its reference's are one array, where the gates are finite. -/
module

public import proofs.«01_k».proof.Proof.Back.Result
public import proofs.«01_k».proof.Proof.Back.RefValue
public import proofs.«01_k».proof.Proof.Finite
public import proofs.«01_k».proof.Defs

@[expose] public section

noncomputable section

namespace Cert.SsdBackIdeal.Equal

open Idealize.ShloMosaic Idealize.ShloMosaic.TcCoe Idealize.SL.Sem Cert.SsdBackIdeal Cert.SsdBackIdeal.Gen
open Cert.SsdBackIdeal.Entry (X D A)
open Cert.SsdBackIdeal.Whole (X' D' A' G final)
open Cert.Column Cert.Layer Cert.ReferenceIdeal.Parts

variable (m : (ℓ : Loc nD τ sig) → Buf (Elt Ideal) ℓ) (c : Dev nD)

/-- The result read from the reference's last state is the array the kernel leaves. -/
theorem arrays (i : S8448x4096.Idx) :
    Cert.SsdBackRefIdeal.Step.R_main_v55 (Cert.SsdBackRefIdeal.Iter.states (X m c) (D m c) (A m c) 66) i = G m c i := by
  obtain ⟨s, n, rfl⟩ : ∃ s n, i = ix2 s n := ⟨i 0, i 1, eq_ix2 i⟩
  let k : Fin 66 := ⟨(8447 - s.val) / 128, by omega⟩
  let l : Fin 128 := ⟨(8447 - s.val) % 128, Nat.mod_lt _ (by omega)⟩
  let g : Fin 8 := ⟨n.val / 512, by omega⟩
  let r : Fin 8 := ⟨n.val % 512 / 64, by omega⟩
  let p : Fin 64 := ⟨n.val % 64, Nat.mod_lt _ (by omega)⟩
  have e0 : s.rev = ⟨128 * k.val + l.val, by omega⟩ :=
    Fin.ext (show 8448 - (s.val + 1) = 128 * ((8447 - s.val) / 128) + (8447 - s.val) % 128 by omega)
  have e1 : n = ⟨512 * g.val + (lane r p).val, by have := (lane r p).isLt; omega⟩ :=
    Fin.ext (show n.val = 512 * (n.val / 512) + (64 * (n.val % 512 / 64) + n.val % 64) by omega)
  have el : lane r p = ⟨n.val % 512, Nat.mod_lt _ (by omega)⟩ :=
    Fin.ext (show 64 * (n.val % 512 / 64) + n.val % 64 = n.val % 512 by omega)
  refine (Cert.SsdBackRefIdeal.Whole.result (X m c) (D m c) (A m c) s n).trans ?_
  refine (congrArg _ (congrArg₂ ix2 e0 e1)).trans
    ((Cert.ReferenceIdeal.Whole.result (X' m c) (D' m c) (A' m c) g r p k l).trans ?_)
  rw [el]
  rfl

/-- The backward reference leaves its arguments and no semaphore. -/
theorem frame_reference : Cert.quiescent_SsdBackRefIdeal (hSsdBackRefIdeal := Cert.SsdBackRefIdeal.Gen.facts) := fun m ρ _ =>
  (θ_run _ _ _).mono (fun r h => ⟨fun c => (h c).2, sem_eq_zero_of_no_sems rfl r.2⟩) (Cert.SsdBackRefIdeal.Iter.run m ρ)

/-- With finite gates the backward kernel's scan ends with its reference's result. -/
theorem scan : Cert.algebraic_SsdBackIdeal_SsdBackRefIdeal_pre_finite_gates (hSsdBackIdeal := Cert.SsdBackIdeal.Gen.facts)
    (hSsdBackRefIdeal := Cert.SsdBackRefIdeal.Gen.facts) (hPre_finite_gates := Cert.Pre_finite_gates.Gen.facts) :=
  fun m ρ m' ρ' hpre hag => ⟨fun c => G m c,
    (θ_run _ _ _).mono (fun _ h c => ⟨(h c).1.trans (by
      have hf := Cert.Finite.finite _ _ _ (congrFun (hpre c) ix0)
      exact final m c hf.1 hf.2), (h c).2⟩) (Value.run_blocks m ρ),
    (θ_run _ _ _).mono (fun _ h c => ⟨(h c).1.trans (by
      unfold Cert.SsdBackRefIdeal.Iter.statesOf
      rw [(hag c).1, (hag c).2.1, (hag c).2.2]
      exact funext (arrays m c)), (h c).2⟩) (Cert.SsdBackRefIdeal.Iter.run m' ρ')⟩

end Cert.SsdBackIdeal.Equal

end
-- ==== Proof.Gdn.Chain.lean ====
/- What the kernel computes of one chunk of one head at a grid point, named by what it is: the decays between the rows, the
   triangular system and its inverse, the rows it solves for, and what a state the chunk enters with makes of them. -/
module

public import proofs.«01_k».proof.Proof.Gen.GdnChunkIdeal.Skeleton
public import Idealize.ShloMosaic.Lib.Pointwise

@[expose] public section

set_option maxRecDepth 16384

noncomputable section

namespace Cert.GdnChunkIdeal.Chain

open Idealize.ShloMosaic Idealize.ShloMosaic.TcCoe Idealize.SL.Sem Cert.GdnChunkIdeal Cert.GdnChunkIdeal.Gen

theorem slicesHead (e : Fin 2) : S192x64.Slices ![64 * e.val, 0] S64x64 := ⟨rfl, fun a => by fin_cases a <;> simp <;> omega⟩

/-- Zeros. -/
abbrev zeros (s : Shape) : FVec Ideal s .f32 := broadcast s (Scalar.ofBits (F := Ideal) .f32 0x00000000#32)

/-- The queries scaled. -/
def scaled (q : FVec Ideal S64x128 .f32) : FVec Ideal S64x128 .f32 :=
  mulf q (broadcast S64x128 (Scalar.ofBits (F := Ideal) .f32 0x3DB504F3#32))

/-- Every row times its number. -/
def times (k : FVec Ideal S64x128 .f32) (b : FVec Ideal S64x1 .f32) : FVec Ideal S64x128 .f32 :=
  mulf k (broadcastTo S64x128 b broadcasts_S64x1_S64x128)

/-- The products of the pair's gated keys, and of the queries, with the keys. -/
def products (k q : FVec Ideal S64x128 .f32) (b0 b1 : FVec Ideal S64x1 .f32) : FVec Ideal S192x64 .f32 :=
  matmul dot_S192x128_S64x128_S192x64_1_1_0_0_n_n none
    (concatenate S192x128 0 [⟨S64x128, times k b0⟩, ⟨S64x128, times k b1⟩, ⟨S64x128, scaled q⟩]
      concatenates_S64x128_S64x128_S64x128_S192x128_d0) k (constant S192x64 .f32 0x00000000#32)

/-- The decay from each row to each, nothing from a later row. -/
def decays (g : FVec Ideal S64x1 .f32) (gr : FVec Ideal S1x64 .f32) : FVec Ideal S64x64 .f32 :=
  select k0_pay6 (exp (select k0_pay6
    (subf (broadcastTo S64x64 g broadcasts_S64x1_S64x64) (broadcastTo S64x64 gr broadcasts_S1x64_S64x64)) (zeros S64x64)))
    (zeros S64x64)

/-- What each row takes from the rows before it. -/
def lowerVec (w : FVec Ideal S192x64 .f32) (e : Fin 2) (d : FVec Ideal S64x64 .f32) : FVec Ideal S64x64 .f32 :=
  subf (zeros S64x64) (select k0_pay7 (mulf (extractStridedSlice S64x64 ![64 * e.val, 0] w (slicesHead e)) d) (zeros S64x64))

/-- The queries against the rows up to each. -/
def innerVec (w : FVec Ideal S192x64 .f32) (d : FVec Ideal S64x64 .f32) : FVec Ideal S64x64 .f32 :=
  select k0_pay6 (mulf (extractStridedSlice S64x64 ![128, 0] w slices_S192x64_o128_0_S64x64) d) (zeros S64x64)

def square (p t : FVec Ideal S64x64 .f32) : FVec Ideal S64x64 .f32 :=
  matmul dot_S64x64_S64x64_S64x64_1_0_0_1_n_n none p t (constant S64x64 .f32 0x00000000#32)

/-- A power against itself and the series so far, side by side. -/
def both (p t : FVec Ideal S64x64 .f32) : FVec Ideal S64x128 .f32 :=
  matmul dot_S64x64_S64x128_S64x128_1_0_0_1_n_n none p
    (concatenate S64x128 1 [⟨S64x64, p⟩, ⟨S64x64, t⟩] concatenates_S64x64_S64x64_S64x128_d1) (constant S64x128 .f32 0x00000000#32)

def nextPower (p t : FVec Ideal S64x64 .f32) : FVec Ideal S64x64 .f32 :=
  extractStridedSlice S64x64 ![0, 0] (both p t) slices_S64x128_o0_0_S64x64

def nextSeries (p t : FVec Ideal S64x64 .f32) : FVec Ideal S64x64 .f32 :=
  addf t (extractStridedSlice S64x64 ![0, 64] (both p t) slices_S64x128_o0_64_S64x64)

/-- The power and the series after `n` rounds. -/
def rounds (p : FVec Ideal S64x64 .f32) : ℕ → FVec Ideal S64x64 .f32 × FVec Ideal S64x64 .f32
  | 0 => (square p p, addf k0_pay8 p)
  | n + 1 => (nextPower (rounds p n).1 (rounds p n).2, nextSeries (rounds p n).1 (rounds p n).2)

/-- The inverse. -/
def inverseVec (p : FVec Ideal S64x64 .f32) : FVec Ideal S64x64 .f32 :=
  addf (rounds p 4).2 (square (rounds p 4).1 (rounds p 4).2)

/-- The gated values and the gated, decayed keys, side by side. -/
def sides (k v : FVec Ideal S64x128 .f32) (g b : FVec Ideal S64x1 .f32) : FVec Ideal S64x256 .f32 :=
  concatenate S64x256 1 [⟨S64x128, times v b⟩, ⟨S64x128, times (times k b) (exp g)⟩] concatenates_S64x128_S64x128_S64x256_d1

def solved (t : FVec Ideal S64x64 .f32) (r : FVec Ideal S64x256 .f32) : FVec Ideal S64x256 .f32 :=
  matmul dot_S64x64_S64x256_S64x256_1_0_0_1_n_n none t r (constant S64x256 .f32 0x00000000#32)

/-- The last row's summed decay. -/
def lastOf (gr : FVec Ideal S1x64 .f32) : FVec Ideal S1x1 .f32 := extractStridedSlice S1x1 ![0, 63] gr slices_S1x64_o0_63_S1x1

/-- The keys, decayed to the last row, against the solved rows. -/
def gains (k : FVec Ideal S64x128 .f32) (g : FVec Ideal S64x1 .f32) (gr : FVec Ideal S1x64 .f32) (y : FVec Ideal S64x256 .f32) :
    FVec Ideal S128x256 .f32 :=
  matmul dot_S64x128_S64x256_S128x256_0_0_1_1_n_n none
    (times k (exp (subf (broadcastTo S64x1 (lastOf gr) broadcasts_S1x1_S64x1) g))) y (constant S128x256 .f32 0x00000000#32)

/-- What multiplies the state, and what is added: for the chunk's rows, and for the state after it. -/
def rowsMul (q : FVec Ideal S64x128 .f32) (g : FVec Ideal S64x1 .f32) (x : FVec Ideal S64x256 .f32) : FVec Ideal S1x64x128 .bf16 :=
  shapeCast S1x64x128 (truncf .bf16 (subf (times (scaled q) (exp g))
    (extractStridedSlice S64x128 ![0, 128] x slices_S64x256_o0_128_S64x128)) bitsLt_bf16_f32) shapeCasts_S64x128_S1x64x128

def stateMul (x : FVec Ideal S128x256 .f32) : FVec Ideal S1x128x128 .bf16 :=
  shapeCast S1x128x128 (truncf .bf16 (subf (zeros S128x128)
    (extractStridedSlice S128x128 ![0, 128] x slices_S128x256_o0_128_S128x128)) bitsLt_bf16_f32) shapeCasts_S128x128_S1x128x128

def rowsAdd (x : FVec Ideal S64x256 .f32) : FVec Ideal S1x64x128 .f32 :=
  shapeCast S1x64x128 (extractStridedSlice S64x128 ![0, 0] x slices_S64x256_o0_0_S64x128) shapeCasts_S64x128_S1x64x128

def stateAdd (x : FVec Ideal S128x256 .f32) : FVec Ideal S1x128x128 .f32 :=
  shapeCast S1x128x128 (extractStridedSlice S128x128 ![0, 0] x slices_S128x256_o0_0_S128x128) shapeCasts_S128x128_S1x128x128

/-- The state through both. -/
def through (M : FVec Ideal S1x192x128 .bf16) (N : FVec Ideal S1x192x128 .f32) (S : FVec Ideal S128x128 .f32) : FVec Ideal S192x128 .f32 :=
  addf (matmul dot_S192x128_S128x128_S192x128_1_0_0_1_n_n none (shapeCast S192x128 M shapeCasts_S1x192x128_S192x128)
    (truncf .bf16 S bitsLt_bf16_f32) (constant S192x128 .f32 0x00000000#32)) (shapeCast S192x128 N shapeCasts_S1x192x128_S192x128)

/-- The chunk's rows. -/
def outVec (M : FVec Ideal S1x192x128 .bf16) (N : FVec Ideal S1x192x128 .f32) (S : FVec Ideal S128x128 .f32) : FVec Ideal S64x128 .f32 :=
  extractStridedSlice S64x128 ![0, 0] (through M N S) slices_S192x128_o0_0_S64x128

/-- The state after it. -/
def nextVec (gr : FVec Ideal S1x64 .f32) (M : FVec Ideal S1x192x128 .bf16) (N : FVec Ideal S1x192x128 .f32)
    (S : FVec Ideal S128x128 .f32) : FVec Ideal S128x128 .f32 :=
  addf (mulf S (broadcastTo S128x128 (exp (lastOf gr)) broadcasts_S1x1_S128x128))
    (extractStridedSlice S128x128 ![64, 0] (through M N S) slices_S192x128_o64_0_S128x128)

end Cert.GdnChunkIdeal.Chain

end
-- ==== Proof.Gdn.Tile.lean ====
/- One grid point: four chunks of 64 rows, two key heads of two value heads each. The kernel stores, for every chunk and
   head, what multiplies the state and what is added, then runs the state through the chunks. -/
module

public import proofs.«01_k».proof.Proof.Gdn.Chain
public import proofs.«01_k».proof.Proof.Gen.GdnChunkIdeal.Value
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.GdnChunkIdeal.Tile

open Idealize.ShloMosaic Idealize.ShloMosaic.TcCoe Idealize.ShloMosaic.Tactic Idealize.SL.Sem
open Cert.GdnChunkIdeal Cert.GdnChunkIdeal.Gen Cert.GdnChunkIdeal.Chain

/-- The blocks a point reads: queries, keys, values, summed decays with gates beside them, summed decays along the rows. -/
structure Blocks where
  q : Vec Ideal S256x256 .f32
  k : Vec Ideal S256x256 .f32
  v : Vec Ideal S256x512 .f32
  gb : Vec Ideal S1x2x256x4 .f32
  gr : Vec Ideal S1x2x2x256 .f32

/-- A chunk, a key head and one of its two value heads. -/
structure Ix where
  c : Fin 4
  h : Fin 2
  e : Fin 2

variable (B : Blocks) (n : Ix)

/-- The value head among the point's four, and the place in the scratch. -/
def Ix.head : ℕ := 2 * n.h.val + n.e.val
def Ix.slot : ℕ := 4 * n.c.val + (2 * n.h.val + n.e.val)

theorem inbKey (c : Fin 4) (h : Fin 2) (a : Fin 2) : (![64 * c.val, 128 * h.val] : Fin 2 → ℕ) a + (![64, 128] : Fin 2 → ℕ) a ≤ (![256, 256] : Fin 2 → ℕ) a := by
  fin_cases a <;> simp <;> omega

theorem inbVal (a : Fin 2) : (![64 * n.c.val, 128 * n.head] : Fin 2 → ℕ) a + (![64, 128] : Fin 2 → ℕ) a ≤ (![256, 512] : Fin 2 → ℕ) a := by
  fin_cases a <;> simp [Ix.head] <;> omega

theorem inbGate (c : Fin 4) (h : Fin 2) (o : Fin 4) (a : Fin 4) :
    (![0, h.val, 64 * c.val, o.val] : Fin 4 → ℕ) a + (![1, 1, 64, 1] : Fin 4 → ℕ) a ≤ (![1, 2, 256, 4] : Fin 4 → ℕ) a := by
  fin_cases a <;> simp <;> omega

theorem inbRow (a : Fin 4) :
    (![0, n.h.val, n.e.val, 64 * n.c.val] : Fin 4 → ℕ) a + (![1, 1, 1, 64] : Fin 4 → ℕ) a ≤ (![1, 2, 2, 256] : Fin 4 → ℕ) a := by
  fin_cases a <;> simp <;> omega

theorem inbTop (a : Fin 3) : (![n.slot, 0, 0] : Fin 3 → ℕ) a + (![1, 64, 128] : Fin 3 → ℕ) a ≤ (![16, 192, 128] : Fin 3 → ℕ) a := by
  fin_cases a <;> simp [Ix.slot] <;> omega

theorem inbBottom (a : Fin 3) : (![n.slot, 64, 0] : Fin 3 → ℕ) a + (![1, 128, 128] : Fin 3 → ℕ) a ≤ (![16, 192, 128] : Fin 3 → ℕ) a := by
  fin_cases a <;> simp [Ix.slot] <;> omega

theorem inbSlot (a : Fin 3) : (![n.slot, 0, 0] : Fin 3 → ℕ) a + (![1, 192, 128] : Fin 3 → ℕ) a ≤ (![16, 192, 128] : Fin 3 → ℕ) a := by
  fin_cases a <;> simp [Ix.slot] <;> omega

theorem inbState (a : Fin 3) : (![n.head, 0, 0] : Fin 3 → ℕ) a + (![1, 128, 128] : Fin 3 → ℕ) a ≤ (![4, 128, 128] : Fin 3 → ℕ) a := by
  fin_cases a <;> simp [Ix.head] <;> omega

def keyBox (c : Fin 4) (h : Fin 2) : Rect S256x256 := Rect.unit ![64 * c.val, 128 * h.val] ![64, 128] (inbKey c h)
def valBox : Rect S256x512 := Rect.unit ![64 * n.c.val, 128 * n.head] ![64, 128] (inbVal n)
def gateBox (c : Fin 4) (h : Fin 2) (o : Fin 4) : Rect S1x2x256x4 := Rect.unit ![0, h.val, 64 * c.val, o.val] ![1, 1, 64, 1] (inbGate c h o)
def rowBox : Rect S1x2x2x256 := Rect.unit ![0, n.h.val, n.e.val, 64 * n.c.val] ![1, 1, 1, 64] (inbRow n)
def topBox : Rect S16x192x128 := Rect.unit ![n.slot, 0, 0] ![1, 64, 128] (inbTop n)
def bottomBox : Rect S16x192x128 := Rect.unit ![n.slot, 64, 0] ![1, 128, 128] (inbBottom n)
def slotBox : Rect S16x192x128 := Rect.unit ![n.slot, 0, 0] ![1, 192, 128] (inbSlot n)
def stateBox : Rect S4x128x128 := Rect.unit ![n.head, 0, 0] ![1, 128, 128] (inbState n)

/-! ## The chain's vectors -/

def qV : FVec Ideal S64x128 .f32 := View.ld B.q (keyBox n.c n.h)
def kV : FVec Ideal S64x128 .f32 := View.ld B.k (keyBox n.c n.h)
def vV : FVec Ideal S64x128 .f32 := View.ld B.v (valBox n)
def gbL (c : Fin 4) (h : Fin 2) (o : Fin 4) : FVec Ideal S1x1x64x1 .f32 := View.ld B.gb (gateBox c h o)
def gbV (c : Fin 4) (h : Fin 2) (o : Fin 4) : FVec Ideal S64x1 .f32 := shapeCast S64x1 (gbL B c h o) shapeCasts_S1x1x64x1_S64x1
def gV : FVec Ideal S64x1 .f32 := gbV B n.c n.h ⟨n.e.val, by omega⟩
def bV : FVec Ideal S64x1 .f32 := gbV B n.c n.h ⟨2 + n.e.val, by omega⟩
def grL : FVec Ideal S1x1x1x64 .f32 := View.ld B.gr (rowBox n)
def grV : FVec Ideal S1x64 .f32 := shapeCast S1x64 (grL B n) shapeCasts_S1x1x1x64_S1x64

def productsV : FVec Ideal S192x64 .f32 := products (kV B n) (qV B n) (gbV B n.c n.h 2) (gbV B n.c n.h 3)
def decaysV : FVec Ideal S64x64 .f32 := decays (gV B n) (grV B n)
def lowerV : FVec Ideal S64x64 .f32 := lowerVec (productsV B n) n.e (decaysV B n)
def innerV : FVec Ideal S64x64 .f32 := innerVec (productsV B n) (decaysV B n)
def solvedV : FVec Ideal S64x256 .f32 := solved (inverseVec (lowerV B n)) (sides (kV B n) (vV B n) (gV B n) (bV B n))
def rowsV : FVec Ideal S64x256 .f32 := solved (innerV B n) (solvedV B n)
def gainsV : FVec Ideal S128x256 .f32 := gains (kV B n) (gV B n) (grV B n) (solvedV B n)

/-! ## What the point stores -/

/-- Every chunk and head, the last first. -/
def all : List Ix :=
  [⟨3, 1, 1⟩, ⟨3, 1, 0⟩, ⟨3, 0, 1⟩, ⟨3, 0, 0⟩, ⟨2, 1, 1⟩, ⟨2, 1, 0⟩, ⟨2, 0, 1⟩, ⟨2, 0, 0⟩,
    ⟨1, 1, 1⟩, ⟨1, 1, 0⟩, ⟨1, 0, 1⟩, ⟨1, 0, 0⟩, ⟨0, 1, 1⟩, ⟨0, 1, 0⟩, ⟨0, 0, 1⟩, ⟨0, 0, 0⟩]

def mulPieces : List (View.Piece (Elt Ideal) S16x192x128 .bf16) :=
  all.flatMap fun n => [⟨bottomBox n, stateMul (gainsV B n)⟩, ⟨topBox n, rowsMul (qV B n) (gV B n) (rowsV B n)⟩]

def addPieces : List (View.Piece (Elt Ideal) S16x192x128 .f32) :=
  all.flatMap fun n => [⟨bottomBox n, stateAdd (gainsV B n)⟩, ⟨topBox n, rowsAdd (rowsV B n)⟩]

variable (M : Ix → FVec Ideal S1x192x128 .bf16) (N : Ix → FVec Ideal S1x192x128 .f32) (S : Ix → FVec Ideal S1x128x128 .f32)

/-- The chunk of a number. -/
def chunk (n : ℕ) : Fin 4 := ⟨n % 4, Nat.mod_lt _ (by decide)⟩

/-- The state of a head before its chunk number `n`. -/
def stateV (h e : Fin 2) : ℕ → FVec Ideal S128x128 .f32
  | 0 => shapeCast S128x128 (S ⟨0, h, e⟩) shapeCasts_S1x128x128_S128x128
  | n + 1 => nextVec (grV B ⟨chunk n, h, e⟩) (M ⟨chunk n, h, e⟩) (N ⟨chunk n, h, e⟩) (stateV h e n)

def outPieces : List (View.Piece (Elt Ideal) S256x512 .f32) :=
  all.map fun n => ⟨valBox n, outVec (M n) (N n) (stateV B M N S n.h n.e n.c.val)⟩

def statePieces : List (View.Piece (Elt Ideal) S4x128x128 .f32) :=
  [(⟨0, 1, 1⟩ : Ix), ⟨0, 1, 0⟩, ⟨0, 0, 1⟩, ⟨0, 0, 0⟩].map fun n =>
    ⟨stateBox n, shapeCast S1x128x128 (stateV B M N S n.h n.e 4) shapeCasts_S128x128_S1x128x128⟩

end Cert.GdnChunkIdeal.Tile

end
-- ==== Proof.Gdn.Block.lean ====
/- The generated outputs of one grid point are the tile's, whichever of the kernel's two cases it runs. -/
module

public import proofs.«01_k».proof.Proof.Gdn.Tile

@[expose] public section

set_option maxRecDepth 65536

noncomputable section

namespace Cert.GdnChunkIdeal.Block

open Idealize.ShloMosaic Idealize.ShloMosaic.TcCoe Idealize.ShloMosaic.Tactic Idealize.SL.Sem
open Cert.GdnChunkIdeal Cert.GdnChunkIdeal.Gen Cert.GdnChunkIdeal.Chain Cert.GdnChunkIdeal.Tile

variable (c : Dev nD) (i : grid0.Coords) (arg2 : Memref sig .tc .vmem S256x256 .f32) (harg2 : arg2.IsWhole)
  (arg3 : Memref sig .tc .vmem S256x256 .f32) (harg3 : arg3.IsWhole) (arg4 : Memref sig .tc .vmem S256x512 .f32)
  (harg4 : arg4.IsWhole) (arg5 : Memref sig .tc .vmem S1x2x256x4 .f32) (harg5 : arg5.IsWhole)
  (arg6 : Memref sig .tc .vmem S1x2x2x256 .f32) (harg6 : arg6.IsWhole) (arg7 : Memref sig .tc .vmem S256x512 .f32)
  (harg7 : arg7.IsWhole) (arg8 : Memref sig .tc .vmem S4x128x128 .f32) (harg8 : arg8.IsWhole)
  (arg9 : Memref sig .tc .vmem S16x192x128 .bf16) (harg9 : arg9.IsWhole) (arg10 : Memref sig .tc .vmem S16x192x128 .f32)
  (harg10 : arg10.IsWhole) (B : Blocks) (S : Vec Ideal S4x128x128 .f32)

/-- What the point reads back of what it stored. -/
def mulRead (n : Ix) : FVec Ideal S1x192x128 .bf16 := arg9.view.readCov (Val := Elt Ideal) (mulPieces B) (slotBox n).toLoadRect
def addRead (n : Ix) : FVec Ideal S1x192x128 .f32 := arg10.view.readCov (Val := Elt Ideal) (addPieces B) (slotBox n).toLoadRect

/-- The state the point enters with, as it loads it: what the point before left, or zeros. -/
def entered (n : Ix) : FVec Ideal S1x128x128 .f32 := View.ld S (stateBox n)

def zeroPiece : View.Piece (Elt Ideal) S4x128x128 .f32 := ⟨Rect.unit ![0, 0, 0] ![4, 128, 128] inb_S4x128x128_S4x128x128_0_0_0, (k0_pay5 : FVec Ideal S4x128x128 .f32)⟩
def started (n : Ix) : FVec Ideal S1x128x128 .f32 := arg8.view.readCov (Val := Elt Ideal) [zeroPiece] (stateBox n).toLoadRect

set_option maxHeartbeats 4000000 in
/-- A later point's output block. -/
theorem later_out (hc0 : ¬cond0_0 i) :
    out0_B_5 c i arg2 harg2 arg3 harg3 arg4 harg4 arg5 harg5 arg6 harg6 arg7 harg7 arg8 harg8 arg9 harg9 arg10 harg10 hc0
        B.q B.k B.v B.gb B.gr S
      = View.canon (outPieces B (mulRead arg9 B) (addRead arg10 B) (entered S)) := by
  unfold out0_B_5
  rw [View.read_writes_eq_canon _ _ _ (cover0_B_5 c i arg2 harg2 arg3 harg3 arg4 harg4 arg5 harg5 arg6 harg6 arg7 harg7 arg8
    harg8 arg9 harg9 arg10 harg10 hc0 B.q B.k B.v B.gb B.gr S)]
  unfold kernelRun0_B
  dsimp only
  sl_unfold_words
  simp only [View.readAt_eq_ld, harg2.read_unread, harg3.read_unread, harg4.read_unread, harg5.read_unread,
    harg6.read_unread, harg8.read_unread]
  sl_kernel_rfl

set_option maxHeartbeats 4000000 in
/-- A later point's state. -/
theorem later_state (hc0 : ¬cond0_0 i) :
    sout0_B_0 c i arg2 harg2 arg3 harg3 arg4 harg4 arg5 harg5 arg6 harg6 arg7 harg7 arg8 harg8 arg9 harg9 arg10 harg10 hc0
        B.q B.k B.v B.gb B.gr S
      = View.canon (statePieces B (mulRead arg9 B) (addRead arg10 B) (entered S)) := by
  unfold sout0_B_0
  rw [View.read_writes_eq_canon _ _ _ (scover0_B_0 c i arg2 harg2 arg3 harg3 arg4 harg4 arg5 harg5 arg6 harg6 arg7 harg7 arg8 harg8 arg9 harg9 arg10 harg10 hc0
    B.q B.k B.v B.gb B.gr S)]
  unfold kernelRun0_B
  dsimp only
  sl_unfold_words
  simp only [View.readAt_eq_ld, harg2.read_unread, harg3.read_unread, harg4.read_unread, harg5.read_unread,
    harg6.read_unread, harg8.read_unread]
  sl_kernel_rfl

set_option maxHeartbeats 4000000 in
/-- A first point's output block. -/
theorem first_out (hc0 : cond0_0 i) :
    out0_A_5 c i arg2 harg2 arg3 harg3 arg4 harg4 arg5 harg5 arg6 harg6 arg7 harg7 arg8 harg8 arg9 harg9 arg10 harg10 hc0
        B.q B.k B.v B.gb B.gr
      = View.canon (outPieces B (mulRead arg9 B) (addRead arg10 B) (started arg8)) := by
  unfold out0_A_5
  rw [View.read_writes_eq_canon _ _ _ (cover0_A_5 c i arg2 harg2 arg3 harg3 arg4 harg4 arg5 harg5 arg6 harg6 arg7 harg7 arg8 harg8 arg9 harg9 arg10 harg10 hc0
    B.q B.k B.v B.gb B.gr)]
  unfold kernelRun0_A
  dsimp only
  sl_unfold_words
  simp only [View.readAt_eq_ld, harg2.read_unread, harg3.read_unread, harg4.read_unread, harg5.read_unread,
    harg6.read_unread]
  sl_kernel_rfl

set_option maxHeartbeats 4000000 in
/-- A first point's state. -/
theorem first_state (hc0 : cond0_0 i) :
    sout0_A_0 c i arg2 harg2 arg3 harg3 arg4 harg4 arg5 harg5 arg6 harg6 arg7 harg7 arg8 harg8 arg9 harg9 arg10 harg10 hc0
        B.q B.k B.v B.gb B.gr
      = View.canon (statePieces B (mulRead arg9 B) (addRead arg10 B) (started arg8) ++ [zeroPiece]) := by
  unfold sout0_A_0
  rw [View.read_writes_eq_canon _ _ _ (scover0_A_0 c i arg2 harg2 arg3 harg3 arg4 harg4 arg5 harg5 arg6 harg6 arg7 harg7 arg8 harg8 arg9 harg9 arg10 harg10 hc0
    B.q B.k B.v B.gb B.gr)]
  unfold kernelRun0_A
  dsimp only
  sl_unfold_words
  simp only [View.readAt_eq_ld, harg2.read_unread, harg3.read_unread, harg4.read_unread, harg5.read_unread,
    harg6.read_unread]
  sl_kernel_rfl

end Cert.GdnChunkIdeal.Block

end
-- ==== Proof.Gdn.Delta.lean ====
/- The gated delta rule over the reals, one column of the state at a time: the recurrence row by row, and what a chunk of 64
   rows makes of the state it enters with, through the inverse of a unit lower triangular matrix. -/
module

public import Mathlib.Data.Matrix.Mul
public import Mathlib.Analysis.SpecialFunctions.Exp
public import Mathlib.Tactic.Ring
public import Mathlib.Tactic.NoncommRing

@[expose] public section

noncomputable section

namespace Cert.Delta

open Finset

/-! ## The inverse -/

/-- A square matrix over a chunk's rows. -/
abbrev Mat := Matrix (Fin 64) (Fin 64) ℝ

/-- Nothing on the diagonal or above it. -/
def Strict (P : Mat) : Prop := ∀ i j, i ≤ j → P i j = 0

/-- The `n`-th power leaves the first `n` diagonals empty. -/
theorem Strict.pow {P : Mat} (h : Strict P) (n : ℕ) : ∀ i j : Fin 64, i.val < j.val + n → (P ^ n) i j = 0 := by
  induction n with
  | zero =>
    intro i j hij
    rw [pow_zero]
    exact Matrix.one_apply_ne (fun e => by subst e; omega)
  | succ n ih =>
    intro i j hij
    rw [pow_succ, Matrix.mul_apply]
    refine sum_eq_zero fun k _ => ?_
    by_cases hk : k ≤ j
    · rw [h k j hk, mul_zero]
    · rw [ih i k (by have := Fin.lt_def.mp (not_le.mp hk); omega), zero_mul]

theorem Strict.pow_64 {P : Mat} (h : Strict P) : P ^ 64 = 0 := by
  ext i j
  exact h.pow 64 i j (by omega)

/-- Repeated squares, -/
def sq (P : Mat) : ℕ → Mat
  | 0 => P
  | n + 1 => sq P n * sq P n

/-- and the products of one plus each. -/
def series (P : Mat) : ℕ → Mat
  | 0 => 1 + P
  | n + 1 => series P n + sq P (n + 1) * series P n

theorem sq_eq (P : Mat) (n : ℕ) : sq P n = P ^ 2 ^ n := by
  induction n with
  | zero => exact (pow_one P).symm
  | succ n ih => rw [sq, ih, ← pow_add, pow_succ 2 n, mul_two]

theorem series_eq (P : Mat) (n : ℕ) : series P n = P * series P n + (1 - P ^ 2 ^ (n + 1)) := by
  induction n with
  | zero =>
    rw [series, show 2 ^ (0 + 1) = 2 from rfl, pow_two]
    noncomm_ring
  | succ n ih =>
    have c : P * P ^ 2 ^ (n + 1) = P ^ 2 ^ (n + 1) * P := (pow_mul_comm' P _).symm
    have e : P ^ 2 ^ (n + 1 + 1) = P ^ 2 ^ (n + 1) * P ^ 2 ^ (n + 1) := by rw [← pow_add, pow_succ 2 (n + 1), mul_two]
    rw [series, sq_eq, e]
    generalize P ^ 2 ^ (n + 1) = Q at *
    generalize series P n = T at *
    calc T + Q * T = (P * T + (1 - Q)) + Q * (P * T + (1 - Q)) := by rw [← ih]
      _ = P * T + (Q * P) * T + (1 - Q * Q) := by noncomm_ring
      _ = P * (T + Q * T) + (1 - Q * Q) := by rw [← c]; noncomm_ring

/-- Six products are the inverse of one less the matrix. -/
theorem inverse {P : Mat} (h : Strict P) : series P 5 = P * series P 5 + 1 := by
  have e := series_eq P 5
  rw [show 2 ^ (5 + 1) = 64 from rfl, h.pow_64, sub_zero] at e
  exact e

/-- The rows it makes are the solution of the triangular system. -/
theorem solve {P : Mat} (h : Strict P) {n : ℕ} (R : Matrix (Fin 64) (Fin n) ℝ) (i : Fin 64) (e : Fin n) :
    (series P 5 * R) i e = R i e + ∑ j, P i j * (series P 5 * R) j e := by
  have e1 : series P 5 * R = P * (series P 5 * R) + R := by
    conv_lhs => rw [inverse h]
    rw [Matrix.add_mul, Matrix.one_mul, Matrix.mul_assoc]
  conv_lhs => rw [e1]
  rw [Matrix.add_apply, Matrix.mul_apply, add_comm]

/-! ## One row -/

/-- The state a row leaves: the state it enters with decayed by `a`, and what the row's value differs from it at the row's key. -/
def rowStep (k : Fin 128 → ℝ) (v b a : ℝ) (s : Fin 128 → ℝ) (d : Fin 128) : ℝ :=
  s d * a + k d * ((v - ∑ d, k d * (s d * a)) * b)

/-- The sum of the decays before a row of the chunk. -/
def before (g : Fin 64 → ℝ) (r : Fin 64) : ℝ :=
  if h : r.val = 0 then 0 else g ⟨r.val - 1, by omega⟩

/-! ## One chunk -/

section

variable (q k : Fin 64 → Fin 128 → ℝ) (v b g : Fin 64 → ℝ) (st : ℕ → Fin 128 → ℝ)

/-- What a row takes from the rows before it, with the sign it enters the system with. -/
def lower : Mat := fun i j => if j < i then 0 - (∑ d, k i d * b i * k j d) * Real.exp (g i - g j) else 0

theorem lower_strict : Strict (lower k b g) := fun _ _ h => if_neg (not_lt.mpr h)

/-- The recurrence over the chunk's rows. -/
def Runs : Prop := ∀ r : Fin 64, st (r.val + 1) = rowStep (k r) (v r) (b r) (Real.exp (g r - before g r)) (st r.val)

variable (D : Fin 64 → ℝ)

/-- `D` solves the chunk's triangular system for the state it enters with. -/
def Solves : Prop := ∀ i, D i = v i * b i - k i ⬝ᵥ st 0 * (b i * Real.exp (g i)) + ∑ j, lower k b g i j * D j

variable {k v b g st D}

/-- A row's step, where the decayed state is known. -/
theorem after_row (hD : Solves k v b g st D) (r : Fin 64) (s : Fin 128 → ℝ) (a : ℝ)
    (hs : ∀ d, s d * a = Real.exp (g r) * st 0 d + ∑ j, if j < r then Real.exp (g r - g j) * k j d * D j else 0) (d : Fin 128) :
    rowStep (k r) (v r) (b r) a s d = Real.exp (g r) * st 0 d + ∑ j, if j ≤ r then Real.exp (g r - g j) * k j d * D j else 0 := by
  have h1 : ∑ d, k r d * (s d * a) = Real.exp (g r) * (k r ⬝ᵥ st 0)
      + ∑ j, if j < r then (∑ d, k r d * k j d) * Real.exp (g r - g j) * D j else 0 := by
    simp only [hs, mul_add, sum_add_distrib, dotProduct, mul_sum]
    refine congrArg₂ (· + ·) (sum_congr rfl fun d _ => by ring) ?_
    rw [sum_comm]
    refine sum_congr rfl fun j _ => ?_
    by_cases h : j < r
    · simp only [if_pos h, sum_mul]
      exact sum_congr rfl fun d _ => by ring
    · simp only [if_neg h, mul_zero, sum_const_zero]
  have h2 : (v r - ∑ d, k r d * (s d * a)) * b r = D r := by
    rw [h1, hD r]
    have e : ∑ j, lower k b g r j * D j
        = -((∑ j, if j < r then (∑ d, k r d * k j d) * Real.exp (g r - g j) * D j else 0) * b r) := by
      rw [sum_mul, ← sum_neg_distrib]
      refine sum_congr rfl fun j _ => ?_
      unfold lower
      by_cases h : j < r
      · simp only [if_pos h]
        have e' : ∑ d, k r d * b r * k j d = (∑ d, k r d * k j d) * b r := by
          rw [sum_mul]
          exact sum_congr rfl fun d _ => by ring
        rw [e']
        ring
      · simp only [if_neg h, zero_mul, neg_zero]
    rw [e]
    ring
  have h3 : ∀ j, (if j ≤ r then Real.exp (g r - g j) * k j d * D j else 0)
      = (if j < r then Real.exp (g r - g j) * k j d * D j else 0) + if j = r then k r d * D r else 0 := by
    intro j
    rcases lt_trichotomy j r with h | h | h
    · rw [if_pos h.le, if_pos h, if_neg h.ne, add_zero]
    · subst h
      rw [if_pos le_rfl, if_neg (lt_irrefl _), if_pos rfl, sub_self, Real.exp_zero, one_mul, zero_add]
    · rw [if_neg (not_le.mpr h), if_neg (not_lt.mpr h.le), if_neg h.ne', add_zero]
  unfold rowStep
  rw [h2, hs, sum_congr rfl fun j _ => h3 j, sum_add_distrib, sum_ite_eq' univ r, if_pos (mem_univ r), add_assoc]

/-- The state every row of the chunk leaves, from the state the chunk enters with. -/
theorem after_rows (hst : Runs k v b g st) (hD : Solves k v b g st D) : ∀ (n : ℕ) (h : n < 64) (d : Fin 128),
    st (n + 1) d = Real.exp (g ⟨n, h⟩) * st 0 d
      + ∑ j, if j ≤ (⟨n, h⟩ : Fin 64) then Real.exp (g ⟨n, h⟩ - g j) * k j d * D j else 0
  | 0, h, d => by
    rw [show st (0 + 1) = _ from hst ⟨0, h⟩]
    refine after_row hD ⟨0, h⟩ _ _ (fun d => ?_) d
    have e : ∀ j : Fin 64, ¬ j < ⟨0, h⟩ := fun j hj => absurd (Fin.lt_def.mp hj) (Nat.not_lt_zero _)
    simp only [before, dif_pos, sub_zero, if_neg (e _), sum_const_zero, add_zero]
    exact mul_comm _ _
  | n + 1, h, d => by
    rw [show st (n + 1 + 1) = _ from hst ⟨n + 1, h⟩]
    refine after_row hD ⟨n + 1, h⟩ _ _ (fun d => ?_) d
    have hb : before g ⟨n + 1, h⟩ = g ⟨n, by omega⟩ := by
      unfold before
      rw [dif_neg (by exact Nat.succ_ne_zero n)]
      rfl
    rw [hb, after_rows hst hD n (by omega) d, add_mul, sum_mul]
    have ex : ∀ x : ℝ, Real.exp (g ⟨n, by omega⟩ - x) * Real.exp (g ⟨n + 1, h⟩ - g ⟨n, by omega⟩) = Real.exp (g ⟨n + 1, h⟩ - x) := by
      intro x
      rw [← Real.exp_add]
      exact congrArg Real.exp (by ring)
    refine congrArg₂ (· + ·) ?_ (sum_congr rfl fun j _ => ?_)
    · have e0 := ex 0
      rw [sub_zero, sub_zero] at e0
      rw [← e0]
      ring
    · have hj : j ≤ (⟨n, by omega⟩ : Fin 64) ↔ j < ⟨n + 1, h⟩ := by
        rw [Fin.le_def, Fin.lt_def]
        exact Nat.lt_succ_iff.symm
      by_cases hc : j < ⟨n + 1, h⟩
      · rw [if_pos (hj.mpr hc), if_pos hc, ← ex (g j)]
        generalize Real.exp (g ⟨n, _⟩ - g j) = x
        generalize Real.exp (g ⟨n + 1, h⟩ - g ⟨n, _⟩) = y
        ring
      · rw [if_neg (fun h => hc (hj.mp h)), if_neg hc, zero_mul]

end

/-! ## The chunk's products -/

section

variable (q k : Fin 64 → Fin 128 → ℝ) (v b g : Fin 64 → ℝ)

/-- The queries against the keys of the rows up to each. -/
def inner : Mat := fun i j => if j ≤ i then (∑ d, q i d * k j d) * Real.exp (g i - g j) else 0

variable (Y : Fin 64 → Fin 256 → ℝ) (e : Fin 128)

/-- The column of the values, and the columns of the keys, among the 256. -/
def colV : Fin 256 := ⟨e.val, by omega⟩
def colK : Fin 256 := ⟨128 + e.val, by omega⟩

/-- What the chunk's rows give, for the state `s` it enters with, -/
def outRow (s : Fin 128 → ℝ) (i : Fin 64) : ℝ :=
  ∑ d, (q i d * Real.exp (g i) - ∑ j, inner q k g i j * Y j (colK d)) * s d + ∑ j, inner q k g i j * Y j (colV e)

/-- and the state it leaves. -/
def outState (s : Fin 128 → ℝ) (d : Fin 128) : ℝ :=
  s d * Real.exp (g 63) + (∑ d', (0 - ∑ j, k j d * Real.exp (g 63 - g j) * Y j (colK d')) * s d'
    + ∑ j, k j d * Real.exp (g 63 - g j) * Y j (colV e))

variable {q k v b g Y e} {st : ℕ → Fin 128 → ℝ}
  (hV : ∀ i, Y i (colV e) = v i * b i + ∑ j, lower k b g i j * Y j (colV e))
  (hK : ∀ i d, Y i (colK d) = k i d * b i * Real.exp (g i) + ∑ j, lower k b g i j * Y j (colK d))
  (hst : Runs k v b g st)

/-- The rows less what the entering state makes of them. -/
def fresh (Y : Fin 64 → Fin 256 → ℝ) (e : Fin 128) (s : Fin 128 → ℝ) (j : Fin 64) : ℝ :=
  Y j (colV e) - ∑ d, Y j (colK d) * s d

include hV hK in
theorem fresh_solves : Solves k v b g st (fresh Y e (st 0)) := by
  intro i
  have h1 : ∑ d, Y i (colK d) * st 0 d
      = k i ⬝ᵥ st 0 * (b i * Real.exp (g i)) + ∑ j, lower k b g i j * ∑ d, Y j (colK d) * st 0 d := by
    simp only [mul_sum]
    rw [sum_comm]
    simp only [dotProduct, sum_mul]
    rw [← sum_add_distrib]
    refine sum_congr rfl fun d _ => ?_
    conv_lhs => rw [hK i d]
    rw [add_mul, sum_mul]
    exact congrArg₂ (· + ·) (by ring) (sum_congr rfl fun j _ => by ring)
  unfold fresh
  rw [h1, hV i]
  simp only [mul_sub, sum_sub_distrib]
  ring

include hV hK hst

theorem outState_eq (d : Fin 128) : outState k g Y e (st 0) d = st 64 d := by
  rw [after_rows hst (fresh_solves hV hK) 63 (by omega) d]
  unfold outState fresh
  rw [mul_comm (st 0 d)]
  refine congrArg₂ (· + ·) rfl ?_
  have e1 : ∀ j : Fin 64, j ≤ (⟨63, by omega⟩ : Fin 64) := fun j => Fin.le_def.mpr (by show j.val ≤ 63; omega)
  simp only [if_pos (e1 _), mul_sub, sum_sub_distrib, zero_sub, neg_mul, sum_neg_distrib, sum_mul, mul_sum]
  rw [sum_comm, neg_add_eq_sub]
  refine congrArg₂ (· - ·) (sum_congr rfl fun j _ => ?_) (sum_congr rfl fun j _ => sum_congr rfl fun d' _ => ?_)
  · show k j d * Real.exp (g 63 - g j) * _ = Real.exp (g 63 - g j) * k j d * _
    ring
  · show k j d * Real.exp (g 63 - g j) * _ * _ = Real.exp (g 63 - g j) * k j d * (_ * _)
    ring

theorem outRow_eq (i : Fin 64) : outRow q k g Y e (st 0) i = ∑ d, q i d * st (i.val + 1) d := by
  have h := fun d => after_rows hst (fresh_solves hV hK) i.val i.isLt d
  simp only [h, mul_add, sum_add_distrib, mul_sum]
  rw [sum_comm (s := univ) (t := univ) (f := fun d j => q i d * _)]
  have e2 : ∀ j, (∑ d, q i d * if j ≤ i then Real.exp (g i - g j) * k j d * fresh Y e (st 0) j else 0)
      = inner q k g i j * fresh Y e (st 0) j := by
    intro j
    unfold inner
    by_cases hc : j ≤ i
    · simp only [if_pos hc, sum_mul]
      exact sum_congr rfl fun d _ => by ring
    · simp only [if_neg hc, mul_zero, sum_const_zero, zero_mul]
  rw [show (∑ j, ∑ d, q i d * if j ≤ (⟨i.val, i.isLt⟩ : Fin 64) then Real.exp (g i - g j) * k j d * fresh Y e (st 0) j else 0)
    = ∑ j, inner q k g i j * fresh Y e (st 0) j from sum_congr rfl fun j _ => e2 j]
  unfold outRow fresh
  simp only [sub_mul, sum_sub_distrib, mul_sub, sum_mul, mul_sum]
  rw [sum_comm (f := fun x y => inner q k g i y * Y y (colK x) * st 0 x)]
  simp only [mul_assoc]
  ring

end

end Cert.Delta

end
-- ==== Proof.Gdn.Real.lean ====
/- The chunk's vectors at an index, and that over real entries they are the chunk's real mathematics. -/
module

public import proofs.«01_k».proof.Proof.Gdn.Tile
public import proofs.«01_k».proof.Proof.Gdn.Delta
public import Idealize.ShloMosaic.Lib.Pointwise

@[expose] public section

set_option maxRecDepth 16384

noncomputable section

namespace Cert.GdnChunkIdeal.Real

open Idealize.ShloMosaic Idealize.ShloMosaic.TcCoe Idealize.SL.Sem Cert.GdnChunkIdeal Cert.GdnChunkIdeal.Gen Cert.GdnChunkIdeal.Chain

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem upto_apply (i j : Fin 64) : (k0_pay6 : IVec S64x64 1) (ix2 i j) = (if j ≤ i then 1#1 else 0#1) := by
  revert i j
  decide +kernel

theorem below_apply (i j : Fin 64) : (k0_pay7 : IVec S64x64 1) (ix2 i j) = (if j < i then 1#1 else 0#1) := by
  revert i j
  decide +kernel

theorem eye_apply (i j : Fin 64) : (k0_pay8 : FVec Ideal S64x64 .f32) (ix2 i j) = (((1 : Delta.Mat) i j : ℝ) : EReal) := by
  pointwise [k0_pay8]
  by_cases h : i = j
  · subst h
    rw [Matrix.one_apply_eq]
    simp [IntOp.cmpi, FloatOps.sitofp]
  · have hne : ¬BitVec.ofNat 32 i.val = BitVec.ofNat 32 j.val := fun e => h (Fin.ext (by
      have e' := congrArg BitVec.toNat e
      simp only [BitVec.toNat_ofNat] at e'
      omega))
    have hb : (BitVec.ofNat 32 i.val == BitVec.ofNat 32 j.val) = false := beq_eq_false_iff_ne.mpr hne
    rw [Matrix.one_apply_ne h]
    simp only [IntOp.cmpi, hb]
    simp [FloatOps.sitofp]

variable (k q v : FVec Ideal S64x128 .f32) (g b b0 b1 : FVec Ideal S64x1 .f32) (gr : FVec Ideal S1x64 .f32)
  (p t : FVec Ideal S64x64 .f32) (r : FVec Ideal S64x256 .f32) (w : FVec Ideal S192x64 .f32) (d : FVec Ideal S64x64 .f32)

theorem scaled_apply (i : Fin 64) (e : Fin 128) : scaled q (ix2 i e) = q (ix2 i e) * Ideal.ofBits .f32 0x3DB504F3#32 := by
  pointwise [scaled]

theorem times_apply (i : Fin 64) (e : Fin 128) : times k b (ix2 i e) = k (ix2 i e) * b (ix2 i 0) := by
  pointwise [times]

theorem products_head (e : Fin 2) (i j : Fin 64) : products k q b0 b1 (ix2 ⟨64 * e.val + i.val, by omega⟩ j)
    = ∑ d : Fin 128, (k (ix2 i d) * (if e = 0 then b0 else b1) (ix2 i 0)) * k (ix2 j d) := by
  pointwise [products, times_apply]
  refine Finset.sum_congr rfl fun x _ => congrArg (· * k (ix2 j x)) ?_
  have he : e = 0 ∨ e = 1 := by omega
  obtain rfl | rfl := he
  · rw [dif_pos (by simp)]
    simp
  · rw [dif_neg (by simp), dif_pos (by simp)]
    simp

theorem products_query (i j : Fin 64) : products k q b0 b1 (ix2 ⟨128 + i.val, by omega⟩ j)
    = ∑ d : Fin 128, (q (ix2 i d) * Ideal.ofBits .f32 0x3DB504F3#32) * k (ix2 j d) := by
  pointwise [products, scaled_apply]
  refine Finset.sum_congr rfl fun x _ => congrArg (· * k (ix2 j x)) ?_
  rw [dif_neg (by omega), dif_neg (by omega)]
  have e : (⟨128 + i.val - 64 - 64, by omega⟩ : Fin 64) = i := Fin.ext (by show 128 + i.val - 64 - 64 = i.val; omega)
  rw [e]

theorem decays_apply (i j : Fin 64) : decays g gr (ix2 i j)
    = if j ≤ i then Ideal.exp (g (ix2 i 0) - gr (ix2 0 j)) else 0 := by
  pointwise [decays, upto_apply]
  by_cases h : j ≤ i
  · simp only [if_pos h]
    rfl
  · simp only [if_neg h]
    rfl

theorem lower_apply (e : Fin 2) (i j : Fin 64) : lowerVec w e d (ix2 i j)
    = 0 - (if j < i then w (ix2 ⟨64 * e.val + i.val, by omega⟩ j) * d (ix2 i j) else 0) := by
  pointwise [lowerVec, below_apply]
  by_cases h : j < i
  · simp only [if_pos h]
    rfl
  · simp only [if_neg h]
    rfl

theorem inner_apply (i j : Fin 64) : innerVec w d (ix2 i j)
    = if j ≤ i then w (ix2 ⟨128 + i.val, by omega⟩ j) * d (ix2 i j) else 0 := by
  pointwise [innerVec, upto_apply]
  by_cases h : j ≤ i
  · simp only [if_pos h]
    rfl
  · simp only [if_neg h]
    rfl

theorem square_apply (i j : Fin 64) : square p t (ix2 i j) = ∑ x, p (ix2 i x) * t (ix2 x j) := by
  pointwise [square]

theorem nextPower_apply (i j : Fin 64) : nextPower p t (ix2 i j) = ∑ x, p (ix2 i x) * p (ix2 x j) := by
  pointwise [nextPower, both]

theorem nextSeries_apply (i j : Fin 64) : nextSeries p t (ix2 i j) = t (ix2 i j) + ∑ x, p (ix2 i x) * t (ix2 x j) := by
  pointwise [nextSeries, both]

theorem sides_val (i : Fin 64) (e : Fin 128) : sides k v g b (ix2 i (Delta.colV e)) = v (ix2 i e) * b (ix2 i 0) := by
  pointwise [sides, Delta.colV, times_apply]

theorem sides_key (i : Fin 64) (e : Fin 128) : sides k v g b (ix2 i (Delta.colK e))
    = k (ix2 i e) * b (ix2 i 0) * Ideal.exp (g (ix2 i 0)) := by
  pointwise [sides, Delta.colK, times_apply]

theorem solved_apply (i : Fin 64) (e : Fin 256) : solved t r (ix2 i e) = ∑ x, t (ix2 i x) * r (ix2 x e) := by
  pointwise [solved]

theorem last_apply : lastOf gr (ix2 0 0) = gr (ix2 0 63) := by
  pointwise [lastOf]

theorem gains_apply (x : Fin 128) (e : Fin 256) : gains k g gr r (ix2 x e)
    = ∑ j : Fin 64, k (ix2 j x) * Ideal.exp (gr (ix2 0 63) - g (ix2 j 0)) * r (ix2 j e) := by
  pointwise [gains, times_apply, last_apply]

theorem rowsMul_apply (z : Fin 1) (i : Fin 64) (e : Fin 128) : rowsMul q g r (ix3 z i e)
    = q (ix2 i e) * Ideal.ofBits .f32 0x3DB504F3#32 * Ideal.exp (g (ix2 i 0)) - r (ix2 i (Delta.colK e)) := by
  pointwise [rowsMul, times_apply, scaled_apply, Delta.colK]

theorem rowsAdd_apply (z : Fin 1) (i : Fin 64) (e : Fin 128) : rowsAdd r (ix3 z i e) = r (ix2 i (Delta.colV e)) := by
  pointwise [rowsAdd, Delta.colV]

variable (x : FVec Ideal S128x256 .f32) (M : FVec Ideal S1x192x128 .bf16) (N : FVec Ideal S1x192x128 .f32) (S : FVec Ideal S128x128 .f32)

theorem stateMul_apply (z : Fin 1) (i : Fin 128) (e : Fin 128) : stateMul x (ix3 z i e) = 0 - x (ix2 i (Delta.colK e)) := by
  pointwise [stateMul, Delta.colK]

theorem stateAdd_apply (z : Fin 1) (i : Fin 128) (e : Fin 128) : stateAdd x (ix3 z i e) = x (ix2 i (Delta.colV e)) := by
  pointwise [stateAdd, Delta.colV]

theorem through_apply (i : Fin 192) (e : Fin 128) : through M N S (ix2 i e)
    = (∑ d, M (ix3 0 i d) * S (ix2 d e)) + N (ix3 0 i e) := by
  pointwise [through]

theorem out_apply (i : Fin 64) (e : Fin 128) : outVec M N S (ix2 i e)
    = (∑ d, M (ix3 0 ⟨i.val, by omega⟩ d) * S (ix2 d e)) + N (ix3 0 ⟨i.val, by omega⟩ e) := by
  pointwise [outVec, through_apply]

theorem next_apply (i e : Fin 128) : nextVec gr M N S (ix2 i e)
    = S (ix2 i e) * Ideal.exp (gr (ix2 0 63))
      + ((∑ d, M (ix3 0 ⟨64 + i.val, by omega⟩ d) * S (ix2 d e)) + N (ix3 0 ⟨64 + i.val, by omega⟩ e)) := by
  pointwise [nextVec, through_apply, last_apply]

/-! ## Real entries -/

/-- The system's right hand sides. -/
def rights (K V : Fin 64 → Fin 128 → ℝ) (β G : Fin 64 → ℝ) : Matrix (Fin 64) (Fin 256) ℝ := fun i e =>
  if h : e.val < 128 then V i ⟨e.val, h⟩ * β i else K i ⟨e.val - 128, by omega⟩ * β i * Real.exp (G i)

theorem rights_val (K V : Fin 64 → Fin 128 → ℝ) (β G : Fin 64 → ℝ) (i : Fin 64) (e : Fin 128) :
    rights K V β G i (Delta.colV e) = V i e * β i :=
  dif_pos e.isLt

theorem rights_key (K V : Fin 64 → Fin 128 → ℝ) (β G : Fin 64 → ℝ) (i : Fin 64) (e : Fin 128) :
    rights K V β G i (Delta.colK e) = K i e * β i * Real.exp (G i) := by
  have h : (⟨(Delta.colK e).val - 128, by have := e.isLt; simp [Delta.colK]⟩ : Fin 128) = e :=
    Fin.ext (by simp [Delta.colK])
  refine (dif_neg (by simp [Delta.colK])).trans ?_
  rw [h]

/-- The solved rows. -/
def answers (K V : Fin 64 → Fin 128 → ℝ) (β G : Fin 64 → ℝ) : Matrix (Fin 64) (Fin 256) ℝ :=
  Delta.series (Delta.lower K β G) 5 * rights K V β G

theorem exp_coe (a : ℝ) : Ideal.exp (a : EReal) = ((Real.exp a : ℝ) : EReal) := rfl

section Reals

variable {k q v g gr p t b0 b1 b r w d x M N S}
variable {K Q V : Fin 64 → Fin 128 → ℝ} {G β : Fin 64 → ℝ} {P T : Delta.Mat} {Y : Matrix (Fin 64) (Fin 256) ℝ}

theorem rounds_real (hp : ∀ i j, p (ix2 i j) = (P i j : EReal)) : ∀ n,
    (∀ i j, (rounds p n).1 (ix2 i j) = (Delta.sq P (n + 1) i j : EReal))
      ∧ ∀ i j, (rounds p n).2 (ix2 i j) = (Delta.series P n i j : EReal) := by
  intro n
  induction n with
  | zero =>
    refine ⟨fun i j => ?_, fun i j => ?_⟩
    · show square p p (ix2 i j) = _
      rw [square_apply]
      simp only [hp, Delta.sq, Matrix.mul_apply, coe_sum, EReal.coe_mul]
    · show addf k0_pay8 p (ix2 i j) = _
      pointwise [eye_apply, hp]
      rw [← EReal.coe_add]
      rfl
  | succ n ih =>
    refine ⟨fun i j => ?_, fun i j => ?_⟩
    · show nextPower (rounds p n).1 (rounds p n).2 (ix2 i j) = _
      rw [nextPower_apply]
      simp only [ih.1, Delta.sq, Matrix.mul_apply, coe_sum, EReal.coe_mul]
    · show nextSeries (rounds p n).1 (rounds p n).2 (ix2 i j) = _
      rw [nextSeries_apply]
      simp only [ih.1, ih.2, Delta.series, Matrix.add_apply, Matrix.mul_apply, coe_sum, EReal.coe_add, EReal.coe_mul]

theorem inverse_real (hp : ∀ i j, p (ix2 i j) = (P i j : EReal)) (i j : Fin 64) :
    inverseVec p (ix2 i j) = (Delta.series P 5 i j : EReal) := by
  have h := rounds_real hp 4
  pointwise [inverseVec, square_apply]
  simp only [h.1, h.2, Delta.series, Matrix.add_apply, Matrix.mul_apply, coe_sum, EReal.coe_add, EReal.coe_mul]

section

variable (hk : ∀ i e, k (ix2 i e) = (K i e : EReal)) (hq : ∀ i e, q (ix2 i e) * Ideal.ofBits .f32 0x3DB504F3#32 = (Q i e : EReal))
  (hv : ∀ i e, v (ix2 i e) = (V i e : EReal)) (hg : ∀ i, g (ix2 i 0) = (G i : EReal)) (hgr : ∀ i, gr (ix2 0 i) = (G i : EReal))
  (hb : ∀ i, b (ix2 i 0) = (β i : EReal))

include hk hg hgr in
theorem lower_real (e : Fin 2) (hb' : ∀ i, (if e = 0 then b0 else b1) (ix2 i 0) = (β i : EReal)) (i j : Fin 64) :
    lowerVec (products k q b0 b1) e (decays g gr) (ix2 i j) = (Delta.lower K β G i j : EReal) := by
  rw [lower_apply, products_head, decays_apply, Delta.lower]
  by_cases h : j < i
  · rw [if_pos h, if_pos h, if_pos h.le]
    simp only [hk, hb', hg, hgr, ← EReal.coe_sub, ← EReal.coe_mul, ← coe_sum, exp_coe, ← EReal.coe_zero]
  · rw [if_neg h, if_neg h, sub_zero, EReal.coe_zero]

include hk hq hg hgr in
theorem inner_real (i j : Fin 64) :
    innerVec (products k q b0 b1) (decays g gr) (ix2 i j) = (Delta.inner Q K G i j : EReal) := by
  rw [inner_apply, products_query, decays_apply, Delta.inner]
  by_cases h : j ≤ i
  · rw [if_pos h, if_pos h, if_pos h]
    simp only [hk, hq, hg, hgr, ← EReal.coe_sub, ← EReal.coe_mul, ← coe_sum, exp_coe]
  · rw [if_neg h, if_neg h, EReal.coe_zero]

include hk hv hg hb in
theorem sides_real (i : Fin 64) (e : Fin 256) : sides k v g b (ix2 i e) = (rights K V β G i e : EReal) := by
  by_cases h : e.val < 128
  · have he : Delta.colV ⟨e.val, h⟩ = e := rfl
    rw [← he, sides_val, rights_val, hv, hb, EReal.coe_mul]
  · have he : Delta.colK ⟨e.val - 128, by omega⟩ = e := Fin.ext (by show 128 + (e.val - 128) = e.val; omega)
    rw [← he, sides_key, rights_key, hk, hb, hg, exp_coe, EReal.coe_mul, EReal.coe_mul]

include hk hv hg hb in
theorem solved_real (hp : ∀ i j, p (ix2 i j) = (Delta.lower K β G i j : EReal)) (i : Fin 64) (e : Fin 256) :
    solved (inverseVec p) (sides k v g b) (ix2 i e) = (answers K V β G i e : EReal) := by
  rw [solved_apply]
  simp only [inverse_real hp, sides_real hk hv hg hb, answers, Matrix.mul_apply, coe_sum, EReal.coe_mul]

variable (hr : ∀ i e, r (ix2 i e) = (Y i e : EReal))

include hr in
theorem rows_real (ht : ∀ i j, t (ix2 i j) = (T i j : EReal)) (i : Fin 64) (e : Fin 256) :
    solved t r (ix2 i e) = ((∑ j, T i j * Y j e : ℝ) : EReal) := by
  rw [solved_apply]
  simp only [ht, hr, coe_sum, EReal.coe_mul]

include hk hg hgr hr in
theorem gains_real (i : Fin 128) (e : Fin 256) :
    gains k g gr r (ix2 i e) = ((∑ j, K j i * Real.exp (G 63 - G j) * Y j e : ℝ) : EReal) := by
  rw [gains_apply]
  simp only [hk, hg, hgr, hr, ← EReal.coe_sub, ← EReal.coe_mul, ← coe_sum, exp_coe]

end

/-- What multiplies and what is added hold the chunk's products. -/
structure Stored (M : FVec Ideal S1x192x128 .bf16) (N : FVec Ideal S1x192x128 .f32) (Q K : Fin 64 → Fin 128 → ℝ) (G : Fin 64 → ℝ)
    (Y : Matrix (Fin 64) (Fin 256) ℝ) : Prop where
  rowsMul : ∀ (i : Fin 64) (d : Fin 128), M (ix3 0 ⟨i.val, by omega⟩ d)
    = ((Q i d * Real.exp (G i) - ∑ j, Delta.inner Q K G i j * Y j (Delta.colK d) : ℝ) : EReal)
  rowsAdd : ∀ (i : Fin 64) (e : Fin 128), N (ix3 0 ⟨i.val, by omega⟩ e) = ((∑ j, Delta.inner Q K G i j * Y j (Delta.colV e) : ℝ) : EReal)
  stateMul : ∀ (i d : Fin 128), M (ix3 0 ⟨64 + i.val, by omega⟩ d)
    = ((0 - ∑ j, K j i * Real.exp (G 63 - G j) * Y j (Delta.colK d) : ℝ) : EReal)
  stateAdd : ∀ (i e : Fin 128), N (ix3 0 ⟨64 + i.val, by omega⟩ e)
    = ((∑ j, K j i * Real.exp (G 63 - G j) * Y j (Delta.colV e) : ℝ) : EReal)

variable {e : Fin 128} {st : ℕ → Fin 128 → ℝ} (hM : Stored M N Q K G (answers K V β G))
  (hS : ∀ d, S (ix2 d e) = (st 0 d : EReal)) (hst : Delta.Runs K (fun i => V i e) β G st)

theorem answers_val (i : Fin 64) : answers K V β G i (Delta.colV e)
    = V i e * β i + ∑ j, Delta.lower K β G i j * answers K V β G j (Delta.colV e) := by
  unfold answers
  rw [Delta.solve (Delta.lower_strict _ _ _), rights_val]

theorem answers_key (i : Fin 64) (d : Fin 128) : answers K V β G i (Delta.colK d)
    = K i d * β i * Real.exp (G i) + ∑ j, Delta.lower K β G i j * answers K V β G j (Delta.colK d) := by
  unfold answers
  rw [Delta.solve (Delta.lower_strict _ _ _), rights_key]

include hM hS hst

/-- The chunk's rows are the recurrence's, -/
theorem out_real (i : Fin 64) : outVec M N S (ix2 i e) = ((∑ d, Q i d * st (i.val + 1) d : ℝ) : EReal) := by
  rw [← Delta.outRow_eq (q := Q) answers_val answers_key hst i, out_apply]
  simp only [hM.rowsMul, hM.rowsAdd, hS, Delta.outRow, ← EReal.coe_mul, ← coe_sum, ← EReal.coe_add]

/-- and so is the state after it. -/
theorem next_real (hgr : ∀ i, gr (ix2 0 i) = (G i : EReal)) (d : Fin 128) : nextVec gr M N S (ix2 d e) = (st 64 d : EReal) := by
  rw [← Delta.outState_eq answers_val answers_key hst d, next_apply]
  simp only [hM.stateMul, hM.stateAdd, hS, hgr, exp_coe, Delta.outState, ← EReal.coe_mul, ← coe_sum, ← EReal.coe_add]

end Reals

end Cert.GdnChunkIdeal.Real

end
-- ==== Proof.Gdn.Pieces.lean ====
/- What a point's stores leave, read back at an index, and the point's chains of vectors over its blocks' entries. -/
module

public import proofs.«01_k».proof.Proof.Gdn.Block
public import proofs.«01_k».proof.Proof.Gdn.Real

@[expose] public section

set_option maxRecDepth 16384

noncomputable section

namespace Cert.GdnChunkIdeal.Pieces

open Idealize.ShloMosaic Idealize.ShloMosaic.TcCoe Idealize.ShloMosaic.Tactic Idealize.SL.Sem
open Cert.GdnChunkIdeal Cert.GdnChunkIdeal.Gen Cert.GdnChunkIdeal.Chain Cert.GdnChunkIdeal.Tile Cert.GdnChunkIdeal.Block

/-! ## Stores over boxes that don't meet -/

/-- A stored piece is found where no other piece reaches, whatever was stored before. -/
theorem canon_pick {s : Shape} {e : EltTy} (T : List (View.Piece (Elt Ideal) s e)) (p : View.Piece (Elt Ideal) s e) (y : p.1.shape.Idx) :
    ∀ L : List (View.Piece (Elt Ideal) s e), p ∈ L → (∀ r ∈ L, r = p ∨ p.1.emb y ∉ r.1.set) →
      View.canon (L ++ T) (p.1.emb y) = p.2 y
  | [], hp, _ => absurd hp (List.not_mem_nil)
  | r :: L, hp, h => by
    obtain rfl | hr := h r List.mem_cons_self
    · exact View.canon_cons_emb (Val := Elt Ideal) r.1 r.2 (L ++ T) y
    · have hp' : p ∈ L := by
        obtain e | hp' := List.mem_cons.mp hp
        · subst e
          exact absurd (show p.1.emb y ∈ p.1.set from p.1.mem_set.mpr fun a => ⟨(y a).val, (y a).isLt, rfl⟩) hr
        · exact hp'
      refine (View.canon_cons_of_not_mem (Val := Elt Ideal) r (L ++ T) hr).trans ?_
      exact canon_pick T p y L hp' fun a ha => h a (List.mem_cons_of_mem _ ha)

variable (B : Blocks) (n : Ix)

theorem mem_all : n ∈ all := by
  obtain ⟨c, h, e⟩ := n
  fin_cases c <;> fin_cases h <;> fin_cases e <;> simp [all]

theorem slot_ne {a n : Ix} (h : a ≠ n) : a.slot ≠ n.slot := by
  obtain ⟨c, x, e⟩ := a
  obtain ⟨c', x', e'⟩ := n
  intro q
  simp only [Ix.slot] at q
  apply h
  have h1 : c = c' := Fin.ext (by omega)
  have h2 : x = x' := Fin.ext (by omega)
  have h3 : e = e' := Fin.ext (by omega)
  rw [h1, h2, h3]

theorem slot_lt : n.slot < 16 := by
  simp only [Ix.slot]
  omega

theorem topBox_emb (z : Fin 1) (i : Fin 64) (d : Fin 128) :
    (topBox n).emb (ix3 z i d) = ix3 ⟨n.slot, slot_lt n⟩ (⟨i.val, by omega⟩ : Fin 192) d :=
  funext fun a => Fin.ext (by
    refine (Rect.idx_unit_val _ _ _ _ a).trans ?_
    fin_cases a <;> simp)

theorem bottomBox_emb (z : Fin 1) (i : Fin 128) (d : Fin 128) :
    (bottomBox n).emb (ix3 z i d) = ix3 ⟨n.slot, slot_lt n⟩ (⟨64 + i.val, by omega⟩ : Fin 192) d :=
  funext fun a => Fin.ext (by
    refine (Rect.idx_unit_val _ _ _ _ a).trans ?_
    fin_cases a <;> simp)

theorem slotBox_emb (z : Fin 1) (i : Fin 192) (d : Fin 128) : (slotBox n).emb (ix3 z i d) = ix3 ⟨n.slot, slot_lt n⟩ i d :=
  funext fun a => Fin.ext (by
    refine (Rect.idx_unit_val _ _ _ _ a).trans ?_
    fin_cases a <;> simp)

theorem of_bottom {y : S16x192x128.Idx} (h : y ∈ (bottomBox n).set) : (y 0).val = n.slot ∧ 64 ≤ (y 1).val := by
  rw [bottomBox, Rect.mem_set_unit] at h
  have h0 := h 0
  have h1 := h 1
  simp at h0 h1
  exact ⟨by omega, by omega⟩

theorem of_top {y : S16x192x128.Idx} (h : y ∈ (topBox n).set) : (y 0).val = n.slot ∧ (y 1).val < 64 := by
  rw [topBox, Rect.mem_set_unit] at h
  have h0 := h 0
  have h1 := h 1
  simp at h0 h1
  exact ⟨by omega, by omega⟩

section Stack

variable {e : EltTy} (top : Ix → S1x64x128.Idx → Elt Ideal e) (bottom : Ix → S1x128x128.Idx → Elt Ideal e)

/-- Two pieces to a slot, one above the other. -/
def stack : List (View.Piece (Elt Ideal) S16x192x128 e) := all.flatMap fun n => [⟨bottomBox n, bottom n⟩, ⟨topBox n, top n⟩]

theorem stack_top (i : Fin 64) (d : Fin 128) :
    View.canon (stack top bottom) (ix3 ⟨n.slot, slot_lt n⟩ (⟨i.val, by omega⟩ : Fin 192) d) = top n (ix3 0 i d) := by
  rw [← topBox_emb n 0 i d, ← List.append_nil (stack top bottom)]
  refine canon_pick [] ⟨topBox n, top n⟩ (ix3 0 i d) _ (List.mem_flatMap.mpr ⟨n, mem_all n, by simp⟩) fun r hr => ?_
  obtain ⟨a, -, ha⟩ := List.mem_flatMap.mp hr
  have hb : r = ⟨bottomBox a, bottom a⟩ ∨ r = ⟨topBox a, top a⟩ := by simpa using ha
  show _ ∨ (topBox n).emb _ ∉ _
  rw [topBox_emb]
  by_cases q : a = n
  · subst q
    obtain rfl | rfl := hb
    · right
      intro h
      have h1 := (of_bottom _ h).2
      simp at h1
      omega
    · exact Or.inl rfl
  · right
    have hs := slot_ne q
    obtain rfl | rfl := hb
    · intro h
      exact hs (of_bottom _ h).1.symm
    · intro h
      exact hs (of_top _ h).1.symm

theorem stack_bottom (i : Fin 128) (d : Fin 128) :
    View.canon (stack top bottom) (ix3 ⟨n.slot, slot_lt n⟩ (⟨64 + i.val, by omega⟩ : Fin 192) d) = bottom n (ix3 0 i d) := by
  rw [← bottomBox_emb n 0 i d, ← List.append_nil (stack top bottom)]
  refine canon_pick [] ⟨bottomBox n, bottom n⟩ (ix3 0 i d) _ (List.mem_flatMap.mpr ⟨n, mem_all n, by simp⟩) fun r hr => ?_
  obtain ⟨a, -, ha⟩ := List.mem_flatMap.mp hr
  have hb : r = ⟨bottomBox a, bottom a⟩ ∨ r = ⟨topBox a, top a⟩ := by simpa using ha
  show _ ∨ (bottomBox n).emb _ ∉ _
  rw [bottomBox_emb]
  by_cases q : a = n
  · subst q
    obtain rfl | rfl := hb
    · exact Or.inl rfl
    · right
      intro h
      have h1 := (of_top _ h).2
      simp at h1
  · right
    have hs := slot_ne q
    obtain rfl | rfl := hb
    · intro h
      exact hs (of_bottom _ h).1.symm
    · intro h
      exact hs (of_top _ h).1.symm

end Stack

/-! ## The point's stores -/

section Reads

variable (arg9 : Memref sig .tc .vmem S16x192x128 .bf16) (arg10 : Memref sig .tc .vmem S16x192x128 .f32)

theorem mulRead_top (i : Fin 64) (d : Fin 128) : mulRead arg9 B n (ix3 0 (⟨i.val, by omega⟩ : Fin 192) d)
    = rowsMul (qV B n) (gV B n) (rowsV B n) (ix3 0 i d) := by
  unfold mulRead
  rw [View.readCov_eq_canon']
  show View.canon (mulPieces B) ((slotBox n).emb _) = _
  rw [slotBox_emb]
  exact stack_top n (e := .bf16) (fun n => rowsMul (qV B n) (gV B n) (rowsV B n)) (fun n => stateMul (gainsV B n)) i d

theorem mulRead_bottom (i : Fin 128) (d : Fin 128) : mulRead arg9 B n (ix3 0 (⟨64 + i.val, by omega⟩ : Fin 192) d)
    = stateMul (gainsV B n) (ix3 0 i d) := by
  unfold mulRead
  rw [View.readCov_eq_canon']
  show View.canon (mulPieces B) ((slotBox n).emb _) = _
  rw [slotBox_emb]
  exact stack_bottom n (e := .bf16) (fun n => rowsMul (qV B n) (gV B n) (rowsV B n)) (fun n => stateMul (gainsV B n)) i d

theorem addRead_top (i : Fin 64) (d : Fin 128) : addRead arg10 B n (ix3 0 (⟨i.val, by omega⟩ : Fin 192) d)
    = rowsAdd (rowsV B n) (ix3 0 i d) := by
  unfold addRead
  rw [View.readCov_eq_canon']
  show View.canon (addPieces B) ((slotBox n).emb _) = _
  rw [slotBox_emb]
  exact stack_top n (e := .f32) (fun n => rowsAdd (rowsV B n)) (fun n => stateAdd (gainsV B n)) i d

theorem addRead_bottom (i : Fin 128) (d : Fin 128) : addRead arg10 B n (ix3 0 (⟨64 + i.val, by omega⟩ : Fin 192) d)
    = stateAdd (gainsV B n) (ix3 0 i d) := by
  unfold addRead
  rw [View.readCov_eq_canon']
  show View.canon (addPieces B) ((slotBox n).emb _) = _
  rw [slotBox_emb]
  exact stack_bottom n (e := .f32) (fun n => rowsAdd (rowsV B n)) (fun n => stateAdd (gainsV B n)) i d

end Reads

/-- Row `i` of a chunk among the block's, the key head's lanes and the value head's. -/
def rowIn (c : Fin 4) (i : Fin 64) : Fin 256 := ⟨64 * c.val + i.val, by omega⟩
def keyLane (h : Fin 2) (d : Fin 128) : Fin 256 := ⟨128 * h.val + d.val, by omega⟩
def valLane (h e : Fin 2) (d : Fin 128) : Fin 512 := ⟨128 * (2 * h.val + e.val) + d.val, by omega⟩
def headIn (h e : Fin 2) : Fin 4 := ⟨2 * h.val + e.val, by omega⟩

theorem valBox_emb (i : Fin 64) (d : Fin 128) : (valBox n).emb (ix2 i d) = ix2 (rowIn n.c i) (valLane n.h n.e d) :=
  funext fun a => Fin.ext (by
    refine (Rect.idx_unit_val _ _ _ _ a).trans ?_
    fin_cases a <;> simp [rowIn, valLane, Ix.head])

theorem stateBox_emb (z : Fin 1) (d x : Fin 128) : (stateBox n).emb (ix3 z d x) = ix3 (headIn n.h n.e) d x :=
  funext fun a => Fin.ext (by
    refine (Rect.idx_unit_val _ _ _ _ a).trans ?_
    fin_cases a <;> simp [headIn, Ix.head])

variable (M : Ix → FVec Ideal S1x192x128 .bf16) (N : Ix → FVec Ideal S1x192x128 .f32) (S : Ix → FVec Ideal S1x128x128 .f32)

theorem out_canon (i : Fin 64) (x : Fin 128) : View.canon (outPieces B M N S) (ix2 (rowIn n.c i) (valLane n.h n.e x))
    = outVec (M n) (N n) (stateV B M N S n.h n.e n.c.val) (ix2 i x) := by
  rw [← valBox_emb n i x, ← List.append_nil (outPieces B M N S)]
  refine canon_pick (e := .f32) [] ⟨valBox n, outVec (M n) (N n) (stateV B M N S n.h n.e n.c.val)⟩ (ix2 i x) (outPieces B M N S)
    (List.mem_map.mpr ⟨n, mem_all n, rfl⟩) fun r hr => ?_
  obtain ⟨a, -, rfl⟩ := List.mem_map.mp hr
  by_cases q : a = n
  · exact Or.inl (q ▸ rfl)
  · right
    have hs := slot_ne q
    show (valBox n).emb _ ∉ (valBox a).set
    rw [valBox_emb, valBox, Rect.mem_set_unit]
    intro h
    have h0 := h 0
    have h1 := h 1
    simp [rowIn, valLane, Ix.head] at h0 h1
    simp only [Ix.slot] at hs
    omega

theorem state_canon (T : List (View.Piece (Elt Ideal) S4x128x128 .f32)) (h e : Fin 2) (d x : Fin 128) :
    View.canon (statePieces B M N S ++ T) (ix3 (headIn h e) d x) = stateV B M N S h e 4 (ix2 d x) := by
  refine Eq.trans (b := shapeCast S1x128x128 (stateV B M N S h e 4) shapeCasts_S128x128_S1x128x128 (ix3 0 d x)) ?_ (by pointwise)
  rw [← stateBox_emb ⟨0, h, e⟩ 0 d x]
  refine canon_pick (e := .f32) T ⟨stateBox ⟨0, h, e⟩, shapeCast S1x128x128 (stateV B M N S h e 4) shapeCasts_S128x128_S1x128x128⟩ (ix3 0 d x) (statePieces B M N S)
    (List.mem_map.mpr ⟨⟨0, h, e⟩, by fin_cases h <;> fin_cases e <;> simp, rfl⟩) fun r hr => ?_
  obtain ⟨a, ha, rfl⟩ := List.mem_map.mp hr
  have ha0 : a.c = 0 := by
    simp only [List.mem_cons, List.not_mem_nil, or_false] at ha
    obtain rfl | rfl | rfl | rfl := ha <;> rfl
  by_cases q : a = ⟨0, h, e⟩
  · subst q
    exact Or.inl rfl
  · right
    have hs := slot_ne q
    show (stateBox ⟨0, h, e⟩).emb _ ∉ (stateBox a).set
    rw [stateBox_emb, stateBox, Rect.mem_set_unit]
    intro g
    have h0 := g 0
    simp [headIn, Ix.head] at h0
    simp [Ix.slot, ha0] at hs
    omega

theorem entered_apply (S : Vec Ideal S4x128x128 .f32) (z : Fin 1) (d x : Fin 128) :
    entered S n (ix3 z d x) = S (ix3 (headIn n.h n.e) d x) :=
  View.ld_unit_apply_of S _ _ _ _ _ (fun a => by fin_cases a <;> simp [headIn, Ix.head])

theorem zeroOff : (![0, 0, 0] : Fin 3 → ℕ) = fun _ => 0 := by
  funext a
  fin_cases a <;> rfl

theorem started_apply (arg8 : Memref sig .tc .vmem S4x128x128 .f32) (y : S1x128x128.Idx) : started arg8 n y = 0 := by
  unfold started zeroPiece
  rw [View.readCov_eq_canon']
  show View.canon _ ((stateBox n).toLoadRect.idx y) = _
  rw [View.canon_cons_unit_zero zeroOff]
  generalize (stateBox n).toLoadRect.idx y = w
  obtain ⟨a, b, c, rfl⟩ : ∃ a b c, w = ix3 a b c := ⟨w 0, w 1, w 2, eq_ix3 w⟩
  pointwise [k0_pay5]

/-! ## The chain's loads -/

theorem kV_apply (i : Fin 64) (d : Fin 128) : kV B n (ix2 i d) = B.k (ix2 (rowIn n.c i) (keyLane n.h d)) :=
  View.ld_unit_apply_of B.k _ _ _ _ _ (fun a => by fin_cases a <;> simp [rowIn, keyLane])

theorem qV_apply (i : Fin 64) (d : Fin 128) : qV B n (ix2 i d) = B.q (ix2 (rowIn n.c i) (keyLane n.h d)) :=
  View.ld_unit_apply_of B.q _ _ _ _ _ (fun a => by fin_cases a <;> simp [rowIn, keyLane])

theorem vV_apply (i : Fin 64) (d : Fin 128) : vV B n (ix2 i d) = B.v (ix2 (rowIn n.c i) (valLane n.h n.e d)) :=
  View.ld_unit_apply_of B.v _ _ _ _ _ (fun a => by fin_cases a <;> simp [rowIn, valLane, Ix.head])

theorem gbL_apply (c : Fin 4) (h : Fin 2) (o : Fin 4) (i : Fin 64) : gbL B c h o (ix4 0 0 i 0) = B.gb (ix4 0 h (rowIn c i) o) :=
  View.ld_unit_apply_of B.gb _ _ _ _ _ (fun a => by fin_cases a <;> simp [rowIn])

theorem grL_apply (i : Fin 64) : grL B n (ix4 0 0 0 i) = B.gr (ix4 0 n.h n.e (rowIn n.c i)) :=
  View.ld_unit_apply_of B.gr _ _ _ _ _ (fun a => by fin_cases a <;> simp [rowIn])

theorem gbV_apply (c : Fin 4) (h : Fin 2) (o : Fin 4) (i : Fin 64) : gbV B c h o (ix2 i 0) = B.gb (ix4 0 h (rowIn c i) o) := by
  pointwise [gbV, gbL_apply]

theorem grV_apply (i : Fin 64) : grV B n (ix2 0 i) = B.gr (ix4 0 n.h n.e (rowIn n.c i)) := by
  pointwise [grV, grL_apply]

end Cert.GdnChunkIdeal.Pieces

end
-- ==== Proof.Gdn.Point.lean ====
/- A grid point whose blocks hold real numbers leaves the recurrence's rows and state. -/
module

public import proofs.«01_k».proof.Proof.Gdn.Pieces

@[expose] public section

set_option maxRecDepth 16384

noncomputable section

namespace Cert.GdnChunkIdeal.Point

open Idealize.ShloMosaic Idealize.ShloMosaic.TcCoe Idealize.SL.Sem
open Cert.GdnChunkIdeal Cert.GdnChunkIdeal.Gen Cert.GdnChunkIdeal.Chain Cert.GdnChunkIdeal.Tile Cert.GdnChunkIdeal.Block
open Cert.GdnChunkIdeal.Pieces Cert.GdnChunkIdeal.Real

/-- The chains' loads hold real queries (scaled), keys, values, summed log-decays and gates. -/
structure Holds (B : Blocks) (Q K V : Ix → Fin 64 → Fin 128 → ℝ) (G β : Ix → Fin 64 → ℝ) : Prop where
  q : ∀ n i d, qV B n (ix2 i d) * Ideal.ofBits .f32 0x3DB504F3#32 = (Q n i d : EReal)
  k : ∀ n i d, kV B n (ix2 i d) = (K n i d : EReal)
  v : ∀ n i d, vV B n (ix2 i d) = (V n i d : EReal)
  g : ∀ n i, gV B n (ix2 i 0) = (G n i : EReal)
  gr : ∀ n i, grV B n (ix2 0 i) = (G n i : EReal)
  b : ∀ n i, bV B n (ix2 i 0) = (β n i : EReal)

variable {B : Blocks} {Q K V : Ix → Fin 64 → Fin 128 → ℝ} {G β : Ix → Fin 64 → ℝ} (H : Holds B Q K V G β)
  (arg9 : Memref sig .tc .vmem S16x192x128 .bf16) (arg10 : Memref sig .tc .vmem S16x192x128 .f32)
include H

theorem lowerV_real (n : Ix) (i j : Fin 64) : lowerV B n (ix2 i j) = (Delta.lower (K n) (β n) (G n) i j : EReal) := by
  refine lower_real (H.k n) (H.g n) (H.gr n) n.e (fun i => ?_) i j
  rw [← H.b n i]
  obtain ⟨c, h, e⟩ := n
  have he : e = 0 ∨ e = 1 := by omega
  obtain rfl | rfl := he <;> rfl

theorem solvedV_real (n : Ix) (i : Fin 64) (e : Fin 256) :
    solvedV B n (ix2 i e) = (answers (K n) (V n) (β n) (G n) i e : EReal) :=
  solved_real (H.k n) (H.v n) (H.g n) (H.b n) (lowerV_real H n) i e

theorem rowsV_real (n : Ix) (i : Fin 64) (e : Fin 256) : rowsV B n (ix2 i e)
    = ((∑ j, Delta.inner (Q n) (K n) (G n) i j * answers (K n) (V n) (β n) (G n) j e : ℝ) : EReal) :=
  rows_real (solvedV_real H n) (inner_real (H.k n) (H.q n) (H.g n) (H.gr n)) i e

theorem gainsV_real (n : Ix) (i : Fin 128) (e : Fin 256) : gainsV B n (ix2 i e)
    = ((∑ j, K n j i * Real.exp (G n 63 - G n j) * answers (K n) (V n) (β n) (G n) j e : ℝ) : EReal) :=
  gains_real (H.k n) (H.g n) (H.gr n) (solvedV_real H n) i e

/-- What the point stores for a chunk and head. -/
theorem stored (n : Ix) : Stored (mulRead arg9 B n) (addRead arg10 B n) (Q n) (K n) (G n) (answers (K n) (V n) (β n) (G n)) where
  rowsMul i d := by
    rw [mulRead_top, rowsMul_apply, rowsV_real H, H.q, H.g, exp_coe, ← EReal.coe_mul, ← EReal.coe_sub]
  rowsAdd i e := by
    rw [addRead_top, rowsAdd_apply, rowsV_real H]
  stateMul i d := by
    rw [mulRead_bottom, stateMul_apply, gainsV_real H, EReal.coe_sub, EReal.coe_zero]
  stateAdd i e := by
    rw [addRead_bottom, stateAdd_apply, gainsV_real H]

variable (S : Ix → FVec Ideal S1x128x128 .f32) (h e : Fin 2) (x : Fin 128) {st : ℕ → Fin 128 → ℝ}
  (hS : ∀ d, S ⟨0, h, e⟩ (ix3 0 d x) = (st 0 d : EReal))
  (hst : ∀ c : Fin 4, Delta.Runs (K ⟨c, h, e⟩) (fun i => V ⟨c, h, e⟩ i x) (β ⟨c, h, e⟩) (G ⟨c, h, e⟩) fun r => st (64 * c.val + r))
include hS hst

/-- The state before each chunk is the recurrence's, -/
theorem stateV_real : ∀ n, n ≤ 4 → ∀ d, stateV B (mulRead arg9 B) (addRead arg10 B) S h e n (ix2 d x) = (st (64 * n) d : EReal)
  | 0, _, d => by
    refine Eq.trans ?_ (hS d)
    show shapeCast S128x128 (S ⟨0, h, e⟩) shapeCasts_S1x128x128_S128x128 (ix2 d x) = _
    pointwise
  | n + 1, hn, d => by
    have hc : (chunk n).val = n := Nat.mod_eq_of_lt (by omega)
    refine (next_real (stored H arg9 arg10 ⟨chunk n, h, e⟩) (st := fun r => st (64 * (chunk n).val + r)) (fun d => ?_) (hst (chunk n))
      (H.gr _) d).trans ?_
    · rw [stateV_real n (by omega) d, hc]
      rfl
    · rw [hc]
      rfl

/-- the rows of each chunk too, -/
theorem out_point (c : Fin 4) (i : Fin 64) :
    View.canon (outPieces B (mulRead arg9 B) (addRead arg10 B) S) (ix2 (rowIn c i) (valLane h e x))
      = ((∑ d, Q ⟨c, h, e⟩ i d * st (64 * c.val + (i.val + 1)) d : ℝ) : EReal) := by
  refine (out_canon B ⟨c, h, e⟩ _ _ S i x).trans ?_
  exact out_real (stored H arg9 arg10 ⟨c, h, e⟩) (st := fun r => st (64 * c.val + r))
    (fun d => stateV_real H arg9 arg10 S h e x hS hst c.val (by omega) d) (hst c) i

/-- and the state the point leaves. -/
theorem state_point (T : List (View.Piece (Elt Ideal) S4x128x128 .f32)) (d : Fin 128) :
    View.canon (statePieces B (mulRead arg9 B) (addRead arg10 B) S ++ T) (ix3 (headIn h e) d x) = (st 256 d : EReal) :=
  (state_canon B _ _ S T h e d x).trans (stateV_real H arg9 arg10 S h e x hS hst 4 (le_refl _) d)

end Cert.GdnChunkIdeal.Point

end
-- ==== Proof.Gdn.Recur.lean ====
/- The gated delta rule as one recurrence over the rows, in real numbers: 32 value heads, two to a key head, states of 128
   keys by 128 values. The arguments hold queries and keys side by side, values, and sums of log-decays within a chunk of 64
   rows with gates beside them. -/
module

public import proofs.«01_k».proof.Proof.Gdn.Delta
public import proofs.«01_k».proof.Proof.Column

@[expose] public section

noncomputable section

namespace Cert.Recur

open Idealize.ShloMosaic Cert.Column

/-- What the queries are scaled by. -/
def scale : ℝ := (Ideal.ofBits .f32 0x3DB504F3#32).toReal

theorem scale_eq : Ideal.ofBits .f32 0x3DB504F3#32 = (scale : EReal) := by
  unfold scale
  refine (EReal.coe_toReal ?_ ?_).symm <;> simp [Ideal.ofBits, Ideal.ieee] <;> norm_cast <;> simp

theorem coe_toReal {v : EReal} (h : Fin' v) : v = (v.toReal : EReal) := by
  obtain ⟨r, rfl⟩ := h
  rfl

/-- Row number `n`. -/
def row (n : ℕ) : Fin 8448 := ⟨n % 8448, Nat.mod_lt _ (by decide)⟩

variable (X Y : Fin 8448 → Fin 4096 → EReal) (P : Fin 8448 → Fin 128 → EReal) (h : Fin 32)

/-- A head's query, key, value, summed log-decay and gate at a row. -/
def query (n : ℕ) (d : Fin 128) : ℝ := (X (row n) ⟨128 * (h.val / 2) + d.val, by omega⟩).toReal * scale
def key (n : ℕ) (d : Fin 128) : ℝ := (X (row n) ⟨2048 + (128 * (h.val / 2) + d.val), by omega⟩).toReal
def val (n : ℕ) (e : Fin 128) : ℝ := (Y (row n) ⟨128 * h.val + e.val, by omega⟩).toReal
def sums (n : ℕ) : ℝ := (P (row n) ⟨h.val, by omega⟩).toReal
def gate (n : ℕ) : ℝ := (P (row n) ⟨32 + h.val, by omega⟩).toReal

/-- The sum before the row, none at a chunk's first. -/
def prior (n : ℕ) : ℝ := if n % 64 = 0 then 0 else sums P h (n - 1)

/-- One value column of a head's state before row `n`. -/
def state (e : Fin 128) : ℕ → Fin 128 → ℝ
  | 0 => fun _ => 0
  | n + 1 => Delta.rowStep (key X h n) (val Y h n e) (gate P h n) (Real.exp (sums P h n - prior P h n)) (state e n)

/-- The result of a row. -/
def value (e : Fin 128) (n : ℕ) : ℝ := ∑ d, query X h n d * state X Y P h e (n + 1) d

/-- The rows of a chunk run the recurrence. -/
theorem runs (e : Fin 128) (m : ℕ) : Delta.Runs (fun i => key X h (64 * m + i.val)) (fun i => val Y h (64 * m + i.val) e)
    (fun i => gate P h (64 * m + i.val)) (fun i => sums P h (64 * m + i.val)) (fun r => state X Y P h e (64 * m + r)) := by
  intro r
  have hp : prior P h (64 * m + r.val) = Delta.before (fun i => sums P h (64 * m + i.val)) r := by
    unfold prior Delta.before
    by_cases h0 : r.val = 0
    · rw [if_pos (by omega), dif_pos h0]
    · rw [if_neg (by omega), dif_neg h0]
      exact congrArg (sums P h) (by show 64 * m + r.val - 1 = 64 * m + (r.val - 1); omega)
  rw [← hp]
  rfl

end Cert.Recur

end
-- ==== Proof.Gdn.Entry.lean ====
/- The blocks the kernel reads at a point, as entries of its three arguments. Point `t` is block `t % 33` of 256 rows of
   group `t / 33`: two key heads, four value heads. -/
module

public import proofs.«01_k».proof.Proof.Gdn.Tile
public import proofs.«01_k».proof.Proof.Gdn.Recur
public import Idealize.ShloMosaic.Lib.Pipeline.ValueKit
public import Idealize.ShloMosaic.Lib.Claim

@[expose] public section

set_option maxRecDepth 16384

noncomputable section

namespace Cert.GdnChunkIdeal.Entry

open Idealize.ShloMosaic Idealize.ShloMosaic.TcCoe Idealize.ShloMosaic.Tactic Idealize.SL.Sem
open Cert.GdnChunkIdeal Cert.GdnChunkIdeal.Gen Cert.GdnChunkIdeal.Tile

variable (m : (ℓ : Loc nD τ sig) → Buf (Elt Ideal) ℓ) (c : Dev nD) (t : Fin cfg0.N)

/-- Which block of its array each window reads at a point. -/
theorem idx : ∀ t : Fin cfg0.N,
    win0_0.index t = ![t.val % 33, t.val / 33] ∧ win0_1.index t = ![t.val % 33, 8 + t.val / 33]
      ∧ win0_2.index t = ![t.val % 33, t.val / 33] ∧ win0_3.index t = ![0, t.val / 33, t.val % 33, 0]
      ∧ win0_4.index t = ![0, t.val / 33, 0, t.val % 33] :=
  (by decide +kernel : ∀ t : Fin grid0.N, _)

theorem lt_points : t.val < 264 := lt_of_lt_of_eq t.isLt N_0

/-- The three arguments. -/
def X : FVec Ideal S8448x4096 .f32 := m ((c : Thread nD τ).loc main_arg0)
def Y : FVec Ideal S8448x4096 .f32 := m ((c : Thread nD τ).loc main_arg1)
def P : FVec Ideal S8448x128 .f32 := m ((c : Thread nD τ).loc main_arg2)

/-- Row `s` of the point's block among all rows. -/
def rowAt (s : Fin 256) : Fin 8448 := ⟨256 * (t.val % 33) + s.val, by omega⟩

/-- The point's key heads and value heads among all. -/
def keyHead (h : Fin 2) : Fin 16 := ⟨2 * (t.val / 33) + h.val, by have := lt_points t; omega⟩

/-- The point's blocks. -/
def blocks : Blocks where
  q := iblk m c 0 t
  k := iblk m c 1 t
  v := iblk m c 2 t
  gb := iblk m c 3 t
  gr := iblk m c 4 t

theorem q_apply (s : Fin 256) (d : Fin 256) :
    (blocks m c t).q (ix2 s d) = X m c (ix2 (rowAt t s) ⟨256 * (t.val / 33) + d.val, by have := lt_points t; omega⟩) := by
  show iblk m c 0 t (ix2 s d) = m ((c : Thread nD τ).loc main_arg0) _
  unfold rowAt
  blk_ext [iblk, V, idx t]

theorem k_apply (s : Fin 256) (d : Fin 256) :
    (blocks m c t).k (ix2 s d) = X m c (ix2 (rowAt t s) ⟨2048 + (256 * (t.val / 33) + d.val), by have := lt_points t; omega⟩) := by
  show iblk m c 1 t (ix2 s d) = m ((c : Thread nD τ).loc main_arg0) _
  unfold rowAt
  blk_ext [iblk, V, idx t]

theorem v_apply (s : Fin 256) (d : Fin 512) :
    (blocks m c t).v (ix2 s d) = Y m c (ix2 (rowAt t s) ⟨512 * (t.val / 33) + d.val, by have := lt_points t; omega⟩) := by
  show iblk m c 2 t (ix2 s d) = m ((c : Thread nD τ).loc main_arg1) _
  unfold rowAt
  blk_ext [iblk, V, idx t]

/-- The sums and gates by direction and key head, and the sums along the rows. -/
theorem V2 : V m c main_v2 = shapeCast S2x16x8448x4 (transpose S2x16x8448x2x2 [1, 3, 0, 2, 4]
    (shapeCast S8448x2x2x16x2 (P m c) shapeCasts_S8448x128_S8448x2x2x16x2) transposes_S8448x2x2x16x2_S2x16x8448x2x2_1_3_0_2_4)
      shapeCasts_S2x16x8448x2x2_S2x16x8448x4 := by
  entry_read
  rfl

theorem V5 : V m c main_v5 = transpose S2x16x2x8448 [1, 2, 3, 0] (shapeCast S8448x2x16x2 (extractStridedSlice S8448x2x1x16x2 ![0, 0, 0, 0, 0]
    (shapeCast S8448x2x2x16x2 (P m c) shapeCasts_S8448x128_S8448x2x2x16x2) slices_S8448x2x2x16x2_S8448x2x1x16x2_0_0_0_0_0)
      shapeCasts_S8448x2x1x16x2_S8448x2x16x2) transposes_S8448x2x16x2_S2x16x2x8448_1_2_3_0 := by
  entry_read
  rfl

theorem gb_read (h : Fin 2) (s : Fin 256) (o : Fin 4) :
    (blocks m c t).gb (ix4 0 h s o) = (V m c main_v2 : FVec Ideal S2x16x8448x4 .f32) (ix4 0 (keyHead t h) (rowAt t s) o) := by
  show iblk m c 3 t (ix4 0 h s o) = _
  unfold rowAt keyHead
  blk_ext [iblk, idx t]

theorem gr_read (h e : Fin 2) (s : Fin 256) :
    (blocks m c t).gr (ix4 0 h e s) = (V m c main_v5 : FVec Ideal S2x16x2x8448 .f32) (ix4 0 (keyHead t h) e (rowAt t s)) := by
  show iblk m c 4 t (ix4 0 h e s) = _
  unfold rowAt keyHead
  blk_ext [iblk, idx t]

/-- A value head of the point's among all. -/
def headAt (h e : Fin 2) : Fin 32 := ⟨4 * (t.val / 33) + (2 * h.val + e.val), by have := lt_points t; omega⟩

theorem g_apply (h e : Fin 2) (s : Fin 256) :
    (blocks m c t).gb (ix4 0 h s ⟨e.val, by omega⟩) = P m c (ix2 (rowAt t s) ⟨(headAt t h e).val, by omega⟩) := by
  rw [gb_read, V2]
  pointwise
  refine congrArg (fun a => P m c (ix2 (rowAt t s) a)) (Fin.ext ?_)
  simp [keyHead, headAt]
  omega

theorem b_apply (h e : Fin 2) (s : Fin 256) :
    (blocks m c t).gb (ix4 0 h s ⟨2 + e.val, by omega⟩) = P m c (ix2 (rowAt t s) ⟨32 + (headAt t h e).val, by omega⟩) := by
  rw [gb_read, V2]
  pointwise
  refine congrArg (fun a => P m c (ix2 (rowAt t s) a)) (Fin.ext ?_)
  simp [keyHead, headAt]
  omega

theorem gr_apply (h e : Fin 2) (s : Fin 256) :
    (blocks m c t).gr (ix4 0 h e s) = P m c (ix2 (rowAt t s) ⟨(headAt t h e).val, by omega⟩) := by
  rw [gr_read, V5]
  pointwise
  refine congrArg (fun a => P m c (ix2 (rowAt t s) a)) (Fin.ext ?_)
  simp [keyHead, headAt]
  omega

end Cert.GdnChunkIdeal.Entry

end
-- ==== Proof.Gdn.Whole.lean ====
/- What the kernel leaves in its result: the recurrence's value at every row, head and lane, where the arguments are real
   numbers. -/
module

public import proofs.«01_k».proof.Proof.Gdn.Point
public import proofs.«01_k».proof.Proof.Gdn.Entry

@[expose] public section

set_option maxRecDepth 16384

noncomputable section

namespace Cert.GdnChunkIdeal.Whole

open Idealize.ShloMosaic Idealize.ShloMosaic.TcCoe Idealize.SL.Sem
open Cert.GdnChunkIdeal Cert.GdnChunkIdeal.Gen Cert.GdnChunkIdeal.Tile Cert.GdnChunkIdeal.Entry Cert.GdnChunkIdeal.Block
open Cert.GdnChunkIdeal.Pieces Cert.GdnChunkIdeal.Point Cert.Column

variable (m : (ℓ : Loc nD τ sig) → Buf (Elt Ideal) ℓ) (c : Dev nD)

/-- The arguments by row and column. -/
def x2 (a : Fin 8448) (b : Fin 4096) : EReal := X m c (ix2 a b)
def y2 (a : Fin 8448) (b : Fin 4096) : EReal := Y m c (ix2 a b)
def p2 (a : Fin 8448) (b : Fin 128) : EReal := P m c (ix2 a b)

/-- Every argument holds real numbers. -/
structure AllFin : Prop where
  x : ∀ a b, Fin' (x2 m c a b)
  y : ∀ a b, Fin' (y2 m c a b)
  p : ∀ a b, Fin' (p2 m c a b)

variable (t : Fin cfg0.N)

/-- Row `i` of a chunk of the point. -/
def num (k : Fin 4) (i : Fin 64) : ℕ := 64 * (4 * (t.val % 33) + k.val) + i.val

theorem row_num (k : Fin 4) (i : Fin 64) : Recur.row (num t k i) = rowAt t (rowIn k i) :=
  Fin.ext (by show (64 * (4 * (t.val % 33) + k.val) + i.val) % 8448 = 256 * (t.val % 33) + (64 * k.val + i.val); omega)

/-- The point's blocks hold the recurrence's numbers. -/
theorem holds (hf : AllFin m c) : Holds (blocks m c t)
    (fun n i => Recur.query (x2 m c) (headAt t n.h n.e) (num t n.c i)) (fun n i => Recur.key (x2 m c) (headAt t n.h n.e) (num t n.c i))
    (fun n i => Recur.val (y2 m c) (headAt t n.h n.e) (num t n.c i)) (fun n i => Recur.sums (p2 m c) (headAt t n.h n.e) (num t n.c i))
    (fun n i => Recur.gate (p2 m c) (headAt t n.h n.e) (num t n.c i)) where
  q n i d := by
    rw [qV_apply, q_apply, Recur.scale_eq, Recur.query, EReal.coe_mul, ← Recur.coe_toReal (hf.x _ _), row_num]
    refine congrArg (fun a => X m c (ix2 _ a) * _) (Fin.ext ?_)
    simp only [headAt, keyLane]
    omega
  k n i d := by
    rw [kV_apply, k_apply, Recur.key, ← Recur.coe_toReal (hf.x _ _), row_num]
    refine congrArg (fun a => X m c (ix2 _ a)) (Fin.ext ?_)
    simp only [headAt, keyLane]
    omega
  v n i d := by
    rw [vV_apply, v_apply, Recur.val, ← Recur.coe_toReal (hf.y _ _), row_num]
    refine congrArg (fun a => Y m c (ix2 _ a)) (Fin.ext ?_)
    simp only [headAt, valLane]
    omega
  g n i := by
    unfold gV
    rw [gbV_apply, g_apply, Recur.sums, ← Recur.coe_toReal (hf.p _ _), row_num]
    rfl
  gr n i := by
    rw [grV_apply, gr_apply, Recur.sums, ← Recur.coe_toReal (hf.p _ _), row_num]
    rfl
  b n i := by
    unfold bV
    rw [gbV_apply, b_apply, Recur.gate, ← Recur.coe_toReal (hf.p _ _), row_num]
    rfl

/-- A head's state on the point's rows. -/
def st (h e : Fin 2) (x : Fin 128) (r : ℕ) : Fin 128 → ℝ :=
  Recur.state (x2 m c) (y2 m c) (p2 m c) (headAt t h e) x (256 * (t.val % 33) + r)

theorem st_runs (h e : Fin 2) (x : Fin 128) (k : Fin 4) : Delta.Runs (fun i => Recur.key (x2 m c) (headAt t h e) (num t k i))
    (fun i => Recur.val (y2 m c) (headAt t h e) (num t k i) x) (fun i => Recur.gate (p2 m c) (headAt t h e) (num t k i))
    (fun i => Recur.sums (p2 m c) (headAt t h e) (num t k i)) (fun r => st m c t h e x (64 * k.val + r)) := by
  have E : (fun r => st m c t h e x (64 * k.val + r))
      = fun r => Recur.state (x2 m c) (y2 m c) (p2 m c) (headAt t h e) x (64 * (4 * (t.val % 33) + k.val) + r) := by
    funext r
    exact congrArg (Recur.state (x2 m c) (y2 m c) (p2 m c) (headAt t h e) x) (by omega)
  rw [E]
  exact Recur.runs _ _ _ _ x _

/-- What a point leaves that enters with the recurrence's states. -/
structure Left (O : FVec Ideal S256x512 .f32) (S : FVec Ideal S4x128x128 .f32) : Prop where
  out : ∀ (k : Fin 4) (i : Fin 64) (h e : Fin 2) (x : Fin 128), O (ix2 (rowIn k i) (valLane h e x))
    = (Recur.value (x2 m c) (y2 m c) (p2 m c) (headAt t h e) x (num t k i) : EReal)
  state : ∀ (h e : Fin 2) (d x : Fin 128), S (ix3 (headIn h e) d x) = (st m c t h e x 256 d : EReal)

variable {m c t} in
theorem Left.of_eq {O O' : FVec Ideal S256x512 .f32} {S S' : FVec Ideal S4x128x128 .f32} (L : Left m c t O' S') (hO : O = O')
    (hS : S = S') : Left m c t O S := by
  subst hO hS
  exact L

section

variable (hf : AllFin m c) (arg9 : Memref sig .tc .vmem S16x192x128 .bf16) (arg10 : Memref sig .tc .vmem S16x192x128 .f32)
  (S : Ix → FVec Ideal S1x128x128 .f32) (hS : ∀ h e d x, S ⟨0, h, e⟩ (ix3 0 d x) = (st m c t h e x 0 d : EReal))
  (T : List (View.Piece (Elt Ideal) S4x128x128 .f32))
include hf hS

theorem left : Left m c t (View.canon (outPieces (blocks m c t) (mulRead arg9 (blocks m c t)) (addRead arg10 (blocks m c t)) S))
    (View.canon (statePieces (blocks m c t) (mulRead arg9 (blocks m c t)) (addRead arg10 (blocks m c t)) S ++ T)) where
  out k i h e x := by
    refine (out_point (holds m c t hf) arg9 arg10 S h e x (st := st m c t h e x) (fun d => hS h e d x) (fun k => st_runs m c t h e x k) k i).trans ?_
    refine congrArg _ (Finset.sum_congr rfl fun d _ => ?_)
    refine congrArg (Recur.query (x2 m c) (headAt t h e) (num t k i) d * ·) ?_
    exact congrArg (fun n => Recur.state (x2 m c) (y2 m c) (p2 m c) (headAt t h e) x n d) (by unfold num; omega)
  state h e d x :=
    state_point (holds m c t hf) arg9 arg10 S h e x (st := st m c t h e x) (fun d => hS h e d x) (fun k => st_runs m c t h e x k) T d

end

set_option maxHeartbeats 4000000 in
/-- What a group's first point leaves, -/
theorem first (h0 : t.val % 33 = 0) (hf : AllFin m c) : Left m c t (outsAt0 m c t.val t.isLt).1 (outsAt0 m c t.val t.isLt).2 := by
  have hS : ∀ h e d x, started (scM0_0 : Memref sig .tc .vmem S4x128x128 .f32) ⟨0, h, e⟩ (ix3 0 d x) = (st m c t h e x 0 d : EReal) := by
    intro h e d x
    rw [started_apply, st, h0]
    rfl
  have L := left m c t hf scM0_1 scM0_2 _ hS [zeroPiece]
  have e := first_out c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (blocks m c t) ((hcond0_0 t).mpr h0)
  have e' := first_state c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (blocks m c t) ((hcond0_0 t).mpr h0)
  have E := outsAt0_A m c t h0
  refine L.of_eq ?_ ?_
  · refine Eq.trans (congrArg Prod.fst E) ?_
    exact e
  · refine Eq.trans (congrArg Prod.snd E) ?_
    exact e'

set_option maxHeartbeats 4000000 in
/-- and a later one. -/
theorem later (h0 : ¬t.val % 33 = 0) (hf : AllFin m c)
    (hS : ∀ h e d x, (outsAt0 m c (t.val - 1) (Nat.lt_of_le_of_lt (Nat.sub_le _ _) t.isLt)).2 (ix3 (headIn h e) d x)
      = (st m c t h e x 0 d : EReal)) :
    Left m c t (outsAt0 m c t.val t.isLt).1 (outsAt0 m c t.val t.isLt).2 := by
  have hS' : ∀ h e d x, entered (outsAt0 m c (t.val - 1) (Nat.lt_of_le_of_lt (Nat.sub_le _ _) t.isLt)).2 ⟨0, h, e⟩ (ix3 0 d x)
      = (st m c t h e x 0 d : EReal) := fun h e d x => (entered_apply ⟨0, h, e⟩ _ 0 d x).trans (hS h e d x)
  have L := left m c t hf scM0_1 scM0_2 _ hS' []
  rw [List.append_nil] at L
  have e := later_out c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (blocks m c t) (outsAt0 m c (t.val - 1) (Nat.lt_of_le_of_lt (Nat.sub_le _ _) t.isLt)).2 (fun h => h0 ((hcond0_0 t).mp h))
  have e' := later_state c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (blocks m c t) (outsAt0 m c (t.val - 1) (Nat.lt_of_le_of_lt (Nat.sub_le _ _) t.isLt)).2 (fun h => h0 ((hcond0_0 t).mp h))
  have E := outsAt0_B m c t h0
  refine L.of_eq ?_ ?_
  · refine Eq.trans (congrArg Prod.fst E) ?_
    exact e
  · refine Eq.trans (congrArg Prod.snd E) ?_
    exact e'

/-- The state a point leaves is the one the next point of the group enters with. -/
theorem st_next (h0 : ¬t.val % 33 = 0) (h e : Fin 2) (x : Fin 128) :
    st m c ⟨t.val - 1, by omega⟩ h e x 256 = st m c t h e x 0 := by
  have hh : headAt ⟨t.val - 1, by omega⟩ h e = headAt t h e := Fin.ext (by
    show 4 * ((t.val - 1) / 33) + (2 * h.val + e.val) = 4 * (t.val / 33) + (2 * h.val + e.val)
    omega)
  unfold st
  rw [hh]
  exact congrArg _ (by show 256 * ((t.val - 1) % 33) + 256 = 256 * (t.val % 33) + 0; omega)

/-- Every point leaves the recurrence's rows and states. -/
theorem every (hf : AllFin m c) : ∀ (n : ℕ) (t : Fin cfg0.N), t.val = n →
    Left m c t (outsAt0 m c t.val t.isLt).1 (outsAt0 m c t.val t.isLt).2 := by
  intro n
  induction n with
  | zero => exact fun t ht => first m c t (by omega) hf
  | succ n ih =>
    intro t ht
    by_cases h0 : t.val % 33 = 0
    · exact first m c t h0 hf
    · refine later m c t h0 hf fun h e d x => ?_
      rw [← st_next m c t h0]
      exact (ih ⟨t.val - 1, by omega⟩ (by show t.val - 1 = n; omega)).state h e d x

/-- The kernel's result at every row, head and lane. -/
theorem result (hf : AllFin m c) (r : Fin 8448) (h : Fin 32) (x : Fin 128) :
    Value.G5 m c (ix2 r ⟨128 * h.val + x.val, by omega⟩) = (Recur.value (x2 m c) (y2 m c) (p2 m c) h x r.val : EReal) := by
  have hN : cfg0.N = 264 := N_0
  have hp : Value.pt5Of (ix2 r ⟨128 * h.val + x.val, by omega⟩) = 33 * (h.val / 4) + r.val / 256 := by
    show 1 * (r.val / 256 - 0) + 33 * ((128 * h.val + x.val) / 512 - 0) = _
    omega
  have ht : 33 * (h.val / 4) + r.val / 256 < cfg0.N := by omega
  have hl : Value.loc5Of (ix2 r ⟨128 * h.val + x.val, by omega⟩)
      = ix2 (rowIn ⟨r.val % 256 / 64, by omega⟩ ⟨r.val % 64, by omega⟩) (valLane ⟨h.val % 4 / 2, by omega⟩ ⟨h.val % 2, by omega⟩ x) := by
    have h1 : r.val % 256 = 64 * (r.val % 256 / 64) + r.val % 64 := by omega
    have h2 : (128 * h.val + x.val) % 512 = 128 * (2 * (h.val % 4 / 2) + h.val % 2) + x.val := by omega
    funext a
    fin_cases a
    · exact Fin.ext h1
    · exact Fin.ext h2
  have hh : headAt ⟨33 * (h.val / 4) + r.val / 256, ht⟩ ⟨h.val % 4 / 2, by omega⟩ ⟨h.val % 2, by omega⟩ = h := Fin.ext (by
    show 4 * ((33 * (h.val / 4) + r.val / 256) / 33) + (2 * (h.val % 4 / 2) + h.val % 2) = h.val
    omega)
  have hn : num ⟨33 * (h.val / 4) + r.val / 256, ht⟩ ⟨r.val % 256 / 64, by omega⟩ ⟨r.val % 64, by omega⟩ = r.val := by
    show 64 * (4 * ((33 * (h.val / 4) + r.val / 256) % 33) + r.val % 256 / 64) + r.val % 64 = r.val
    omega
  have e := (every m c hf _ ⟨33 * (h.val / 4) + r.val / 256, ht⟩ rfl).out ⟨r.val % 256 / 64, by omega⟩ ⟨r.val % 64, by omega⟩
    ⟨h.val % 4 / 2, by omega⟩ ⟨h.val % 2, by omega⟩ x
  rw [hh, hn] at e
  unfold Value.G5
  rw [dif_pos (by rw [hp]; exact ht), hl]
  simp only [hp]
  rw [← Value.outsAt0_sweep m c _ ht]
  exact e

end Cert.GdnChunkIdeal.Whole

end
-- ==== Proof.Gdn.RefRun.lean ====
/- The reference's run as one recursion: the row loop's carried values after any number of trips are `step` iterated from
   the values the reference computes before its loop, and the result is read from the last of them. -/
module

public import proofs.«01_k».proof.Proof.Gen.GdnChunkRefIdeal.Run
public import proofs.«01_k».proof.Proof.Gen.GdnChunkRefIdeal.Step

@[expose] public section

set_option maxRecDepth 16384

noncomputable section

namespace Cert.GdnChunkRefIdeal.Iter

open Idealize.ShloMosaic Idealize.ShloMosaic.TcCoe Idealize.SL.Sem Idealize.ShloMosaic.StableHlo
open Cert.GdnChunkRefIdeal Cert.GdnChunkRefIdeal.Gen Cert.GdnChunkRefIdeal.Value
open Cert.GdnChunkRefIdeal.Step (State step init)

variable {F : FTy → Type} [FloatOps F]

variable (V : Valuation τ sig (Elt F)) (s : State F) (j : ℕ)

/-- The loop's buffers hold the state `s`, and its counter the number `j`. -/
structure At : Prop where
  carry : V (Proc.devRef .tc main_v22_6) = s.main_v22_6
  ys : V (Proc.devRef .tc main_v22_7) = s.main_v22_7
  query : V (Proc.devRef .tc main_v22_0) = s.main_v22_0
  key : V (Proc.devRef .tc main_v22_1) = s.main_v22_1
  val : V (Proc.devRef .tc main_v22_2) = s.main_v22_2
  decay : V (Proc.devRef .tc main_v22_3) = s.main_v22_3
  gate : V (Proc.devRef .tc main_v22_4) = s.main_v22_4
  count : V (Proc.devRef .tc main_v22_5) = constantI S_ 32 (BitVec.ofNat 32 j)

variable {V s j}

/-- One trip's new carry is the step's. -/
theorem carry_step (h : At V s j) : step_main_v22_6 V = (step j s).main_v22_6 := by
  unfold step_main_v22_6 res_main_while0b_v42 res_main_while0b_v31 res_main_while0b_v25 Cert.GdnChunkRefIdeal.Step.step
  simp only [h.carry, h.key, h.val, h.decay, h.gate, h.count]
  rfl

/-- One trip's new outputs are the step's. -/
theorem ys_step (h : At V s j) : step_main_v22_7 V = (step j s).main_v22_7 := by
  unfold step_main_v22_7 res_main_while0b_v42 res_main_while0b_v31 res_main_while0b_v25 Cert.GdnChunkRefIdeal.Step.step
  simp only [h.carry, h.ys, h.query, h.key, h.val, h.decay, h.gate, h.count]
  rfl

/-- One trip adds one to the counter. -/
theorem count_step (h : At V s j) : step_main_v22_5 V = constantI S_ 32 (BitVec.ofNat 32 (j + 1)) := by
  unfold step_main_v22_5
  rw [h.count]
  funext i
  show BitVec.ofNat 32 j + 1#32 = BitVec.ofNat 32 (j + 1)
  simp only [BitVec.ofNat_add]

/-- A trip takes buffers that hold a state to buffers that hold its step. -/
theorem at_step (h : At V s j) : At (STEP V) (step j s) (j + 1) where
  carry := (STEP_main_v22_6 V).trans (carry_step h)
  ys := (STEP_main_v22_7 V).trans (ys_step h)
  count := (STEP_main_v22_5 V).trans (count_step h)
  query := (STEP_main_v22_0 V).trans h.query
  key := (STEP_main_v22_1 V).trans h.key
  val := (STEP_main_v22_2 V).trans h.val
  decay := (STEP_main_v22_3 V).trans h.decay
  gate := (STEP_main_v22_4 V).trans h.gate

/-- The result as a reading of the state. -/
theorem out_at (h : At V s j) : out_main_v23 V = Cert.GdnChunkRefIdeal.Step.R_main_v23 s := by
  unfold out_main_v23 Cert.GdnChunkRefIdeal.Step.R_main_v23
  rw [h.ys]
  rfl

/-- The states of the loop: before trip `n` the loop holds `states X Y P n`. -/
def states (X Y : FVec F S8448x4096 .f32) (P : FVec F S8448x128 .f32) : ℕ → State F
  | 0 => init X Y P
  | n + 1 => step n (states X Y P n)

variable (m : (ℓ : Loc nD τ sig) → Buf (Elt F) ℓ) (c : Dev nD)

/-- The states of the loop, over the memory the run starts from. -/
abbrev statesOf (n : ℕ) : State F :=
  states (m ((c.tc : Thread nD τ).loc main_arg0)) (m ((c.tc : Thread nD τ).loc main_arg1)) (m ((c.tc : Thread nD τ).loc main_arg2)) n

set_option maxRecDepth 65536 in
set_option maxHeartbeats 1000000 in
/-- The operations before the loop leave the first state. -/
theorem at_entry : At (entryContents preI m c) (statesOf m c 0) 0 := by
  constructor <;> (simp only [entryContents, afterL_cons, afterL_nil]; after_reads_simp) <;> rfl

/-- Before trip `n` the loop holds state number `n`. -/
theorem at_iter : ∀ n, At (STEP^[n] (entryContents preI m c)) (statesOf m c n) n
  | 0 => at_entry m c
  | n + 1 => by
    rw [Function.iterate_succ_apply']
    exact at_step (at_iter n)

/-- The reference ends, with its result read from state number 8448 and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v23) = Cert.GdnChunkRefIdeal.Step.R_main_v23 (statesOf m c 8448)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (out_at (at_iter m c 8448)), (h c).2.1, (h c).2.2.1, (h c).2.2.2⟩) (Value.run m ρ)

end Cert.GdnChunkRefIdeal.Iter

end
-- ==== Proof.Gdn.RefValue.lean ====
/- The reference's loop, row by row: the state it carries is the recurrence's, the rows it has written are the recurrence's
   values, and so is its result, where the arguments are real numbers. -/
module

public import proofs.«01_k».proof.Proof.Gdn.RefRun
public import proofs.«01_k».proof.Proof.Gdn.Recur
public import proofs.«01_k».proof.Proof.Gdn.Real

@[expose] public section

set_option maxRecDepth 16384

noncomputable section

namespace Cert.GdnChunkRefIdeal.Whole

open Idealize.ShloMosaic Idealize.ShloMosaic.TcCoe Idealize.ShloMosaic.StableHlo
open Cert.GdnChunkRefIdeal Cert.GdnChunkRefIdeal.Gen Cert.GdnChunkRefIdeal.Step Cert.Column
open Cert.GdnChunkRefIdeal.Iter (states)
open Cert.GdnChunkIdeal.Real (coe_sum exp_coe)

variable (X Y : FVec Ideal S8448x4096 .f32) (P : FVec Ideal S8448x128 .f32)

/-- What no trip changes is what the reference computed before the loop. -/
theorem kept (n : ℕ) : (states X Y P n).main_v22_0 = A_main_v5 X Y P ∧ (states X Y P n).main_v22_1 = A_main_v9 X Y P
    ∧ (states X Y P n).main_v22_2 = A_main_v10 X Y P ∧ (states X Y P n).main_v22_3 = A_main_v18 X Y P
    ∧ (states X Y P n).main_v22_4 = A_main_v19 X Y P := by
  induction n with
  | zero => exact ⟨rfl, rfl, rfl, rfl, rfl⟩
  | succ n ih => exact ih

/-- A row's number read as a start is that number. -/
theorem toInt_num (j : ℕ) (h : j < 8448) : (BitVec.ofNat 32 j).toInt = (j : ℤ) := by
  have e : (BitVec.ofNat 32 j).toNat = j := by
    rw [BitVec.toNat_ofNat]
    exact Nat.mod_eq_of_lt (by omega)
  rw [BitVec.toInt_eq_toNat_of_lt (by omega), e]

/-- A slice out of an array, at an index: the array at the slice's start plus the index. -/
theorem slice_at {α : Type} {s t : Shape} (x : s.Idx → α) (start : Fin s.rank → Int) (h : s.Slices (fun _ => 0) t) (i : t.Idx) (i' : s.Idx)
    (k : Fin s.rank → ℕ) (hs : ∀ a, start a = k a) (hk : ∀ a, k a + t.size (a.cast h.1.symm) ≤ s.size a)
    (hi : ∀ a, (i' a).val = k a + (i (a.cast h.1.symm)).val) : Host.dynamicSlice t x start h i = x i' := by
  rw [Host.dynamicSlice_apply]
  refine congrArg x ((Shape.Idx.norm_def _).trans (funext fun a => Fin.ext ?_))
  exact (congrArg (· + _) (Host.clampedStart_of_le h.1 start a (k a) (hs a) (hk a))).trans (hi a).symm

section
variable (s : State Ideal) (j : ℕ) (hj : j < 8448) (h : Fin 32) (d e : Fin 128)
include hj

theorem query_slice : b2 j s (ix3 0 h d) = s.main_v22_0 (ix3 ⟨j, hj⟩ h d) := by
  unfold b2 b0 b1
  refine slice_at _ _ _ _ _ ![j, 0, 0] ?_ ?_ ?_ <;> intro a <;> fin_cases a
  all_goals first
    | exact toInt_num j hj | rfl | exact Nat.succ_le_of_lt hj | exact Nat.le_refl _ | exact (Nat.zero_add _).symm

theorem key_slice : b6 j s (ix3 0 h d) = s.main_v22_1 (ix3 ⟨j, hj⟩ h d) := by
  unfold b6 b4 b5
  refine slice_at _ _ _ _ _ ![j, 0, 0] ?_ ?_ ?_ <;> intro a <;> fin_cases a
  all_goals first
    | exact toInt_num j hj | rfl | exact Nat.succ_le_of_lt hj | exact Nat.le_refl _ | exact (Nat.zero_add _).symm

theorem val_slice : b10 j s (ix3 0 h d) = s.main_v22_2 (ix3 ⟨j, hj⟩ h d) := by
  unfold b10 b8 b9
  refine slice_at _ _ _ _ _ ![j, 0, 0] ?_ ?_ ?_ <;> intro a <;> fin_cases a
  all_goals first
    | exact toInt_num j hj | rfl | exact Nat.succ_le_of_lt hj | exact Nat.le_refl _ | exact (Nat.zero_add _).symm

theorem decay_slice : b13 j s (ix2 0 h) = s.main_v22_3 (ix2 ⟨j, hj⟩ h) := by
  unfold b13 b12
  refine slice_at _ _ _ _ _ ![j, 0] ?_ ?_ ?_ <;> intro a <;> fin_cases a
  all_goals first
    | exact toInt_num j hj | rfl | exact Nat.succ_le_of_lt hj | exact Nat.le_refl _ | exact (Nat.zero_add _).symm

theorem gate_slice : b16 j s (ix2 0 h) = s.main_v22_4 (ix2 ⟨j, hj⟩ h) := by
  unfold b16 b15
  refine slice_at _ _ _ _ _ ![j, 0] ?_ ?_ ?_ <;> intro a <;> fin_cases a
  all_goals first
    | exact toInt_num j hj | rfl | exact Nat.succ_le_of_lt hj | exact Nat.le_refl _ | exact (Nat.zero_add _).symm

theorem decayed : b20 j s (ix3 h d e) = s.main_v22_6 (ix3 h d e) * s.main_v22_3 (ix2 ⟨j, hj⟩ h) := by
  rw [← decay_slice s j hj]
  pointwise [b20, b19, b18, b14]

/-- The state a trip hands on. -/
theorem carry_step : b31 j s (ix3 h d e) = b20 j s (ix3 h d e) + s.main_v22_1 (ix3 ⟨j, hj⟩ h d)
    * ((s.main_v22_2 (ix3 ⟨j, hj⟩ h e) - ∑ d, s.main_v22_1 (ix3 ⟨j, hj⟩ h d) * b20 j s (ix3 h d e)) * s.main_v22_4 (ix2 ⟨j, hj⟩ h)) := by
  simp only [← key_slice s j hj, ← val_slice s j hj, ← gate_slice s j hj]
  pointwise [b31, b30, b29, b28, b27, b26, b25, b24, b23, b22, b21, b17, b11, b7]

/-- The row a trip writes. -/
theorem out_step : b32 j s (ix2 h e) = ∑ d, s.main_v22_0 (ix3 ⟨j, hj⟩ h d) * b31 j s (ix3 h d e) := by
  simp only [← query_slice s j hj]
  pointwise [b32, b3]

/-- The clamped starts of the write are the row's number and zeros. -/
theorem write_start (hf) (a : Fin 3) : Host.clampedStart S8448x32x128 S1x32x128 hf
    (fun k => (((![(constantI S_ 32 (BitVec.ofNat 32 j) : (⟨S_, .i32⟩ : BufTy).Contents (Elt Ideal)), (b34 j s), (b35 j s)]
      : Fin 3 → (⟨S_, .i32⟩ : BufTy).Contents (Elt Ideal))) k (Shape.Idx.first h_S_)).toInt) a = (![j, 0, 0] : Fin 3 → ℕ) a := by
  refine Host.clampedStart_of_le hf _ a _ ?_ ?_ <;> fin_cases a
  all_goals first
    | exact toInt_num j hj | rfl | exact Nat.succ_le_of_lt hj | exact Nat.le_refl _ | exact (Nat.zero_add _).symm

/-- A trip writes its own row and leaves the others. -/
theorem ys_step (k : Fin 8448) : b36 j s (ix3 k h e) = if k.val = j then b32 j s (ix2 h e) else s.main_v22_7 (ix3 k h e) := by
  have e0 := fun hf => write_start s j hj hf 0
  have e1 := fun hf => write_start s j hj hf 1
  have e2 := fun hf => write_start s j hj hf 2
  unfold b36
  pointwise [b33]
  simp only [e0, e1, e2]
  by_cases q : k.val = j
  · have q' : (![j, 0, 0] : Fin 3 → ℕ) 0 ≤ k.val ∧ k.val < (![j, 0, 0] : Fin 3 → ℕ) 0 + 1 := ⟨q.ge, by show k.val < j + 1; omega⟩
    rw [if_pos q, dif_pos ⟨q', Nat.zero_le _, Nat.zero_le _⟩]
    rfl
  · rw [if_neg q, dif_neg]
    rintro ⟨⟨h1, h2⟩, -⟩
    have h1' : j ≤ k.val := h1
    have h2' : k.val < j + 1 := h2
    omega
end

theorem lane_lt (h : Fin 32) (e : Fin 128) : 128 * h.val + e.val < 4096 := by omega

/-! ## What the reference computes before its loop -/

/-- The arguments by row and column. -/
def x2 (a : Fin 8448) (b : Fin 4096) : EReal := X (ix2 a b)
def y2 (a : Fin 8448) (b : Fin 4096) : EReal := Y (ix2 a b)
def p2 (a : Fin 8448) (b : Fin 128) : EReal := P (ix2 a b)

variable (hX : ∀ a b, Fin' (x2 X a b)) (hY : ∀ a b, Fin' (y2 Y a b)) (hP : ∀ a b, Fin' (p2 P a b)) (j : ℕ) (hj : j < 8448) (h : Fin 32)
  (d e : Fin 128)

theorem row_eq : (⟨j, hj⟩ : Fin 8448) = Recur.row j := Fin.ext (Nat.mod_eq_of_lt hj).symm

include hX in
theorem query_apply : A_main_v5 (F := Ideal) X Y P (ix3 ⟨j, hj⟩ h d) = (Recur.query (x2 X) h j d : EReal) := by
  rw [Recur.query, EReal.coe_mul, ← Recur.coe_toReal (hX _ _), ← row_eq j hj, ← Recur.scale_eq]
  pointwise [A_main_v5, A_main_v3, A_main_v2, A_main_v1, A_main_v0, K_main_v4, K_main_cst]
  exact congrArg (fun a => X (ix2 _ a) * _) (Fin.ext (by show h.val / 2 * 128 + d.val = 128 * (h.val / 2) + d.val; omega))

include hX in
theorem key_apply : A_main_v9 (F := Ideal) X Y P (ix3 ⟨j, hj⟩ h d) = (Recur.key (x2 X) h j d : EReal) := by
  rw [Recur.key, ← Recur.coe_toReal (hX _ _), ← row_eq j hj]
  pointwise [A_main_v9, A_main_v8, A_main_v7, A_main_v6]
  exact congrArg (fun a => X (ix2 _ a)) (Fin.ext (by show 2048 + (h.val / 2 * 128 + d.val) = 2048 + (128 * (h.val / 2) + d.val); omega))

include hY in
theorem val_apply : A_main_v10 (F := Ideal) X Y P (ix3 ⟨j, hj⟩ h e) = (Recur.val (y2 Y) h j e : EReal) := by
  rw [Recur.val, ← Recur.coe_toReal (hY _ _), ← row_eq j hj]
  pointwise [A_main_v10]
  exact congrArg (fun a => Y (ix2 _ a)) (Fin.ext (by show h.val * 128 + e.val = 128 * h.val + e.val; omega))

include hP in
theorem decay_apply : A_main_v18 (F := Ideal) X Y P (ix2 ⟨j, hj⟩ h) = ((Real.exp (Recur.sums (p2 P) h j - Recur.prior (p2 P) h j) : ℝ) : EReal) := by
  pointwise [A_main_v18, A_main_v17, A_main_v16, A_main_v15, A_main_v14, A_main_v12, A_main_v11, K_main_v13, K_main_cst_0]
  have e1 : P (ix2 ⟨j / 64 * 64 + j % 64, by omega⟩ ⟨h.val, by omega⟩) = (Recur.sums (p2 P) h j : EReal) := by
    rw [Recur.sums, ← Recur.coe_toReal (hP _ _), ← row_eq j hj]
    exact congrArg (fun a => P (ix2 a _)) (Fin.ext (by show j / 64 * 64 + j % 64 = j; omega))
  rw [e1]
  by_cases q : j % 64 = 0
  · rw [dif_pos (by omega), Recur.prior, if_pos q, ← EReal.coe_zero, ← EReal.coe_sub, exp_coe]
  · have e2 : P (ix2 ⟨j / 64 * 64 + (j % 64 - 1), by omega⟩ ⟨h.val, by omega⟩) = (Recur.sums (p2 P) h (j - 1) : EReal) := by
      rw [Recur.sums, ← Recur.coe_toReal (hP _ _), ← row_eq (j - 1) (by omega)]
      exact congrArg (fun a => P (ix2 a _)) (Fin.ext (by show j / 64 * 64 + (j % 64 - 1) = j - 1; omega))
    rw [dif_neg (by omega), e2, Recur.prior, if_neg q, ← EReal.coe_sub, exp_coe]

include hP in
theorem gate_apply : A_main_v19 (F := Ideal) X Y P (ix2 ⟨j, hj⟩ h) = (Recur.gate (p2 P) h j : EReal) := by
  rw [Recur.gate, ← Recur.coe_toReal (hP _ _), ← row_eq j hj]
  pointwise [A_main_v19]
  rfl

include hX hY hP

/-- Before trip `n` the loop carries the state of row `n`. -/
theorem carry_eq : ∀ (n : ℕ) (_ : n ≤ 8448) (d : Fin 128),
    (states X Y P n).main_v22_6 (ix3 h d e) = (Recur.state (x2 X) (y2 Y) (p2 P) h e n d : EReal)
  | 0, _, d => by
    show (K_main_v20 (F := Ideal)) (ix3 h d e) = ((0 : ℝ) : EReal)
    pointwise [K_main_v20, K_main_cst_1]
    rfl
  | n + 1, hn, d => by
    show b31 n (states X Y P n) (ix3 h d e) = _
    obtain ⟨-, k1, k2, k3, k4⟩ := kept X Y P n
    have hn' : n < 8448 := by omega
    have ih := carry_eq n (by omega)
    rw [carry_step _ n hn']
    simp only [decayed _ n hn', k1, k2, k3, k4, ih, key_apply X Y P hX n hn', val_apply X Y P hY n hn', decay_apply X Y P hP n hn',
      gate_apply X Y P hP n hn', ← EReal.coe_mul, ← coe_sum, ← EReal.coe_sub, ← EReal.coe_add]
    rfl

/-- Before trip `n` the rows before `n` are written, with the recurrence's values. -/
theorem ys_eq (k : Fin 8448) : ∀ (n : ℕ) (_ : n ≤ 8448) (_ : k.val < n),
    (states X Y P n).main_v22_7 (ix3 k h e) = (Recur.value (x2 X) (y2 Y) (p2 P) h e k.val : EReal)
  | 0, _, hk => absurd hk (by omega)
  | n + 1, hn, hk => by
    show b36 n (states X Y P n) (ix3 k h e) = _
    have hn' : n < 8448 := by omega
    rw [ys_step _ n hn']
    by_cases q : k.val = n
    · subst q
      obtain ⟨k0, -⟩ := kept X Y P k.val
      have E : ∀ d, b31 k.val (states X Y P k.val) (ix3 h d e) = (Recur.state (x2 X) (y2 Y) (p2 P) h e (k.val + 1) d : EReal) :=
        fun d => carry_eq X Y P hX hY hP h e (k.val + 1) hn d
      rw [if_pos rfl, out_step _ k.val hn', k0]
      simp only [E, query_apply X Y P hX k.val hn', ← EReal.coe_mul, ← coe_sum]
      rfl
    · rw [if_neg q]
      exact ys_eq k n (by omega) (by omega)

/-- The reference's result, at a row and a lane of a head. -/
theorem result (k : Fin 8448) : R_main_v23 (states X Y P 8448) (ix2 k ⟨128 * h.val + e.val, lane_lt h e⟩)
    = (Recur.value (x2 X) (y2 Y) (p2 P) h e k.val : EReal) := by
  rw [← ys_eq X Y P hX hY hP h e k 8448 (le_refl _) k.isLt]
  unfold R_main_v23
  generalize (states X Y P 8448).main_v22_7 = y
  pointwise

end Cert.GdnChunkRefIdeal.Whole

end
-- ==== Proof.Gdn.Finite.lean ====
/- The precondition of the gated delta rule read: where it holds, every entry of the three arguments is a real number. -/
module

public import proofs.«01_k».proof.Pre_finite_rows
public import proofs.«01_k».proof.Proof.Gen.Pre_finite_rows
public import proofs.«01_k».proof.Proof.Finite

@[expose] public section

noncomputable section

namespace Cert.FiniteRows

open Idealize.ShloMosaic Cert.Pre_finite_rows Cert.Column

/-- A magnitude compared with infinity says "less" only of a real number. -/
theorem fin_of_cmp {s : Shape} (v : FVec Ideal s .f32) (h : S_.BroadcastsInDim s (![] : Fin 0 → Fin s.rank)) (i : s.Idx)
    (e : cmpf .olt (Host.absf v) (broadcastInDim s ![] h (constant S_ .f32 0x7F800000#32)) i = 1#1) : Fin' (v i) := by
  apply Cert.Finite.fin_of_abs_lt
  pointwise at e
  have top : Ideal.ofBits .f32 0x7F800000#32 = ⊤ := by simp [Ideal.ofBits, Ideal.ieee]
  rw [top] at e
  by_contra g
  rw [decide_eq_false (show ¬ FloatOps.absf (F := Ideal) (φ := .f32) (v i) < ⊤ from g)] at e
  exact absurd e (by decide)

variable (X Y : FVec Ideal S8448x4096 .f32) (P : FVec Ideal S8448x128 .f32)

/-- The precondition gives real arguments. -/
theorem finite (h : fn (F := Ideal) X Y P ix0 = 1#1) : (∀ i, Fin' (X i)) ∧ (∀ i, Fin' (Y i)) ∧ ∀ i, Fin' (P i) := by
  dsimp only [fn] at h
  have h' := IntOp.andi_eq_one.1 h
  have h'' := IntOp.andi_eq_one.1 h'.2
  exact ⟨fun i => fin_of_cmp X _ i (Host.reduce_andi_all _ _ _ _ _ h'.1 i),
    fun i => fin_of_cmp Y _ i (Host.reduce_andi_all _ _ _ _ _ h''.1 i),
    fun i => fin_of_cmp P _ i (Host.reduce_andi_all _ _ _ _ _ h''.2 i)⟩

end Cert.FiniteRows

end
-- ==== Proof.Gdn.Equal.lean ====
/- The gated delta rule's kernel and its reference leave one array, where the arguments are real numbers. -/
module

public import proofs.«01_k».proof.Defs
public import proofs.«01_k».proof.Proof.Gen.GdnChunkIdeal.Value
public import proofs.«01_k».proof.Proof.Gdn.Whole
public import proofs.«01_k».proof.Proof.Gdn.RefValue
public import proofs.«01_k».proof.Proof.Gdn.Finite
public import Idealize.ShloMosaic.Adequacy
public import Idealize.ShloMosaic.Init

@[expose] public section

noncomputable section

namespace Cert.GdnChunkIdeal.Equal

open Idealize.ShloMosaic Idealize.ShloMosaic.TcCoe Idealize.SL.Sem Cert.GdnChunkIdeal
open Cert.GdnChunkIdeal.Entry (X Y P)
open Cert.Column

variable (m : (ℓ : Loc nD τ sig) → Buf (Elt Ideal) ℓ) (c : Dev nD)

/-- The result read from the reference's last state is the array the kernel leaves. -/
theorem arrays (hX : ∀ i, Fin' (X m c i)) (hY : ∀ i, Fin' (Y m c i)) (hP : ∀ i, Fin' (P m c i)) (i : S8448x4096.Idx) :
    Cert.GdnChunkRefIdeal.Step.R_main_v23 (Cert.GdnChunkRefIdeal.Iter.states (X m c) (Y m c) (P m c) 8448) i = Value.G5 m c i := by
  obtain ⟨r, n, rfl⟩ : ∃ r n, i = ix2 r n := ⟨i 0, i 1, eq_ix2 i⟩
  let h : Fin 32 := ⟨n.val / 128, by omega⟩
  let e : Fin 128 := ⟨n.val % 128, Nat.mod_lt _ (by omega)⟩
  have e1 : n = ⟨128 * h.val + e.val, by omega⟩ := Fin.ext (show n.val = 128 * (n.val / 128) + n.val % 128 by omega)
  rw [e1]
  exact (Cert.GdnChunkRefIdeal.Whole.result (X m c) (Y m c) (P m c) (fun _ _ => hX _) (fun _ _ => hY _) (fun _ _ => hP _) h e r).trans
    (Cert.GdnChunkIdeal.Whole.result m c ⟨fun _ _ => hX _, fun _ _ => hY _, fun _ _ => hP _⟩ r h e).symm

/-- The reference leaves its arguments and no semaphore. -/
theorem frame_reference : Cert.quiescent_GdnChunkRefIdeal (hGdnChunkRefIdeal := Cert.GdnChunkRefIdeal.Gen.facts) := fun m ρ _ =>
  (θ_run _ _ _).mono (fun r h => ⟨fun c => (h c).2, sem_eq_zero_of_no_sems rfl r.2⟩) (Cert.GdnChunkRefIdeal.Iter.run m ρ)

/-- With finite arguments the kernel ends with its reference's result. -/
theorem rule : Cert.algebraic_GdnChunkIdeal_GdnChunkRefIdeal_pre_finite_rows (hGdnChunkIdeal := Cert.GdnChunkIdeal.Gen.facts)
    (hGdnChunkRefIdeal := Cert.GdnChunkRefIdeal.Gen.facts) (hPre_finite_rows := Cert.Pre_finite_rows.Gen.facts) :=
  fun m ρ m' ρ' hpre hag => ⟨fun c => Value.G5 m c, Value.run m ρ,
    (θ_run _ _ _).mono (fun _ h c => ⟨(h c).1.trans (by
      have hf := Cert.FiniteRows.finite _ _ _ (congrFun (hpre c) ix0)
      unfold Cert.GdnChunkRefIdeal.Iter.statesOf
      rw [(hag c).1, (hag c).2.1, (hag c).2.2]
      exact funext (arrays m c hf.1 hf.2.1 hf.2.2)), (h c).2⟩) (Cert.GdnChunkRefIdeal.Iter.run m' ρ')⟩

end Cert.GdnChunkIdeal.Equal

end
-- ==== Proof.Projections.Product.lean ====
/- A product of the activations with columns of a weight matrix, and how its tiles of 1408 rows make it up. -/
module

public import Idealize.ShloMosaic.Lib.Pipeline.ValueKit
public import Idealize.ShloMosaic.Lib.Claim

@[expose] public section

noncomputable section

namespace Cert.Product

open Idealize.ShloMosaic

/-- Two matrices equal at every row and column. -/
theorem ext {a n : ℕ} {f g : (⟨2, ![a, n]⟩ : Shape).Idx → EReal} (h : ∀ r q, f (ix2 r q) = g (ix2 r q)) : f = g :=
  funext fun i => by rw [eq_ix2 i]; exact h _ _

/-- Row `r` of the activations `X` against column `q` of the first of the matrices `W`. -/
def entry {L n : ℕ} (X : (⟨2, ![8448, 2048]⟩ : Shape).Idx → EReal) (W : (⟨3, ![L + 1, 2048, n]⟩ : Shape).Idx → EReal)
    (r : Fin 8448) (q : Fin n) : EReal := ∑ k : Fin 2048, X (ix2 r k) * W (ix3 0 k q)

/-- The product with columns `o …`. -/
def columns {L N : ℕ} (o n : ℕ) (h : o + n ≤ N) (X : (⟨2, ![8448, 2048]⟩ : Shape).Idx → EReal)
    (W : (⟨3, ![L + 1, 2048, N]⟩ : Shape).Idx → EReal) : (⟨2, ![8448, n]⟩ : Shape).Idx → EReal :=
  fun i => entry X W (i 0) ⟨o + (i 1).val, lt_of_lt_of_le (Nat.add_lt_add_left (i 1).isLt o) h⟩

/-- The store of a tile covers its block. -/
theorem zeroOff : (![0, 0] : Fin 2 → ℕ) = fun _ => 0 := by
  funext a
  fin_cases a <;> rfl

theorem zeroOff3 : (![0, 0, 0] : Fin 3 → ℕ) = fun _ => 0 := by
  funext a
  fin_cases a <;> rfl

/-- Point `t` makes rows `1408 * (t % 6) …` of columns `b * (t / 6) …`: two arrays that agree tile by tile are equal. -/
theorem eq_of_tiles {n b p : ℕ} (hb : 0 < b) (hn : n = b * p) {f g : (⟨2, ![8448, n]⟩ : Shape).Idx → EReal}
    (h : ∀ t : Fin (6 * p), ∀ (s : Fin 1408) (q : Fin b) (hr : 1408 * (t.val % 6) + s.val < 8448) (hq : b * (t.val / 6) + q.val < n),
      f (ix2 ⟨1408 * (t.val % 6) + s.val, hr⟩ ⟨b * (t.val / 6) + q.val, hq⟩)
        = g (ix2 ⟨1408 * (t.val % 6) + s.val, hr⟩ ⟨b * (t.val / 6) + q.val, hq⟩)) : f = g := by
  funext i
  have h0 : (i 0).val < 8448 := (i 0).isLt
  have h1 : (i 1).val < b * p := hn ▸ (i 1).isLt
  have h2 : (i 1).val / b < p := Nat.div_lt_of_lt_mul h1
  have e0 : 1408 * ((6 * ((i 1).val / b) + (i 0).val / 1408) % 6) + (i 0).val % 1408 = (i 0).val := by omega
  have e1 : b * ((6 * ((i 1).val / b) + (i 0).val / 1408) / 6) + (i 1).val % b = (i 1).val := by
    rw [show (6 * ((i 1).val / b) + (i 0).val / 1408) / 6 = (i 1).val / b by omega]
    exact Nat.div_add_mod _ _
  have e := h ⟨6 * ((i 1).val / b) + (i 0).val / 1408, by omega⟩ ⟨(i 0).val % 1408, Nat.mod_lt _ (by omega)⟩
    ⟨(i 1).val % b, Nat.mod_lt _ hb⟩ (by rw [e0]; exact h0) (by rw [e1]; exact (i 1).isLt)
  have ei : i = ix2 ⟨1408 * ((6 * ((i 1).val / b) + (i 0).val / 1408) % 6) + (i 0).val % 1408, by rw [e0]; exact h0⟩
      ⟨b * ((6 * ((i 1).val / b) + (i 0).val / 1408) / 6) + (i 1).val % b, by rw [e1]; exact (i 1).isLt⟩ := by
    funext a
    fin_cases a
    · exact Fin.ext e0.symm
    · exact Fin.ext e1.symm
  rw [ei]
  exact e

end Cert.Product

end
-- ==== Proof.Projections.GdnQkv.lean ====
/- The gated delta mixer's projection to its queries, keys and values. -/
module

public import proofs.«01_k».proof.Defs
public import proofs.«01_k».proof.Proof.Gen.GdnQkvIdeal
public import proofs.«01_k».proof.Proof.Gen.GdnQkvRefIdeal
public import proofs.«01_k».proof.Proof.Projections.Product
public import proofs.«01_k».proof.Proof.Gen.GdnQkvIdeal.Value
public import proofs.«01_k».proof.Proof.Gen.GdnQkvRefIdeal.Run

@[expose] public section

set_option maxRecDepth 16384

noncomputable section

namespace Cert.GdnQkvIdeal.Whole

open Idealize.ShloMosaic Idealize.ShloMosaic.TcCoe Idealize.ShloMosaic.Tactic Idealize.SL.Sem
open Cert.GdnQkvIdeal Cert.GdnQkvIdeal.Gen Cert.Product

variable (m : (ℓ : Loc nD τ sig) → Buf (Elt Ideal) ℓ) (c : Dev nD) (t : Fin cfg0.N) (s : Fin 1408) (k : Fin 2048) (q : Fin 1024)

/-- The arguments. -/
def X : FVec Ideal S8448x2048 .f32 := m ((c : Thread nD τ).loc main_arg0)
def W : FVec Ideal S2x2048x12416 .f32 := m ((c : Thread nD τ).loc main_arg1)

theorem idx : ∀ t : Fin cfg0.N,
    win0_0.index t = ![t.val % 6, 0] ∧ win0_1.index t = ![0, 0, t.val / 6] ∧ win0_2.index t = ![t.val % 6, t.val / 6]
      ∧ (cfg0.win 2).flush t = true :=
  (by decide +kernel : ∀ t : Fin grid0.N, _)

theorem lt_points : t.val < 48 := lt_of_lt_of_eq t.isLt N_0

/-- The rows and the columns a point reads, -/
def rows : FVec Ideal S1408x2048 .bf16 := iblk m c 0 t
def cols : FVec Ideal S1x2048x1024 .f32 := X0_1 m c t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨0 + (1024 * (t.val / 6) + q.val), by have := lt_points t; omega⟩) := by
  refine (dif_pos (moved0_1 t _)).trans ((congrFun (V_main_arg1 m c) _).trans ?_)
  refine congrArg (m ((c : Thread nD τ).loc main_arg1)) (funext fun a => Fin.ext ?_)
  show win0_1.index t a * S1x2048x1024.size a + 1 * (ix3 (0 : Fin 1) k q a : ℕ) = _
  rw [(idx t).2.1]
  fin_cases a <;> simp <;> omega

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨1024 * (t.val / 6) + q.val, by have := lt_points t; omega⟩) := by
  blk_ext [idx t]

/-- and what. -/
theorem tile_apply (x : FVec Ideal S1408x2048 .bf16) (w : FVec Ideal S1x2048x1024 .f32) :
    (k0_pay1 x w : FVec Ideal S1408x1024 .f32) (ix2 s q) = ∑ k : Fin 2048, x (ix2 s k) * w (ix3 0 k q) := by
  pointwise [k0_pay1]

theorem out_eq (i : grid0.Coords) (arg2 : Memref sig .tc .vmem S1408x2048 .bf16) (harg2 : arg2.IsWhole)
    (arg3 : Memref sig .tc .vmem S1x2048x1024 .f32) (harg3 : arg3.IsWhole) (arg4 : Memref sig .tc .vmem S1408x1024 .f32)
    (harg4 : arg4.IsWhole) (x : Vec Ideal S1408x2048 .bf16) (w : Vec Ideal S1x2048x1024 .f32) :
    out0_A_2 c i arg2 harg2 arg3 harg3 arg4 harg4 x w = k0_pay1 x w := by
  unfold out0_A_2
  rw [View.read_writes_eq_canon _ _ _ (cover0_A_2 c i arg2 harg2 arg3 harg3 arg4 harg4 x w)]
  unfold kernelRun0_A
  dsimp only
  sl_unfold_words
  rw [View.canon_unit_zero zeroOff, View.readAt_eq_ld, View.readAt_eq_ld, harg2.read_unread, harg3.read_unread,
    View.ld_unit_zero (S := S1408x2048) zeroOff, View.ld_unit_zero (S := S1x2048x1024) zeroOff3]

theorem flushed : (dats m 0 c).flushed 2 t = (k0_pay1 (rows m c t) (cols m c t) : FVec Ideal S1408x1024 .f32) :=
  (Value.flushed2_A m c t).trans (out_eq c (grid0.coords t) (ms0_0 t) (hs0_0 t) (ms0_1 t) (hs0_1 t) (ms0_2 t) (hs0_2 t)
    (rows m c t) (cols m c t))

/-- The kernel's result. -/
theorem result : (dats m 0 c).arrAt 2 cfg0.N = columns (L := 1) 0 8192 (by decide) (X m c) (W m c) :=
  eq_of_tiles (n := 8192) (b := 1024) (p := 8) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_GdnQkvRefIdeal (hGdnQkvRefIdeal := GdnQkvRefIdeal.Gen.facts) := fun m ρ _ =>
  (θ_run _ _ _).mono (fun r h => ⟨fun c => (h c).2, sem_eq_zero_of_no_sems rfl r.2⟩) (GdnQkvRefIdeal.Value.run m ρ)

/-- Its result. -/
theorem reference_eq (x : FVec Ideal S8448x2048 .f32) (w : FVec Ideal S2x2048x12416 .f32) :
    (extractStridedSlice GdnQkvRefIdeal.S8448x8192 ![0, 0]
      (Host.dotGeneral GdnQkvRefIdeal.dot_S8448x2048_S2048x12416_S8448x12416_1_0_0_1_n_n none x
        (shapeCast _ (extractStridedSlice GdnQkvRefIdeal.S1x2048x12416 ![0, 0, 0] w
          GdnQkvRefIdeal.Gen.slices_S2x2048x12416_S1x2048x12416_0_0_0) GdnQkvRefIdeal.Gen.shapeCasts_S1x2048x12416_S2048x12416))
      GdnQkvRefIdeal.Gen.slices_S8448x12416_S8448x8192_0_0 : FVec Ideal S8448x8192 .f32)
      = columns (L := 1) 0 8192 (by decide) x w :=
  Product.ext fun r q => by
    show _ = columns (L := 1) 0 8192 (by decide) x w (ix2 r q)
    unfold columns entry
    pointwise []

/-- The two results are equal. -/
theorem equal : Cert.algebraic_GdnQkvIdeal_GdnQkvRefIdeal (hGdnQkvIdeal := facts)
    (hGdnQkvRefIdeal := GdnQkvRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (GdnQkvRefIdeal.Value.run m' ρ')⟩

end Cert.GdnQkvIdeal.Whole

end
-- ==== Proof.Projections.GdnZ.lean ====
/- The gated delta mixer's projection to its output gate. -/
module

public import proofs.«01_k».proof.Defs
public import proofs.«01_k».proof.Proof.Gen.GdnZIdeal
public import proofs.«01_k».proof.Proof.Gen.GdnZRefIdeal
public import proofs.«01_k».proof.Proof.Projections.Product
public import proofs.«01_k».proof.Proof.Gen.GdnZIdeal.Value
public import proofs.«01_k».proof.Proof.Gen.GdnZRefIdeal.Run

@[expose] public section

set_option maxRecDepth 16384

noncomputable section

namespace Cert.GdnZIdeal.Whole

open Idealize.ShloMosaic Idealize.ShloMosaic.TcCoe Idealize.ShloMosaic.Tactic Idealize.SL.Sem
open Cert.GdnZIdeal Cert.GdnZIdeal.Gen Cert.Product

variable (m : (ℓ : Loc nD τ sig) → Buf (Elt Ideal) ℓ) (c : Dev nD) (t : Fin cfg0.N) (s : Fin 1408) (k : Fin 2048) (q : Fin 1024)

/-- The arguments. -/
def X : FVec Ideal S8448x2048 .f32 := m ((c : Thread nD τ).loc main_arg0)
def W : FVec Ideal S2x2048x12416 .f32 := m ((c : Thread nD τ).loc main_arg1)

theorem idx : ∀ t : Fin cfg0.N,
    win0_0.index t = ![t.val % 6, 0] ∧ win0_1.index t = ![0, 0, 8 + t.val / 6] ∧ win0_2.index t = ![t.val % 6, t.val / 6]
      ∧ (cfg0.win 2).flush t = true :=
  (by decide +kernel : ∀ t : Fin grid0.N, _)

theorem lt_points : t.val < 24 := lt_of_lt_of_eq t.isLt N_0

/-- The rows and the columns a point reads, -/
def rows : FVec Ideal S1408x2048 .bf16 := iblk m c 0 t
def cols : FVec Ideal S1x2048x1024 .f32 := X0_1 m c t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨8192 + (1024 * (t.val / 6) + q.val), by have := lt_points t; omega⟩) := by
  refine (dif_pos (moved0_1 t _)).trans ((congrFun (V_main_arg1 m c) _).trans ?_)
  refine congrArg (m ((c : Thread nD τ).loc main_arg1)) (funext fun a => Fin.ext ?_)
  show win0_1.index t a * S1x2048x1024.size a + 1 * (ix3 (0 : Fin 1) k q a : ℕ) = _
  rw [(idx t).2.1]
  fin_cases a <;> simp <;> omega

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨1024 * (t.val / 6) + q.val, by have := lt_points t; omega⟩) := by
  blk_ext [idx t]

/-- and what. -/
theorem tile_apply (x : FVec Ideal S1408x2048 .bf16) (w : FVec Ideal S1x2048x1024 .f32) :
    (k0_pay1 x w : FVec Ideal S1408x1024 .f32) (ix2 s q) = ∑ k : Fin 2048, x (ix2 s k) * w (ix3 0 k q) := by
  pointwise [k0_pay1]

theorem out_eq (i : grid0.Coords) (arg2 : Memref sig .tc .vmem S1408x2048 .bf16) (harg2 : arg2.IsWhole)
    (arg3 : Memref sig .tc .vmem S1x2048x1024 .f32) (harg3 : arg3.IsWhole) (arg4 : Memref sig .tc .vmem S1408x1024 .f32)
    (harg4 : arg4.IsWhole) (x : Vec Ideal S1408x2048 .bf16) (w : Vec Ideal S1x2048x1024 .f32) :
    out0_A_2 c i arg2 harg2 arg3 harg3 arg4 harg4 x w = k0_pay1 x w := by
  unfold out0_A_2
  rw [View.read_writes_eq_canon _ _ _ (cover0_A_2 c i arg2 harg2 arg3 harg3 arg4 harg4 x w)]
  unfold kernelRun0_A
  dsimp only
  sl_unfold_words
  rw [View.canon_unit_zero zeroOff, View.readAt_eq_ld, View.readAt_eq_ld, harg2.read_unread, harg3.read_unread,
    View.ld_unit_zero (S := S1408x2048) zeroOff, View.ld_unit_zero (S := S1x2048x1024) zeroOff3]

theorem flushed : (dats m 0 c).flushed 2 t = (k0_pay1 (rows m c t) (cols m c t) : FVec Ideal S1408x1024 .f32) :=
  (Value.flushed2_A m c t).trans (out_eq c (grid0.coords t) (ms0_0 t) (hs0_0 t) (ms0_1 t) (hs0_1 t) (ms0_2 t) (hs0_2 t)
    (rows m c t) (cols m c t))

/-- The kernel's result. -/
theorem result : (dats m 0 c).arrAt 2 cfg0.N = columns (L := 1) 8192 4096 (by decide) (X m c) (W m c) :=
  eq_of_tiles (n := 4096) (b := 1024) (p := 4) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_GdnZRefIdeal (hGdnZRefIdeal := GdnZRefIdeal.Gen.facts) := fun m ρ _ =>
  (θ_run _ _ _).mono (fun r h => ⟨fun c => (h c).2, sem_eq_zero_of_no_sems rfl r.2⟩) (GdnZRefIdeal.Value.run m ρ)

/-- Its result. -/
theorem reference_eq (x : FVec Ideal S8448x2048 .f32) (w : FVec Ideal S2x2048x12416 .f32) :
    (extractStridedSlice GdnZRefIdeal.S8448x4096 ![0, 8192]
      (Host.dotGeneral GdnZRefIdeal.dot_S8448x2048_S2048x12416_S8448x12416_1_0_0_1_n_n none x
        (shapeCast _ (extractStridedSlice GdnZRefIdeal.S1x2048x12416 ![0, 0, 0] w
          GdnZRefIdeal.Gen.slices_S2x2048x12416_S1x2048x12416_0_0_0) GdnZRefIdeal.Gen.shapeCasts_S1x2048x12416_S2048x12416))
      GdnZRefIdeal.Gen.slices_S8448x12416_S8448x4096_0_8192 : FVec Ideal S8448x4096 .f32)
      = columns (L := 1) 8192 4096 (by decide) x w :=
  Product.ext fun r q => by
    show _ = columns (L := 1) 8192 4096 (by decide) x w (ix2 r q)
    unfold columns entry
    pointwise []

/-- The two results are equal. -/
theorem equal : Cert.algebraic_GdnZIdeal_GdnZRefIdeal (hGdnZIdeal := facts)
    (hGdnZRefIdeal := GdnZRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (GdnZRefIdeal.Value.run m' ρ')⟩

end Cert.GdnZIdeal.Whole

end
-- ==== Proof.Projections.GdnGates.lean ====
/- The gated delta mixer's projection to its step sizes and decays. -/
module

public import proofs.«01_k».proof.Defs
public import proofs.«01_k».proof.Proof.Gen.GdnGatesIdeal
public import proofs.«01_k».proof.Proof.Gen.GdnGatesRefIdeal
public import proofs.«01_k».proof.Proof.Projections.Product
public import proofs.«01_k».proof.Proof.Gen.GdnGatesIdeal.Value
public import proofs.«01_k».proof.Proof.Gen.GdnGatesRefIdeal.Run

@[expose] public section

set_option maxRecDepth 16384

noncomputable section

namespace Cert.GdnGatesIdeal.Whole

open Idealize.ShloMosaic Idealize.ShloMosaic.TcCoe Idealize.ShloMosaic.Tactic Idealize.SL.Sem
open Cert.GdnGatesIdeal Cert.GdnGatesIdeal.Gen Cert.Product

variable (m : (ℓ : Loc nD τ sig) → Buf (Elt Ideal) ℓ) (c : Dev nD) (t : Fin cfg0.N) (s : Fin 1408) (k : Fin 2048) (q : Fin 128)

/-- The arguments. -/
def X : FVec Ideal S8448x2048 .f32 := m ((c : Thread nD τ).loc main_arg0)
def W : FVec Ideal S2x2048x12416 .f32 := m ((c : Thread nD τ).loc main_arg1)

theorem idx : ∀ t : Fin cfg0.N,
    win0_0.index t = ![t.val % 6, 0] ∧ win0_1.index t = ![0, 0, 96 + t.val / 6] ∧ win0_2.index t = ![t.val % 6, t.val / 6]
      ∧ (cfg0.win 2).flush t = true :=
  (by decide +kernel : ∀ t : Fin grid0.N, _)

theorem lt_points : t.val < 6 := lt_of_lt_of_eq t.isLt N_0

/-- The rows and the columns a point reads, -/
def rows : FVec Ideal S1408x2048 .bf16 := iblk m c 0 t
def cols : FVec Ideal S1x2048x128 .f32 := iblk m c 1 t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨12288 + (128 * (t.val / 6) + q.val), by have := lt_points t; omega⟩) := by
  show iblk m c 1 t (ix3 0 k q) = m ((c : Thread nD τ).loc main_arg1) _
  blk_ext [iblk, V, idx t]

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨128 * (t.val / 6) + q.val, by have := lt_points t; omega⟩) := by
  blk_ext [idx t]

/-- and what. -/
theorem tile_apply (x : FVec Ideal S1408x2048 .bf16) (w : FVec Ideal S1x2048x128 .f32) :
    (k0_pay1 x w : FVec Ideal S1408x128 .f32) (ix2 s q) = ∑ k : Fin 2048, x (ix2 s k) * w (ix3 0 k q) := by
  pointwise [k0_pay1]

theorem flushed : (dats m 0 c).flushed 2 t = (k0_pay1 (rows m c t) (cols m c t) : FVec Ideal S1408x128 .f32) := by
  rw [Value.flushed2]
  show out0_2 (iblk m c 0 t) (iblk m c 1 t) = _
  unfold out0_2
  rw [View.canon_unit_zero zeroOff, View.ld_unit_zero (S := S1408x2048) zeroOff, View.ld_unit_zero (S := S1x2048x128) zeroOff3]
  rfl

/-- The kernel's result. -/
theorem result : (dats m 0 c).arrAt 2 cfg0.N = columns (L := 1) 12288 128 (by decide) (X m c) (W m c) :=
  eq_of_tiles (n := 128) (b := 128) (p := 1) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_GdnGatesRefIdeal (hGdnGatesRefIdeal := GdnGatesRefIdeal.Gen.facts) := fun m ρ _ =>
  (θ_run _ _ _).mono (fun r h => ⟨fun c => (h c).2, sem_eq_zero_of_no_sems rfl r.2⟩) (GdnGatesRefIdeal.Value.run m ρ)

/-- Its result. -/
theorem reference_eq (x : FVec Ideal S8448x2048 .f32) (w : FVec Ideal S2x2048x12416 .f32) :
    (extractStridedSlice GdnGatesRefIdeal.S8448x128 ![0, 12288]
      (Host.dotGeneral GdnGatesRefIdeal.dot_S8448x2048_S2048x12416_S8448x12416_1_0_0_1_n_n none x
        (shapeCast _ (extractStridedSlice GdnGatesRefIdeal.S1x2048x12416 ![0, 0, 0] w
          GdnGatesRefIdeal.Gen.slices_S2x2048x12416_S1x2048x12416_0_0_0) GdnGatesRefIdeal.Gen.shapeCasts_S1x2048x12416_S2048x12416))
      GdnGatesRefIdeal.Gen.slices_S8448x12416_S8448x128_0_12288 : FVec Ideal S8448x128 .f32)
      = columns (L := 1) 12288 128 (by decide) x w :=
  Product.ext fun r q => by
    show _ = columns (L := 1) 12288 128 (by decide) x w (ix2 r q)
    unfold columns entry
    pointwise []

/-- The two results are equal. -/
theorem equal : Cert.algebraic_GdnGatesIdeal_GdnGatesRefIdeal (hGdnGatesIdeal := facts)
    (hGdnGatesRefIdeal := GdnGatesRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (GdnGatesRefIdeal.Value.run m' ρ')⟩

end Cert.GdnGatesIdeal.Whole

end
-- ==== Proof.Projections.SsdZ.lean ====
/- The state-space mixer's projection to its output gate. -/
module

public import proofs.«01_k».proof.Defs
public import proofs.«01_k».proof.Proof.Gen.SsdZIdeal
public import proofs.«01_k».proof.Proof.Gen.SsdZRefIdeal
public import proofs.«01_k».proof.Proof.Projections.Product
public import proofs.«01_k».proof.Proof.Gen.SsdZIdeal.Value
public import proofs.«01_k».proof.Proof.Gen.SsdZRefIdeal.Run

@[expose] public section

set_option maxRecDepth 16384

noncomputable section

namespace Cert.SsdZIdeal.Whole

open Idealize.ShloMosaic Idealize.ShloMosaic.TcCoe Idealize.ShloMosaic.Tactic Idealize.SL.Sem
open Cert.SsdZIdeal Cert.SsdZIdeal.Gen Cert.Product

variable (m : (ℓ : Loc nD τ sig) → Buf (Elt Ideal) ℓ) (c : Dev nD) (t : Fin cfg0.N) (s : Fin 1408) (k : Fin 2048) (q : Fin 1024)

/-- The arguments. -/
def X : FVec Ideal S8448x2048 .f32 := m ((c : Thread nD τ).loc main_arg0)
def W : FVec Ideal S1x2048x10368 .f32 := m ((c : Thread nD τ).loc main_arg1)

theorem idx : ∀ t : Fin cfg0.N,
    win0_0.index t = ![t.val % 6, 0] ∧ win0_1.index t = ![0, 0, t.val / 6] ∧ win0_2.index t = ![t.val % 6, t.val / 6]
      ∧ (cfg0.win 2).flush t = true :=
  (by decide +kernel : ∀ t : Fin grid0.N, _)

theorem lt_points : t.val < 24 := lt_of_lt_of_eq t.isLt N_0

/-- The rows and the columns a point reads, -/
def rows : FVec Ideal S1408x2048 .bf16 := iblk m c 0 t
def cols : FVec Ideal S1x2048x1024 .f32 := X0_1 m c t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨0 + (1024 * (t.val / 6) + q.val), by have := lt_points t; omega⟩) := by
  refine (dif_pos (moved0_1 t _)).trans ((congrFun (V_main_arg1 m c) _).trans ?_)
  refine congrArg (m ((c : Thread nD τ).loc main_arg1)) (funext fun a => Fin.ext ?_)
  show win0_1.index t a * S1x2048x1024.size a + 1 * (ix3 (0 : Fin 1) k q a : ℕ) = _
  rw [(idx t).2.1]
  fin_cases a <;> simp <;> omega

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨1024 * (t.val / 6) + q.val, by have := lt_points t; omega⟩) := by
  blk_ext [idx t]

/-- and what. -/
theorem tile_apply (x : FVec Ideal S1408x2048 .bf16) (w : FVec Ideal S1x2048x1024 .f32) :
    (k0_pay1 x w : FVec Ideal S1408x1024 .f32) (ix2 s q) = ∑ k : Fin 2048, x (ix2 s k) * w (ix3 0 k q) := by
  pointwise [k0_pay1]

theorem out_eq (i : grid0.Coords) (arg2 : Memref sig .tc .vmem S1408x2048 .bf16) (harg2 : arg2.IsWhole)
    (arg3 : Memref sig .tc .vmem S1x2048x1024 .f32) (harg3 : arg3.IsWhole) (arg4 : Memref sig .tc .vmem S1408x1024 .f32)
    (harg4 : arg4.IsWhole) (x : Vec Ideal S1408x2048 .bf16) (w : Vec Ideal S1x2048x1024 .f32) :
    out0_A_2 c i arg2 harg2 arg3 harg3 arg4 harg4 x w = k0_pay1 x w := by
  unfold out0_A_2
  rw [View.read_writes_eq_canon _ _ _ (cover0_A_2 c i arg2 harg2 arg3 harg3 arg4 harg4 x w)]
  unfold kernelRun0_A
  dsimp only
  sl_unfold_words
  rw [View.canon_unit_zero zeroOff, View.readAt_eq_ld, View.readAt_eq_ld, harg2.read_unread, harg3.read_unread,
    View.ld_unit_zero (S := S1408x2048) zeroOff, View.ld_unit_zero (S := S1x2048x1024) zeroOff3]

theorem flushed : (dats m 0 c).flushed 2 t = (k0_pay1 (rows m c t) (cols m c t) : FVec Ideal S1408x1024 .f32) :=
  (Value.flushed2_A m c t).trans (out_eq c (grid0.coords t) (ms0_0 t) (hs0_0 t) (ms0_1 t) (hs0_1 t) (ms0_2 t) (hs0_2 t)
    (rows m c t) (cols m c t))

/-- The kernel's result. -/
theorem result : (dats m 0 c).arrAt 2 cfg0.N = columns (L := 0) 0 4096 (by decide) (X m c) (W m c) :=
  eq_of_tiles (n := 4096) (b := 1024) (p := 4) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_SsdZRefIdeal (hSsdZRefIdeal := SsdZRefIdeal.Gen.facts) := fun m ρ _ =>
  (θ_run _ _ _).mono (fun r h => ⟨fun c => (h c).2, sem_eq_zero_of_no_sems rfl r.2⟩) (SsdZRefIdeal.Value.run m ρ)

/-- Its result. -/
theorem reference_eq (x : FVec Ideal S8448x2048 .f32) (w : FVec Ideal S1x2048x10368 .f32) :
    (extractStridedSlice SsdZRefIdeal.S8448x4096 ![0, 0]
      (Host.dotGeneral SsdZRefIdeal.dot_S8448x2048_S2048x10368_S8448x10368_1_0_0_1_n_n none x
        (shapeCast _ w SsdZRefIdeal.Gen.shapeCasts_S1x2048x10368_S2048x10368))
      SsdZRefIdeal.Gen.slices_S8448x10368_S8448x4096_0_0 : FVec Ideal S8448x4096 .f32)
      = columns (L := 0) 0 4096 (by decide) x w :=
  Product.ext fun r q => by
    show _ = columns (L := 0) 0 4096 (by decide) x w (ix2 r q)
    unfold columns entry
    pointwise []

/-- The two results are equal. -/
theorem equal : Cert.algebraic_SsdZIdeal_SsdZRefIdeal (hSsdZIdeal := facts)
    (hSsdZRefIdeal := SsdZRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (SsdZRefIdeal.Value.run m' ρ')⟩

end Cert.SsdZIdeal.Whole

end
-- ==== Proof.Projections.SsdXbc.lean ====
/- The state-space mixer's projection to its inputs and its two maps. -/
module

public import proofs.«01_k».proof.Defs
public import proofs.«01_k».proof.Proof.Gen.SsdXbcIdeal
public import proofs.«01_k».proof.Proof.Gen.SsdXbcRefIdeal
public import proofs.«01_k».proof.Proof.Projections.Product
public import proofs.«01_k».proof.Proof.Gen.SsdXbcIdeal.Value
public import proofs.«01_k».proof.Proof.Gen.SsdXbcRefIdeal.Run

@[expose] public section

set_option maxRecDepth 16384

noncomputable section

namespace Cert.SsdXbcIdeal.Whole

open Idealize.ShloMosaic Idealize.ShloMosaic.TcCoe Idealize.ShloMosaic.Tactic Idealize.SL.Sem
open Cert.SsdXbcIdeal Cert.SsdXbcIdeal.Gen Cert.Product

variable (m : (ℓ : Loc nD τ sig) → Buf (Elt Ideal) ℓ) (c : Dev nD) (t : Fin cfg0.N) (s : Fin 1408) (k : Fin 2048) (q : Fin 1024)

/-- The arguments. -/
def X : FVec Ideal S8448x2048 .f32 := m ((c : Thread nD τ).loc main_arg0)
def W : FVec Ideal S1x2048x10368 .f32 := m ((c : Thread nD τ).loc main_arg1)

theorem idx : ∀ t : Fin cfg0.N,
    win0_0.index t = ![t.val % 6, 0] ∧ win0_1.index t = ![0, 0, 4 + t.val / 6] ∧ win0_2.index t = ![t.val % 6, t.val / 6]
      ∧ (cfg0.win 2).flush t = true :=
  (by decide +kernel : ∀ t : Fin grid0.N, _)

theorem lt_points : t.val < 36 := lt_of_lt_of_eq t.isLt N_0

/-- The rows and the columns a point reads, -/
def rows : FVec Ideal S1408x2048 .bf16 := iblk m c 0 t
def cols : FVec Ideal S1x2048x1024 .f32 := X0_1 m c t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨4096 + (1024 * (t.val / 6) + q.val), by have := lt_points t; omega⟩) := by
  refine (dif_pos (moved0_1 t _)).trans ((congrFun (V_main_arg1 m c) _).trans ?_)
  refine congrArg (m ((c : Thread nD τ).loc main_arg1)) (funext fun a => Fin.ext ?_)
  show win0_1.index t a * S1x2048x1024.size a + 1 * (ix3 (0 : Fin 1) k q a : ℕ) = _
  rw [(idx t).2.1]
  fin_cases a <;> simp <;> omega

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨1024 * (t.val / 6) + q.val, by have := lt_points t; omega⟩) := by
  blk_ext [idx t]

/-- and what. -/
theorem tile_apply (x : FVec Ideal S1408x2048 .bf16) (w : FVec Ideal S1x2048x1024 .f32) :
    (k0_pay1 x w : FVec Ideal S1408x1024 .f32) (ix2 s q) = ∑ k : Fin 2048, x (ix2 s k) * w (ix3 0 k q) := by
  pointwise [k0_pay1]

theorem out_eq (i : grid0.Coords) (arg2 : Memref sig .tc .vmem S1408x2048 .bf16) (harg2 : arg2.IsWhole)
    (arg3 : Memref sig .tc .vmem S1x2048x1024 .f32) (harg3 : arg3.IsWhole) (arg4 : Memref sig .tc .vmem S1408x1024 .f32)
    (harg4 : arg4.IsWhole) (x : Vec Ideal S1408x2048 .bf16) (w : Vec Ideal S1x2048x1024 .f32) :
    out0_A_2 c i arg2 harg2 arg3 harg3 arg4 harg4 x w = k0_pay1 x w := by
  unfold out0_A_2
  rw [View.read_writes_eq_canon _ _ _ (cover0_A_2 c i arg2 harg2 arg3 harg3 arg4 harg4 x w)]
  unfold kernelRun0_A
  dsimp only
  sl_unfold_words
  rw [View.canon_unit_zero zeroOff, View.readAt_eq_ld, View.readAt_eq_ld, harg2.read_unread, harg3.read_unread,
    View.ld_unit_zero (S := S1408x2048) zeroOff, View.ld_unit_zero (S := S1x2048x1024) zeroOff3]

theorem flushed : (dats m 0 c).flushed 2 t = (k0_pay1 (rows m c t) (cols m c t) : FVec Ideal S1408x1024 .f32) :=
  (Value.flushed2_A m c t).trans (out_eq c (grid0.coords t) (ms0_0 t) (hs0_0 t) (ms0_1 t) (hs0_1 t) (ms0_2 t) (hs0_2 t)
    (rows m c t) (cols m c t))

/-- The kernel's result. -/
theorem result : (dats m 0 c).arrAt 2 cfg0.N = columns (L := 0) 4096 6144 (by decide) (X m c) (W m c) :=
  eq_of_tiles (n := 6144) (b := 1024) (p := 6) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_SsdXbcRefIdeal (hSsdXbcRefIdeal := SsdXbcRefIdeal.Gen.facts) := fun m ρ _ =>
  (θ_run _ _ _).mono (fun r h => ⟨fun c => (h c).2, sem_eq_zero_of_no_sems rfl r.2⟩) (SsdXbcRefIdeal.Value.run m ρ)

/-- Its result. -/
theorem reference_eq (x : FVec Ideal S8448x2048 .f32) (w : FVec Ideal S1x2048x10368 .f32) :
    (extractStridedSlice SsdXbcRefIdeal.S8448x6144 ![0, 4096]
      (Host.dotGeneral SsdXbcRefIdeal.dot_S8448x2048_S2048x10368_S8448x10368_1_0_0_1_n_n none x
        (shapeCast _ w SsdXbcRefIdeal.Gen.shapeCasts_S1x2048x10368_S2048x10368))
      SsdXbcRefIdeal.Gen.slices_S8448x10368_S8448x6144_0_4096 : FVec Ideal S8448x6144 .f32)
      = columns (L := 0) 4096 6144 (by decide) x w :=
  Product.ext fun r q => by
    show _ = columns (L := 0) 4096 6144 (by decide) x w (ix2 r q)
    unfold columns entry
    pointwise []

/-- The two results are equal. -/
theorem equal : Cert.algebraic_SsdXbcIdeal_SsdXbcRefIdeal (hSsdXbcIdeal := facts)
    (hSsdXbcRefIdeal := SsdXbcRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (SsdXbcRefIdeal.Value.run m' ρ')⟩

end Cert.SsdXbcIdeal.Whole

end
-- ==== Proof.Projections.SsdDt.lean ====
/- The state-space mixer's projection to its step sizes. -/
module

public import proofs.«01_k».proof.Defs
public import proofs.«01_k».proof.Proof.Gen.SsdDtIdeal
public import proofs.«01_k».proof.Proof.Gen.SsdDtRefIdeal
public import proofs.«01_k».proof.Proof.Projections.Product
public import proofs.«01_k».proof.Proof.Gen.SsdDtIdeal.Value
public import proofs.«01_k».proof.Proof.Gen.SsdDtRefIdeal.Run

@[expose] public section

set_option maxRecDepth 16384

noncomputable section

namespace Cert.SsdDtIdeal.Whole

open Idealize.ShloMosaic Idealize.ShloMosaic.TcCoe Idealize.ShloMosaic.Tactic Idealize.SL.Sem
open Cert.SsdDtIdeal Cert.SsdDtIdeal.Gen Cert.Product

variable (m : (ℓ : Loc nD τ sig) → Buf (Elt Ideal) ℓ) (c : Dev nD) (t : Fin cfg0.N) (s : Fin 1408) (k : Fin 2048) (q : Fin 128)

/-- The arguments. -/
def X : FVec Ideal S8448x2048 .f32 := m ((c : Thread nD τ).loc main_arg0)
def W : FVec Ideal S1x2048x10368 .f32 := m ((c : Thread nD τ).loc main_arg1)

theorem idx : ∀ t : Fin cfg0.N,
    win0_0.index t = ![t.val % 6, 0] ∧ win0_1.index t = ![0, 0, 80 + t.val / 6] ∧ win0_2.index t = ![t.val % 6, t.val / 6]
      ∧ (cfg0.win 2).flush t = true :=
  (by decide +kernel : ∀ t : Fin grid0.N, _)

theorem lt_points : t.val < 6 := lt_of_lt_of_eq t.isLt N_0

/-- The rows and the columns a point reads, -/
def rows : FVec Ideal S1408x2048 .bf16 := iblk m c 0 t
def cols : FVec Ideal S1x2048x128 .f32 := iblk m c 1 t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨10240 + (128 * (t.val / 6) + q.val), by have := lt_points t; omega⟩) := by
  show iblk m c 1 t (ix3 0 k q) = m ((c : Thread nD τ).loc main_arg1) _
  blk_ext [iblk, V, idx t]

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨128 * (t.val / 6) + q.val, by have := lt_points t; omega⟩) := by
  blk_ext [idx t]

/-- and what. -/
theorem tile_apply (x : FVec Ideal S1408x2048 .bf16) (w : FVec Ideal S1x2048x128 .f32) :
    (k0_pay1 x w : FVec Ideal S1408x128 .f32) (ix2 s q) = ∑ k : Fin 2048, x (ix2 s k) * w (ix3 0 k q) := by
  pointwise [k0_pay1]

theorem flushed : (dats m 0 c).flushed 2 t = (k0_pay1 (rows m c t) (cols m c t) : FVec Ideal S1408x128 .f32) := by
  rw [Value.flushed2]
  show out0_2 (iblk m c 0 t) (iblk m c 1 t) = _
  unfold out0_2
  rw [View.canon_unit_zero zeroOff, View.ld_unit_zero (S := S1408x2048) zeroOff, View.ld_unit_zero (S := S1x2048x128) zeroOff3]
  rfl

/-- The kernel's result. -/
theorem result : (dats m 0 c).arrAt 2 cfg0.N = columns (L := 0) 10240 128 (by decide) (X m c) (W m c) :=
  eq_of_tiles (n := 128) (b := 128) (p := 1) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_SsdDtRefIdeal (hSsdDtRefIdeal := SsdDtRefIdeal.Gen.facts) := fun m ρ _ =>
  (θ_run _ _ _).mono (fun r h => ⟨fun c => (h c).2, sem_eq_zero_of_no_sems rfl r.2⟩) (SsdDtRefIdeal.Value.run m ρ)

/-- Its result. -/
theorem reference_eq (x : FVec Ideal S8448x2048 .f32) (w : FVec Ideal S1x2048x10368 .f32) :
    (extractStridedSlice SsdDtRefIdeal.S8448x128 ![0, 10240]
      (Host.dotGeneral SsdDtRefIdeal.dot_S8448x2048_S2048x10368_S8448x10368_1_0_0_1_n_n none x
        (shapeCast _ w SsdDtRefIdeal.Gen.shapeCasts_S1x2048x10368_S2048x10368))
      SsdDtRefIdeal.Gen.slices_S8448x10368_S8448x128_0_10240 : FVec Ideal S8448x128 .f32)
      = columns (L := 0) 10240 128 (by decide) x w :=
  Product.ext fun r q => by
    show _ = columns (L := 0) 10240 128 (by decide) x w (ix2 r q)
    unfold columns entry
    pointwise []

/-- The two results are equal. -/
theorem equal : Cert.algebraic_SsdDtIdeal_SsdDtRefIdeal (hSsdDtIdeal := facts)
    (hSsdDtRefIdeal := SsdDtRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (SsdDtRefIdeal.Value.run m' ρ')⟩

end Cert.SsdDtIdeal.Whole

end
-- ==== Proof.Projections.HyenaIn.lean ====
/- The Hyena mixer's projection. -/
module

public import proofs.«01_k».proof.Defs
public import proofs.«01_k».proof.Proof.Gen.HyenaInIdeal
public import proofs.«01_k».proof.Proof.Gen.HyenaInRefIdeal
public import proofs.«01_k».proof.Proof.Projections.Product
public import proofs.«01_k».proof.Proof.Gen.HyenaInIdeal.Value
public import proofs.«01_k».proof.Proof.Gen.HyenaInRefIdeal.Run

@[expose] public section

set_option maxRecDepth 16384

noncomputable section

namespace Cert.HyenaInIdeal.Whole

open Idealize.ShloMosaic Idealize.ShloMosaic.TcCoe Idealize.ShloMosaic.Tactic Idealize.SL.Sem
open Cert.HyenaInIdeal Cert.HyenaInIdeal.Gen Cert.Product

variable (m : (ℓ : Loc nD τ sig) → Buf (Elt Ideal) ℓ) (c : Dev nD) (t : Fin cfg0.N) (s : Fin 1408) (k : Fin 2048) (q : Fin 1024)

/-- The arguments. -/
def X : FVec Ideal S8448x2048 .f32 := m ((c : Thread nD τ).loc main_arg0)
def W : FVec Ideal S1x2048x6144 .f32 := m ((c : Thread nD τ).loc main_arg1)

theorem idx : ∀ t : Fin cfg0.N,
    win0_0.index t = ![t.val % 6, 0] ∧ win0_1.index t = ![0, 0, t.val / 6] ∧ win0_2.index t = ![t.val % 6, t.val / 6]
      ∧ (cfg0.win 2).flush t = true :=
  (by decide +kernel : ∀ t : Fin grid0.N, _)

theorem lt_points : t.val < 36 := lt_of_lt_of_eq t.isLt N_0

/-- The rows and the columns a point reads, -/
def rows : FVec Ideal S1408x2048 .bf16 := iblk m c 0 t
def cols : FVec Ideal S1x2048x1024 .f32 := iblk m c 1 t

theorem rows_apply : rows m c t (ix2 s k) = X m c (ix2 ⟨1408 * (t.val % 6) + s.val, by omega⟩ k) := by
  have e : iblk m c 0 t (ix2 s k) = V m c main_v0 (ix2 ⟨1408 * (t.val % 6) + s.val, by omega⟩ k) := by
    blk_ext [iblk, idx t]
  refine e.trans ?_
  entry_read
  rfl

theorem cols_apply : cols m c t (ix3 0 k q) = W m c (ix3 0 k ⟨1024 * (t.val / 6) + q.val, by have := lt_points t; omega⟩) := by
  show iblk m c 1 t (ix3 0 k q) = m ((c : Thread nD τ).loc main_arg1) _
  blk_ext [iblk, V, idx t]

/-- where it writes, -/
theorem out_apply (f : Buf (Elt Ideal) ((c : Thread nD τ).loc main_v1)) :
    ((cfg0.win 2).blk t).view.read (Elt Ideal) f (ix2 s q)
      = f (ix2 ⟨1408 * (t.val % 6) + s.val, by omega⟩ ⟨1024 * (t.val / 6) + q.val, by have := lt_points t; omega⟩) := by
  blk_ext [idx t]

/-- and what. -/
theorem tile_apply (x : FVec Ideal S1408x2048 .bf16) (w : FVec Ideal S1x2048x1024 .f32) :
    (k0_pay1 x w : FVec Ideal S1408x1024 .f32) (ix2 s q) = ∑ k : Fin 2048, x (ix2 s k) * w (ix3 0 k q) := by
  pointwise [k0_pay1]

theorem flushed : (dats m 0 c).flushed 2 t = (k0_pay1 (rows m c t) (cols m c t) : FVec Ideal S1408x1024 .f32) := by
  rw [Value.flushed2]
  show out0_2 (iblk m c 0 t) (iblk m c 1 t) = _
  unfold out0_2
  rw [View.canon_unit_zero zeroOff, View.ld_unit_zero (S := S1408x2048) zeroOff, View.ld_unit_zero (S := S1x2048x1024) zeroOff3]
  rfl

/-- The kernel's result. -/
theorem result : (dats m 0 c).arrAt 2 cfg0.N = fun i => entry (L := 0) (X m c) (W m c) (i 0) (i 1) :=
  eq_of_tiles (n := 6144) (b := 1024) (p := 6) (by decide) (by decide) fun t s q _ _ => by
    have ht : t.val < cfg0.N := lt_of_lt_of_eq t.isLt N_0.symm
    have e := congrFun (Value.blocks2 m c ⟨t.val, ht⟩ (idx _).2.2.2) (ix2 s q)
    rw [out_apply, flushed] at e
    refine e.trans ((tile_apply s q _ _).trans ?_)
    simp only [rows_apply, cols_apply]
    rfl

/-- The reference's arguments end unchanged. -/
theorem frame_reference : Cert.quiescent_HyenaInRefIdeal (hHyenaInRefIdeal := HyenaInRefIdeal.Gen.facts) := fun m ρ _ =>
  (θ_run _ _ _).mono (fun r h => ⟨fun c => (h c).2, sem_eq_zero_of_no_sems rfl r.2⟩) (HyenaInRefIdeal.Value.run m ρ)

/-- Its result. -/
theorem reference_eq (x : FVec Ideal S8448x2048 .f32) (w : FVec Ideal S1x2048x6144 .f32) :
    (Host.dotGeneral HyenaInRefIdeal.dot_S8448x2048_S2048x6144_S8448x6144_1_0_0_1_n_n none x
      (shapeCast _ w HyenaInRefIdeal.Gen.shapeCasts_S1x2048x6144_S2048x6144) : FVec Ideal S8448x6144 .f32)
      = fun i => entry (L := 0) x w (i 0) (i 1) :=
  Product.ext fun r q => by
    show _ = entry (L := 0) x w r q
    unfold entry
    pointwise []

/-- The two results are equal. -/
theorem equal : Cert.algebraic_HyenaInIdeal_HyenaInRefIdeal (hHyenaInIdeal := facts)
    (hHyenaInRefIdeal := HyenaInRefIdeal.Gen.facts) :=
  fun m ρ m' ρ' _ hag => ⟨fun c => (dats m 0 c).arrAt 2 cfg0.N, Value.run_blocks m ρ,
    (θ_run _ _ _).mono (fun _ h c => ⟨(h c).1.trans (by
      rw [(hag c).1, (hag c).2]
      exact (reference_eq _ _).trans (result m c).symm), (h c).2⟩) (HyenaInRefIdeal.Value.run m' ρ')⟩

end Cert.HyenaInIdeal.Whole

end
-- ==== Proof.OutLn.Norm.lean ====
/- A mixer's output projection added to the scaled residual rows, the layer norm of the sum, and the normed rows in tiles of
   128 lanes. -/
module

public import Idealize.ShloMosaic.Lib.Pipeline.Value
public import Idealize.ShloMosaic.Lib.Pipeline.ValueKit
public import Idealize.ShloMosaic.Lib.Pipeline.ValueKit.Tiles
public import Idealize.ShloMosaic.Lib.Ring
public import Idealize.ShloMosaic.Lib.Tactic
public import Idealize.ShloMosaic.Lib.Claim

@[expose] public section

set_option maxRecDepth 16384

noncomputable section

namespace Cert.OutLn

open Idealize.ShloMosaic Idealize.ShloMosaic.Tactic

/-- Real-valued matrices, stacks of matrices and rows. -/
abbrev Mat (a n : ℕ) : Type := (⟨2, ![a, n]⟩ : Shape).Idx → EReal
abbrev Stack (l a n : ℕ) : Type := (⟨3, ![l, a, n]⟩ : Shape).Idx → EReal
abbrev Row (n : ℕ) : Type := (⟨1, ![n]⟩ : Shape).Idx → EReal

/-- The mean of a row's 2048 values, -/
def mean (x : Fin 2048 → EReal) : EReal := Ideal.div (∑ k, x k) (Ideal.ofBits .f32 0x45000000#32)

/-- and the row normed, at lane `j`, by gain `g` and offset `b`. -/
def normed (x : Fin 2048 → EReal) (j : Fin 2048) (g b : EReal) : EReal :=
  (x j - mean x) * Ideal.rsqrt (Ideal.div (∑ k, (x k - mean x) * (x k - mean x)) (Ideal.ofBits .f32 0x45000000#32)
    + Ideal.ofBits .f32 0x3727C5AC#32) * g + b

/-- The residual's value scaled, and the projection's beside it. -/
def mix (h p : EReal) : EReal := Ideal.ofBits .f32 0x3FD744FD#32 * h + p

variable {L : ℕ} (A : Mat 8448 4096) (W : Stack (L + 1) 4096 2048) (H : Mat 8448 2048) (G B : Row 2048)

/-- Row `r` of the activations against column `q` of the first matrix. -/
def proj (r : Fin 8448) (q : Fin 2048) : EReal := ∑ k : Fin 4096, A (ix2 r k) * W (ix3 0 k q)

/-- The layer's rows. -/
def rows : Mat 8448 2048 := fun i =>
  normed (fun k => mix (H (ix2 (i 0) k)) (proj A W (i 0) k)) (i 1) (G (ix1 (i 1))) (B (ix1 (i 1)))

/-- Lane `l` of tile `a`. -/
def lane (a : Fin 16) (l : Fin 128) : Fin 2048 := ⟨a.val * 128 + l.val, by omega⟩

/-- Rows in tiles of 128 lanes. -/
def tiles {n : ℕ} (y : Mat n 2048) : Stack n 16 128 := fun i => y (ix2 (i 0) (lane (i 1) (i 2)))

/-- A row of the layer, from the eight sums of 512 products that make up its projection. -/
theorem proj_eq (r : Fin 8448) (q : Fin 2048) (f : Fin 8 → Fin 512 → EReal)
    (hf : ∀ (s : Fin 8) (k : Fin 512) (hk : s.val * 512 + k.val < 4096),
      f s k = A (ix2 r ⟨s.val * 512 + k.val, hk⟩) * W (ix3 0 ⟨s.val * 512 + k.val, hk⟩ q)) :
    ∑ s, ∑ k, f s k = proj A W r q := by
  unfold proj
  rw [← Fin.sum_mul_add_fin 8 512 fun k : Fin 4096 => A (ix2 r k) * W (ix3 0 k q)]
  exact Finset.sum_congr rfl fun s _ => Finset.sum_congr rfl fun k _ => hf s k _

/-! ## The rows stored in sixteen tiles -/

variable (y : FVec Ideal (⟨2, ![704, 2048]⟩ : Shape) .f32)

theorem inb (a : Fin 16) (d : Fin 3) : (![0, a.val, 0] : Fin 3 → ℕ) d + (![704, 1, 128] : Fin 3 → ℕ) d ≤ (![704, 16, 128] : Fin 3 → ℕ) d := by
  fin_cases d <;> simp <;> omega

theorem slices (a : Fin 16) : (⟨2, ![704, 2048]⟩ : Shape).Slices ![0, a.val * 128] ⟨2, ![704, 128]⟩ :=
  ⟨rfl, fun d => by fin_cases d <;> simp <;> omega⟩

theorem casts : (⟨2, ![704, 128]⟩ : Shape).ShapeCasts ⟨3, ![704, 1, 128]⟩ := by decide

/-- Tile `a` of the block, and what is stored to it. -/
def box (a : Fin 16) : Rect (⟨3, ![704, 16, 128]⟩ : Shape) := Rect.unit ![0, a.val, 0] ![704, 1, 128] (inb a)

def piece (a : Fin 16) : View.Piece (Elt Ideal) (⟨3, ![704, 16, 128]⟩ : Shape) .f32 :=
  ⟨box a, shapeCast (⟨3, ![704, 1, 128]⟩ : Shape) (extractStridedSlice (⟨2, ![704, 128]⟩ : Shape) ![0, a.val * 128] y (slices a)) casts⟩

/-- The sixteen, the last first. -/
def pieces : List (View.Piece (Elt Ideal) (⟨3, ![704, 16, 128]⟩ : Shape) .f32) :=
  [15, 14, 13, 12, 11, 10, 9, 8, 7, 6, 5, 4, 3, 2, 1, 0].map (piece y)

theorem box_emb (a : Fin 16) (s : Fin 704) (l : Fin 128) : (box a).emb (ix3 s 0 l) = ix3 s a l :=
  funext fun d => Fin.ext (by
    refine (Rect.idx_unit_val _ _ _ _ d).trans ?_
    fin_cases d <;> simp)

theorem piece_apply (a : Fin 16) (x : (⟨3, ![704, 1, 128]⟩ : Shape).Idx) : (piece y a).2 x = tiles y ((piece y a).1.emb x) := by
  obtain ⟨s, u, l, rfl⟩ : ∃ s u l, x = ix3 s u l := ⟨x 0, x 1, x 2, eq_ix3 x⟩
  obtain rfl : u = 0 := Subsingleton.elim _ _
  show _ = tiles y ((box a).emb (ix3 s 0 l))
  rw [box_emb]
  show _ = y (ix2 s (lane a l))
  unfold piece lane
  pointwise []

theorem canon_pieces (i : (⟨3, ![704, 16, 128]⟩ : Shape).Idx) : View.canon (pieces y) i = tiles y i := by
  refine View.canon_apply_of_pieces (tiles y) (pieces y) (fun p hp x => ?_) i ?_
  · obtain ⟨a, _, rfl⟩ := List.mem_map.mp hp
    exact piece_apply y a x
  · exact View.cover_of_tiledBy (pieces y) ![704, 1, 128] (by sl_kernel_rfl) i

end Cert.OutLn

end
-- ==== Proof.OutLn.GdnOut.lean ====
/- The gated delta mixer's output projection and the norm after it. -/
module

public import proofs.«01_k».proof.Defs
public import proofs.«01_k».proof.Proof.Gen.GdnOutIdeal
public import proofs.«01_k».proof.Proof.Gen.GdnOutRefIdeal
public import proofs.«01_k».proof.Proof.Projections.Product
public import proofs.«01_k».proof.Proof.OutLn.Norm
public import proofs.«01_k».proof.Proof.Gen.GdnOutIdeal.Value
public import proofs.«01_k».proof.Proof.Gen.GdnOutRefIdeal.Run

@[expose] public section

set_option maxRecDepth 16384

noncomputable section

namespace Cert.GdnOutIdeal.Whole

open Idealize.ShloMosaic Idealize.ShloMosaic.TcCoe Idealize.ShloMosaic.Tactic Idealize.SL.Sem
open Cert.GdnOutIdeal Cert.GdnOutIdeal.Gen Cert.OutLn Cert.Product

variable (m : (ℓ : Loc nD τ sig) → Buf (Elt Ideal) ℓ) (c : Dev nD) (t : Fin cfg0.N) (s : Fin 704) (k : Fin 512) (q : Fin 2048)

/-- The arguments. -/
def A : FVec Ideal S8448x4096 .bf16 := m ((c : Thread nD τ).loc main_arg0)
def W : FVec Ideal S2x4096x2048 .f32 := m ((c : Thread nD τ).loc main_arg1)
def H : FVec Ideal S8448x2048 .f32 := m ((c : Thread nD τ).loc main_arg2)
def G : FVec Ideal S2048 .f32 := m ((c : Thread nD τ).loc main_arg3)
def B : FVec Ideal S2048 .f32 := m ((c : Thread nD τ).loc main_arg4)

theorem idx : ∀ t : Fin cfg0.N,
    win0_0.index t = ![t.val / 8, t.val % 8] ∧ win0_1.index t = ![0, t.val % 8, 0] ∧ win0_2.index t = ![t.val / 8, 0]
      ∧ win0_3.index t = ![0, 0] ∧ win0_4.index t = ![0, 0] :=
  (by decide +kernel : ∀ t : Fin grid0.N, _)

theorem lt_points : t.val < 96 := lt_of_lt_of_eq t.isLt N_0

/-- What a point reads. -/
def a : FVec Ideal S704x512 .bf16 := iblk m c 0 t
def w : FVec Ideal S1x512x2048 .f32 := iblk m c 1 t
def h : FVec Ideal S704x2048 .f32 := iblk m c 2 t
def g : FVec Ideal S1x2048 .f32 := iblk m c 3 t
def b : FVec Ideal S1x2048 .f32 := iblk m c 4 t

theorem a_apply : a m c t (ix2 s k)
    = A m c (ix2 ⟨704 * (t.val / 8) + s.val, by have := lt_points t; omega⟩ ⟨t.val % 8 * 512 + k.val, by omega⟩) := by
  have e : iblk m c 0 t (ix2 s k) = V m c main_arg0
      (ix2 ⟨704 * (t.val / 8) + s.val, by have := lt_points t; omega⟩ ⟨t.val % 8 * 512 + k.val, by omega⟩) := by
    blk_ext [iblk, idx t]
  refine e.trans ?_
  entry_read
  rfl

theorem w_apply : w m c t (ix3 0 k q) = W m c (ix3 0 ⟨t.val % 8 * 512 + k.val, by omega⟩ q) := by
  have e : iblk m c 1 t (ix3 0 k q) = V m c main_arg1 (ix3 0 ⟨t.val % 8 * 512 + k.val, by omega⟩ q) := by
    blk_ext [iblk, idx t]
  refine e.trans ?_
  entry_read
  rfl

theorem h_apply : h m c t (ix2 s q) = H m c (ix2 ⟨704 * (t.val / 8) + s.val, by have := lt_points t; omega⟩ q) := by
  have e : iblk m c 2 t (ix2 s q) = V m c main_arg2 (ix2 ⟨704 * (t.val / 8) + s.val, by have := lt_points t; omega⟩ q) := by
    blk_ext [iblk, idx t]
  refine e.trans ?_
  entry_read
  rfl

theorem g_apply : g m c t (ix2 0 q) = G m c (ix1 q) := by
  have e : iblk m c 3 t (ix2 0 q) = V m c main_v0 (ix2 0 q) := by
    blk_ext [iblk, idx t]
  refine e.trans ?_
  entry_read
  pointwise [G]

theorem b_apply : b m c t (ix2 0 q) = B m c (ix1 q) := by
  have e : iblk m c 4 t (ix2 0 q) = V m c main_v1 (ix2 0 q) := by
    blk_ext [iblk, idx t]
  refine e.trans ?_
  entry_read
  pointwise [B]

/-! ## What a point computes -/

theorem zero_apply : (k0_pay1 : FVec Ideal S704x2048 .f32) (ix2 s q) = 0 := by
  pointwise [k0_pay1]

theorem next_apply (x : Vec Ideal S704x512 .bf16) (acc : Vec Ideal S704x2048 .f32) (v : Vec Ideal S1x512x2048 .f32) :
    k0_pay2 x acc v (ix2 s q) = acc (ix2 s q) + ∑ k : Fin 512, x (ix2 s k) * v (ix3 0 k q) := by
  pointwise [k0_pay2]

theorem norm_apply (h acc : Vec Ideal S704x2048 .f32) (g b : Vec Ideal S1x2048 .f32) :
    k0_pay10 h acc g b (ix2 s q) = normed (fun k => mix (h (ix2 s k)) (acc (ix2 s k))) q (g (ix2 0 q)) (b (ix2 0 q)) := by
  unfold normed mean mix
  pointwise [k0_pay10]

section

variable (i : grid0.Coords) (arg2 : Memref sig .tc .vmem S704x512 .bf16) (harg2 : arg2.IsWhole)
  (arg3 : Memref sig .tc .vmem S1x512x2048 .f32) (harg3 : arg3.IsWhole) (arg4 : Memref sig .tc .vmem S704x2048 .f32)
  (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S704x2048 .f32)
  (harg7 : arg7.IsWhole) (arg8 : Memref sig .tc .vmem S704x16x128 .f32) (harg8 : arg8.IsWhole)
  (arg9 : Memref sig .tc .vmem S704x2048 .f32) (harg9 : arg9.IsWhole)
  (x0 : Vec Ideal S704x512 .bf16) (x1 : Vec Ideal S1x512x2048 .f32) (x2 : Vec Ideal S704x2048 .f32)
  (x3 x4 : Vec Ideal S1x2048 .f32) (xs : Vec Ideal S704x2048 .f32)

/-- The sum after a tile's first point, -/
theorem first_sum (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay2 x0 (k0_pay1 (F := Ideal)) x1 := by
  unfold sout0_A_0
  rw [View.read_writes_eq_canon _ _ _ (scover0_A_0 c i arg2 harg2 arg3 harg3 arg4 harg4 arg5 harg5 arg6 harg6 arg7 harg7 arg8
    harg8 arg9 harg9 hc0 hc1 x0 x1 x2 x3 x4)]
  unfold kernelRun0_A
  dsimp only
  sl_unfold_words
  rw [View.canon_cons_unit_zero zeroOff]
  simp only [View.readAt_eq_ld, harg2.read_unread, harg3.read_unread, View.ld_unit_zero (S := S704x512) zeroOff,
    View.ld_unit_zero (S := S1x512x2048) zeroOff3, View.readCov_unit_zero (S := S704x2048) _ zeroOff]

/-- after a middle one, -/
theorem middle_sum (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs
      = k0_pay2 x0 xs x1 := by
  unfold sout0_B_0
  rw [View.read_writes_eq_canon _ _ _ (scover0_B_0 c i arg2 harg2 arg3 harg3 arg4 harg4 arg5 harg5 arg6 harg6 arg7 harg7 arg8
    harg8 arg9 harg9 hc0 hc1 x0 x1 x2 x3 x4 xs)]
  unfold kernelRun0_B
  dsimp only
  sl_unfold_words
  rw [View.canon_unit_zero zeroOff]
  simp only [View.readAt_eq_ld, harg2.read_unread, harg3.read_unread, harg9.read_unread,
    View.ld_unit_zero (S := S704x512) zeroOff, View.ld_unit_zero (S := S1x512x2048) zeroOff3,
    View.ld_unit_zero (S := S704x2048) zeroOff]

/-- and after the last; -/
theorem last_sum (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs
      = k0_pay2 x0 xs x1 := by
  unfold sout0_C_0
  rw [View.read_writes_eq_canon _ _ _ (scover0_C_0 c i arg2 harg2 arg3 harg3 arg4 harg4 arg5 harg5 arg6 harg6 arg7 harg7 arg8
    harg8 arg9 harg9 hc0 hc1 x0 x1 x2 x3 x4 xs)]
  unfold kernelRun0_C
  dsimp only
  sl_unfold_words
  rw [View.canon_unit_zero zeroOff]
  simp only [View.readAt_eq_ld, harg2.read_unread, harg3.read_unread, harg9.read_unread,
    View.ld_unit_zero (S := S704x512) zeroOff, View.ld_unit_zero (S := S1x512x2048) zeroOff3,
    View.ld_unit_zero (S := S704x2048) zeroOff]

/-- the rows the last one writes, -/
theorem last_rows (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs
      = k0_pay10 x2 (k0_pay2 x0 xs x1) x3 x4 := by
  unfold out0_C_5
  rw [View.read_writes_eq_canon _ _ _ (cover0_C_5 c i arg2 harg2 arg3 harg3 arg4 harg4 arg5 harg5 arg6 harg6 arg7 harg7 arg8
    harg8 arg9 harg9 hc0 hc1 x0 x1 x2 x3 x4 xs)]
  unfold kernelRun0_C
  dsimp only
  sl_unfold_words
  rw [View.canon_unit_zero zeroOff]
  simp only [View.readAt_eq_ld, harg2.read_unread, harg3.read_unread, harg4.read_unread, harg5.read_unread, harg6.read_unread,
    harg9.read_unread, View.ld_unit_zero (S := S704x512) zeroOff, View.ld_unit_zero (S := S1x512x2048) zeroOff3,
    View.ld_unit_zero (S := S704x2048) zeroOff, View.ld_unit_zero (S := S1x2048) zeroOff,
    View.readCov_unit_zero (S := S704x2048) _ zeroOff]

/-- and the tiles. -/
theorem last_tiles (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 xs
      = tiles (k0_pay10 x2 (k0_pay2 x0 xs x1) x3 x4) := by
  unfold out0_C_6
  rw [View.read_writes_eq_canon _ _ _ (cover0_C_6 c i arg2 harg2 arg3 harg3 arg4 harg4 arg5 harg5 arg6 harg6 arg7 harg7 arg8
    harg8 arg9 harg9 hc0 hc1 x0 x1 x2 x3 x4 xs)]
  unfold kernelRun0_C
  dsimp only
  sl_unfold_words
  simp only [View.readAt_eq_ld, harg2.read_unread, harg3.read_unread, harg4.read_unread, harg5.read_unread, harg6.read_unread,
    harg9.read_unread, View.ld_unit_zero (S := S704x512) zeroOff, View.ld_unit_zero (S := S1x512x2048) zeroOff3,
    View.ld_unit_zero (S := S704x2048) zeroOff, View.ld_unit_zero (S := S1x2048) zeroOff,
    View.readCov_unit_zero (S := S704x2048) _ zeroOff]
  exact funext (canon_pieces (k0_pay10 x2 (k0_pay2 x0 xs x1) x3 x4))

end

/-! ## The sum carried from point to point -/

/-- One point's share of an entry of the projection. -/
def share (i : S704x2048.Idx) : EReal := ∑ k : Fin 512, a m c t (ix2 (i 0) k) * w m c t (ix3 0 k (i 1))

theorem next_share (acc : Vec Ideal S704x2048 .f32) (i : S704x2048.Idx) :
    k0_pay2 (a m c t) acc (w m c t) i = acc i + share m c t i := by
  obtain ⟨s, q, rfl⟩ : ∃ s q, i = ix2 s q := ⟨i 0, i 1, eq_ix2 i⟩
  exact next_apply s q _ _ _

theorem point_first (h0 : t.val % 8 = 0) :
    (outsAt0 m c t.val t.isLt).2.2 = k0_pay2 (F := Ideal) (a m c t) (k0_pay1 (F := Ideal)) (w m c t) := by
  have h1 : ¬t.val % 8 = 7 := by omega
  rw [outsAt0_A m c t h0 h1]
  have e := first_sum c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    ((hcond0_0 t).mpr h0) (fun h => h1 ((hcond0_1 t).mp h))
  unfold a w h g b at e
  unfold a w
  dsimp only at e ⊢
  exact e

theorem point_middle (h0 : ¬t.val % 8 = 0) (h1 : ¬t.val % 8 = 7) :
    (outsAt0 m c t.val t.isLt).2.2
      = k0_pay2 (a m c t) (outsAt0 m c (t.val - 1) (Nat.lt_of_le_of_lt (Nat.sub_le _ _) t.isLt)).2.2 (w m c t) := by
  rw [outsAt0_B m c t h0 h1]
  have e := middle_sum c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) (fun h => h1 ((hcond0_1 t).mp h))
  unfold a w h g b at e
  unfold a w
  dsimp only at e ⊢
  exact e

/-- A tile's last point leaves the sum, the rows and the tiles. -/
theorem point_last (h0 : ¬t.val % 8 = 0) (h1 : t.val % 8 = 7) (S : Vec Ideal S704x2048 .f32)
    (hS : S = k0_pay2 (a m c t) (outsAt0 m c (t.val - 1) (Nat.lt_of_le_of_lt (Nat.sub_le _ _) t.isLt)).2.2 (w m c t)) :
    (outsAt0 m c t.val t.isLt).2.2 = S
      ∧ (outsAt0 m c t.val t.isLt).1 = k0_pay10 (h m c t) S (g m c t) (b m c t)
      ∧ (outsAt0 m c t.val t.isLt).2.1 = tiles (k0_pay10 (h m c t) S (g m c t) (b m c t) : FVec Ideal S704x2048 .f32) := by
  subst hS
  rw [outsAt0_C m c t h0 h1]
  have e := last_sum c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) ((hcond0_1 t).mpr h1)
  have e' := last_rows c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) ((hcond0_1 t).mpr h1)
  have e'' := last_tiles c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) ((hcond0_1 t).mpr h1)
  unfold a w h g b at e e' e'' ⊢
  dsimp only at e e' e'' ⊢
  exact ⟨e, e', e''⟩

theorem sum_first (h0 : t.val % 8 = 0) (i : S704x2048.Idx) : (outsAt0 m c t.val t.isLt).2.2 i = 0 + share m c t i := by
  rw [point_first m c t h0, next_share]
  obtain ⟨s, q, rfl⟩ : ∃ s q, i = ix2 s q := ⟨i 0, i 1, eq_ix2 i⟩
  rw [zero_apply]

theorem sum_later (h0 : ¬t.val % 8 = 0) (i : S704x2048.Idx) :
    (outsAt0 m c t.val t.isLt).2.2 i
      = (outsAt0 m c (t.val - 1) (Nat.lt_of_le_of_lt (Nat.sub_le _ _) t.isLt)).2.2 i + share m c t i := by
  by_cases h1 : t.val % 8 = 7
  · rw [(point_last m c t h0 h1 _ rfl).1, next_share]
  · rw [point_middle m c t h0 h1, next_share]

/-- After a tile's last point the sum is the projection. -/
theorem sum_eq (ht : t.val % 8 = 7) :
    (outsAt0 m c t.val t.isLt).2.2 (ix2 s q)
      = proj (L := 1) (A m c) (W m c) ⟨704 * (t.val / 8) + s.val, by have := lt_points t; omega⟩ q := by
  rw [Pipeline.eq_sum_fin_of_reset_step_apply_of_flush (fun n hn => (outsAt0 m c n hn).2.2) 8 (fun _ => (0 : EReal))
    (fun t => share m c t) (sum_first m c) (sum_later m c) t ht (ix2 s q), zero_add]
  refine proj_eq (L := 1) (A m c) (W m c) _ q _ fun p k hk => ?_
  show a m c _ (ix2 s k) * w m c _ (ix3 0 k q) = _
  rw [a_apply, w_apply]
  have e1 : (8 * (t.val / 8) + p.val) / 8 = t.val / 8 := by omega
  have e2 : (8 * (t.val / 8) + p.val) % 8 = p.val := by omega
  simp only [e1, e2, ix2_0, ix2_1]

/-- The rows the last point writes. -/
theorem rows_apply (ht : t.val % 8 = 7) (i : S704x2048.Idx) :
    (k0_pay10 (h m c t) (outsAt0 m c t.val t.isLt).2.2 (g m c t) (b m c t) : FVec Ideal S704x2048 .f32) i
      = rows (L := 1) (A m c) (W m c) (H m c) (G m c) (B m c)
        (ix2 ⟨704 * (t.val / 8) + (i 0).val, by have := lt_points t; have := (i 0).isLt; change (i 0).val < 704 at this; omega⟩ (i 1)) := by
  obtain ⟨s, q, rfl⟩ : ∃ s q, i = ix2 s q := ⟨i 0, i 1, eq_ix2 i⟩
  refine (norm_apply s q _ _ _ _).trans ?_
  simp only [h_apply, g_apply, b_apply, sum_eq m c t _ _ ht]
  rfl

/-- What the last point of a tile leaves in the two outputs. -/
theorem outs_eq (ht : t.val % 8 = 7) :
    (outsAt0 m c t.val t.isLt).1 = k0_pay10 (h m c t) (outsAt0 m c t.val t.isLt).2.2 (g m c t) (b m c t)
      ∧ (outsAt0 m c t.val t.isLt).2.1
        = tiles (k0_pay10 (h m c t) (outsAt0 m c t.val t.isLt).2.2 (g m c t) (b m c t) : FVec Ideal S704x2048 .f32) := by
  have h0 : ¬t.val % 8 = 0 := by omega
  exact (point_last m c t h0 ht _ (point_last m c t h0 ht _ rfl).1).2

/-- The kernel's results. -/
theorem result_rows : Value.G5 m c = rows (L := 1) (A m c) (W m c) (H m c) (G m c) (B m c) := by
  funext i
  have h0 : (i 0).val < 8448 := (i 0).isLt
  have h1 : (i 1).val < 2048 := (i 1).isLt
  have hr : Value.run5Of i = (i 0).val / 704 := by unfold Value.run5Of; omega
  have hp : Value.pt5Of i < cfg0.N := by rw [show cfg0.N = 96 from N_0]; unfold Value.pt5Of; omega
  have hq : Value.pt5Of i / 8 = (i 0).val / 704 := by unfold Value.pt5Of; omega
  unfold Value.G5
  rw [dif_pos hp, ← Value.outsAt0_sweep m c _ hp, (outs_eq m c ⟨_, hp⟩ (by show Value.pt5Of i % 8 = 7; unfold Value.pt5Of; omega)).1,
    rows_apply m c ⟨_, hp⟩ (by show Value.pt5Of i % 8 = 7; unfold Value.pt5Of; omega)]
  refine congrArg _ (funext fun d => ?_)
  fin_cases d
  · exact Fin.ext (by show 704 * (Value.pt5Of i / 8) + (i 0).val % 704 = (i 0).val; omega)
  · exact Fin.ext (by show (i 1).val % 2048 = (i 1).val; omega)

theorem result_tiles : Value.G6 m c = tiles (rows (L := 1) (A m c) (W m c) (H m c) (G m c) (B m c)) := by
  funext i
  have h0 : (i 0).val < 8448 := (i 0).isLt
  have h1 : (i 1).val < 16 := (i 1).isLt
  have h2 : (i 2).val < 128 := (i 2).isLt
  have hr : Value.run6Of i = (i 0).val / 704 := by unfold Value.run6Of; omega
  have hp : Value.pt6Of i < cfg0.N := by rw [show cfg0.N = 96 from N_0]; unfold Value.pt6Of; omega
  have hq : Value.pt6Of i / 8 = (i 0).val / 704 := by unfold Value.pt6Of; omega
  unfold Value.G6
  rw [dif_pos hp, ← Value.outsAt0_sweep m c _ hp, (outs_eq m c ⟨_, hp⟩ (by show Value.pt6Of i % 8 = 7; unfold Value.pt6Of; omega)).2]
  unfold tiles
  rw [rows_apply m c ⟨_, hp⟩ (by show Value.pt6Of i % 8 = 7; unfold Value.pt6Of; omega)]
  refine congrArg _ (funext fun d => ?_)
  fin_cases d
  · exact Fin.ext (by show 704 * (Value.pt6Of i / 8) + (i 0).val % 704 = (i 0).val; omega)
  · exact Fin.ext (by show (i 1).val % 16 * 128 + (i 2).val % 128 = (i 1).val * 128 + (i 2).val; omega)

/-! ## The reference -/

/-- The reference's arguments end unchanged. -/
theorem frame_reference : Cert.quiescent_GdnOutRefIdeal (hGdnOutRefIdeal := GdnOutRefIdeal.Gen.facts) := fun m ρ _ =>
  (θ_run _ _ _).mono (fun r h => ⟨fun c => (h c).2.2, sem_eq_zero_of_no_sems rfl r.2⟩) (GdnOutRefIdeal.Value.run m ρ)

/-- Its results. -/
theorem reference_rows (m : (ℓ : Loc GdnOutRefIdeal.nD GdnOutRefIdeal.τ GdnOutRefIdeal.sig) → Buf (Elt Ideal) ℓ)
    (c : Dev GdnOutRefIdeal.nD) :
    GdnOutRefIdeal.Value.res_main_v30 m c
      = rows (L := 1) (m (c.tc.loc GdnOutRefIdeal.main_arg0)) (m (c.tc.loc GdnOutRefIdeal.main_arg1))
        (m (c.tc.loc GdnOutRefIdeal.main_arg2)) (m (c.tc.loc GdnOutRefIdeal.main_arg3)) (m (c.tc.loc GdnOutRefIdeal.main_arg4)) :=
  Product.ext fun r q => by
    show _ = rows (L := 1) _ _ _ _ _ (ix2 r q)
    unfold GdnOutRefIdeal.Value.res_main_v30 rows normed mean mix proj
    pointwise []

theorem reference_tiles (m : (ℓ : Loc GdnOutRefIdeal.nD GdnOutRefIdeal.τ GdnOutRefIdeal.sig) → Buf (Elt Ideal) ℓ)
    (c : Dev GdnOutRefIdeal.nD) :
    GdnOutRefIdeal.Value.res_main_v31 m c = tiles (n := 8448) (GdnOutRefIdeal.Value.res_main_v30 m c) := by
  funext i
  obtain ⟨r, u, l, rfl⟩ : ∃ r u l, i = ix3 r u l := ⟨i 0, i 1, i 2, eq_ix3 i⟩
  show shapeCast GdnOutRefIdeal.S8448x16x128 (GdnOutRefIdeal.Value.res_main_v30 m c)
    GdnOutRefIdeal.Gen.shapeCasts_S8448x2048_S8448x16x128 (ix3 r u l) = (GdnOutRefIdeal.Value.res_main_v30 m c) (ix2 r (lane u l))
  generalize GdnOutRefIdeal.Value.res_main_v30 m c = y
  unfold lane
  pointwise []

/-- The two programs' results are equal. -/
theorem equal : Cert.algebraic_GdnOutIdeal_GdnOutRefIdeal (hGdnOutIdeal := facts)
    (hGdnOutRefIdeal := GdnOutRefIdeal.Gen.facts) :=
  fun m ρ m' ρ' _ hag => ⟨fun c => Value.G5 m c, fun c => Value.G6 m c, Value.run m ρ,
    (θ_run _ _ _).mono (fun _ h c => by
      have e : GdnOutRefIdeal.Value.res_main_v30 m' c = rows (L := 1) (A m c) (W m c) (H m c) (G m c) (B m c) := by
        rw [reference_rows, (hag c).1, (hag c).2.1, (hag c).2.2.1, (hag c).2.2.2.1, (hag c).2.2.2.2]
        rfl
      exact ⟨(h c).1.trans (e.trans (result_rows m c).symm),
        (h c).2.1.trans ((reference_tiles m' c).trans ((congrArg (tiles (n := 8448)) e).trans (result_tiles m c).symm)),
        (h c).2.2⟩) (GdnOutRefIdeal.Value.run m' ρ')⟩

end Cert.GdnOutIdeal.Whole

end
-- ==== Proof.OutLn.SsdOut.lean ====
/- The state-space mixer's output projection and the norm after it. -/
module

public import proofs.«01_k».proof.Defs
public import proofs.«01_k».proof.Proof.Gen.SsdOutIdeal
public import proofs.«01_k».proof.Proof.Gen.SsdOutRefIdeal
public import proofs.«01_k».proof.Proof.OutLn.GdnOut
public import proofs.«01_k».proof.Proof.Gen.SsdOutIdeal.Value
public import proofs.«01_k».proof.Proof.Gen.SsdOutRefIdeal.Run

@[expose] public section

set_option maxRecDepth 16384

noncomputable section

namespace Cert.SsdOutIdeal.Whole

open Idealize.ShloMosaic Idealize.ShloMosaic.TcCoe Idealize.ShloMosaic.Tactic Idealize.SL.Sem
open Cert.SsdOutIdeal Cert.SsdOutIdeal.Gen Cert.OutLn Cert.Product

variable (m : (ℓ : Loc nD τ sig) → Buf (Elt Ideal) ℓ) (c : Dev nD) (t : Fin cfg0.N) (s : Fin 704) (k : Fin 512) (q : Fin 2048)

/-- The arguments. -/
def A : FVec Ideal S8448x4096 .bf16 := m ((c : Thread nD τ).loc main_arg0)
def W : FVec Ideal S1x4096x2048 .f32 := m ((c : Thread nD τ).loc main_arg1)
def H : FVec Ideal S8448x2048 .f32 := m ((c : Thread nD τ).loc main_arg2)
def G : FVec Ideal S2048 .f32 := m ((c : Thread nD τ).loc main_arg3)
def B : FVec Ideal S2048 .f32 := m ((c : Thread nD τ).loc main_arg4)

theorem idx : ∀ t : Fin cfg0.N,
    win0_0.index t = ![t.val / 8, t.val % 8] ∧ win0_1.index t = ![0, t.val % 8, 0] ∧ win0_2.index t = ![t.val / 8, 0]
      ∧ win0_3.index t = ![0, 0] ∧ win0_4.index t = ![0, 0] :=
  (by decide +kernel : ∀ t : Fin grid0.N, _)

theorem lt_points : t.val < 96 := lt_of_lt_of_eq t.isLt N_0

/-- What a point reads. -/
def a : FVec Ideal S704x512 .bf16 := iblk m c 0 t
def w : FVec Ideal S1x512x2048 .f32 := iblk m c 1 t
def h : FVec Ideal S704x2048 .f32 := iblk m c 2 t
def g : FVec Ideal S1x2048 .f32 := iblk m c 3 t
def b : FVec Ideal S1x2048 .f32 := iblk m c 4 t

theorem a_apply : a m c t (ix2 s k)
    = A m c (ix2 ⟨704 * (t.val / 8) + s.val, by have := lt_points t; omega⟩ ⟨t.val % 8 * 512 + k.val, by omega⟩) := by
  have e : iblk m c 0 t (ix2 s k) = V m c main_arg0
      (ix2 ⟨704 * (t.val / 8) + s.val, by have := lt_points t; omega⟩ ⟨t.val % 8 * 512 + k.val, by omega⟩) := by
    blk_ext [iblk, idx t]
  refine e.trans ?_
  entry_read
  rfl

theorem w_apply : w m c t (ix3 0 k q) = W m c (ix3 0 ⟨t.val % 8 * 512 + k.val, by omega⟩ q) := by
  have e : iblk m c 1 t (ix3 0 k q) = V m c main_arg1 (ix3 0 ⟨t.val % 8 * 512 + k.val, by omega⟩ q) := by
    blk_ext [iblk, idx t]
  refine e.trans ?_
  entry_read
  rfl

theorem h_apply : h m c t (ix2 s q) = H m c (ix2 ⟨704 * (t.val / 8) + s.val, by have := lt_points t; omega⟩ q) := by
  have e : iblk m c 2 t (ix2 s q) = V m c main_arg2 (ix2 ⟨704 * (t.val / 8) + s.val, by have := lt_points t; omega⟩ q) := by
    blk_ext [iblk, idx t]
  refine e.trans ?_
  entry_read
  rfl

theorem g_apply : g m c t (ix2 0 q) = G m c (ix1 q) := by
  have e : iblk m c 3 t (ix2 0 q) = V m c main_v0 (ix2 0 q) := by
    blk_ext [iblk, idx t]
  refine e.trans ?_
  entry_read
  pointwise [G]

theorem b_apply : b m c t (ix2 0 q) = B m c (ix1 q) := by
  have e : iblk m c 4 t (ix2 0 q) = V m c main_v1 (ix2 0 q) := by
    blk_ext [iblk, idx t]
  refine e.trans ?_
  entry_read
  pointwise [B]

/-! ## What a point computes -/

theorem zero_apply : (k0_pay1 : FVec Ideal S704x2048 .f32) (ix2 s q) = 0 := by
  exact GdnOutIdeal.Whole.zero_apply s q

theorem next_apply (x : Vec Ideal S704x512 .bf16) (acc : Vec Ideal S704x2048 .f32) (v : Vec Ideal S1x512x2048 .f32) :
    k0_pay2 x acc v (ix2 s q) = acc (ix2 s q) + ∑ k : Fin 512, x (ix2 s k) * v (ix3 0 k q) := by
  exact GdnOutIdeal.Whole.next_apply s q x acc v

theorem norm_apply (h acc : Vec Ideal S704x2048 .f32) (g b : Vec Ideal S1x2048 .f32) :
    k0_pay10 h acc g b (ix2 s q) = normed (fun k => mix (h (ix2 s k)) (acc (ix2 s k))) q (g (ix2 0 q)) (b (ix2 0 q)) := by
  exact GdnOutIdeal.Whole.norm_apply s q h acc g b

section

variable (i : grid0.Coords) (arg2 : Memref sig .tc .vmem S704x512 .bf16) (harg2 : arg2.IsWhole)
  (arg3 : Memref sig .tc .vmem S1x512x2048 .f32) (harg3 : arg3.IsWhole) (arg4 : Memref sig .tc .vmem S704x2048 .f32)
  (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S704x2048 .f32)
  (harg7 : arg7.IsWhole) (arg8 : Memref sig .tc .vmem S704x16x128 .f32) (harg8 : arg8.IsWhole)
  (arg9 : Memref sig .tc .vmem S704x2048 .f32) (harg9 : arg9.IsWhole)
  (x0 : Vec Ideal S704x512 .bf16) (x1 : Vec Ideal S1x512x2048 .f32) (x2 : Vec Ideal S704x2048 .f32)
  (x3 x4 : Vec Ideal S1x2048 .f32) (xs : Vec Ideal S704x2048 .f32)

/-- The sum after a tile's first point, -/
theorem first_sum (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay2 x0 (k0_pay1 (F := Ideal)) x1 := by
  unfold sout0_A_0
  rw [View.read_writes_eq_canon _ _ _ (scover0_A_0 c i arg2 harg2 arg3 harg3 arg4 harg4 arg5 harg5 arg6 harg6 arg7 harg7 arg8
    harg8 arg9 harg9 hc0 hc1 x0 x1 x2 x3 x4)]
  unfold kernelRun0_A
  dsimp only
  sl_unfold_words
  rw [View.canon_cons_unit_zero zeroOff]
  simp only [View.readAt_eq_ld, harg2.read_unread, harg3.read_unread, View.ld_unit_zero (S := S704x512) zeroOff,
    View.ld_unit_zero (S := S1x512x2048) zeroOff3, View.readCov_unit_zero (S := S704x2048) _ zeroOff]

/-- after a middle one, -/
theorem middle_sum (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs
      = k0_pay2 x0 xs x1 := by
  unfold sout0_B_0
  rw [View.read_writes_eq_canon _ _ _ (scover0_B_0 c i arg2 harg2 arg3 harg3 arg4 harg4 arg5 harg5 arg6 harg6 arg7 harg7 arg8
    harg8 arg9 harg9 hc0 hc1 x0 x1 x2 x3 x4 xs)]
  unfold kernelRun0_B
  dsimp only
  sl_unfold_words
  rw [View.canon_unit_zero zeroOff]
  simp only [View.readAt_eq_ld, harg2.read_unread, harg3.read_unread, harg9.read_unread,
    View.ld_unit_zero (S := S704x512) zeroOff, View.ld_unit_zero (S := S1x512x2048) zeroOff3,
    View.ld_unit_zero (S := S704x2048) zeroOff]

/-- and after the last; -/
theorem last_sum (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs
      = k0_pay2 x0 xs x1 := by
  unfold sout0_C_0
  rw [View.read_writes_eq_canon _ _ _ (scover0_C_0 c i arg2 harg2 arg3 harg3 arg4 harg4 arg5 harg5 arg6 harg6 arg7 harg7 arg8
    harg8 arg9 harg9 hc0 hc1 x0 x1 x2 x3 x4 xs)]
  unfold kernelRun0_C
  dsimp only
  sl_unfold_words
  rw [View.canon_unit_zero zeroOff]
  simp only [View.readAt_eq_ld, harg2.read_unread, harg3.read_unread, harg9.read_unread,
    View.ld_unit_zero (S := S704x512) zeroOff, View.ld_unit_zero (S := S1x512x2048) zeroOff3,
    View.ld_unit_zero (S := S704x2048) zeroOff]

/-- the rows the last one writes, -/
theorem last_rows (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs
      = k0_pay10 x2 (k0_pay2 x0 xs x1) x3 x4 := by
  unfold out0_C_5
  rw [View.read_writes_eq_canon _ _ _ (cover0_C_5 c i arg2 harg2 arg3 harg3 arg4 harg4 arg5 harg5 arg6 harg6 arg7 harg7 arg8
    harg8 arg9 harg9 hc0 hc1 x0 x1 x2 x3 x4 xs)]
  unfold kernelRun0_C
  dsimp only
  sl_unfold_words
  rw [View.canon_unit_zero zeroOff]
  simp only [View.readAt_eq_ld, harg2.read_unread, harg3.read_unread, harg4.read_unread, harg5.read_unread, harg6.read_unread,
    harg9.read_unread, View.ld_unit_zero (S := S704x512) zeroOff, View.ld_unit_zero (S := S1x512x2048) zeroOff3,
    View.ld_unit_zero (S := S704x2048) zeroOff, View.ld_unit_zero (S := S1x2048) zeroOff,
    View.readCov_unit_zero (S := S704x2048) _ zeroOff]

/-- and the tiles. -/
theorem last_tiles (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 xs
      = tiles (k0_pay10 x2 (k0_pay2 x0 xs x1) x3 x4) := by
  unfold out0_C_6
  rw [View.read_writes_eq_canon _ _ _ (cover0_C_6 c i arg2 harg2 arg3 harg3 arg4 harg4 arg5 harg5 arg6 harg6 arg7 harg7 arg8
    harg8 arg9 harg9 hc0 hc1 x0 x1 x2 x3 x4 xs)]
  unfold kernelRun0_C
  dsimp only
  sl_unfold_words
  simp only [View.readAt_eq_ld, harg2.read_unread, harg3.read_unread, harg4.read_unread, harg5.read_unread, harg6.read_unread,
    harg9.read_unread, View.ld_unit_zero (S := S704x512) zeroOff, View.ld_unit_zero (S := S1x512x2048) zeroOff3,
    View.ld_unit_zero (S := S704x2048) zeroOff, View.ld_unit_zero (S := S1x2048) zeroOff,
    View.readCov_unit_zero (S := S704x2048) _ zeroOff]
  exact funext (canon_pieces (k0_pay10 x2 (k0_pay2 x0 xs x1) x3 x4))

end

/-! ## The sum carried from point to point -/

/-- One point's share of an entry of the projection. -/
def share (i : S704x2048.Idx) : EReal := ∑ k : Fin 512, a m c t (ix2 (i 0) k) * w m c t (ix3 0 k (i 1))

theorem next_share (acc : Vec Ideal S704x2048 .f32) (i : S704x2048.Idx) :
    k0_pay2 (a m c t) acc (w m c t) i = acc i + share m c t i := by
  obtain ⟨s, q, rfl⟩ : ∃ s q, i = ix2 s q := ⟨i 0, i 1, eq_ix2 i⟩
  exact next_apply s q _ _ _

theorem point_first (h0 : t.val % 8 = 0) :
    (outsAt0 m c t.val t.isLt).2.2 = k0_pay2 (F := Ideal) (a m c t) (k0_pay1 (F := Ideal)) (w m c t) := by
  have h1 : ¬t.val % 8 = 7 := by omega
  rw [outsAt0_A m c t h0 h1]
  have e := first_sum c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    ((hcond0_0 t).mpr h0) (fun h => h1 ((hcond0_1 t).mp h))
  unfold a w h g b at e
  unfold a w
  dsimp only at e ⊢
  exact e

theorem point_middle (h0 : ¬t.val % 8 = 0) (h1 : ¬t.val % 8 = 7) :
    (outsAt0 m c t.val t.isLt).2.2
      = k0_pay2 (a m c t) (outsAt0 m c (t.val - 1) (Nat.lt_of_le_of_lt (Nat.sub_le _ _) t.isLt)).2.2 (w m c t) := by
  rw [outsAt0_B m c t h0 h1]
  have e := middle_sum c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) (fun h => h1 ((hcond0_1 t).mp h))
  unfold a w h g b at e
  unfold a w
  dsimp only at e ⊢
  exact e

/-- A tile's last point leaves the sum, the rows and the tiles. -/
theorem point_last (h0 : ¬t.val % 8 = 0) (h1 : t.val % 8 = 7) (S : Vec Ideal S704x2048 .f32)
    (hS : S = k0_pay2 (a m c t) (outsAt0 m c (t.val - 1) (Nat.lt_of_le_of_lt (Nat.sub_le _ _) t.isLt)).2.2 (w m c t)) :
    (outsAt0 m c t.val t.isLt).2.2 = S
      ∧ (outsAt0 m c t.val t.isLt).1 = k0_pay10 (h m c t) S (g m c t) (b m c t)
      ∧ (outsAt0 m c t.val t.isLt).2.1 = tiles (k0_pay10 (h m c t) S (g m c t) (b m c t) : FVec Ideal S704x2048 .f32) := by
  subst hS
  rw [outsAt0_C m c t h0 h1]
  have e := last_sum c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) ((hcond0_1 t).mpr h1)
  have e' := last_rows c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) ((hcond0_1 t).mpr h1)
  have e'' := last_tiles c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (a m c t) (w m c t) (h m c t) (g m c t) (b m c t)
    (outsAt0 m c (t.val - 1) (Nat.lt_of_le_of_lt (Nat.sub_le _ _) t.isLt)).2.2
    (fun h => h0 ((hcond0_0 t).mp h)) ((hcond0_1 t).mpr h1)
  unfold a w h g b at e e' e'' ⊢
  dsimp only at e e' e'' ⊢
  exact ⟨e, e', e''⟩

theorem sum_first (h0 : t.val % 8 = 0) (i : S704x2048.Idx) : (outsAt0 m c t.val t.isLt).2.2 i = 0 + share m c t i := by
  rw [point_first m c t h0, next_share]
  obtain ⟨s, q, rfl⟩ : ∃ s q, i = ix2 s q := ⟨i 0, i 1, eq_ix2 i⟩
  rw [zero_apply]

theorem sum_later (h0 : ¬t.val % 8 = 0) (i : S704x2048.Idx) :
    (outsAt0 m c t.val t.isLt).2.2 i
      = (outsAt0 m c (t.val - 1) (Nat.lt_of_le_of_lt (Nat.sub_le _ _) t.isLt)).2.2 i + share m c t i := by
  by_cases h1 : t.val % 8 = 7
  · rw [(point_last m c t h0 h1 _ rfl).1, next_share]
  · rw [point_middle m c t h0 h1, next_share]

/-- After a tile's last point the sum is the projection. -/
theorem sum_eq (ht : t.val % 8 = 7) :
    (outsAt0 m c t.val t.isLt).2.2 (ix2 s q)
      = proj (L := 0) (A m c) (W m c) ⟨704 * (t.val / 8) + s.val, by have := lt_points t; omega⟩ q := by
  rw [Pipeline.eq_sum_fin_of_reset_step_apply_of_flush (fun n hn => (outsAt0 m c n hn).2.2) 8 (fun _ => (0 : EReal))
    (fun t => share m c t) (sum_first m c) (sum_later m c) t ht (ix2 s q), zero_add]
  refine proj_eq (L := 0) (A m c) (W m c) _ q _ fun p k hk => ?_
  show a m c _ (ix2 s k) * w m c _ (ix3 0 k q) = _
  rw [a_apply, w_apply]
  have e1 : (8 * (t.val / 8) + p.val) / 8 = t.val / 8 := by omega
  have e2 : (8 * (t.val / 8) + p.val) % 8 = p.val := by omega
  simp only [e1, e2, ix2_0, ix2_1]

/-- The rows the last point writes. -/
theorem rows_apply (ht : t.val % 8 = 7) (i : S704x2048.Idx) :
    (k0_pay10 (h m c t) (outsAt0 m c t.val t.isLt).2.2 (g m c t) (b m c t) : FVec Ideal S704x2048 .f32) i
      = rows (L := 0) (A m c) (W m c) (H m c) (G m c) (B m c)
        (ix2 ⟨704 * (t.val / 8) + (i 0).val, by have := lt_points t; have := (i 0).isLt; change (i 0).val < 704 at this; omega⟩ (i 1)) := by
  obtain ⟨s, q, rfl⟩ : ∃ s q, i = ix2 s q := ⟨i 0, i 1, eq_ix2 i⟩
  refine (norm_apply s q _ _ _ _).trans ?_
  simp only [h_apply, g_apply, b_apply, sum_eq m c t _ _ ht]
  rfl

/-- What the last point of a tile leaves in the two outputs. -/
theorem outs_eq (ht : t.val % 8 = 7) :
    (outsAt0 m c t.val t.isLt).1 = k0_pay10 (h m c t) (outsAt0 m c t.val t.isLt).2.2 (g m c t) (b m c t)
      ∧ (outsAt0 m c t.val t.isLt).2.1
        = tiles (k0_pay10 (h m c t) (outsAt0 m c t.val t.isLt).2.2 (g m c t) (b m c t) : FVec Ideal S704x2048 .f32) := by
  have h0 : ¬t.val % 8 = 0 := by omega
  exact (point_last m c t h0 ht _ (point_last m c t h0 ht _ rfl).1).2

/-- The kernel's results. -/
theorem result_rows : Value.G5 m c = rows (L := 0) (A m c) (W m c) (H m c) (G m c) (B m c) := by
  funext i
  have h0 : (i 0).val < 8448 := (i 0).isLt
  have h1 : (i 1).val < 2048 := (i 1).isLt
  have hr : Value.run5Of i = (i 0).val / 704 := by unfold Value.run5Of; omega
  have hp : Value.pt5Of i < cfg0.N := by rw [show cfg0.N = 96 from N_0]; unfold Value.pt5Of; omega
  have hq : Value.pt5Of i / 8 = (i 0).val / 704 := by unfold Value.pt5Of; omega
  unfold Value.G5
  rw [dif_pos hp, ← Value.outsAt0_sweep m c _ hp, (outs_eq m c ⟨_, hp⟩ (by show Value.pt5Of i % 8 = 7; unfold Value.pt5Of; omega)).1,
    rows_apply m c ⟨_, hp⟩ (by show Value.pt5Of i % 8 = 7; unfold Value.pt5Of; omega)]
  refine congrArg _ (funext fun d => ?_)
  fin_cases d
  · exact Fin.ext (by show 704 * (Value.pt5Of i / 8) + (i 0).val % 704 = (i 0).val; omega)
  · exact Fin.ext (by show (i 1).val % 2048 = (i 1).val; omega)

theorem result_tiles : Value.G6 m c = tiles (rows (L := 0) (A m c) (W m c) (H m c) (G m c) (B m c)) := by
  funext i
  have h0 : (i 0).val < 8448 := (i 0).isLt
  have h1 : (i 1).val < 16 := (i 1).isLt
  have h2 : (i 2).val < 128 := (i 2).isLt
  have hr : Value.run6Of i = (i 0).val / 704 := by unfold Value.run6Of; omega
  have hp : Value.pt6Of i < cfg0.N := by rw [show cfg0.N = 96 from N_0]; unfold Value.pt6Of; omega
  have hq : Value.pt6Of i / 8 = (i 0).val / 704 := by unfold Value.pt6Of; omega
  unfold Value.G6
  rw [dif_pos hp, ← Value.outsAt0_sweep m c _ hp, (outs_eq m c ⟨_, hp⟩ (by show Value.pt6Of i % 8 = 7; unfold Value.pt6Of; omega)).2]
  unfold tiles
  rw [rows_apply m c ⟨_, hp⟩ (by show Value.pt6Of i % 8 = 7; unfold Value.pt6Of; omega)]
  refine congrArg _ (funext fun d => ?_)
  fin_cases d
  · exact Fin.ext (by show 704 * (Value.pt6Of i / 8) + (i 0).val % 704 = (i 0).val; omega)
  · exact Fin.ext (by show (i 1).val % 16 * 128 + (i 2).val % 128 = (i 1).val * 128 + (i 2).val; omega)

/-! ## The reference -/

/-- The reference's arguments end unchanged. -/
theorem frame_reference : Cert.quiescent_SsdOutRefIdeal (hSsdOutRefIdeal := SsdOutRefIdeal.Gen.facts) := fun m ρ _ =>
  (θ_run _ _ _).mono (fun r h => ⟨fun c => (h c).2.2, sem_eq_zero_of_no_sems rfl r.2⟩) (SsdOutRefIdeal.Value.run m ρ)

/-- The tiles of the rows, as the reference makes them. -/
theorem reference_tiles (y : FVec Ideal SsdOutRefIdeal.S8448x2048 .f32) :
    (shapeCast SsdOutRefIdeal.S8448x16x128 y SsdOutRefIdeal.Gen.shapeCasts_S8448x2048_S8448x16x128 : FVec Ideal _ .f32)
      = tiles (n := 8448) y := by
  funext i
  obtain ⟨r, u, l, rfl⟩ : ∃ r u l, i = ix3 r u l := ⟨i 0, i 1, i 2, eq_ix3 i⟩
  show _ = y (ix2 r (lane u l))
  unfold lane
  pointwise []

/-- The reference's rows, from the product on. -/
def referenceRows (p h : FVec Ideal SsdOutRefIdeal.S8448x2048 .f32) (g b : FVec Ideal SsdOutRefIdeal.S2048 .f32) :
    FVec Ideal SsdOutRefIdeal.S8448x2048 .f32 :=
  open SsdOutRefIdeal SsdOutRefIdeal.Gen in
  let x := addf (mulf (broadcastInDim S8448x2048 ![] bcast_S_S8448x2048 (constant S_ .f32 0x3FD744FD#32)) h) p
  let mu (v : FVec Ideal S8448x2048 .f32) : FVec Ideal S8448x1 .f32 :=
    Host.divf (broadcastInDim S8448x1 ![0] bcast_S8448_S8448x1_0
      (Host.reduceAdd v (constant S_ .f32 0x00000000#32) reducesTo_S8448x2048_S8448_d1 h_S_))
      (broadcastInDim S8448x1 ![] bcast_S_S8448x1 (constant S_ .f32 0x45000000#32))
  let d := subf x (broadcastInDim S8448x2048 ![0, 1] bcast_S8448x1_S8448x2048_0_1 (mu x))
  addf (mulf (mulf d (broadcastInDim S8448x2048 ![0, 1] bcast_S8448x1_S8448x2048_0_1
      (Host.rsqrt (addf (mu (mulf d d)) (broadcastInDim S8448x1 ![] bcast_S_S8448x1 (constant S_ .f32 0x3727C5AC#32))))))
      (broadcastInDim S8448x2048 ![0, 1] bcast_S1x2048_S8448x2048_0_1 (broadcastInDim S1x2048 ![1] bcast_S2048_S1x2048_1 g)))
    (broadcastInDim S8448x2048 ![0, 1] bcast_S1x2048_S8448x2048_0_1 (broadcastInDim S1x2048 ![1] bcast_S2048_S1x2048_1 b))

theorem referenceRows_apply (p h : FVec Ideal SsdOutRefIdeal.S8448x2048 .f32) (g b : FVec Ideal SsdOutRefIdeal.S2048 .f32)
    (r : Fin 8448) (q : Fin 2048) :
    referenceRows p h g b (ix2 r q) = normed (fun k => mix (h (ix2 r k)) (p (ix2 r k))) q (g (ix1 q)) (b (ix1 q)) := by
  unfold normed mean mix
  pointwise [referenceRows]

/-- The reference's product. -/
theorem referenceProduct_apply (x : FVec Ideal SsdOutRefIdeal.S8448x4096 .bf16) (v : FVec Ideal SsdOutRefIdeal.S1x4096x2048 .f32)
    (r : Fin 8448) (q : Fin 2048) :
    (Host.dotGeneral SsdOutRefIdeal.dot_S8448x4096_S4096x2048_S8448x2048_1_0_0_1_n_n none
      (extf .f32 x SsdOutRefIdeal.Gen.bitsLt_bf16_f32)
      (shapeCast SsdOutRefIdeal.S4096x2048 v SsdOutRefIdeal.Gen.shapeCasts_S1x4096x2048_S4096x2048) : FVec Ideal _ .f32) (ix2 r q)
      = proj (L := 0) x v r q := by
  unfold proj
  pointwise []

/-- The reference's run, with its results read. -/
theorem reference_run (m : (ℓ : Loc SsdOutRefIdeal.nD SsdOutRefIdeal.τ SsdOutRefIdeal.sig) → Buf (Elt Ideal) ℓ)
    (ρ : Dev SsdOutRefIdeal.nD → PrngReg) :
    θ_run SsdOutRefIdeal.defs (onTc (τ := SsdOutRefIdeal.τ) (SsdOutRefIdeal.main (F := Ideal))) ⟨m, fun _ => 0, ρ⟩ fun r =>
      ∀ c : Dev SsdOutRefIdeal.nD,
        (r.2.mem (c.tc.loc SsdOutRefIdeal.main_v29)
            = rows (L := 0) (m (c.tc.loc SsdOutRefIdeal.main_arg0)) (m (c.tc.loc SsdOutRefIdeal.main_arg1))
              (m (c.tc.loc SsdOutRefIdeal.main_arg2)) (m (c.tc.loc SsdOutRefIdeal.main_arg3)) (m (c.tc.loc SsdOutRefIdeal.main_arg4))
          ∧ r.2.mem (c.tc.loc SsdOutRefIdeal.main_v30)
            = tiles (n := 8448) (rows (L := 0) (m (c.tc.loc SsdOutRefIdeal.main_arg0)) (m (c.tc.loc SsdOutRefIdeal.main_arg1))
              (m (c.tc.loc SsdOutRefIdeal.main_arg2)) (m (c.tc.loc SsdOutRefIdeal.main_arg3)) (m (c.tc.loc SsdOutRefIdeal.main_arg4))))
        ∧ r.2.mem (c.tc.loc SsdOutRefIdeal.main_arg0) = m (c.tc.loc SsdOutRefIdeal.main_arg0)
        ∧ r.2.mem (c.tc.loc SsdOutRefIdeal.main_arg1) = m (c.tc.loc SsdOutRefIdeal.main_arg1)
        ∧ r.2.mem (c.tc.loc SsdOutRefIdeal.main_arg2) = m (c.tc.loc SsdOutRefIdeal.main_arg2)
        ∧ r.2.mem (c.tc.loc SsdOutRefIdeal.main_arg3) = m (c.tc.loc SsdOutRefIdeal.main_arg3)
        ∧ r.2.mem (c.tc.loc SsdOutRefIdeal.main_arg4) = m (c.tc.loc SsdOutRefIdeal.main_arg4) := by
  refine (θ_run _ _ _).mono (fun r h c => ?_) (SsdOutRefIdeal.Value.run m ρ)
  have e : r.2.mem (c.tc.loc SsdOutRefIdeal.main_v29)
      = rows (L := 0) (m (c.tc.loc SsdOutRefIdeal.main_arg0)) (m (c.tc.loc SsdOutRefIdeal.main_arg1))
        (m (c.tc.loc SsdOutRefIdeal.main_arg2)) (m (c.tc.loc SsdOutRefIdeal.main_arg3)) (m (c.tc.loc SsdOutRefIdeal.main_arg4)) := by
    refine (h c).1.trans (Product.ext fun r q => ?_)
    refine (referenceRows_apply _ _ _ _ r q).trans ?_
    simp only [referenceProduct_apply]
    rfl
  exact ⟨⟨e, (h c).2.1.trans ((reference_tiles _).trans (congrArg (tiles (n := 8448)) ((h c).1.symm.trans e)))⟩, (h c).2.2⟩

/-- The two programs' results are equal. -/
theorem equal : Cert.algebraic_SsdOutIdeal_SsdOutRefIdeal (hSsdOutIdeal := facts)
    (hSsdOutRefIdeal := SsdOutRefIdeal.Gen.facts) :=
  fun m ρ m' ρ' _ hag => ⟨fun c => Value.G5 m c, fun c => Value.G6 m c, Value.run m ρ,
    (θ_run _ _ _).mono (fun _ h c => by
      have e := (h c).1
      rw [(hag c).1, (hag c).2.1, (hag c).2.2.1, (hag c).2.2.2.1, (hag c).2.2.2.2] at e
      exact ⟨e.1.trans (result_rows m c).symm, e.2.trans (result_tiles m c).symm, (h c).2⟩) (reference_run m' ρ')⟩

end Cert.SsdOutIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_gates
public import proofs.«01_k».proof.Proof.Gen.KernelIdeal.Value
public import proofs.«01_k».proof.Proof.RefRun
public import proofs.«01_k».proof.Proof.Equal
public import proofs.«01_k».proof.Proof.Gen.ReferenceIdeal.Run
public import proofs.«01_k».proof.Proof.Gen.ReferenceIdeal.Step
public import proofs.«01_k».proof.Proof.Gen.GdnQkv
public import proofs.«01_k».proof.Proof.Gen.GdnQkv.Skeleton
public import proofs.«01_k».proof.Proof.Gen.GdnQkv.Launch
public import proofs.«01_k».proof.Proof.Gen.GdnQkv.Points
public import proofs.«01_k».proof.Proof.Gen.GdnQkv.Frame
public import proofs.«01_k».proof.Proof.Gen.GdnQkvIdeal
public import proofs.«01_k».proof.Proof.Gen.GdnQkvIdeal.Skeleton
public import proofs.«01_k».proof.Proof.Gen.GdnQkvIdeal.Launch
public import proofs.«01_k».proof.Proof.Gen.GdnQkvIdeal.Points
public import proofs.«01_k».proof.Proof.Gen.GdnQkvIdeal.Frame
public import proofs.«01_k».proof.Proof.Gen.GdnQkvIdeal.Value
public import proofs.«01_k».proof.Proof.Gen.GdnQkvRefIdeal
public import proofs.«01_k».proof.Proof.Gen.GdnQkvRefIdeal.Run
public import proofs.«01_k».proof.Proof.Gen.GdnZ
public import proofs.«01_k».proof.Proof.Gen.GdnZ.Skeleton
public import proofs.«01_k».proof.Proof.Gen.GdnZ.Launch
public import proofs.«01_k».proof.Proof.Gen.GdnZ.Points
public import proofs.«01_k».proof.Proof.Gen.GdnZ.Frame
public import proofs.«01_k».proof.Proof.Gen.GdnZIdeal
public import proofs.«01_k».proof.Proof.Gen.GdnZIdeal.Skeleton
public import proofs.«01_k».proof.Proof.Gen.GdnZIdeal.Launch
public import proofs.«01_k».proof.Proof.Gen.GdnZIdeal.Points
public import proofs.«01_k».proof.Proof.Gen.GdnZIdeal.Frame
public import proofs.«01_k».proof.Proof.Gen.GdnZIdeal.Value
public import proofs.«01_k».proof.Proof.Gen.GdnZRefIdeal
public import proofs.«01_k».proof.Proof.Gen.GdnZRefIdeal.Run
public import proofs.«01_k».proof.Proof.Gen.GdnGates
public import proofs.«01_k».proof.Proof.Gen.GdnGates.Skeleton
public import proofs.«01_k».proof.Proof.Gen.GdnGates.Launch
public import proofs.«01_k».proof.Proof.Gen.GdnGates.Points
public import proofs.«01_k».proof.Proof.Gen.GdnGates.Frame
public import proofs.«01_k».proof.Proof.Gen.GdnGatesIdeal
public import proofs.«01_k».proof.Proof.Gen.GdnGatesIdeal.Skeleton
public import proofs.«01_k».proof.Proof.Gen.GdnGatesIdeal.Launch
public import proofs.«01_k».proof.Proof.Gen.GdnGatesIdeal.Points
public import proofs.«01_k».proof.Proof.Gen.GdnGatesIdeal.Frame
public import proofs.«01_k».proof.Proof.Gen.GdnGatesIdeal.Value
public import proofs.«01_k».proof.Proof.Gen.GdnGatesRefIdeal
public import proofs.«01_k».proof.Proof.Gen.GdnGatesRefIdeal.Run
public import proofs.«01_k».proof.Proof.Gen.SsdZ
public import proofs.«01_k».proof.Proof.Gen.SsdZ.Skeleton
public import proofs.«01_k».proof.Proof.Gen.SsdZ.Launch
public import proofs.«01_k».proof.Proof.Gen.SsdZ.Points
public import proofs.«01_k».proof.Proof.Gen.SsdZ.Frame
public import proofs.«01_k».proof.Proof.Gen.SsdZIdeal
public import proofs.«01_k».proof.Proof.Gen.SsdZIdeal.Skeleton
public import proofs.«01_k».proof.Proof.Gen.SsdZIdeal.Launch
public import proofs.«01_k».proof.Proof.Gen.SsdZIdeal.Points
public import proofs.«01_k».proof.Proof.Gen.SsdZIdeal.Frame
public import proofs.«01_k».proof.Proof.Gen.SsdZIdeal.Value
public import proofs.«01_k».proof.Proof.Gen.SsdZRefIdeal
public import proofs.«01_k».proof.Proof.Gen.SsdZRefIdeal.Run
public import proofs.«01_k».proof.Proof.Gen.SsdXbc
public import proofs.«01_k».proof.Proof.Gen.SsdXbc.Skeleton
public import proofs.«01_k».proof.Proof.Gen.SsdXbc.Launch
public import proofs.«01_k».proof.Proof.Gen.SsdXbc.Points
public import proofs.«01_k».proof.Proof.Gen.SsdXbc.Frame
public import proofs.«01_k».proof.Proof.Gen.SsdXbcIdeal
public import proofs.«01_k».proof.Proof.Gen.SsdXbcIdeal.Skeleton
public import proofs.«01_k».proof.Proof.Gen.SsdXbcIdeal.Launch
public import proofs.«01_k».proof.Proof.Gen.SsdXbcIdeal.Points
public import proofs.«01_k».proof.Proof.Gen.SsdXbcIdeal.Frame
public import proofs.«01_k».proof.Proof.Gen.SsdXbcIdeal.Value
public import proofs.«01_k».proof.Proof.Gen.SsdXbcRefIdeal
public import proofs.«01_k».proof.Proof.Gen.SsdXbcRefIdeal.Run
public import proofs.«01_k».proof.Proof.Gen.SsdDt
public import proofs.«01_k».proof.Proof.Gen.SsdDt.Skeleton
public import proofs.«01_k».proof.Proof.Gen.SsdDt.Launch
public import proofs.«01_k».proof.Proof.Gen.SsdDt.Points
public import proofs.«01_k».proof.Proof.Gen.SsdDt.Frame
public import proofs.«01_k».proof.Proof.Gen.SsdDtIdeal
public import proofs.«01_k».proof.Proof.Gen.SsdDtIdeal.Skeleton
public import proofs.«01_k».proof.Proof.Gen.SsdDtIdeal.Launch
public import proofs.«01_k».proof.Proof.Gen.SsdDtIdeal.Points
public import proofs.«01_k».proof.Proof.Gen.SsdDtIdeal.Frame
public import proofs.«01_k».proof.Proof.Gen.SsdDtIdeal.Value
public import proofs.«01_k».proof.Proof.Gen.SsdDtRefIdeal
public import proofs.«01_k».proof.Proof.Gen.SsdDtRefIdeal.Run
public import proofs.«01_k».proof.Proof.Gen.HyenaIn
public import proofs.«01_k».proof.Proof.Gen.HyenaIn.Skeleton
public import proofs.«01_k».proof.Proof.Gen.HyenaIn.Launch
public import proofs.«01_k».proof.Proof.Gen.HyenaIn.Points
public import proofs.«01_k».proof.Proof.Gen.HyenaIn.Frame
public import proofs.«01_k».proof.Proof.Gen.HyenaInIdeal
public import proofs.«01_k».proof.Proof.Gen.HyenaInIdeal.Skeleton
public import proofs.«01_k».proof.Proof.Gen.HyenaInIdeal.Launch
public import proofs.«01_k».proof.Proof.Gen.HyenaInIdeal.Points
public import proofs.«01_k».proof.Proof.Gen.HyenaInIdeal.Frame
public import proofs.«01_k».proof.Proof.Gen.HyenaInIdeal.Value
public import proofs.«01_k».proof.Proof.Gen.HyenaInRefIdeal
public import proofs.«01_k».proof.Proof.Gen.HyenaInRefIdeal.Run
public import proofs.«01_k».proof.Proof.Gen.GdnOut
public import proofs.«01_k».proof.Proof.Gen.GdnOut.Skeleton
public import proofs.«01_k».proof.Proof.Gen.GdnOut.Launch
public import proofs.«01_k».proof.Proof.Gen.GdnOut.Points
public import proofs.«01_k».proof.Proof.Gen.GdnOut.Frame
public import proofs.«01_k».proof.Proof.Gen.GdnOutIdeal
public import proofs.«01_k».proof.Proof.Gen.GdnOutIdeal.Skeleton
public import proofs.«01_k».proof.Proof.Gen.GdnOutIdeal.Launch
public import proofs.«01_k».proof.Proof.Gen.GdnOutIdeal.Points
public import proofs.«01_k».proof.Proof.Gen.GdnOutIdeal.Frame
public import proofs.«01_k».proof.Proof.Gen.GdnOutIdeal.Value
public import proofs.«01_k».proof.Proof.Gen.GdnOutRefIdeal
public import proofs.«01_k».proof.Proof.Gen.GdnOutRefIdeal.Run
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.SsdOutRefIdeal
public import proofs.«01_k».proof.Proof.Gen.SsdOutRefIdeal.Run
public import proofs.«01_k».proof.Proof.Gen.SsdBack
public import proofs.«01_k».proof.Proof.Gen.SsdBack.Frame
public import proofs.«01_k».proof.Proof.Gen.SsdBackIdeal
public import proofs.«01_k».proof.Proof.Gen.SsdBackIdeal.Frame
public import proofs.«01_k».proof.Proof.Gen.SsdBackIdeal.Value
public import proofs.«01_k».proof.Proof.Gen.SsdBackRefIdeal
public import proofs.«01_k».proof.Proof.Gen.SsdBackRefIdeal.Run
public import proofs.«01_k».proof.Proof.Back.Equal
public import proofs.«01_k».proof.Proof.Gdn.Equal
public import proofs.«01_k».proof.Proof.Projections.GdnQkv
public import proofs.«01_k».proof.Proof.Projections.GdnZ
public import proofs.«01_k».proof.Proof.Projections.GdnGates
public import proofs.«01_k».proof.Proof.Projections.SsdZ
public import proofs.«01_k».proof.Proof.Projections.SsdXbc
public import proofs.«01_k».proof.Proof.Projections.SsdDt
public import proofs.«01_k».proof.Proof.Projections.HyenaIn
public import proofs.«01_k».proof.Proof.OutLn.GdnOut
public import proofs.«01_k».proof.Proof.OutLn.SsdOut
public import Idealize.ShloMosaic.Adequacy
public import Idealize.ShloMosaic.Init
public import proofs.«01_k».proof.Proof.Gen.GdnChunk
public import proofs.«01_k».proof.Proof.Gen.GdnChunk.Skeleton
public import proofs.«01_k».proof.Proof.Gen.GdnChunk.Launch
public import proofs.«01_k».proof.Proof.Gen.GdnChunk.Points
public import proofs.«01_k».proof.Proof.Gen.GdnChunk.Frame
public import proofs.«01_k».proof.Proof.Gen.GdnChunkIdeal
public import proofs.«01_k».proof.Proof.Gen.GdnChunkIdeal.Skeleton
public import proofs.«01_k».proof.Proof.Gen.GdnChunkIdeal.Launch
public import proofs.«01_k».proof.Proof.Gen.GdnChunkIdeal.Points
public import proofs.«01_k».proof.Proof.Gen.GdnChunkIdeal.Frame
public import proofs.«01_k».proof.Proof.Gen.GdnChunkIdeal.Value
public import proofs.«01_k».proof.Proof.Gen.GdnChunkRefIdeal
public import proofs.«01_k».proof.Proof.Gen.GdnChunkRefIdeal.Run
public import proofs.«01_k».proof.Proof.Gen.GdnChunkRefIdeal.Step
public import proofs.«01_k».proof.Proof.Gen.Pre_finite_rows

@[expose] public section

noncomputable section

namespace Cert.Proof

open Idealize.ShloMosaic Idealize.SL.Sem Cert.Kernel

/-- The reference's arguments end unchanged, and it has no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Iter.run m ρ)

/-- With finite gates the kernel's scan ends with the reference's result. -/
theorem scan : Cert.algebraic_KernelIdeal_ReferenceIdeal_pre_finite_gates (hKernelIdeal := Cert.KernelIdeal.Gen.facts)
    (hReferenceIdeal := Cert.ReferenceIdeal.Gen.facts) (hPre_finite_gates := Cert.Pre_finite_gates.Gen.facts) :=
  fun m ρ m' ρ' hpre hag => ⟨fun c => Cert.KernelIdeal.Value.G5 m c, Cert.KernelIdeal.Value.run m ρ,
    (θ_run _ _ _).mono (fun _ h c => ⟨(h c).1.trans (by
      have hf := Cert.Finite.finite _ _ _ (congrFun (hpre c) ix0)
      unfold Cert.ReferenceIdeal.Iter.statesOf
      rw [(hag c).1, (hag c).2.1, (hag c).2.2]
      exact funext (Cert.Equal.arrays m c hf.1 hf.2)), (h c).2⟩) (Cert.ReferenceIdeal.Iter.run m' ρ')⟩

theorem claim : Cert.Claim := ⟨Cert.Kernel.Gen.facts, Cert.KernelIdeal.Gen.facts, Cert.ReferenceIdeal.Gen.facts,
  Cert.GdnQkv.Gen.facts, Cert.GdnQkvIdeal.Gen.facts, Cert.GdnQkvRefIdeal.Gen.facts,
  Cert.GdnZ.Gen.facts, Cert.GdnZIdeal.Gen.facts, Cert.GdnZRefIdeal.Gen.facts,
  Cert.GdnGates.Gen.facts, Cert.GdnGatesIdeal.Gen.facts, Cert.GdnGatesRefIdeal.Gen.facts,
  Cert.SsdZ.Gen.facts, Cert.SsdZIdeal.Gen.facts, Cert.SsdZRefIdeal.Gen.facts,
  Cert.SsdXbc.Gen.facts, Cert.SsdXbcIdeal.Gen.facts, Cert.SsdXbcRefIdeal.Gen.facts,
  Cert.SsdDt.Gen.facts, Cert.SsdDtIdeal.Gen.facts, Cert.SsdDtRefIdeal.Gen.facts,
  Cert.HyenaIn.Gen.facts, Cert.HyenaInIdeal.Gen.facts, Cert.HyenaInRefIdeal.Gen.facts,
  Cert.GdnOut.Gen.facts, Cert.GdnOutIdeal.Gen.facts, Cert.GdnOutRefIdeal.Gen.facts,
  Cert.SsdOut.Gen.facts, Cert.SsdOutIdeal.Gen.facts, Cert.SsdOutRefIdeal.Gen.facts,
  Cert.SsdBack.Gen.facts, Cert.SsdBackIdeal.Gen.facts, Cert.SsdBackRefIdeal.Gen.facts,
  Cert.GdnChunk.Gen.facts, Cert.GdnChunkIdeal.Gen.facts, Cert.GdnChunkRefIdeal.Gen.facts,
  Cert.Pre_finite_gates.Gen.facts, Cert.Pre_finite_rows.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.GdnQkv.Gen.frame m ρ, fun m ρ _ => Cert.GdnQkvIdeal.Gen.frame m ρ, Cert.GdnQkvIdeal.Whole.frame_reference,
  fun m ρ _ => Cert.GdnZ.Gen.frame m ρ, fun m ρ _ => Cert.GdnZIdeal.Gen.frame m ρ, Cert.GdnZIdeal.Whole.frame_reference,
  fun m ρ _ => Cert.GdnGates.Gen.frame m ρ, fun m ρ _ => Cert.GdnGatesIdeal.Gen.frame m ρ, Cert.GdnGatesIdeal.Whole.frame_reference,
  fun m ρ _ => Cert.SsdZ.Gen.frame m ρ, fun m ρ _ => Cert.SsdZIdeal.Gen.frame m ρ, Cert.SsdZIdeal.Whole.frame_reference,
  fun m ρ _ => Cert.SsdXbc.Gen.frame m ρ, fun m ρ _ => Cert.SsdXbcIdeal.Gen.frame m ρ, Cert.SsdXbcIdeal.Whole.frame_reference,
  fun m ρ _ => Cert.SsdDt.Gen.frame m ρ, fun m ρ _ => Cert.SsdDtIdeal.Gen.frame m ρ, Cert.SsdDtIdeal.Whole.frame_reference,
  fun m ρ _ => Cert.HyenaIn.Gen.frame m ρ, fun m ρ _ => Cert.HyenaInIdeal.Gen.frame m ρ, Cert.HyenaInIdeal.Whole.frame_reference,
  fun m ρ _ => Cert.GdnOut.Gen.frame m ρ, fun m ρ _ => Cert.GdnOutIdeal.Gen.frame m ρ, Cert.GdnOutIdeal.Whole.frame_reference,
  fun m ρ _ => Cert.SsdOut.Gen.frame m ρ, fun m ρ _ => Cert.SsdOutIdeal.Gen.frame m ρ, Cert.SsdOutIdeal.Whole.frame_reference,
  fun m ρ _ => Cert.SsdBack.Gen.frame m ρ, fun m ρ _ => Cert.SsdBackIdeal.Gen.frame m ρ, fun m ρ _ => Cert.SsdBackIdeal.Gen.frame m ρ,
  Cert.SsdBackIdeal.Equal.frame_reference, fun m ρ _ => Cert.SsdBackIdeal.Equal.frame_reference m ρ trivial,
  fun m ρ _ => Cert.GdnChunk.Gen.frame m ρ, fun m ρ _ => Cert.GdnChunkIdeal.Gen.frame m ρ, fun m ρ _ => Cert.GdnChunkIdeal.Gen.frame m ρ,
  Cert.GdnChunkIdeal.Equal.frame_reference, fun m ρ _ => Cert.GdnChunkIdeal.Equal.frame_reference m ρ trivial,
  trivial, scan, trivial, Cert.GdnQkvIdeal.Whole.equal, trivial, Cert.GdnZIdeal.Whole.equal, trivial, Cert.GdnGatesIdeal.Whole.equal, trivial, Cert.SsdZIdeal.Whole.equal, trivial, Cert.SsdXbcIdeal.Whole.equal, trivial, Cert.SsdDtIdeal.Whole.equal, trivial, Cert.HyenaInIdeal.Whole.equal, trivial, Cert.GdnOutIdeal.Whole.equal, trivial, Cert.SsdOutIdeal.Whole.equal,
  trivial, Cert.SsdBackIdeal.Equal.scan,
  trivial, Cert.GdnChunkIdeal.Equal.rule⟩

end Cert.Proof

end
